-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Sw (m : (ℓ : Loc Cert.Sw.nD Cert.Sw.τ Cert.Sw.sig) → Buf (Elt Bits) ℓ) : Prop :=
  True

def Pre_SwIdeal (m : (ℓ : Loc Cert.SwIdeal.nD Cert.SwIdeal.τ Cert.SwIdeal.sig) → Buf (Elt Ideal) ℓ) : Prop :=
  True

def Pre_SwRefIdeal (m : (ℓ : Loc Cert.SwRefIdeal.nD Cert.SwRefIdeal.τ Cert.SwRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_Up [hPre_experts_named : Cert.Pre_experts_named.Facts] (m : (ℓ : Loc Cert.Up.nD Cert.Up.τ Cert.Up.sig) → Buf (Elt Bits) ℓ) : Prop :=
  ∀ c : Dev Cert.Up.nD,
    (Cert.Pre_experts_named.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_experts_named : Cert.Pre_experts_named.Facts] (m : (ℓ : Loc Cert.UpIdeal.nD Cert.UpIdeal.τ Cert.UpIdeal.sig) → Buf (Elt Ideal) ℓ) : Prop :=
  ∀ c : Dev Cert.UpIdeal.nD,
    (Cert.Pre_experts_named.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal [hPre_experts_named : Cert.Pre_experts_named.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_experts_named.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_down_experts_named : Cert.Pre_down_experts_named.Facts] (m : (ℓ : Loc Cert.Down.nD Cert.Down.τ Cert.Down.sig) → Buf (Elt Bits) ℓ) : Prop :=
  ∀ c : Dev Cert.Down.nD,
    (Cert.Pre_down_experts_named.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_experts_named : Cert.Pre_down_experts_named.Facts] (m : (ℓ : Loc Cert.DownIdeal.nD Cert.DownIdeal.τ Cert.DownIdeal.sig) → Buf (Elt Ideal) ℓ) : Prop :=
  ∀ c : Dev Cert.DownIdeal.nD,
    (Cert.Pre_down_experts_named.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal [hPre_down_experts_named : Cert.Pre_down_experts_named.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_experts_named.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Gcv (m : (ℓ : Loc Cert.Gcv.nD Cert.Gcv.τ Cert.Gcv.sig) → Buf (Elt Bits) ℓ) : Prop :=
  True

def Pre_GcvIdeal (m : (ℓ : Loc Cert.GcvIdeal.nD Cert.GcvIdeal.τ Cert.GcvIdeal.sig) → Buf (Elt Ideal) ℓ) : Prop :=
  True

def Pre_GcvRefIdeal (m : (ℓ : Loc Cert.GcvRefIdeal.nD Cert.GcvRefIdeal.τ Cert.GcvRefIdeal.sig) → Buf (Elt Ideal) ℓ) : Prop :=
  True

def Pre_Ccv (m : (ℓ : Loc Cert.Ccv.nD Cert.Ccv.τ Cert.Ccv.sig) → Buf (Elt Bits) ℓ) : Prop :=
  True

def Pre_CcvIdeal (m : (ℓ : Loc Cert.CcvIdeal.nD Cert.CcvIdeal.τ Cert.CcvIdeal.sig) → Buf (Elt Ideal) ℓ) : Prop :=
  True

def Pre_CcvRefIdeal (m : (ℓ : Loc Cert.CcvRefIdeal.nD Cert.CcvRefIdeal.τ Cert.CcvRefIdeal.sig) → Buf (Elt Ideal) ℓ) : Prop :=
  True

def Pre_Qz (m : (ℓ : Loc Cert.Qz.nD Cert.Qz.τ Cert.Qz.sig) → Buf (Elt Bits) ℓ) : Prop :=
  True

def Pre_QzIdeal (m : (ℓ : Loc Cert.QzIdeal.nD Cert.QzIdeal.τ Cert.QzIdeal.sig) → Buf (Elt Ideal) ℓ) : Prop :=
  True

def Pre_QzRefIdeal (m : (ℓ : Loc Cert.QzRefIdeal.nD Cert.QzRefIdeal.τ Cert.QzRefIdeal.sig) → Buf (Elt Ideal) ℓ) : Prop :=
  True

def Pre_Oc (m : (ℓ : Loc Cert.Oc.nD Cert.Oc.τ Cert.Oc.sig) → Buf (Elt Bits) ℓ) : Prop :=
  True

def Pre_OcIdeal (m : (ℓ : Loc Cert.OcIdeal.nD Cert.OcIdeal.τ Cert.OcIdeal.sig) → Buf (Elt Ideal) ℓ) : Prop :=
  True

def Pre_OcRefIdeal (m : (ℓ : Loc Cert.OcRefIdeal.nD Cert.OcRefIdeal.τ Cert.OcRefIdeal.sig) → Buf (Elt Ideal) ℓ) : Prop :=
  True

def Pre_Mq (m : (ℓ : Loc Cert.Mq.nD Cert.Mq.τ Cert.Mq.sig) → Buf (Elt Bits) ℓ) : Prop :=
  True

def Pre_MqIdeal (m : (ℓ : Loc Cert.MqIdeal.nD Cert.MqIdeal.τ Cert.MqIdeal.sig) → Buf (Elt Ideal) ℓ) : Prop :=
  True

def Pre_MqRefIdeal (m : (ℓ : Loc Cert.MqRefIdeal.nD Cert.MqRefIdeal.τ Cert.MqRefIdeal.sig) → Buf (Elt Ideal) ℓ) : Prop :=
  True

def Pre_Mo (m : (ℓ : Loc Cert.Mo.nD Cert.Mo.τ Cert.Mo.sig) → Buf (Elt Bits) ℓ) : Prop :=
  True

def Pre_MoIdeal (m : (ℓ : Loc Cert.MoIdeal.nD Cert.MoIdeal.τ Cert.MoIdeal.sig) → Buf (Elt Ideal) ℓ) : Prop :=
  True

def Pre_MoRefIdeal (m : (ℓ : Loc Cert.MoRefIdeal.nD Cert.MoRefIdeal.τ Cert.MoRefIdeal.sig) → Buf (Elt Ideal) ℓ) : Prop :=
  True

def Pre_Qr (m : (ℓ : Loc Cert.Qr.nD Cert.Qr.τ Cert.Qr.sig) → Buf (Elt Bits) ℓ) : Prop :=
  True

def Pre_QrIdeal (m : (ℓ : Loc Cert.QrIdeal.nD Cert.QrIdeal.τ Cert.QrIdeal.sig) → Buf (Elt Ideal) ℓ) : Prop :=
  True

def Pre_QrRefIdeal (m : (ℓ : Loc Cert.QrRefIdeal.nD Cert.QrRefIdeal.τ Cert.QrRefIdeal.sig) → Buf (Elt Ideal) ℓ) : Prop :=
  True

def Pre_Gl (m : (ℓ : Loc Cert.Gl.nD Cert.Gl.τ Cert.Gl.sig) → Buf (Elt Bits) ℓ) : Prop :=
  True

def Pre_GlIdeal (m : (ℓ : Loc Cert.GlIdeal.nD Cert.GlIdeal.τ Cert.GlIdeal.sig) → Buf (Elt Ideal) ℓ) : Prop :=
  True

def Pre_GlRefIdeal (m : (ℓ : Loc Cert.GlRefIdeal.nD Cert.GlRefIdeal.τ Cert.GlRefIdeal.sig) → Buf (Elt Ideal) ℓ) : Prop :=
  True

def Pre_Gcp (m : (ℓ : Loc Cert.Gcp.nD Cert.Gcp.τ Cert.Gcp.sig) → Buf (Elt Bits) ℓ) : Prop :=
  True

def Pre_GcpIdeal (m : (ℓ : Loc Cert.GcpIdeal.nD Cert.GcpIdeal.τ Cert.GcpIdeal.sig) → Buf (Elt Ideal) ℓ) : Prop :=
  True

def Pre_GcpRefIdeal (m : (ℓ : Loc Cert.GcpRefIdeal.nD Cert.GcpRefIdeal.τ Cert.GcpRefIdeal.sig) → Buf (Elt Ideal) ℓ) : Prop :=
  True

def Pre_Ccp (m : (ℓ : Loc Cert.Ccp.nD Cert.Ccp.τ Cert.Ccp.sig) → Buf (Elt Bits) ℓ) : Prop :=
  True

def Pre_CcpIdeal (m : (ℓ : Loc Cert.CcpIdeal.nD Cert.CcpIdeal.τ Cert.CcpIdeal.sig) → Buf (Elt Ideal) ℓ) : Prop :=
  True

def Pre_CcpRefIdeal (m : (ℓ : Loc Cert.CcpRefIdeal.nD Cert.CcpRefIdeal.τ Cert.CcpRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Sw [hSw : Cert.Sw.Facts] : Prop :=
  ∀ (m : (ℓ : Loc Cert.Sw.nD Cert.Sw.τ Cert.Sw.sig) → Buf (Elt Bits) ℓ) (g : Dev Cert.Sw.nD → PrngReg), Pre_Sw m →
    θ_run (Cert.Sw.defs (F := Bits)) (onTc (τ := Cert.Sw.τ) (Cert.Sw.main (F := Bits))) ⟨m, fun _ => 0, g⟩ (fun r => (∀ c : Dev Cert.Sw.nD,
      r.2.mem ((c.tc : Thread Cert.Sw.nD Cert.Sw.τ).loc Cert.Sw.main_arg0) = m ((c.tc : Thread Cert.Sw.nD Cert.Sw.τ).loc Cert.Sw.main_arg0)
      ∧ r.2.mem ((c.tc : Thread Cert.Sw.nD Cert.Sw.τ).loc Cert.Sw.main_arg1) = m ((c.tc : Thread Cert.Sw.nD Cert.Sw.τ).loc Cert.Sw.main_arg1)
      ∧ r.2.mem ((c.tc : Thread Cert.Sw.nD Cert.Sw.τ).loc Cert.Sw.main_arg2) = m ((c.tc : Thread Cert.Sw.nD Cert.Sw.τ).loc Cert.Sw.main_arg2))
      ∧ r.2.sem = fun _ => 0)

def quiescent_SwIdeal [hSwIdeal : Cert.SwIdeal.Facts] : Prop :=
  ∀ (m : (ℓ : Loc Cert.SwIdeal.nD Cert.SwIdeal.τ Cert.SwIdeal.sig) → Buf (Elt Ideal) ℓ) (g : Dev Cert.SwIdeal.nD → PrngReg), Pre_SwIdeal m →
    θ_run (Cert.SwIdeal.defs (F := Ideal)) (onTc (τ := Cert.SwIdeal.τ) (Cert.SwIdeal.main (F := Ideal))) ⟨m, fun _ => 0, g⟩ (fun r => (∀ c : Dev Cert.SwIdeal.nD,
      r.2.mem ((c.tc : Thread Cert.SwIdeal.nD Cert.SwIdeal.τ).loc Cert.SwIdeal.main_arg0) = m ((c.tc : Thread Cert.SwIdeal.nD Cert.SwIdeal.τ).loc Cert.SwIdeal.main_arg0)
      ∧ r.2.mem ((c.tc : Thread Cert.SwIdeal.nD Cert.SwIdeal.τ).loc Cert.SwIdeal.main_arg1) = m ((c.tc : Thread Cert.SwIdeal.nD Cert.SwIdeal.τ).loc Cert.SwIdeal.main_arg1)
      ∧ r.2.mem ((c.tc : Thread Cert.SwIdeal.nD Cert.SwIdeal.τ).loc Cert.SwIdeal.main_arg2) = m ((c.tc : Thread Cert.SwIdeal.nD Cert.SwIdeal.τ).loc Cert.SwIdeal.main_arg2))
      ∧ r.2.sem = fun _ => 0)

def quiescent_SwRefIdeal [hSwRefIdeal : Cert.SwRefIdeal.Facts] : Prop :=
  ∀ (m : (ℓ : Loc Cert.SwRefIdeal.nD Cert.SwRefIdeal.τ Cert.SwRefIdeal.sig) → Buf (Elt Ideal) ℓ) (g : Dev Cert.SwRefIdeal.nD → PrngReg), Pre_SwRefIdeal m →
    θ_run (Cert.SwRefIdeal.defs (F := Ideal)) (onTc (τ := Cert.SwRefIdeal.τ) (Cert.SwRefIdeal.main (F := Ideal))) ⟨m, fun _ => 0, g⟩ (fun r => (∀ c : Dev Cert.SwRefIdeal.nD,
      r.2.mem ((c.tc : Thread Cert.SwRefIdeal.nD Cert.SwRefIdeal.τ).loc Cert.SwRefIdeal.main_arg0) = m ((c.tc : Thread Cert.SwRefIdeal.nD Cert.SwRefIdeal.τ).loc Cert.SwRefIdeal.main_arg0)
      ∧ r.2.mem ((c.tc : Thread Cert.SwRefIdeal.nD Cert.SwRefIdeal.τ).loc Cert.SwRefIdeal.main_arg1) = m ((c.tc : Thread Cert.SwRefIdeal.nD Cert.SwRefIdeal.τ).loc Cert.SwRefIdeal.main_arg1)
      ∧ r.2.mem ((c.tc : Thread Cert.SwRefIdeal.nD Cert.SwRefIdeal.τ).loc Cert.SwRefIdeal.main_arg2) = m ((c.tc : Thread Cert.SwRefIdeal.nD Cert.SwRefIdeal.τ).loc Cert.SwRefIdeal.main_arg2))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3)
      ∧ r.2.mem ((c.tc : Thread Cert.Dn.nD Cert.Dn.τ).loc Cert.Dn.main_arg4) = m ((c.tc : Thread Cert.Dn.nD Cert.Dn.τ).loc Cert.Dn.main_arg4))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
      ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4))
      ∧ r.2.sem = fun _ => 0)

def quiescent_Up [hUp : Cert.Up.Facts] [hPre_experts_named : Cert.Pre_experts_named.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_experts_named : Cert.Pre_experts_named.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] [hPre_experts_named : Cert.Pre_experts_named.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_down_experts_named : Cert.Pre_down_experts_named.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_experts_named : Cert.Pre_down_experts_named.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] [hPre_down_experts_named : Cert.Pre_down_experts_named.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Gcv [hGcv : Cert.Gcv.Facts] : Prop :=
  ∀ (m : (ℓ : Loc Cert.Gcv.nD Cert.Gcv.τ Cert.Gcv.sig) → Buf (Elt Bits) ℓ) (g : Dev Cert.Gcv.nD → PrngReg), Pre_Gcv m →
    θ_run (Cert.Gcv.defs (F := Bits)) (onTc (τ := Cert.Gcv.τ) (Cert.Gcv.main (F := Bits))) ⟨m, fun _ => 0, g⟩ (fun r => (∀ c : Dev Cert.Gcv.nD,
      r.2.mem ((c.tc : Thread Cert.Gcv.nD Cert.Gcv.τ).loc Cert.Gcv.main_arg0) = m ((c.tc : Thread Cert.Gcv.nD Cert.Gcv.τ).loc Cert.Gcv.main_arg0)
      ∧ r.2.mem ((c.tc : Thread Cert.Gcv.nD Cert.Gcv.τ).loc Cert.Gcv.main_arg1) = m ((c.tc : Thread Cert.Gcv.nD Cert.Gcv.τ).loc Cert.Gcv.main_arg1)
      ∧ r.2.mem ((c.tc : Thread Cert.Gcv.nD Cert.Gcv.τ).loc Cert.Gcv.main_arg2) = m ((c.tc : Thread Cert.Gcv.nD Cert.Gcv.τ).loc Cert.Gcv.main_arg2))
      ∧ r.2.sem = fun _ => 0)

def quiescent_GcvIdeal [hGcvIdeal : Cert.GcvIdeal.Facts] : Prop :=
  ∀ (m : (ℓ : Loc Cert.GcvIdeal.nD Cert.GcvIdeal.τ Cert.GcvIdeal.sig) → Buf (Elt Ideal) ℓ) (g : Dev Cert.GcvIdeal.nD → PrngReg), Pre_GcvIdeal m →
    θ_run (Cert.GcvIdeal.defs (F := Ideal)) (onTc (τ := Cert.GcvIdeal.τ) (Cert.GcvIdeal.main (F := Ideal))) ⟨m, fun _ => 0, g⟩ (fun r => (∀ c : Dev Cert.GcvIdeal.nD,
      r.2.mem ((c.tc : Thread Cert.GcvIdeal.nD Cert.GcvIdeal.τ).loc Cert.GcvIdeal.main_arg0) = m ((c.tc : Thread Cert.GcvIdeal.nD Cert.GcvIdeal.τ).loc Cert.GcvIdeal.main_arg0)
      ∧ r.2.mem ((c.tc : Thread Cert.GcvIdeal.nD Cert.GcvIdeal.τ).loc Cert.GcvIdeal.main_arg1) = m ((c.tc : Thread Cert.GcvIdeal.nD Cert.GcvIdeal.τ).loc Cert.GcvIdeal.main_arg1)
      ∧ r.2.mem ((c.tc : Thread Cert.GcvIdeal.nD Cert.GcvIdeal.τ).loc Cert.GcvIdeal.main_arg2) = m ((c.tc : Thread Cert.GcvIdeal.nD Cert.GcvIdeal.τ).loc Cert.GcvIdeal.main_arg2))
      ∧ r.2.sem = fun _ => 0)

def quiescent_GcvRefIdeal [hGcvRefIdeal : Cert.GcvRefIdeal.Facts] : Prop :=
  ∀ (m : (ℓ : Loc Cert.GcvRefIdeal.nD Cert.GcvRefIdeal.τ Cert.GcvRefIdeal.sig) → Buf (Elt Ideal) ℓ) (g : Dev Cert.GcvRefIdeal.nD → PrngReg), Pre_GcvRefIdeal m →
    θ_run (Cert.GcvRefIdeal.defs (F := Ideal)) (onTc (τ := Cert.GcvRefIdeal.τ) (Cert.GcvRefIdeal.main (F := Ideal))) ⟨m, fun _ => 0, g⟩ (fun r => (∀ c : Dev Cert.GcvRefIdeal.nD,
      r.2.mem ((c.tc : Thread Cert.GcvRefIdeal.nD Cert.GcvRefIdeal.τ).loc Cert.GcvRefIdeal.main_arg0) = m ((c.tc : Thread Cert.GcvRefIdeal.nD Cert.GcvRefIdeal.τ).loc Cert.GcvRefIdeal.main_arg0)
      ∧ r.2.mem ((c.tc : Thread Cert.GcvRefIdeal.nD Cert.GcvRefIdeal.τ).loc Cert.GcvRefIdeal.main_arg1) = m ((c.tc : Thread Cert.GcvRefIdeal.nD Cert.GcvRefIdeal.τ).loc Cert.GcvRefIdeal.main_arg1)
      ∧ r.2.mem ((c.tc : Thread Cert.GcvRefIdeal.nD Cert.GcvRefIdeal.τ).loc Cert.GcvRefIdeal.main_arg2) = m ((c.tc : Thread Cert.GcvRefIdeal.nD Cert.GcvRefIdeal.τ).loc Cert.GcvRefIdeal.main_arg2))
      ∧ r.2.sem = fun _ => 0)

def quiescent_Ccv [hCcv : Cert.Ccv.Facts] : Prop :=
  ∀ (m : (ℓ : Loc Cert.Ccv.nD Cert.Ccv.τ Cert.Ccv.sig) → Buf (Elt Bits) ℓ) (g : Dev Cert.Ccv.nD → PrngReg), Pre_Ccv m →
    θ_run (Cert.Ccv.defs (F := Bits)) (onTc (τ := Cert.Ccv.τ) (Cert.Ccv.main (F := Bits))) ⟨m, fun _ => 0, g⟩ (fun r => (∀ c : Dev Cert.Ccv.nD,
      r.2.mem ((c.tc : Thread Cert.Ccv.nD Cert.Ccv.τ).loc Cert.Ccv.main_arg0) = m ((c.tc : Thread Cert.Ccv.nD Cert.Ccv.τ).loc Cert.Ccv.main_arg0)
      ∧ r.2.mem ((c.tc : Thread Cert.Ccv.nD Cert.Ccv.τ).loc Cert.Ccv.main_arg1) = m ((c.tc : Thread Cert.Ccv.nD Cert.Ccv.τ).loc Cert.Ccv.main_arg1)
      ∧ r.2.mem ((c.tc : Thread Cert.Ccv.nD Cert.Ccv.τ).loc Cert.Ccv.main_arg2) = m ((c.tc : Thread Cert.Ccv.nD Cert.Ccv.τ).loc Cert.Ccv.main_arg2)
      ∧ r.2.mem ((c.tc : Thread Cert.Ccv.nD Cert.Ccv.τ).loc Cert.Ccv.main_arg3) = m ((c.tc : Thread Cert.Ccv.nD Cert.Ccv.τ).loc Cert.Ccv.main_arg3)
      ∧ r.2.mem ((c.tc : Thread Cert.Ccv.nD Cert.Ccv.τ).loc Cert.Ccv.main_arg4) = m ((c.tc : Thread Cert.Ccv.nD Cert.Ccv.τ).loc Cert.Ccv.main_arg4)
      ∧ r.2.mem ((c.tc : Thread Cert.Ccv.nD Cert.Ccv.τ).loc Cert.Ccv.main_arg5) = m ((c.tc : Thread Cert.Ccv.nD Cert.Ccv.τ).loc Cert.Ccv.main_arg5))
      ∧ r.2.sem = fun _ => 0)

def quiescent_CcvIdeal [hCcvIdeal : Cert.CcvIdeal.Facts] : Prop :=
  ∀ (m : (ℓ : Loc Cert.CcvIdeal.nD Cert.CcvIdeal.τ Cert.CcvIdeal.sig) → Buf (Elt Ideal) ℓ) (g : Dev Cert.CcvIdeal.nD → PrngReg), Pre_CcvIdeal m →
    θ_run (Cert.CcvIdeal.defs (F := Ideal)) (onTc (τ := Cert.CcvIdeal.τ) (Cert.CcvIdeal.main (F := Ideal))) ⟨m, fun _ => 0, g⟩ (fun r => (∀ c : Dev Cert.CcvIdeal.nD,
      r.2.mem ((c.tc : Thread Cert.CcvIdeal.nD Cert.CcvIdeal.τ).loc Cert.CcvIdeal.main_arg0) = m ((c.tc : Thread Cert.CcvIdeal.nD Cert.CcvIdeal.τ).loc Cert.CcvIdeal.main_arg0)
      ∧ r.2.mem ((c.tc : Thread Cert.CcvIdeal.nD Cert.CcvIdeal.τ).loc Cert.CcvIdeal.main_arg1) = m ((c.tc : Thread Cert.CcvIdeal.nD Cert.CcvIdeal.τ).loc Cert.CcvIdeal.main_arg1)
      ∧ r.2.mem ((c.tc : Thread Cert.CcvIdeal.nD Cert.CcvIdeal.τ).loc Cert.CcvIdeal.main_arg2) = m ((c.tc : Thread Cert.CcvIdeal.nD Cert.CcvIdeal.τ).loc Cert.CcvIdeal.main_arg2)
      ∧ r.2.mem ((c.tc : Thread Cert.CcvIdeal.nD Cert.CcvIdeal.τ).loc Cert.CcvIdeal.main_arg3) = m ((c.tc : Thread Cert.CcvIdeal.nD Cert.CcvIdeal.τ).loc Cert.CcvIdeal.main_arg3)
      ∧ r.2.mem ((c.tc : Thread Cert.CcvIdeal.nD Cert.CcvIdeal.τ).loc Cert.CcvIdeal.main_arg4) = m ((c.tc : Thread Cert.CcvIdeal.nD Cert.CcvIdeal.τ).loc Cert.CcvIdeal.main_arg4)
      ∧ r.2.mem ((c.tc : Thread Cert.CcvIdeal.nD Cert.CcvIdeal.τ).loc Cert.CcvIdeal.main_arg5) = m ((c.tc : Thread Cert.CcvIdeal.nD Cert.CcvIdeal.τ).loc Cert.CcvIdeal.main_arg5))
      ∧ r.2.sem = fun _ => 0)

def quiescent_CcvRefIdeal [hCcvRefIdeal : Cert.CcvRefIdeal.Facts] : Prop :=
  ∀ (m : (ℓ : Loc Cert.CcvRefIdeal.nD Cert.CcvRefIdeal.τ Cert.CcvRefIdeal.sig) → Buf (Elt Ideal) ℓ) (g : Dev Cert.CcvRefIdeal.nD → PrngReg), Pre_CcvRefIdeal m →
    θ_run (Cert.CcvRefIdeal.defs (F := Ideal)) (onTc (τ := Cert.CcvRefIdeal.τ) (Cert.CcvRefIdeal.main (F := Ideal))) ⟨m, fun _ => 0, g⟩ (fun r => (∀ c : Dev Cert.CcvRefIdeal.nD,
      r.2.mem ((c.tc : Thread Cert.CcvRefIdeal.nD Cert.CcvRefIdeal.τ).loc Cert.CcvRefIdeal.main_arg0) = m ((c.tc : Thread Cert.CcvRefIdeal.nD Cert.CcvRefIdeal.τ).loc Cert.CcvRefIdeal.main_arg0)
      ∧ r.2.mem ((c.tc : Thread Cert.CcvRefIdeal.nD Cert.CcvRefIdeal.τ).loc Cert.CcvRefIdeal.main_arg1) = m ((c.tc : Thread Cert.CcvRefIdeal.nD Cert.CcvRefIdeal.τ).loc Cert.CcvRefIdeal.main_arg1)
      ∧ r.2.mem ((c.tc : Thread Cert.CcvRefIdeal.nD Cert.CcvRefIdeal.τ).loc Cert.CcvRefIdeal.main_arg2) = m ((c.tc : Thread Cert.CcvRefIdeal.nD Cert.CcvRefIdeal.τ).loc Cert.CcvRefIdeal.main_arg2)
      ∧ r.2.mem ((c.tc : Thread Cert.CcvRefIdeal.nD Cert.CcvRefIdeal.τ).loc Cert.CcvRefIdeal.main_arg3) = m ((c.tc : Thread Cert.CcvRefIdeal.nD Cert.CcvRefIdeal.τ).loc Cert.CcvRefIdeal.main_arg3)
      ∧ r.2.mem ((c.tc : Thread Cert.CcvRefIdeal.nD Cert.CcvRefIdeal.τ).loc Cert.CcvRefIdeal.main_arg4) = m ((c.tc : Thread Cert.CcvRefIdeal.nD Cert.CcvRefIdeal.τ).loc Cert.CcvRefIdeal.main_arg4)
      ∧ r.2.mem ((c.tc : Thread Cert.CcvRefIdeal.nD Cert.CcvRefIdeal.τ).loc Cert.CcvRefIdeal.main_arg5) = m ((c.tc : Thread Cert.CcvRefIdeal.nD Cert.CcvRefIdeal.τ).loc Cert.CcvRefIdeal.main_arg5))
      ∧ r.2.sem = fun _ => 0)

def quiescent_Qz [hQz : Cert.Qz.Facts] : Prop :=
  ∀ (m : (ℓ : Loc Cert.Qz.nD Cert.Qz.τ Cert.Qz.sig) → Buf (Elt Bits) ℓ) (g : Dev Cert.Qz.nD → PrngReg), Pre_Qz m →
    θ_run (Cert.Qz.defs (F := Bits)) (onTc (τ := Cert.Qz.τ) (Cert.Qz.main (F := Bits))) ⟨m, fun _ => 0, g⟩ (fun r => (∀ c : Dev Cert.Qz.nD,
      r.2.mem ((c.tc : Thread Cert.Qz.nD Cert.Qz.τ).loc Cert.Qz.main_arg0) = m ((c.tc : Thread Cert.Qz.nD Cert.Qz.τ).loc Cert.Qz.main_arg0)
      ∧ r.2.mem ((c.tc : Thread Cert.Qz.nD Cert.Qz.τ).loc Cert.Qz.main_arg1) = m ((c.tc : Thread Cert.Qz.nD Cert.Qz.τ).loc Cert.Qz.main_arg1))
      ∧ r.2.sem = fun _ => 0)

def quiescent_QzIdeal [hQzIdeal : Cert.QzIdeal.Facts] : Prop :=
  ∀ (m : (ℓ : Loc Cert.QzIdeal.nD Cert.QzIdeal.τ Cert.QzIdeal.sig) → Buf (Elt Ideal) ℓ) (g : Dev Cert.QzIdeal.nD → PrngReg), Pre_QzIdeal m →
    θ_run (Cert.QzIdeal.defs (F := Ideal)) (onTc (τ := Cert.QzIdeal.τ) (Cert.QzIdeal.main (F := Ideal))) ⟨m, fun _ => 0, g⟩ (fun r => (∀ c : Dev Cert.QzIdeal.nD,
      r.2.mem ((c.tc : Thread Cert.QzIdeal.nD Cert.QzIdeal.τ).loc Cert.QzIdeal.main_arg0) = m ((c.tc : Thread Cert.QzIdeal.nD Cert.QzIdeal.τ).loc Cert.QzIdeal.main_arg0)
      ∧ r.2.mem ((c.tc : Thread Cert.QzIdeal.nD Cert.QzIdeal.τ).loc Cert.QzIdeal.main_arg1) = m ((c.tc : Thread Cert.QzIdeal.nD Cert.QzIdeal.τ).loc Cert.QzIdeal.main_arg1))
      ∧ r.2.sem = fun _ => 0)

def quiescent_QzRefIdeal [hQzRefIdeal : Cert.QzRefIdeal.Facts] : Prop :=
  ∀ (m : (ℓ : Loc Cert.QzRefIdeal.nD Cert.QzRefIdeal.τ Cert.QzRefIdeal.sig) → Buf (Elt Ideal) ℓ) (g : Dev Cert.QzRefIdeal.nD → PrngReg), Pre_QzRefIdeal m →
    θ_run (Cert.QzRefIdeal.defs (F := Ideal)) (onTc (τ := Cert.QzRefIdeal.τ) (Cert.QzRefIdeal.main (F := Ideal))) ⟨m, fun _ => 0, g⟩ (fun r => (∀ c : Dev Cert.QzRefIdeal.nD,
      r.2.mem ((c.tc : Thread Cert.QzRefIdeal.nD Cert.QzRefIdeal.τ).loc Cert.QzRefIdeal.main_arg0) = m ((c.tc : Thread Cert.QzRefIdeal.nD Cert.QzRefIdeal.τ).loc Cert.QzRefIdeal.main_arg0)
      ∧ r.2.mem ((c.tc : Thread Cert.QzRefIdeal.nD Cert.QzRefIdeal.τ).loc Cert.QzRefIdeal.main_arg1) = m ((c.tc : Thread Cert.QzRefIdeal.nD Cert.QzRefIdeal.τ).loc Cert.QzRefIdeal.main_arg1))
      ∧ r.2.sem = fun _ => 0)

def quiescent_Oc [hOc : Cert.Oc.Facts] : Prop :=
  ∀ (m : (ℓ : Loc Cert.Oc.nD Cert.Oc.τ Cert.Oc.sig) → Buf (Elt Bits) ℓ) (g : Dev Cert.Oc.nD → PrngReg), Pre_Oc m →
    θ_run (Cert.Oc.defs (F := Bits)) (onTc (τ := Cert.Oc.τ) (Cert.Oc.main (F := Bits))) ⟨m, fun _ => 0, g⟩ (fun r => (∀ c : Dev Cert.Oc.nD,
      r.2.mem ((c.tc : Thread Cert.Oc.nD Cert.Oc.τ).loc Cert.Oc.main_arg0) = m ((c.tc : Thread Cert.Oc.nD Cert.Oc.τ).loc Cert.Oc.main_arg0)
      ∧ r.2.mem ((c.tc : Thread Cert.Oc.nD Cert.Oc.τ).loc Cert.Oc.main_arg1) = m ((c.tc : Thread Cert.Oc.nD Cert.Oc.τ).loc Cert.Oc.main_arg1)
      ∧ r.2.mem ((c.tc : Thread Cert.Oc.nD Cert.Oc.τ).loc Cert.Oc.main_arg2) = m ((c.tc : Thread Cert.Oc.nD Cert.Oc.τ).loc Cert.Oc.main_arg2)
      ∧ r.2.mem ((c.tc : Thread Cert.Oc.nD Cert.Oc.τ).loc Cert.Oc.main_arg3) = m ((c.tc : Thread Cert.Oc.nD Cert.Oc.τ).loc Cert.Oc.main_arg3)
      ∧ r.2.mem ((c.tc : Thread Cert.Oc.nD Cert.Oc.τ).loc Cert.Oc.main_arg4) = m ((c.tc : Thread Cert.Oc.nD Cert.Oc.τ).loc Cert.Oc.main_arg4))
      ∧ r.2.sem = fun _ => 0)

def quiescent_OcIdeal [hOcIdeal : Cert.OcIdeal.Facts] : Prop :=
  ∀ (m : (ℓ : Loc Cert.OcIdeal.nD Cert.OcIdeal.τ Cert.OcIdeal.sig) → Buf (Elt Ideal) ℓ) (g : Dev Cert.OcIdeal.nD → PrngReg), Pre_OcIdeal m →
    θ_run (Cert.OcIdeal.defs (F := Ideal)) (onTc (τ := Cert.OcIdeal.τ) (Cert.OcIdeal.main (F := Ideal))) ⟨m, fun _ => 0, g⟩ (fun r => (∀ c : Dev Cert.OcIdeal.nD,
      r.2.mem ((c.tc : Thread Cert.OcIdeal.nD Cert.OcIdeal.τ).loc Cert.OcIdeal.main_arg0) = m ((c.tc : Thread Cert.OcIdeal.nD Cert.OcIdeal.τ).loc Cert.OcIdeal.main_arg0)
      ∧ r.2.mem ((c.tc : Thread Cert.OcIdeal.nD Cert.OcIdeal.τ).loc Cert.OcIdeal.main_arg1) = m ((c.tc : Thread Cert.OcIdeal.nD Cert.OcIdeal.τ).loc Cert.OcIdeal.main_arg1)
      ∧ r.2.mem ((c.tc : Thread Cert.OcIdeal.nD Cert.OcIdeal.τ).loc Cert.OcIdeal.main_arg2) = m ((c.tc : Thread Cert.OcIdeal.nD Cert.OcIdeal.τ).loc Cert.OcIdeal.main_arg2)
      ∧ r.2.mem ((c.tc : Thread Cert.OcIdeal.nD Cert.OcIdeal.τ).loc Cert.OcIdeal.main_arg3) = m ((c.tc : Thread Cert.OcIdeal.nD Cert.OcIdeal.τ).loc Cert.OcIdeal.main_arg3)
      ∧ r.2.mem ((c.tc : Thread Cert.OcIdeal.nD Cert.OcIdeal.τ).loc Cert.OcIdeal.main_arg4) = m ((c.tc : Thread Cert.OcIdeal.nD Cert.OcIdeal.τ).loc Cert.OcIdeal.main_arg4))
      ∧ r.2.sem = fun _ => 0)

def quiescent_OcRefIdeal [hOcRefIdeal : Cert.OcRefIdeal.Facts] : Prop :=
  ∀ (m : (ℓ : Loc Cert.OcRefIdeal.nD Cert.OcRefIdeal.τ Cert.OcRefIdeal.sig) → Buf (Elt Ideal) ℓ) (g : Dev Cert.OcRefIdeal.nD → PrngReg), Pre_OcRefIdeal m →
    θ_run (Cert.OcRefIdeal.defs (F := Ideal)) (onTc (τ := Cert.OcRefIdeal.τ) (Cert.OcRefIdeal.main (F := Ideal))) ⟨m, fun _ => 0, g⟩ (fun r => (∀ c : Dev Cert.OcRefIdeal.nD,
      r.2.mem ((c.tc : Thread Cert.OcRefIdeal.nD Cert.OcRefIdeal.τ).loc Cert.OcRefIdeal.main_arg0) = m ((c.tc : Thread Cert.OcRefIdeal.nD Cert.OcRefIdeal.τ).loc Cert.OcRefIdeal.main_arg0)
      ∧ r.2.mem ((c.tc : Thread Cert.OcRefIdeal.nD Cert.OcRefIdeal.τ).loc Cert.OcRefIdeal.main_arg1) = m ((c.tc : Thread Cert.OcRefIdeal.nD Cert.OcRefIdeal.τ).loc Cert.OcRefIdeal.main_arg1)
      ∧ r.2.mem ((c.tc : Thread Cert.OcRefIdeal.nD Cert.OcRefIdeal.τ).loc Cert.OcRefIdeal.main_arg2) = m ((c.tc : Thread Cert.OcRefIdeal.nD Cert.OcRefIdeal.τ).loc Cert.OcRefIdeal.main_arg2)
      ∧ r.2.mem ((c.tc : Thread Cert.OcRefIdeal.nD Cert.OcRefIdeal.τ).loc Cert.OcRefIdeal.main_arg3) = m ((c.tc : Thread Cert.OcRefIdeal.nD Cert.OcRefIdeal.τ).loc Cert.OcRefIdeal.main_arg3)
      ∧ r.2.mem ((c.tc : Thread Cert.OcRefIdeal.nD Cert.OcRefIdeal.τ).loc Cert.OcRefIdeal.main_arg4) = m ((c.tc : Thread Cert.OcRefIdeal.nD Cert.OcRefIdeal.τ).loc Cert.OcRefIdeal.main_arg4))
      ∧ r.2.sem = fun _ => 0)

def quiescent_Mq [hMq : Cert.Mq.Facts] : Prop :=
  ∀ (m : (ℓ : Loc Cert.Mq.nD Cert.Mq.τ Cert.Mq.sig) → Buf (Elt Bits) ℓ) (g : Dev Cert.Mq.nD → PrngReg), Pre_Mq m →
    θ_run (Cert.Mq.defs (F := Bits)) (onTc (τ := Cert.Mq.τ) (Cert.Mq.main (F := Bits))) ⟨m, fun _ => 0, g⟩ (fun r => (∀ c : Dev Cert.Mq.nD,
      r.2.mem ((c.tc : Thread Cert.Mq.nD Cert.Mq.τ).loc Cert.Mq.main_arg0) = m ((c.tc : Thread Cert.Mq.nD Cert.Mq.τ).loc Cert.Mq.main_arg0)
      ∧ r.2.mem ((c.tc : Thread Cert.Mq.nD Cert.Mq.τ).loc Cert.Mq.main_arg1) = m ((c.tc : Thread Cert.Mq.nD Cert.Mq.τ).loc Cert.Mq.main_arg1))
      ∧ r.2.sem = fun _ => 0)

def quiescent_MqIdeal [hMqIdeal : Cert.MqIdeal.Facts] : Prop :=
  ∀ (m : (ℓ : Loc Cert.MqIdeal.nD Cert.MqIdeal.τ Cert.MqIdeal.sig) → Buf (Elt Ideal) ℓ) (g : Dev Cert.MqIdeal.nD → PrngReg), Pre_MqIdeal m →
    θ_run (Cert.MqIdeal.defs (F := Ideal)) (onTc (τ := Cert.MqIdeal.τ) (Cert.MqIdeal.main (F := Ideal))) ⟨m, fun _ => 0, g⟩ (fun r => (∀ c : Dev Cert.MqIdeal.nD,
      r.2.mem ((c.tc : Thread Cert.MqIdeal.nD Cert.MqIdeal.τ).loc Cert.MqIdeal.main_arg0) = m ((c.tc : Thread Cert.MqIdeal.nD Cert.MqIdeal.τ).loc Cert.MqIdeal.main_arg0)
      ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ r.2.sem = fun _ => 0)

def quiescent_MqRefIdeal [hMqRefIdeal : Cert.MqRefIdeal.Facts] : Prop :=
  ∀ (m : (ℓ : Loc Cert.MqRefIdeal.nD Cert.MqRefIdeal.τ Cert.MqRefIdeal.sig) → Buf (Elt Ideal) ℓ) (g : Dev Cert.MqRefIdeal.nD → PrngReg), Pre_MqRefIdeal m →
    θ_run (Cert.MqRefIdeal.defs (F := Ideal)) (onTc (τ := Cert.MqRefIdeal.τ) (Cert.MqRefIdeal.main (F := Ideal))) ⟨m, fun _ => 0, g⟩ (fun r => (∀ c : Dev Cert.MqRefIdeal.nD,
      r.2.mem ((c.tc : Thread Cert.MqRefIdeal.nD Cert.MqRefIdeal.τ).loc Cert.MqRefIdeal.main_arg0) = m ((c.tc : Thread Cert.MqRefIdeal.nD Cert.MqRefIdeal.τ).loc Cert.MqRefIdeal.main_arg0)
      ∧ r.2.mem ((c.tc : Thread Cert.MqRefIdeal.nD Cert.MqRefIdeal.τ).loc Cert.MqRefIdeal.main_arg1) = m ((c.tc : Thread Cert.MqRefIdeal.nD Cert.MqRefIdeal.τ).loc Cert.MqRefIdeal.main_arg1))
      ∧ r.2.sem = fun _ => 0)

def quiescent_Mo [hMo : Cert.Mo.Facts] : Prop :=
  ∀ (m : (ℓ : Loc Cert.Mo.nD Cert.Mo.τ Cert.Mo.sig) → Buf (Elt Bits) ℓ) (g : Dev Cert.Mo.nD → PrngReg), Pre_Mo m →
    θ_run (Cert.Mo.defs (F := Bits)) (onTc (τ := Cert.Mo.τ) (Cert.Mo.main (F := Bits))) ⟨m, fun _ => 0, g⟩ (fun r => (∀ c : Dev Cert.Mo.nD,
      r.2.mem ((c.tc : Thread Cert.Mo.nD Cert.Mo.τ).loc Cert.Mo.main_arg0) = m ((c.tc : Thread Cert.Mo.nD Cert.Mo.τ).loc Cert.Mo.main_arg0)
      ∧ r.2.mem ((c.tc : Thread Cert.Mo.nD Cert.Mo.τ).loc Cert.Mo.main_arg1) = m ((c.tc : Thread Cert.Mo.nD Cert.Mo.τ).loc Cert.Mo.main_arg1)
      ∧ r.2.mem ((c.tc : Thread Cert.Mo.nD Cert.Mo.τ).loc Cert.Mo.main_arg2) = m ((c.tc : Thread Cert.Mo.nD Cert.Mo.τ).loc Cert.Mo.main_arg2)
      ∧ r.2.mem ((c.tc : Thread Cert.Mo.nD Cert.Mo.τ).loc Cert.Mo.main_arg3) = m ((c.tc : Thread Cert.Mo.nD Cert.Mo.τ).loc Cert.Mo.main_arg3)
      ∧ r.2.mem ((c.tc : Thread Cert.Mo.nD Cert.Mo.τ).loc Cert.Mo.main_arg4) = m ((c.tc : Thread Cert.Mo.nD Cert.Mo.τ).loc Cert.Mo.main_arg4))
      ∧ r.2.sem = fun _ => 0)

def quiescent_MoIdeal [hMoIdeal : Cert.MoIdeal.Facts] : Prop :=
  ∀ (m : (ℓ : Loc Cert.MoIdeal.nD Cert.MoIdeal.τ Cert.MoIdeal.sig) → Buf (Elt Ideal) ℓ) (g : Dev Cert.MoIdeal.nD → PrngReg), Pre_MoIdeal m →
    θ_run (Cert.MoIdeal.defs (F := Ideal)) (onTc (τ := Cert.MoIdeal.τ) (Cert.MoIdeal.main (F := Ideal))) ⟨m, fun _ => 0, g⟩ (fun r => (∀ c : Dev Cert.MoIdeal.nD,
      r.2.mem ((c.tc : Thread Cert.MoIdeal.nD Cert.MoIdeal.τ).loc Cert.MoIdeal.main_arg0) = m ((c.tc : Thread Cert.MoIdeal.nD Cert.MoIdeal.τ).loc Cert.MoIdeal.main_arg0)
      ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
      ∧ r.2.mem ((c.tc : Thread Cert.MoIdeal.nD Cert.MoIdeal.τ).loc Cert.MoIdeal.main_arg2) = m ((c.tc : Thread Cert.MoIdeal.nD Cert.MoIdeal.τ).loc Cert.MoIdeal.main_arg2)
      ∧ r.2.mem ((c.tc : Thread Cert.MoIdeal.nD Cert.MoIdeal.τ).loc Cert.MoIdeal.main_arg3) = m ((c.tc : Thread Cert.MoIdeal.nD Cert.MoIdeal.τ).loc Cert.MoIdeal.main_arg3)
      ∧ r.2.mem ((c.tc : Thread Cert.MoIdeal.nD Cert.MoIdeal.τ).loc Cert.MoIdeal.main_arg4) = m ((c.tc : Thread Cert.MoIdeal.nD Cert.MoIdeal.τ).loc Cert.MoIdeal.main_arg4))
      ∧ r.2.sem = fun _ => 0)

def quiescent_MoRefIdeal [hMoRefIdeal : Cert.MoRefIdeal.Facts] : Prop :=
  ∀ (m : (ℓ : Loc Cert.MoRefIdeal.nD Cert.MoRefIdeal.τ Cert.MoRefIdeal.sig) → Buf (Elt Ideal) ℓ) (g : Dev Cert.MoRefIdeal.nD → PrngReg), Pre_MoRefIdeal m →
    θ_run (Cert.MoRefIdeal.defs (F := Ideal)) (onTc (τ := Cert.MoRefIdeal.τ) (Cert.MoRefIdeal.main (F := Ideal))) ⟨m, fun _ => 0, g⟩ (fun r => (∀ c : Dev Cert.MoRefIdeal.nD,
      r.2.mem ((c.tc : Thread Cert.MoRefIdeal.nD Cert.MoRefIdeal.τ).loc Cert.MoRefIdeal.main_arg0) = m ((c.tc : Thread Cert.MoRefIdeal.nD Cert.MoRefIdeal.τ).loc Cert.MoRefIdeal.main_arg0)
      ∧ r.2.mem ((c.tc : Thread Cert.MoRefIdeal.nD Cert.MoRefIdeal.τ).loc Cert.MoRefIdeal.main_arg1) = m ((c.tc : Thread Cert.MoRefIdeal.nD Cert.MoRefIdeal.τ).loc Cert.MoRefIdeal.main_arg1)
      ∧ r.2.mem ((c.tc : Thread Cert.MoRefIdeal.nD Cert.MoRefIdeal.τ).loc Cert.MoRefIdeal.main_arg2) = m ((c.tc : Thread Cert.MoRefIdeal.nD Cert.MoRefIdeal.τ).loc Cert.MoRefIdeal.main_arg2)
      ∧ r.2.mem ((c.tc : Thread Cert.MoRefIdeal.nD Cert.MoRefIdeal.τ).loc Cert.MoRefIdeal.main_arg3) = m ((c.tc : Thread Cert.MoRefIdeal.nD Cert.MoRefIdeal.τ).loc Cert.MoRefIdeal.main_arg3)
      ∧ r.2.mem ((c.tc : Thread Cert.MoRefIdeal.nD Cert.MoRefIdeal.τ).loc Cert.MoRefIdeal.main_arg4) = m ((c.tc : Thread Cert.MoRefIdeal.nD Cert.MoRefIdeal.τ).loc Cert.MoRefIdeal.main_arg4))
      ∧ r.2.sem = fun _ => 0)

def quiescent_Qr [hQr : Cert.Qr.Facts] : Prop :=
  ∀ (m : (ℓ : Loc Cert.Qr.nD Cert.Qr.τ Cert.Qr.sig) → Buf (Elt Bits) ℓ) (g : Dev Cert.Qr.nD → PrngReg), Pre_Qr m →
    θ_run (Cert.Qr.defs (F := Bits)) (onTc (τ := Cert.Qr.τ) (Cert.Qr.main (F := Bits))) ⟨m, fun _ => 0, g⟩ (fun r => (∀ c : Dev Cert.Qr.nD,
      r.2.mem ((c.tc : Thread Cert.Qr.nD Cert.Qr.τ).loc Cert.Qr.main_arg0) = m ((c.tc : Thread Cert.Qr.nD Cert.Qr.τ).loc Cert.Qr.main_arg0)
      ∧ r.2.mem ((c.tc : Thread Cert.Qr.nD Cert.Qr.τ).loc Cert.Qr.main_arg1) = m ((c.tc : Thread Cert.Qr.nD Cert.Qr.τ).loc Cert.Qr.main_arg1))
      ∧ r.2.sem = fun _ => 0)

def quiescent_QrIdeal [hQrIdeal : Cert.QrIdeal.Facts] : Prop :=
  ∀ (m : (ℓ : Loc Cert.QrIdeal.nD Cert.QrIdeal.τ Cert.QrIdeal.sig) → Buf (Elt Ideal) ℓ) (g : Dev Cert.QrIdeal.nD → PrngReg), Pre_QrIdeal m →
    θ_run (Cert.QrIdeal.defs (F := Ideal)) (onTc (τ := Cert.QrIdeal.τ) (Cert.QrIdeal.main (F := Ideal))) ⟨m, fun _ => 0, g⟩ (fun r => (∀ c : Dev Cert.QrIdeal.nD,
      r.2.mem ((c.tc : Thread Cert.QrIdeal.nD Cert.QrIdeal.τ).loc Cert.QrIdeal.main_arg0) = m ((c.tc : Thread Cert.QrIdeal.nD Cert.QrIdeal.τ).loc Cert.QrIdeal.main_arg0)
      ∧ r.2.mem ((c.tc : Thread Cert.QrIdeal.nD Cert.QrIdeal.τ).loc Cert.QrIdeal.main_arg1) = m ((c.tc : Thread Cert.QrIdeal.nD Cert.QrIdeal.τ).loc Cert.QrIdeal.main_arg1))
      ∧ r.2.sem = fun _ => 0)

def quiescent_QrRefIdeal [hQrRefIdeal : Cert.QrRefIdeal.Facts] : Prop :=
  ∀ (m : (ℓ : Loc Cert.QrRefIdeal.nD Cert.QrRefIdeal.τ Cert.QrRefIdeal.sig) → Buf (Elt Ideal) ℓ) (g : Dev Cert.QrRefIdeal.nD → PrngReg), Pre_QrRefIdeal m →
    θ_run (Cert.QrRefIdeal.defs (F := Ideal)) (onTc (τ := Cert.QrRefIdeal.τ) (Cert.QrRefIdeal.main (F := Ideal))) ⟨m, fun _ => 0, g⟩ (fun r => (∀ c : Dev Cert.QrRefIdeal.nD,
      r.2.mem ((c.tc : Thread Cert.QrRefIdeal.nD Cert.QrRefIdeal.τ).loc Cert.QrRefIdeal.main_arg0) = m ((c.tc : Thread Cert.QrRefIdeal.nD Cert.QrRefIdeal.τ).loc Cert.QrRefIdeal.main_arg0)
      ∧ r.2.mem ((c.tc : Thread Cert.QrRefIdeal.nD Cert.QrRefIdeal.τ).loc Cert.QrRefIdeal.main_arg1) = m ((c.tc : Thread Cert.QrRefIdeal.nD Cert.QrRefIdeal.τ).loc Cert.QrRefIdeal.main_arg1))
      ∧ r.2.sem = fun _ => 0)

def quiescent_Gl [hGl : Cert.Gl.Facts] : Prop :=
  ∀ (m : (ℓ : Loc Cert.Gl.nD Cert.Gl.τ Cert.Gl.sig) → Buf (Elt Bits) ℓ) (g : Dev Cert.Gl.nD → PrngReg), Pre_Gl m →
    θ_run (Cert.Gl.defs (F := Bits)) (onTc (τ := Cert.Gl.τ) (Cert.Gl.main (F := Bits))) ⟨m, fun _ => 0, g⟩ (fun r => (∀ c : Dev Cert.Gl.nD,
      r.2.mem ((c.tc : Thread Cert.Gl.nD Cert.Gl.τ).loc Cert.Gl.main_arg0) = m ((c.tc : Thread Cert.Gl.nD Cert.Gl.τ).loc Cert.Gl.main_arg0)
      ∧ r.2.mem ((c.tc : Thread Cert.Gl.nD Cert.Gl.τ).loc Cert.Gl.main_arg1) = m ((c.tc : Thread Cert.Gl.nD Cert.Gl.τ).loc Cert.Gl.main_arg1))
      ∧ r.2.sem = fun _ => 0)

def quiescent_GlIdeal [hGlIdeal : Cert.GlIdeal.Facts] : Prop :=
  ∀ (m : (ℓ : Loc Cert.GlIdeal.nD Cert.GlIdeal.τ Cert.GlIdeal.sig) → Buf (Elt Ideal) ℓ) (g : Dev Cert.GlIdeal.nD → PrngReg), Pre_GlIdeal m →
    θ_run (Cert.GlIdeal.defs (F := Ideal)) (onTc (τ := Cert.GlIdeal.τ) (Cert.GlIdeal.main (F := Ideal))) ⟨m, fun _ => 0, g⟩ (fun r => (∀ c : Dev Cert.GlIdeal.nD,
      r.2.mem ((c.tc : Thread Cert.GlIdeal.nD Cert.GlIdeal.τ).loc Cert.GlIdeal.main_arg0) = m ((c.tc : Thread Cert.GlIdeal.nD Cert.GlIdeal.τ).loc Cert.GlIdeal.main_arg0)
      ∧ r.2.mem ((c.tc : Thread Cert.GlIdeal.nD Cert.GlIdeal.τ).loc Cert.GlIdeal.main_arg1) = m ((c.tc : Thread Cert.GlIdeal.nD Cert.GlIdeal.τ).loc Cert.GlIdeal.main_arg1))
      ∧ r.2.sem = fun _ => 0)

def quiescent_GlRefIdeal [hGlRefIdeal : Cert.GlRefIdeal.Facts] : Prop :=
  ∀ (m : (ℓ : Loc Cert.GlRefIdeal.nD Cert.GlRefIdeal.τ Cert.GlRefIdeal.sig) → Buf (Elt Ideal) ℓ) (g : Dev Cert.GlRefIdeal.nD → PrngReg), Pre_GlRefIdeal m →
    θ_run (Cert.GlRefIdeal.defs (F := Ideal)) (onTc (τ := Cert.GlRefIdeal.τ) (Cert.GlRefIdeal.main (F := Ideal))) ⟨m, fun _ => 0, g⟩ (fun r => (∀ c : Dev Cert.GlRefIdeal.nD,
      r.2.mem ((c.tc : Thread Cert.GlRefIdeal.nD Cert.GlRefIdeal.τ).loc Cert.GlRefIdeal.main_arg0) = m ((c.tc : Thread Cert.GlRefIdeal.nD Cert.GlRefIdeal.τ).loc Cert.GlRefIdeal.main_arg0)
      ∧ r.2.mem ((c.tc : Thread Cert.GlRefIdeal.nD Cert.GlRefIdeal.τ).loc Cert.GlRefIdeal.main_arg1) = m ((c.tc : Thread Cert.GlRefIdeal.nD Cert.GlRefIdeal.τ).loc Cert.GlRefIdeal.main_arg1))
      ∧ r.2.sem = fun _ => 0)

def quiescent_Gcp [hGcp : Cert.Gcp.Facts] : Prop :=
  ∀ (m : (ℓ : Loc Cert.Gcp.nD Cert.Gcp.τ Cert.Gcp.sig) → Buf (Elt Bits) ℓ) (g : Dev Cert.Gcp.nD → PrngReg), Pre_Gcp m →
    θ_run (Cert.Gcp.defs (F := Bits)) (onTc (τ := Cert.Gcp.τ) (Cert.Gcp.main (F := Bits))) ⟨m, fun _ => 0, g⟩ (fun r => (∀ c : Dev Cert.Gcp.nD,
      r.2.mem ((c.tc : Thread Cert.Gcp.nD Cert.Gcp.τ).loc Cert.Gcp.main_arg0) = m ((c.tc : Thread Cert.Gcp.nD Cert.Gcp.τ).loc Cert.Gcp.main_arg0)
      ∧ r.2.mem ((c.tc : Thread Cert.Gcp.nD Cert.Gcp.τ).loc Cert.Gcp.main_arg1) = m ((c.tc : Thread Cert.Gcp.nD Cert.Gcp.τ).loc Cert.Gcp.main_arg1)
      ∧ r.2.mem ((c.tc : Thread Cert.Gcp.nD Cert.Gcp.τ).loc Cert.Gcp.main_arg2) = m ((c.tc : Thread Cert.Gcp.nD Cert.Gcp.τ).loc Cert.Gcp.main_arg2))
      ∧ r.2.sem = fun _ => 0)

def quiescent_GcpIdeal [hGcpIdeal : Cert.GcpIdeal.Facts] : Prop :=
  ∀ (m : (ℓ : Loc Cert.GcpIdeal.nD Cert.GcpIdeal.τ Cert.GcpIdeal.sig) → Buf (Elt Ideal) ℓ) (g : Dev Cert.GcpIdeal.nD → PrngReg), Pre_GcpIdeal m →
    θ_run (Cert.GcpIdeal.defs (F := Ideal)) (onTc (τ := Cert.GcpIdeal.τ) (Cert.GcpIdeal.main (F := Ideal))) ⟨m, fun _ => 0, g⟩ (fun r => (∀ c : Dev Cert.GcpIdeal.nD,
      r.2.mem ((c.tc : Thread Cert.GcpIdeal.nD Cert.GcpIdeal.τ).loc Cert.GcpIdeal.main_arg0) = m ((c.tc : Thread Cert.GcpIdeal.nD Cert.GcpIdeal.τ).loc Cert.GcpIdeal.main_arg0)
      ∧ r.2.mem ((c.tc : Thread Cert.GcpIdeal.nD Cert.GcpIdeal.τ).loc Cert.GcpIdeal.main_arg1) = m ((c.tc : Thread Cert.GcpIdeal.nD Cert.GcpIdeal.τ).loc Cert.GcpIdeal.main_arg1)
      ∧ r.2.mem ((c.tc : Thread Cert.GcpIdeal.nD Cert.GcpIdeal.τ).loc Cert.GcpIdeal.main_arg2) = m ((c.tc : Thread Cert.GcpIdeal.nD Cert.GcpIdeal.τ).loc Cert.GcpIdeal.main_arg2))
      ∧ r.2.sem = fun _ => 0)

def quiescent_GcpRefIdeal [hGcpRefIdeal : Cert.GcpRefIdeal.Facts] : Prop :=
  ∀ (m : (ℓ : Loc Cert.GcpRefIdeal.nD Cert.GcpRefIdeal.τ Cert.GcpRefIdeal.sig) → Buf (Elt Ideal) ℓ) (g : Dev Cert.GcpRefIdeal.nD → PrngReg), Pre_GcpRefIdeal m →
    θ_run (Cert.GcpRefIdeal.defs (F := Ideal)) (onTc (τ := Cert.GcpRefIdeal.τ) (Cert.GcpRefIdeal.main (F := Ideal))) ⟨m, fun _ => 0, g⟩ (fun r => (∀ c : Dev Cert.GcpRefIdeal.nD,
      r.2.mem ((c.tc : Thread Cert.GcpRefIdeal.nD Cert.GcpRefIdeal.τ).loc Cert.GcpRefIdeal.main_arg0) = m ((c.tc : Thread Cert.GcpRefIdeal.nD Cert.GcpRefIdeal.τ).loc Cert.GcpRefIdeal.main_arg0)
      ∧ r.2.mem ((c.tc : Thread Cert.GcpRefIdeal.nD Cert.GcpRefIdeal.τ).loc Cert.GcpRefIdeal.main_arg1) = m ((c.tc : Thread Cert.GcpRefIdeal.nD Cert.GcpRefIdeal.τ).loc Cert.GcpRefIdeal.main_arg1)
      ∧ r.2.mem ((c.tc : Thread Cert.GcpRefIdeal.nD Cert.GcpRefIdeal.τ).loc Cert.GcpRefIdeal.main_arg2) = m ((c.tc : Thread Cert.GcpRefIdeal.nD Cert.GcpRefIdeal.τ).loc Cert.GcpRefIdeal.main_arg2))
      ∧ r.2.sem = fun _ => 0)

def quiescent_Ccp [hCcp : Cert.Ccp.Facts] : Prop :=
  ∀ (m : (ℓ : Loc Cert.Ccp.nD Cert.Ccp.τ Cert.Ccp.sig) → Buf (Elt Bits) ℓ) (g : Dev Cert.Ccp.nD → PrngReg), Pre_Ccp m →
    θ_run (Cert.Ccp.defs (F := Bits)) (onTc (τ := Cert.Ccp.τ) (Cert.Ccp.main (F := Bits))) ⟨m, fun _ => 0, g⟩ (fun r => (∀ c : Dev Cert.Ccp.nD,
      r.2.mem ((c.tc : Thread Cert.Ccp.nD Cert.Ccp.τ).loc Cert.Ccp.main_arg0) = m ((c.tc : Thread Cert.Ccp.nD Cert.Ccp.τ).loc Cert.Ccp.main_arg0)
      ∧ r.2.mem ((c.tc : Thread Cert.Ccp.nD Cert.Ccp.τ).loc Cert.Ccp.main_arg1) = m ((c.tc : Thread Cert.Ccp.nD Cert.Ccp.τ).loc Cert.Ccp.main_arg1)
      ∧ r.2.mem ((c.tc : Thread Cert.Ccp.nD Cert.Ccp.τ).loc Cert.Ccp.main_arg2) = m ((c.tc : Thread Cert.Ccp.nD Cert.Ccp.τ).loc Cert.Ccp.main_arg2)
      ∧ r.2.mem ((c.tc : Thread Cert.Ccp.nD Cert.Ccp.τ).loc Cert.Ccp.main_arg3) = m ((c.tc : Thread Cert.Ccp.nD Cert.Ccp.τ).loc Cert.Ccp.main_arg3)
      ∧ r.2.mem ((c.tc : Thread Cert.Ccp.nD Cert.Ccp.τ).loc Cert.Ccp.main_arg4) = m ((c.tc : Thread Cert.Ccp.nD Cert.Ccp.τ).loc Cert.Ccp.main_arg4)
      ∧ r.2.mem ((c.tc : Thread Cert.Ccp.nD Cert.Ccp.τ).loc Cert.Ccp.main_arg5) = m ((c.tc : Thread Cert.Ccp.nD Cert.Ccp.τ).loc Cert.Ccp.main_arg5))
      ∧ r.2.sem = fun _ => 0)

def quiescent_CcpIdeal [hCcpIdeal : Cert.CcpIdeal.Facts] : Prop :=
  ∀ (m : (ℓ : Loc Cert.CcpIdeal.nD Cert.CcpIdeal.τ Cert.CcpIdeal.sig) → Buf (Elt Ideal) ℓ) (g : Dev Cert.CcpIdeal.nD → PrngReg), Pre_CcpIdeal m →
    θ_run (Cert.CcpIdeal.defs (F := Ideal)) (onTc (τ := Cert.CcpIdeal.τ) (Cert.CcpIdeal.main (F := Ideal))) ⟨m, fun _ => 0, g⟩ (fun r => (∀ c : Dev Cert.CcpIdeal.nD,
      r.2.mem ((c.tc : Thread Cert.CcpIdeal.nD Cert.CcpIdeal.τ).loc Cert.CcpIdeal.main_arg0) = m ((c.tc : Thread Cert.CcpIdeal.nD Cert.CcpIdeal.τ).loc Cert.CcpIdeal.main_arg0)
      ∧ r.2.mem ((c.tc : Thread Cert.CcpIdeal.nD Cert.CcpIdeal.τ).loc Cert.CcpIdeal.main_arg1) = m ((c.tc : Thread Cert.CcpIdeal.nD Cert.CcpIdeal.τ).loc Cert.CcpIdeal.main_arg1)
      ∧ r.2.mem ((c.tc : Thread Cert.CcpIdeal.nD Cert.CcpIdeal.τ).loc Cert.CcpIdeal.main_arg2) = m ((c.tc : Thread Cert.CcpIdeal.nD Cert.CcpIdeal.τ).loc Cert.CcpIdeal.main_arg2)
      ∧ r.2.mem ((c.tc : Thread Cert.CcpIdeal.nD Cert.CcpIdeal.τ).loc Cert.CcpIdeal.main_arg3) = m ((c.tc : Thread Cert.CcpIdeal.nD Cert.CcpIdeal.τ).loc Cert.CcpIdeal.main_arg3)
      ∧ r.2.mem ((c.tc : Thread Cert.CcpIdeal.nD Cert.CcpIdeal.τ).loc Cert.CcpIdeal.main_arg4) = m ((c.tc : Thread Cert.CcpIdeal.nD Cert.CcpIdeal.τ).loc Cert.CcpIdeal.main_arg4)
      ∧ r.2.mem ((c.tc : Thread Cert.CcpIdeal.nD Cert.CcpIdeal.τ).loc Cert.CcpIdeal.main_arg5) = m ((c.tc : Thread Cert.CcpIdeal.nD Cert.CcpIdeal.τ).loc Cert.CcpIdeal.main_arg5))
      ∧ r.2.sem = fun _ => 0)

def quiescent_CcpRefIdeal [hCcpRefIdeal : Cert.CcpRefIdeal.Facts] : Prop :=
  ∀ (m : (ℓ : Loc Cert.CcpRefIdeal.nD Cert.CcpRefIdeal.τ Cert.CcpRefIdeal.sig) → Buf (Elt Ideal) ℓ) (g : Dev Cert.CcpRefIdeal.nD → PrngReg), Pre_CcpRefIdeal m →
    θ_run (Cert.CcpRefIdeal.defs (F := Ideal)) (onTc (τ := Cert.CcpRefIdeal.τ) (Cert.CcpRefIdeal.main (F := Ideal))) ⟨m, fun _ => 0, g⟩ (fun r => (∀ c : Dev Cert.CcpRefIdeal.nD,
      r.2.mem ((c.tc : Thread Cert.CcpRefIdeal.nD Cert.CcpRefIdeal.τ).loc Cert.CcpRefIdeal.main_arg0) = m ((c.tc : Thread Cert.CcpRefIdeal.nD Cert.CcpRefIdeal.τ).loc Cert.CcpRefIdeal.main_arg0)
      ∧ r.2.mem ((c.tc : Thread Cert.CcpRefIdeal.nD Cert.CcpRefIdeal.τ).loc Cert.CcpRefIdeal.main_arg1) = m ((c.tc : Thread Cert.CcpRefIdeal.nD Cert.CcpRefIdeal.τ).loc Cert.CcpRefIdeal.main_arg1)
      ∧ r.2.mem ((c.tc : Thread Cert.CcpRefIdeal.nD Cert.CcpRefIdeal.τ).loc Cert.CcpRefIdeal.main_arg2) = m ((c.tc : Thread Cert.CcpRefIdeal.nD Cert.CcpRefIdeal.τ).loc Cert.CcpRefIdeal.main_arg2)
      ∧ r.2.mem ((c.tc : Thread Cert.CcpRefIdeal.nD Cert.CcpRefIdeal.τ).loc Cert.CcpRefIdeal.main_arg3) = m ((c.tc : Thread Cert.CcpRefIdeal.nD Cert.CcpRefIdeal.τ).loc Cert.CcpRefIdeal.main_arg3)
      ∧ r.2.mem ((c.tc : Thread Cert.CcpRefIdeal.nD Cert.CcpRefIdeal.τ).loc Cert.CcpRefIdeal.main_arg4) = m ((c.tc : Thread Cert.CcpRefIdeal.nD Cert.CcpRefIdeal.τ).loc Cert.CcpRefIdeal.main_arg4)
      ∧ r.2.mem ((c.tc : Thread Cert.CcpRefIdeal.nD Cert.CcpRefIdeal.τ).loc Cert.CcpRefIdeal.main_arg5) = m ((c.tc : Thread Cert.CcpRefIdeal.nD Cert.CcpRefIdeal.τ).loc Cert.CcpRefIdeal.main_arg5))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v1_0)) (v1 : (c : Dev Cert.GlaIdeal.nD) → Buf (Elt Ideal) ((c.tc : Thread Cert.GlaIdeal.nD Cert.GlaIdeal.τ).loc Cert.GlaIdeal.main_v1_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v1_0) = v0 c
          ∧ r.2.mem ((c.tc : Thread Cert.GlaIdeal.nD Cert.GlaIdeal.τ).loc Cert.GlaIdeal.main_v1_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v67) = v0 c
          ∧ r.2.mem ((c.tc : Thread Cert.GlaRefIdeal.nD Cert.GlaRefIdeal.τ).loc Cert.GlaRefIdeal.main_v48) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Sw_SwIdeal : Prop :=
  True

def algebraic_SwIdeal_SwRefIdeal [hSwIdeal : Cert.SwIdeal.Facts] [hSwRefIdeal : Cert.SwRefIdeal.Facts] : Prop :=
  ∀ (m : (ℓ : Loc Cert.SwIdeal.nD Cert.SwIdeal.τ Cert.SwIdeal.sig) → Buf (Elt Ideal) ℓ) (g : Dev Cert.SwIdeal.nD → PrngReg)
    (m' : (ℓ : Loc Cert.SwRefIdeal.nD Cert.SwRefIdeal.τ Cert.SwRefIdeal.sig) → Buf (Elt Ideal) ℓ) (g' : Dev Cert.SwRefIdeal.nD → PrngReg), Pre_SwIdeal m →
    (∀ c : Dev Cert.SwIdeal.nD,
      m' ((c.tc : Thread Cert.SwRefIdeal.nD Cert.SwRefIdeal.τ).loc Cert.SwRefIdeal.main_arg0) = m ((c.tc : Thread Cert.SwIdeal.nD Cert.SwIdeal.τ).loc Cert.SwIdeal.main_arg0)
      ∧ m' ((c.tc : Thread Cert.SwRefIdeal.nD Cert.SwRefIdeal.τ).loc Cert.SwRefIdeal.main_arg1) = m ((c.tc : Thread Cert.SwIdeal.nD Cert.SwIdeal.τ).loc Cert.SwIdeal.main_arg1)
      ∧ m' ((c.tc : Thread Cert.SwRefIdeal.nD Cert.SwRefIdeal.τ).loc Cert.SwRefIdeal.main_arg2) = m ((c.tc : Thread Cert.SwIdeal.nD Cert.SwIdeal.τ).loc Cert.SwIdeal.main_arg2)) →
    ∃ (v0 : (c : Dev Cert.SwIdeal.nD) → Buf (Elt Ideal) ((c.tc : Thread Cert.SwIdeal.nD Cert.SwIdeal.τ).loc Cert.SwIdeal.main_v3)),
      θ_run (Cert.SwIdeal.defs (F := Ideal)) (onTc (τ := Cert.SwIdeal.τ) (Cert.SwIdeal.main (F := Ideal))) ⟨m, fun _ => 0, g⟩ (fun r => ∀ c : Dev Cert.SwIdeal.nD,
          r.2.mem ((c.tc : Thread Cert.SwIdeal.nD Cert.SwIdeal.τ).loc Cert.SwIdeal.main_v3) = v0 c
          ∧ r.2.mem ((c.tc : Thread Cert.SwIdeal.nD Cert.SwIdeal.τ).loc Cert.SwIdeal.main_arg0) = m ((c.tc : Thread Cert.SwIdeal.nD Cert.SwIdeal.τ).loc Cert.SwIdeal.main_arg0)
          ∧ r.2.mem ((c.tc : Thread Cert.SwIdeal.nD Cert.SwIdeal.τ).loc Cert.SwIdeal.main_arg1) = m ((c.tc : Thread Cert.SwIdeal.nD Cert.SwIdeal.τ).loc Cert.SwIdeal.main_arg1)
          ∧ r.2.mem ((c.tc : Thread Cert.SwIdeal.nD Cert.SwIdeal.τ).loc Cert.SwIdeal.main_arg2) = m ((c.tc : Thread Cert.SwIdeal.nD Cert.SwIdeal.τ).loc Cert.SwIdeal.main_arg2))
      ∧ θ_run (Cert.SwRefIdeal.defs (F := Ideal)) (onTc (τ := Cert.SwRefIdeal.τ) (Cert.SwRefIdeal.main (F := Ideal))) ⟨m', fun _ => 0, g'⟩ (fun r => ∀ c : Dev Cert.SwRefIdeal.nD,
          r.2.mem ((c.tc : Thread Cert.SwRefIdeal.nD Cert.SwRefIdeal.τ).loc Cert.SwRefIdeal.main_v6) = v0 c
          ∧ r.2.mem ((c.tc : Thread Cert.SwRefIdeal.nD Cert.SwRefIdeal.τ).loc Cert.SwRefIdeal.main_arg0) = m' ((c.tc : Thread Cert.SwRefIdeal.nD Cert.SwRefIdeal.τ).loc Cert.SwRefIdeal.main_arg0)
          ∧ r.2.mem ((c.tc : Thread Cert.SwRefIdeal.nD Cert.SwRefIdeal.τ).loc Cert.SwRefIdeal.main_arg1) = m' ((c.tc : Thread Cert.SwRefIdeal.nD Cert.SwRefIdeal.τ).loc Cert.SwRefIdeal.main_arg1)
          ∧ r.2.mem ((c.tc : Thread Cert.SwRefIdeal.nD Cert.SwRefIdeal.τ).loc Cert.SwRefIdeal.main_arg2) = m' ((c.tc : Thread Cert.SwRefIdeal.nD Cert.SwRefIdeal.τ).loc Cert.SwRefIdeal.main_arg2))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)
      ∧ m' ((c.tc : Thread Cert.DnRefIdeal.nD Cert.DnRefIdeal.τ).loc Cert.DnRefIdeal.main_arg2) = m ((c.tc : Thread Cert.DnIdeal.nD Cert.DnIdeal.τ).loc Cert.DnIdeal.main_arg2)
      ∧ m' ((c.tc : Thread Cert.DnRefIdeal.nD Cert.DnRefIdeal.τ).loc Cert.DnRefIdeal.main_arg3) = m ((c.tc : Thread Cert.DnIdeal.nD Cert.DnIdeal.τ).loc Cert.DnIdeal.main_arg3)
      ∧ m' ((c.tc : Thread Cert.DnRefIdeal.nD Cert.DnRefIdeal.τ).loc Cert.DnRefIdeal.main_arg4) = m ((c.tc : Thread Cert.DnIdeal.nD Cert.DnIdeal.τ).loc Cert.DnIdeal.main_arg4)) →
    ∃ (v0 : (c : Dev Cert.DnIdeal.nD) → Buf (Elt Ideal) ((c.tc : Thread Cert.DnIdeal.nD Cert.DnIdeal.τ).loc Cert.DnIdeal.main_v5_0)) (v1 : (c : Dev Cert.DnIdeal.nD) → Buf (Elt Ideal) ((c.tc : Thread Cert.DnIdeal.nD Cert.DnIdeal.τ).loc Cert.DnIdeal.main_v5_1)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v5_0) = v0 c
          ∧ r.2.mem ((c.tc : Thread Cert.DnIdeal.nD Cert.DnIdeal.τ).loc Cert.DnIdeal.main_v5_1) = v1 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
          ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
          ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v26) = v0 c
          ∧ r.2.mem ((c.tc : Thread Cert.DnRefIdeal.nD Cert.DnRefIdeal.τ).loc Cert.DnRefIdeal.main_v27) = v1 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2)
          ∧ r.2.mem ((c.tc : Thread Cert.DnRefIdeal.nD Cert.DnRefIdeal.τ).loc Cert.DnRefIdeal.main_arg3) = m' ((c.tc : Thread Cert.DnRefIdeal.nD Cert.DnRefIdeal.τ).loc Cert.DnRefIdeal.main_arg3)
          ∧ r.2.mem ((c.tc : Thread Cert.DnRefIdeal.nD Cert.DnRefIdeal.τ).loc Cert.DnRefIdeal.main_arg4) = m' ((c.tc : Thread Cert.DnRefIdeal.nD Cert.DnRefIdeal.τ).loc Cert.DnRefIdeal.main_arg4))

def preserves_Up_UpIdeal : Prop :=
  True

def algebraic_UpIdeal_UpRefIdeal [hUpIdeal : Cert.UpIdeal.Facts] [hUpRefIdeal : Cert.UpRefIdeal.Facts] [hPre_experts_named : Cert.Pre_experts_named.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v109) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_down_experts_named : Cert.Pre_down_experts_named.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v68) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Gcv_GcvIdeal : Prop :=
  True

def algebraic_GcvIdeal_GcvRefIdeal [hGcvIdeal : Cert.GcvIdeal.Facts] [hGcvRefIdeal : Cert.GcvRefIdeal.Facts] : Prop :=
  ∀ (m : (ℓ : Loc Cert.GcvIdeal.nD Cert.GcvIdeal.τ Cert.GcvIdeal.sig) → Buf (Elt Ideal) ℓ) (g : Dev Cert.GcvIdeal.nD → PrngReg)
    (m' : (ℓ : Loc Cert.GcvRefIdeal.nD Cert.GcvRefIdeal.τ Cert.GcvRefIdeal.sig) → Buf (Elt Ideal) ℓ) (g' : Dev Cert.GcvRefIdeal.nD → PrngReg), Pre_GcvIdeal m →
    (∀ c : Dev Cert.GcvIdeal.nD,
      m' ((c.tc : Thread Cert.GcvRefIdeal.nD Cert.GcvRefIdeal.τ).loc Cert.GcvRefIdeal.main_arg0) = m ((c.tc : Thread Cert.GcvIdeal.nD Cert.GcvIdeal.τ).loc Cert.GcvIdeal.main_arg0)
      ∧ m' ((c.tc : Thread Cert.GcvRefIdeal.nD Cert.GcvRefIdeal.τ).loc Cert.GcvRefIdeal.main_arg1) = m ((c.tc : Thread Cert.GcvIdeal.nD Cert.GcvIdeal.τ).loc Cert.GcvIdeal.main_arg1)
      ∧ m' ((c.tc : Thread Cert.GcvRefIdeal.nD Cert.GcvRefIdeal.τ).loc Cert.GcvRefIdeal.main_arg2) = m ((c.tc : Thread Cert.GcvIdeal.nD Cert.GcvIdeal.τ).loc Cert.GcvIdeal.main_arg2)) →
    ∃ (v0 : (c : Dev Cert.GcvIdeal.nD) → Buf (Elt Ideal) ((c.tc : Thread Cert.GcvIdeal.nD Cert.GcvIdeal.τ).loc Cert.GcvIdeal.main_v2_0)) (v1 : (c : Dev Cert.GcvIdeal.nD) → Buf (Elt Ideal) ((c.tc : Thread Cert.GcvIdeal.nD Cert.GcvIdeal.τ).loc Cert.GcvIdeal.main_v2_1)),
      θ_run (Cert.GcvIdeal.defs (F := Ideal)) (onTc (τ := Cert.GcvIdeal.τ) (Cert.GcvIdeal.main (F := Ideal))) ⟨m, fun _ => 0, g⟩ (fun r => ∀ c : Dev Cert.GcvIdeal.nD,
          r.2.mem ((c.tc : Thread Cert.GcvIdeal.nD Cert.GcvIdeal.τ).loc Cert.GcvIdeal.main_v2_0) = v0 c
          ∧ r.2.mem ((c.tc : Thread Cert.GcvIdeal.nD Cert.GcvIdeal.τ).loc Cert.GcvIdeal.main_v2_1) = v1 c
          ∧ r.2.mem ((c.tc : Thread Cert.GcvIdeal.nD Cert.GcvIdeal.τ).loc Cert.GcvIdeal.main_arg0) = m ((c.tc : Thread Cert.GcvIdeal.nD Cert.GcvIdeal.τ).loc Cert.GcvIdeal.main_arg0)
          ∧ r.2.mem ((c.tc : Thread Cert.GcvIdeal.nD Cert.GcvIdeal.τ).loc Cert.GcvIdeal.main_arg1) = m ((c.tc : Thread Cert.GcvIdeal.nD Cert.GcvIdeal.τ).loc Cert.GcvIdeal.main_arg1)
          ∧ r.2.mem ((c.tc : Thread Cert.GcvIdeal.nD Cert.GcvIdeal.τ).loc Cert.GcvIdeal.main_arg2) = m ((c.tc : Thread Cert.GcvIdeal.nD Cert.GcvIdeal.τ).loc Cert.GcvIdeal.main_arg2))
      ∧ θ_run (Cert.GcvRefIdeal.defs (F := Ideal)) (onTc (τ := Cert.GcvRefIdeal.τ) (Cert.GcvRefIdeal.main (F := Ideal))) ⟨m', fun _ => 0, g'⟩ (fun r => ∀ c : Dev Cert.GcvRefIdeal.nD,
          r.2.mem ((c.tc : Thread Cert.GcvRefIdeal.nD Cert.GcvRefIdeal.τ).loc Cert.GcvRefIdeal.main_v60) = v0 c
          ∧ r.2.mem ((c.tc : Thread Cert.GcvRefIdeal.nD Cert.GcvRefIdeal.τ).loc Cert.GcvRefIdeal.main_v32) = v1 c
          ∧ r.2.mem ((c.tc : Thread Cert.GcvRefIdeal.nD Cert.GcvRefIdeal.τ).loc Cert.GcvRefIdeal.main_arg0) = m' ((c.tc : Thread Cert.GcvRefIdeal.nD Cert.GcvRefIdeal.τ).loc Cert.GcvRefIdeal.main_arg0)
          ∧ r.2.mem ((c.tc : Thread Cert.GcvRefIdeal.nD Cert.GcvRefIdeal.τ).loc Cert.GcvRefIdeal.main_arg1) = m' ((c.tc : Thread Cert.GcvRefIdeal.nD Cert.GcvRefIdeal.τ).loc Cert.GcvRefIdeal.main_arg1)
          ∧ r.2.mem ((c.tc : Thread Cert.GcvRefIdeal.nD Cert.GcvRefIdeal.τ).loc Cert.GcvRefIdeal.main_arg2) = m' ((c.tc : Thread Cert.GcvRefIdeal.nD Cert.GcvRefIdeal.τ).loc Cert.GcvRefIdeal.main_arg2))

def preserves_Ccv_CcvIdeal : Prop :=
  True

def algebraic_CcvIdeal_CcvRefIdeal [hCcvIdeal : Cert.CcvIdeal.Facts] [hCcvRefIdeal : Cert.CcvRefIdeal.Facts] : Prop :=
  ∀ (m : (ℓ : Loc Cert.CcvIdeal.nD Cert.CcvIdeal.τ Cert.CcvIdeal.sig) → Buf (Elt Ideal) ℓ) (g : Dev Cert.CcvIdeal.nD → PrngReg)
    (m' : (ℓ : Loc Cert.CcvRefIdeal.nD Cert.CcvRefIdeal.τ Cert.CcvRefIdeal.sig) → Buf (Elt Ideal) ℓ) (g' : Dev Cert.CcvRefIdeal.nD → PrngReg), Pre_CcvIdeal m →
    (∀ c : Dev Cert.CcvIdeal.nD,
      m' ((c.tc : Thread Cert.CcvRefIdeal.nD Cert.CcvRefIdeal.τ).loc Cert.CcvRefIdeal.main_arg0) = m ((c.tc : Thread Cert.CcvIdeal.nD Cert.CcvIdeal.τ).loc Cert.CcvIdeal.main_arg0)
      ∧ m' ((c.tc : Thread Cert.CcvRefIdeal.nD Cert.CcvRefIdeal.τ).loc Cert.CcvRefIdeal.main_arg1) = m ((c.tc : Thread Cert.CcvIdeal.nD Cert.CcvIdeal.τ).loc Cert.CcvIdeal.main_arg1)
      ∧ m' ((c.tc : Thread Cert.CcvRefIdeal.nD Cert.CcvRefIdeal.τ).loc Cert.CcvRefIdeal.main_arg2) = m ((c.tc : Thread Cert.CcvIdeal.nD Cert.CcvIdeal.τ).loc Cert.CcvIdeal.main_arg2)
      ∧ m' ((c.tc : Thread Cert.CcvRefIdeal.nD Cert.CcvRefIdeal.τ).loc Cert.CcvRefIdeal.main_arg3) = m ((c.tc : Thread Cert.CcvIdeal.nD Cert.CcvIdeal.τ).loc Cert.CcvIdeal.main_arg3)
      ∧ m' ((c.tc : Thread Cert.CcvRefIdeal.nD Cert.CcvRefIdeal.τ).loc Cert.CcvRefIdeal.main_arg4) = m ((c.tc : Thread Cert.CcvIdeal.nD Cert.CcvIdeal.τ).loc Cert.CcvIdeal.main_arg4)
      ∧ m' ((c.tc : Thread Cert.CcvRefIdeal.nD Cert.CcvRefIdeal.τ).loc Cert.CcvRefIdeal.main_arg5) = m ((c.tc : Thread Cert.CcvIdeal.nD Cert.CcvIdeal.τ).loc Cert.CcvIdeal.main_arg5)) →
    ∃ (v0 : (c : Dev Cert.CcvIdeal.nD) → Buf (Elt Ideal) ((c.tc : Thread Cert.CcvIdeal.nD Cert.CcvIdeal.τ).loc Cert.CcvIdeal.main_v8_0)) (v1 : (c : Dev Cert.CcvIdeal.nD) → Buf (Elt Ideal) ((c.tc : Thread Cert.CcvIdeal.nD Cert.CcvIdeal.τ).loc Cert.CcvIdeal.main_v8_1)),
      θ_run (Cert.CcvIdeal.defs (F := Ideal)) (onTc (τ := Cert.CcvIdeal.τ) (Cert.CcvIdeal.main (F := Ideal))) ⟨m, fun _ => 0, g⟩ (fun r => ∀ c : Dev Cert.CcvIdeal.nD,
          r.2.mem ((c.tc : Thread Cert.CcvIdeal.nD Cert.CcvIdeal.τ).loc Cert.CcvIdeal.main_v8_0) = v0 c
          ∧ r.2.mem ((c.tc : Thread Cert.CcvIdeal.nD Cert.CcvIdeal.τ).loc Cert.CcvIdeal.main_v8_1) = v1 c
          ∧ r.2.mem ((c.tc : Thread Cert.CcvIdeal.nD Cert.CcvIdeal.τ).loc Cert.CcvIdeal.main_arg0) = m ((c.tc : Thread Cert.CcvIdeal.nD Cert.CcvIdeal.τ).loc Cert.CcvIdeal.main_arg0)
          ∧ r.2.mem ((c.tc : Thread Cert.CcvIdeal.nD Cert.CcvIdeal.τ).loc Cert.CcvIdeal.main_arg1) = m ((c.tc : Thread Cert.CcvIdeal.nD Cert.CcvIdeal.τ).loc Cert.CcvIdeal.main_arg1)
          ∧ r.2.mem ((c.tc : Thread Cert.CcvIdeal.nD Cert.CcvIdeal.τ).loc Cert.CcvIdeal.main_arg2) = m ((c.tc : Thread Cert.CcvIdeal.nD Cert.CcvIdeal.τ).loc Cert.CcvIdeal.main_arg2)
          ∧ r.2.mem ((c.tc : Thread Cert.CcvIdeal.nD Cert.CcvIdeal.τ).loc Cert.CcvIdeal.main_arg3) = m ((c.tc : Thread Cert.CcvIdeal.nD Cert.CcvIdeal.τ).loc Cert.CcvIdeal.main_arg3)
          ∧ r.2.mem ((c.tc : Thread Cert.CcvIdeal.nD Cert.CcvIdeal.τ).loc Cert.CcvIdeal.main_arg4) = m ((c.tc : Thread Cert.CcvIdeal.nD Cert.CcvIdeal.τ).loc Cert.CcvIdeal.main_arg4)
          ∧ r.2.mem ((c.tc : Thread Cert.CcvIdeal.nD Cert.CcvIdeal.τ).loc Cert.CcvIdeal.main_arg5) = m ((c.tc : Thread Cert.CcvIdeal.nD Cert.CcvIdeal.τ).loc Cert.CcvIdeal.main_arg5))
      ∧ θ_run (Cert.CcvRefIdeal.defs (F := Ideal)) (onTc (τ := Cert.CcvRefIdeal.τ) (Cert.CcvRefIdeal.main (F := Ideal))) ⟨m', fun _ => 0, g'⟩ (fun r => ∀ c : Dev Cert.CcvRefIdeal.nD,
          r.2.mem ((c.tc : Thread Cert.CcvRefIdeal.nD Cert.CcvRefIdeal.τ).loc Cert.CcvRefIdeal.main_v250) = v0 c
          ∧ r.2.mem ((c.tc : Thread Cert.CcvRefIdeal.nD Cert.CcvRefIdeal.τ).loc Cert.CcvRefIdeal.main_v220) = v1 c
          ∧ r.2.mem ((c.tc : Thread Cert.CcvRefIdeal.nD Cert.CcvRefIdeal.τ).loc Cert.CcvRefIdeal.main_arg0) = m' ((c.tc : Thread Cert.CcvRefIdeal.nD Cert.CcvRefIdeal.τ).loc Cert.CcvRefIdeal.main_arg0)
          ∧ r.2.mem ((c.tc : Thread Cert.CcvRefIdeal.nD Cert.CcvRefIdeal.τ).loc Cert.CcvRefIdeal.main_arg1) = m' ((c.tc : Thread Cert.CcvRefIdeal.nD Cert.CcvRefIdeal.τ).loc Cert.CcvRefIdeal.main_arg1)
          ∧ r.2.mem ((c.tc : Thread Cert.CcvRefIdeal.nD Cert.CcvRefIdeal.τ).loc Cert.CcvRefIdeal.main_arg2) = m' ((c.tc : Thread Cert.CcvRefIdeal.nD Cert.CcvRefIdeal.τ).loc Cert.CcvRefIdeal.main_arg2)
          ∧ r.2.mem ((c.tc : Thread Cert.CcvRefIdeal.nD Cert.CcvRefIdeal.τ).loc Cert.CcvRefIdeal.main_arg3) = m' ((c.tc : Thread Cert.CcvRefIdeal.nD Cert.CcvRefIdeal.τ).loc Cert.CcvRefIdeal.main_arg3)
          ∧ r.2.mem ((c.tc : Thread Cert.CcvRefIdeal.nD Cert.CcvRefIdeal.τ).loc Cert.CcvRefIdeal.main_arg4) = m' ((c.tc : Thread Cert.CcvRefIdeal.nD Cert.CcvRefIdeal.τ).loc Cert.CcvRefIdeal.main_arg4)
          ∧ r.2.mem ((c.tc : Thread Cert.CcvRefIdeal.nD Cert.CcvRefIdeal.τ).loc Cert.CcvRefIdeal.main_arg5) = m' ((c.tc : Thread Cert.CcvRefIdeal.nD Cert.CcvRefIdeal.τ).loc Cert.CcvRefIdeal.main_arg5))

def preserves_Qz_QzIdeal : Prop :=
  True

def algebraic_QzIdeal_QzRefIdeal [hQzIdeal : Cert.QzIdeal.Facts] [hQzRefIdeal : Cert.QzRefIdeal.Facts] : Prop :=
  ∀ (m : (ℓ : Loc Cert.QzIdeal.nD Cert.QzIdeal.τ Cert.QzIdeal.sig) → Buf (Elt Ideal) ℓ) (g : Dev Cert.QzIdeal.nD → PrngReg)
    (m' : (ℓ : Loc Cert.QzRefIdeal.nD Cert.QzRefIdeal.τ Cert.QzRefIdeal.sig) → Buf (Elt Ideal) ℓ) (g' : Dev Cert.QzRefIdeal.nD → PrngReg), Pre_QzIdeal m →
    (∀ c : Dev Cert.QzIdeal.nD,
      m' ((c.tc : Thread Cert.QzRefIdeal.nD Cert.QzRefIdeal.τ).loc Cert.QzRefIdeal.main_arg0) = m ((c.tc : Thread Cert.QzIdeal.nD Cert.QzIdeal.τ).loc Cert.QzIdeal.main_arg0)
      ∧ m' ((c.tc : Thread Cert.QzRefIdeal.nD Cert.QzRefIdeal.τ).loc Cert.QzRefIdeal.main_arg1) = m ((c.tc : Thread Cert.QzIdeal.nD Cert.QzIdeal.τ).loc Cert.QzIdeal.main_arg1)) →
    ∃ (v0 : (c : Dev Cert.QzIdeal.nD) → Buf (Elt Ideal) ((c.tc : Thread Cert.QzIdeal.nD Cert.QzIdeal.τ).loc Cert.QzIdeal.main_v3)),
      θ_run (Cert.QzIdeal.defs (F := Ideal)) (onTc (τ := Cert.QzIdeal.τ) (Cert.QzIdeal.main (F := Ideal))) ⟨m, fun _ => 0, g⟩ (fun r => ∀ c : Dev Cert.QzIdeal.nD,
          r.2.mem ((c.tc : Thread Cert.QzIdeal.nD Cert.QzIdeal.τ).loc Cert.QzIdeal.main_v3) = v0 c
          ∧ r.2.mem ((c.tc : Thread Cert.QzIdeal.nD Cert.QzIdeal.τ).loc Cert.QzIdeal.main_arg0) = m ((c.tc : Thread Cert.QzIdeal.nD Cert.QzIdeal.τ).loc Cert.QzIdeal.main_arg0)
          ∧ r.2.mem ((c.tc : Thread Cert.QzIdeal.nD Cert.QzIdeal.τ).loc Cert.QzIdeal.main_arg1) = m ((c.tc : Thread Cert.QzIdeal.nD Cert.QzIdeal.τ).loc Cert.QzIdeal.main_arg1))
      ∧ θ_run (Cert.QzRefIdeal.defs (F := Ideal)) (onTc (τ := Cert.QzRefIdeal.τ) (Cert.QzRefIdeal.main (F := Ideal))) ⟨m', fun _ => 0, g'⟩ (fun r => ∀ c : Dev Cert.QzRefIdeal.nD,
          r.2.mem ((c.tc : Thread Cert.QzRefIdeal.nD Cert.QzRefIdeal.τ).loc Cert.QzRefIdeal.main_v3) = v0 c
          ∧ r.2.mem ((c.tc : Thread Cert.QzRefIdeal.nD Cert.QzRefIdeal.τ).loc Cert.QzRefIdeal.main_arg0) = m' ((c.tc : Thread Cert.QzRefIdeal.nD Cert.QzRefIdeal.τ).loc Cert.QzRefIdeal.main_arg0)
          ∧ r.2.mem ((c.tc : Thread Cert.QzRefIdeal.nD Cert.QzRefIdeal.τ).loc Cert.QzRefIdeal.main_arg1) = m' ((c.tc : Thread Cert.QzRefIdeal.nD Cert.QzRefIdeal.τ).loc Cert.QzRefIdeal.main_arg1))

def preserves_Oc_OcIdeal : Prop :=
  True

def algebraic_OcIdeal_OcRefIdeal [hOcIdeal : Cert.OcIdeal.Facts] [hOcRefIdeal : Cert.OcRefIdeal.Facts] : Prop :=
  ∀ (m : (ℓ : Loc Cert.OcIdeal.nD Cert.OcIdeal.τ Cert.OcIdeal.sig) → Buf (Elt Ideal) ℓ) (g : Dev Cert.OcIdeal.nD → PrngReg)
    (m' : (ℓ : Loc Cert.OcRefIdeal.nD Cert.OcRefIdeal.τ Cert.OcRefIdeal.sig) → Buf (Elt Ideal) ℓ) (g' : Dev Cert.OcRefIdeal.nD → PrngReg), Pre_OcIdeal m →
    (∀ c : Dev Cert.OcIdeal.nD,
      m' ((c.tc : Thread Cert.OcRefIdeal.nD Cert.OcRefIdeal.τ).loc Cert.OcRefIdeal.main_arg0) = m ((c.tc : Thread Cert.OcIdeal.nD Cert.OcIdeal.τ).loc Cert.OcIdeal.main_arg0)
      ∧ m' ((c.tc : Thread Cert.OcRefIdeal.nD Cert.OcRefIdeal.τ).loc Cert.OcRefIdeal.main_arg1) = m ((c.tc : Thread Cert.OcIdeal.nD Cert.OcIdeal.τ).loc Cert.OcIdeal.main_arg1)
      ∧ m' ((c.tc : Thread Cert.OcRefIdeal.nD Cert.OcRefIdeal.τ).loc Cert.OcRefIdeal.main_arg2) = m ((c.tc : Thread Cert.OcIdeal.nD Cert.OcIdeal.τ).loc Cert.OcIdeal.main_arg2)
      ∧ m' ((c.tc : Thread Cert.OcRefIdeal.nD Cert.OcRefIdeal.τ).loc Cert.OcRefIdeal.main_arg3) = m ((c.tc : Thread Cert.OcIdeal.nD Cert.OcIdeal.τ).loc Cert.OcIdeal.main_arg3)
      ∧ m' ((c.tc : Thread Cert.OcRefIdeal.nD Cert.OcRefIdeal.τ).loc Cert.OcRefIdeal.main_arg4) = m ((c.tc : Thread Cert.OcIdeal.nD Cert.OcIdeal.τ).loc Cert.OcIdeal.main_arg4)) →
    ∃ (v0 : (c : Dev Cert.OcIdeal.nD) → Buf (Elt Ideal) ((c.tc : Thread Cert.OcIdeal.nD Cert.OcIdeal.τ).loc Cert.OcIdeal.main_v5_0)) (v1 : (c : Dev Cert.OcIdeal.nD) → Buf (Elt Ideal) ((c.tc : Thread Cert.OcIdeal.nD Cert.OcIdeal.τ).loc Cert.OcIdeal.main_v5_1)),
      θ_run (Cert.OcIdeal.defs (F := Ideal)) (onTc (τ := Cert.OcIdeal.τ) (Cert.OcIdeal.main (F := Ideal))) ⟨m, fun _ => 0, g⟩ (fun r => ∀ c : Dev Cert.OcIdeal.nD,
          r.2.mem ((c.tc : Thread Cert.OcIdeal.nD Cert.OcIdeal.τ).loc Cert.OcIdeal.main_v5_0) = v0 c
          ∧ r.2.mem ((c.tc : Thread Cert.OcIdeal.nD Cert.OcIdeal.τ).loc Cert.OcIdeal.main_v5_1) = v1 c
          ∧ r.2.mem ((c.tc : Thread Cert.OcIdeal.nD Cert.OcIdeal.τ).loc Cert.OcIdeal.main_arg0) = m ((c.tc : Thread Cert.OcIdeal.nD Cert.OcIdeal.τ).loc Cert.OcIdeal.main_arg0)
          ∧ r.2.mem ((c.tc : Thread Cert.OcIdeal.nD Cert.OcIdeal.τ).loc Cert.OcIdeal.main_arg1) = m ((c.tc : Thread Cert.OcIdeal.nD Cert.OcIdeal.τ).loc Cert.OcIdeal.main_arg1)
          ∧ r.2.mem ((c.tc : Thread Cert.OcIdeal.nD Cert.OcIdeal.τ).loc Cert.OcIdeal.main_arg2) = m ((c.tc : Thread Cert.OcIdeal.nD Cert.OcIdeal.τ).loc Cert.OcIdeal.main_arg2)
          ∧ r.2.mem ((c.tc : Thread Cert.OcIdeal.nD Cert.OcIdeal.τ).loc Cert.OcIdeal.main_arg3) = m ((c.tc : Thread Cert.OcIdeal.nD Cert.OcIdeal.τ).loc Cert.OcIdeal.main_arg3)
          ∧ r.2.mem ((c.tc : Thread Cert.OcIdeal.nD Cert.OcIdeal.τ).loc Cert.OcIdeal.main_arg4) = m ((c.tc : Thread Cert.OcIdeal.nD Cert.OcIdeal.τ).loc Cert.OcIdeal.main_arg4))
      ∧ θ_run (Cert.OcRefIdeal.defs (F := Ideal)) (onTc (τ := Cert.OcRefIdeal.τ) (Cert.OcRefIdeal.main (F := Ideal))) ⟨m', fun _ => 0, g'⟩ (fun r => ∀ c : Dev Cert.OcRefIdeal.nD,
          r.2.mem ((c.tc : Thread Cert.OcRefIdeal.nD Cert.OcRefIdeal.τ).loc Cert.OcRefIdeal.main_v26) = v0 c
          ∧ r.2.mem ((c.tc : Thread Cert.OcRefIdeal.nD Cert.OcRefIdeal.τ).loc Cert.OcRefIdeal.main_v27) = v1 c
          ∧ r.2.mem ((c.tc : Thread Cert.OcRefIdeal.nD Cert.OcRefIdeal.τ).loc Cert.OcRefIdeal.main_arg0) = m' ((c.tc : Thread Cert.OcRefIdeal.nD Cert.OcRefIdeal.τ).loc Cert.OcRefIdeal.main_arg0)
          ∧ r.2.mem ((c.tc : Thread Cert.OcRefIdeal.nD Cert.OcRefIdeal.τ).loc Cert.OcRefIdeal.main_arg1) = m' ((c.tc : Thread Cert.OcRefIdeal.nD Cert.OcRefIdeal.τ).loc Cert.OcRefIdeal.main_arg1)
          ∧ r.2.mem ((c.tc : Thread Cert.OcRefIdeal.nD Cert.OcRefIdeal.τ).loc Cert.OcRefIdeal.main_arg2) = m' ((c.tc : Thread Cert.OcRefIdeal.nD Cert.OcRefIdeal.τ).loc Cert.OcRefIdeal.main_arg2)
          ∧ r.2.mem ((c.tc : Thread Cert.OcRefIdeal.nD Cert.OcRefIdeal.τ).loc Cert.OcRefIdeal.main_arg3) = m' ((c.tc : Thread Cert.OcRefIdeal.nD Cert.OcRefIdeal.τ).loc Cert.OcRefIdeal.main_arg3)
          ∧ r.2.mem ((c.tc : Thread Cert.OcRefIdeal.nD Cert.OcRefIdeal.τ).loc Cert.OcRefIdeal.main_arg4) = m' ((c.tc : Thread Cert.OcRefIdeal.nD Cert.OcRefIdeal.τ).loc Cert.OcRefIdeal.main_arg4))

def preserves_Mq_MqIdeal : Prop :=
  True

def algebraic_MqIdeal_MqRefIdeal [hMqIdeal : Cert.MqIdeal.Facts] [hMqRefIdeal : Cert.MqRefIdeal.Facts] : Prop :=
  ∀ (m : (ℓ : Loc Cert.MqIdeal.nD Cert.MqIdeal.τ Cert.MqIdeal.sig) → Buf (Elt Ideal) ℓ) (g : Dev Cert.MqIdeal.nD → PrngReg)
    (m' : (ℓ : Loc Cert.MqRefIdeal.nD Cert.MqRefIdeal.τ Cert.MqRefIdeal.sig) → Buf (Elt Ideal) ℓ) (g' : Dev Cert.MqRefIdeal.nD → PrngReg), Pre_MqIdeal m →
    (∀ c : Dev Cert.MqIdeal.nD,
      m' ((c.tc : Thread Cert.MqRefIdeal.nD Cert.MqRefIdeal.τ).loc Cert.MqRefIdeal.main_arg0) = m ((c.tc : Thread Cert.MqIdeal.nD Cert.MqIdeal.τ).loc Cert.MqIdeal.main_arg0)
      ∧ m' ((c.tc : Thread Cert.MqRefIdeal.nD Cert.MqRefIdeal.τ).loc Cert.MqRefIdeal.main_arg1) = m ((c.tc : Thread Cert.MqIdeal.nD Cert.MqIdeal.τ).loc Cert.MqIdeal.main_arg1)) →
    ∃ (v0 : (c : Dev Cert.MqIdeal.nD) → Buf (Elt Ideal) ((c.tc : Thread Cert.MqIdeal.nD Cert.MqIdeal.τ).loc Cert.MqIdeal.main_v3)),
      θ_run (Cert.MqIdeal.defs (F := Ideal)) (onTc (τ := Cert.MqIdeal.τ) (Cert.MqIdeal.main (F := Ideal))) ⟨m, fun _ => 0, g⟩ (fun r => ∀ c : Dev Cert.MqIdeal.nD,
          r.2.mem ((c.tc : Thread Cert.MqIdeal.nD Cert.MqIdeal.τ).loc Cert.MqIdeal.main_v3) = v0 c
          ∧ r.2.mem ((c.tc : Thread Cert.MqIdeal.nD Cert.MqIdeal.τ).loc Cert.MqIdeal.main_arg0) = m ((c.tc : Thread Cert.MqIdeal.nD Cert.MqIdeal.τ).loc Cert.MqIdeal.main_arg0)
          ∧ r.2.mem ((c.tc : Thread Cert.MqIdeal.nD Cert.MqIdeal.τ).loc Cert.MqIdeal.main_arg1) = m ((c.tc : Thread Cert.MqIdeal.nD Cert.MqIdeal.τ).loc Cert.MqIdeal.main_arg1))
      ∧ θ_run (Cert.MqRefIdeal.defs (F := Ideal)) (onTc (τ := Cert.MqRefIdeal.τ) (Cert.MqRefIdeal.main (F := Ideal))) ⟨m', fun _ => 0, g'⟩ (fun r => ∀ c : Dev Cert.MqRefIdeal.nD,
          r.2.mem ((c.tc : Thread Cert.MqRefIdeal.nD Cert.MqRefIdeal.τ).loc Cert.MqRefIdeal.main_v4) = v0 c
          ∧ r.2.mem ((c.tc : Thread Cert.MqRefIdeal.nD Cert.MqRefIdeal.τ).loc Cert.MqRefIdeal.main_arg0) = m' ((c.tc : Thread Cert.MqRefIdeal.nD Cert.MqRefIdeal.τ).loc Cert.MqRefIdeal.main_arg0)
          ∧ r.2.mem ((c.tc : Thread Cert.MqRefIdeal.nD Cert.MqRefIdeal.τ).loc Cert.MqRefIdeal.main_arg1) = m' ((c.tc : Thread Cert.MqRefIdeal.nD Cert.MqRefIdeal.τ).loc Cert.MqRefIdeal.main_arg1))

def preserves_Mo_MoIdeal : Prop :=
  True

def algebraic_MoIdeal_MoRefIdeal [hMoIdeal : Cert.MoIdeal.Facts] [hMoRefIdeal : Cert.MoRefIdeal.Facts] : Prop :=
  ∀ (m : (ℓ : Loc Cert.MoIdeal.nD Cert.MoIdeal.τ Cert.MoIdeal.sig) → Buf (Elt Ideal) ℓ) (g : Dev Cert.MoIdeal.nD → PrngReg)
    (m' : (ℓ : Loc Cert.MoRefIdeal.nD Cert.MoRefIdeal.τ Cert.MoRefIdeal.sig) → Buf (Elt Ideal) ℓ) (g' : Dev Cert.MoRefIdeal.nD → PrngReg), Pre_MoIdeal m →
    (∀ c : Dev Cert.MoIdeal.nD,
      m' ((c.tc : Thread Cert.MoRefIdeal.nD Cert.MoRefIdeal.τ).loc Cert.MoRefIdeal.main_arg0) = m ((c.tc : Thread Cert.MoIdeal.nD Cert.MoIdeal.τ).loc Cert.MoIdeal.main_arg0)
      ∧ m' ((c.tc : Thread Cert.MoRefIdeal.nD Cert.MoRefIdeal.τ).loc Cert.MoRefIdeal.main_arg1) = m ((c.tc : Thread Cert.MoIdeal.nD Cert.MoIdeal.τ).loc Cert.MoIdeal.main_arg1)
      ∧ m' ((c.tc : Thread Cert.MoRefIdeal.nD Cert.MoRefIdeal.τ).loc Cert.MoRefIdeal.main_arg2) = m ((c.tc : Thread Cert.MoIdeal.nD Cert.MoIdeal.τ).loc Cert.MoIdeal.main_arg2)
      ∧ m' ((c.tc : Thread Cert.MoRefIdeal.nD Cert.MoRefIdeal.τ).loc Cert.MoRefIdeal.main_arg3) = m ((c.tc : Thread Cert.MoIdeal.nD Cert.MoIdeal.τ).loc Cert.MoIdeal.main_arg3)
      ∧ m' ((c.tc : Thread Cert.MoRefIdeal.nD Cert.MoRefIdeal.τ).loc Cert.MoRefIdeal.main_arg4) = m ((c.tc : Thread Cert.MoIdeal.nD Cert.MoIdeal.τ).loc Cert.MoIdeal.main_arg4)) →
    ∃ (v0 : (c : Dev Cert.MoIdeal.nD) → Buf (Elt Ideal) ((c.tc : Thread Cert.MoIdeal.nD Cert.MoIdeal.τ).loc Cert.MoIdeal.main_v10_0)) (v1 : (c : Dev Cert.MoIdeal.nD) → Buf (Elt Ideal) ((c.tc : Thread Cert.MoIdeal.nD Cert.MoIdeal.τ).loc Cert.MoIdeal.main_v10_1)),
      θ_run (Cert.MoIdeal.defs (F := Ideal)) (onTc (τ := Cert.MoIdeal.τ) (Cert.MoIdeal.main (F := Ideal))) ⟨m, fun _ => 0, g⟩ (fun r => ∀ c : Dev Cert.MoIdeal.nD,
          r.2.mem ((c.tc : Thread Cert.MoIdeal.nD Cert.MoIdeal.τ).loc Cert.MoIdeal.main_v10_0) = v0 c
          ∧ r.2.mem ((c.tc : Thread Cert.MoIdeal.nD Cert.MoIdeal.τ).loc Cert.MoIdeal.main_v10_1) = v1 c
          ∧ r.2.mem ((c.tc : Thread Cert.MoIdeal.nD Cert.MoIdeal.τ).loc Cert.MoIdeal.main_arg0) = m ((c.tc : Thread Cert.MoIdeal.nD Cert.MoIdeal.τ).loc Cert.MoIdeal.main_arg0)
          ∧ r.2.mem ((c.tc : Thread Cert.MoIdeal.nD Cert.MoIdeal.τ).loc Cert.MoIdeal.main_arg1) = m ((c.tc : Thread Cert.MoIdeal.nD Cert.MoIdeal.τ).loc Cert.MoIdeal.main_arg1)
          ∧ r.2.mem ((c.tc : Thread Cert.MoIdeal.nD Cert.MoIdeal.τ).loc Cert.MoIdeal.main_arg2) = m ((c.tc : Thread Cert.MoIdeal.nD Cert.MoIdeal.τ).loc Cert.MoIdeal.main_arg2)
          ∧ r.2.mem ((c.tc : Thread Cert.MoIdeal.nD Cert.MoIdeal.τ).loc Cert.MoIdeal.main_arg3) = m ((c.tc : Thread Cert.MoIdeal.nD Cert.MoIdeal.τ).loc Cert.MoIdeal.main_arg3)
          ∧ r.2.mem ((c.tc : Thread Cert.MoIdeal.nD Cert.MoIdeal.τ).loc Cert.MoIdeal.main_arg4) = m ((c.tc : Thread Cert.MoIdeal.nD Cert.MoIdeal.τ).loc Cert.MoIdeal.main_arg4))
      ∧ θ_run (Cert.MoRefIdeal.defs (F := Ideal)) (onTc (τ := Cert.MoRefIdeal.τ) (Cert.MoRefIdeal.main (F := Ideal))) ⟨m', fun _ => 0, g'⟩ (fun r => ∀ c : Dev Cert.MoRefIdeal.nD,
          r.2.mem ((c.tc : Thread Cert.MoRefIdeal.nD Cert.MoRefIdeal.τ).loc Cert.MoRefIdeal.main_v31) = v0 c
          ∧ r.2.mem ((c.tc : Thread Cert.MoRefIdeal.nD Cert.MoRefIdeal.τ).loc Cert.MoRefIdeal.main_v32) = v1 c
          ∧ r.2.mem ((c.tc : Thread Cert.MoRefIdeal.nD Cert.MoRefIdeal.τ).loc Cert.MoRefIdeal.main_arg0) = m' ((c.tc : Thread Cert.MoRefIdeal.nD Cert.MoRefIdeal.τ).loc Cert.MoRefIdeal.main_arg0)
          ∧ r.2.mem ((c.tc : Thread Cert.MoRefIdeal.nD Cert.MoRefIdeal.τ).loc Cert.MoRefIdeal.main_arg1) = m' ((c.tc : Thread Cert.MoRefIdeal.nD Cert.MoRefIdeal.τ).loc Cert.MoRefIdeal.main_arg1)
          ∧ r.2.mem ((c.tc : Thread Cert.MoRefIdeal.nD Cert.MoRefIdeal.τ).loc Cert.MoRefIdeal.main_arg2) = m' ((c.tc : Thread Cert.MoRefIdeal.nD Cert.MoRefIdeal.τ).loc Cert.MoRefIdeal.main_arg2)
          ∧ r.2.mem ((c.tc : Thread Cert.MoRefIdeal.nD Cert.MoRefIdeal.τ).loc Cert.MoRefIdeal.main_arg3) = m' ((c.tc : Thread Cert.MoRefIdeal.nD Cert.MoRefIdeal.τ).loc Cert.MoRefIdeal.main_arg3)
          ∧ r.2.mem ((c.tc : Thread Cert.MoRefIdeal.nD Cert.MoRefIdeal.τ).loc Cert.MoRefIdeal.main_arg4) = m' ((c.tc : Thread Cert.MoRefIdeal.nD Cert.MoRefIdeal.τ).loc Cert.MoRefIdeal.main_arg4))

def preserves_Qr_QrIdeal : Prop :=
  True

def algebraic_QrIdeal_QrRefIdeal [hQrIdeal : Cert.QrIdeal.Facts] [hQrRefIdeal : Cert.QrRefIdeal.Facts] : Prop :=
  ∀ (m : (ℓ : Loc Cert.QrIdeal.nD Cert.QrIdeal.τ Cert.QrIdeal.sig) → Buf (Elt Ideal) ℓ) (g : Dev Cert.QrIdeal.nD → PrngReg)
    (m' : (ℓ : Loc Cert.QrRefIdeal.nD Cert.QrRefIdeal.τ Cert.QrRefIdeal.sig) → Buf (Elt Ideal) ℓ) (g' : Dev Cert.QrRefIdeal.nD → PrngReg), Pre_QrIdeal m →
    (∀ c : Dev Cert.QrIdeal.nD,
      m' ((c.tc : Thread Cert.QrRefIdeal.nD Cert.QrRefIdeal.τ).loc Cert.QrRefIdeal.main_arg0) = m ((c.tc : Thread Cert.QrIdeal.nD Cert.QrIdeal.τ).loc Cert.QrIdeal.main_arg0)
      ∧ m' ((c.tc : Thread Cert.QrRefIdeal.nD Cert.QrRefIdeal.τ).loc Cert.QrRefIdeal.main_arg1) = m ((c.tc : Thread Cert.QrIdeal.nD Cert.QrIdeal.τ).loc Cert.QrIdeal.main_arg1)) →
    ∃ (v0 : (c : Dev Cert.QrIdeal.nD) → Buf (Elt Ideal) ((c.tc : Thread Cert.QrIdeal.nD Cert.QrIdeal.τ).loc Cert.QrIdeal.main_v3)),
      θ_run (Cert.QrIdeal.defs (F := Ideal)) (onTc (τ := Cert.QrIdeal.τ) (Cert.QrIdeal.main (F := Ideal))) ⟨m, fun _ => 0, g⟩ (fun r => ∀ c : Dev Cert.QrIdeal.nD,
          r.2.mem ((c.tc : Thread Cert.QrIdeal.nD Cert.QrIdeal.τ).loc Cert.QrIdeal.main_v3) = v0 c
          ∧ r.2.mem ((c.tc : Thread Cert.QrIdeal.nD Cert.QrIdeal.τ).loc Cert.QrIdeal.main_arg0) = m ((c.tc : Thread Cert.QrIdeal.nD Cert.QrIdeal.τ).loc Cert.QrIdeal.main_arg0)
          ∧ r.2.mem ((c.tc : Thread Cert.QrIdeal.nD Cert.QrIdeal.τ).loc Cert.QrIdeal.main_arg1) = m ((c.tc : Thread Cert.QrIdeal.nD Cert.QrIdeal.τ).loc Cert.QrIdeal.main_arg1))
      ∧ θ_run (Cert.QrRefIdeal.defs (F := Ideal)) (onTc (τ := Cert.QrRefIdeal.τ) (Cert.QrRefIdeal.main (F := Ideal))) ⟨m', fun _ => 0, g'⟩ (fun r => ∀ c : Dev Cert.QrRefIdeal.nD,
          r.2.mem ((c.tc : Thread Cert.QrRefIdeal.nD Cert.QrRefIdeal.τ).loc Cert.QrRefIdeal.main_v3) = v0 c
          ∧ r.2.mem ((c.tc : Thread Cert.QrRefIdeal.nD Cert.QrRefIdeal.τ).loc Cert.QrRefIdeal.main_arg0) = m' ((c.tc : Thread Cert.QrRefIdeal.nD Cert.QrRefIdeal.τ).loc Cert.QrRefIdeal.main_arg0)
          ∧ r.2.mem ((c.tc : Thread Cert.QrRefIdeal.nD Cert.QrRefIdeal.τ).loc Cert.QrRefIdeal.main_arg1) = m' ((c.tc : Thread Cert.QrRefIdeal.nD Cert.QrRefIdeal.τ).loc Cert.QrRefIdeal.main_arg1))

def preserves_Gl_GlIdeal : Prop :=
  True

def algebraic_GlIdeal_GlRefIdeal [hGlIdeal : Cert.GlIdeal.Facts] [hGlRefIdeal : Cert.GlRefIdeal.Facts] : Prop :=
  ∀ (m : (ℓ : Loc Cert.GlIdeal.nD Cert.GlIdeal.τ Cert.GlIdeal.sig) → Buf (Elt Ideal) ℓ) (g : Dev Cert.GlIdeal.nD → PrngReg)
    (m' : (ℓ : Loc Cert.GlRefIdeal.nD Cert.GlRefIdeal.τ Cert.GlRefIdeal.sig) → Buf (Elt Ideal) ℓ) (g' : Dev Cert.GlRefIdeal.nD → PrngReg), Pre_GlIdeal m →
    (∀ c : Dev Cert.GlIdeal.nD,
      m' ((c.tc : Thread Cert.GlRefIdeal.nD Cert.GlRefIdeal.τ).loc Cert.GlRefIdeal.main_arg0) = m ((c.tc : Thread Cert.GlIdeal.nD Cert.GlIdeal.τ).loc Cert.GlIdeal.main_arg0)
      ∧ m' ((c.tc : Thread Cert.GlRefIdeal.nD Cert.GlRefIdeal.τ).loc Cert.GlRefIdeal.main_arg1) = m ((c.tc : Thread Cert.GlIdeal.nD Cert.GlIdeal.τ).loc Cert.GlIdeal.main_arg1)) →
    ∃ (v0 : (c : Dev Cert.GlIdeal.nD) → Buf (Elt Ideal) ((c.tc : Thread Cert.GlIdeal.nD Cert.GlIdeal.τ).loc Cert.GlIdeal.main_v3)),
      θ_run (Cert.GlIdeal.defs (F := Ideal)) (onTc (τ := Cert.GlIdeal.τ) (Cert.GlIdeal.main (F := Ideal))) ⟨m, fun _ => 0, g⟩ (fun r => ∀ c : Dev Cert.GlIdeal.nD,
          r.2.mem ((c.tc : Thread Cert.GlIdeal.nD Cert.GlIdeal.τ).loc Cert.GlIdeal.main_v3) = v0 c
          ∧ r.2.mem ((c.tc : Thread Cert.GlIdeal.nD Cert.GlIdeal.τ).loc Cert.GlIdeal.main_arg0) = m ((c.tc : Thread Cert.GlIdeal.nD Cert.GlIdeal.τ).loc Cert.GlIdeal.main_arg0)
          ∧ r.2.mem ((c.tc : Thread Cert.GlIdeal.nD Cert.GlIdeal.τ).loc Cert.GlIdeal.main_arg1) = m ((c.tc : Thread Cert.GlIdeal.nD Cert.GlIdeal.τ).loc Cert.GlIdeal.main_arg1))
      ∧ θ_run (Cert.GlRefIdeal.defs (F := Ideal)) (onTc (τ := Cert.GlRefIdeal.τ) (Cert.GlRefIdeal.main (F := Ideal))) ⟨m', fun _ => 0, g'⟩ (fun r => ∀ c : Dev Cert.GlRefIdeal.nD,
          r.2.mem ((c.tc : Thread Cert.GlRefIdeal.nD Cert.GlRefIdeal.τ).loc Cert.GlRefIdeal.main_v11) = v0 c
          ∧ r.2.mem ((c.tc : Thread Cert.GlRefIdeal.nD Cert.GlRefIdeal.τ).loc Cert.GlRefIdeal.main_arg0) = m' ((c.tc : Thread Cert.GlRefIdeal.nD Cert.GlRefIdeal.τ).loc Cert.GlRefIdeal.main_arg0)
          ∧ r.2.mem ((c.tc : Thread Cert.GlRefIdeal.nD Cert.GlRefIdeal.τ).loc Cert.GlRefIdeal.main_arg1) = m' ((c.tc : Thread Cert.GlRefIdeal.nD Cert.GlRefIdeal.τ).loc Cert.GlRefIdeal.main_arg1))

def preserves_Gcp_GcpIdeal : Prop :=
  True

def algebraic_GcpIdeal_GcpRefIdeal [hGcpIdeal : Cert.GcpIdeal.Facts] [hGcpRefIdeal : Cert.GcpRefIdeal.Facts] : Prop :=
  ∀ (m : (ℓ : Loc Cert.GcpIdeal.nD Cert.GcpIdeal.τ Cert.GcpIdeal.sig) → Buf (Elt Ideal) ℓ) (g : Dev Cert.GcpIdeal.nD → PrngReg)
    (m' : (ℓ : Loc Cert.GcpRefIdeal.nD Cert.GcpRefIdeal.τ Cert.GcpRefIdeal.sig) → Buf (Elt Ideal) ℓ) (g' : Dev Cert.GcpRefIdeal.nD → PrngReg), Pre_GcpIdeal m →
    (∀ c : Dev Cert.GcpIdeal.nD,
      m' ((c.tc : Thread Cert.GcpRefIdeal.nD Cert.GcpRefIdeal.τ).loc Cert.GcpRefIdeal.main_arg0) = m ((c.tc : Thread Cert.GcpIdeal.nD Cert.GcpIdeal.τ).loc Cert.GcpIdeal.main_arg0)
      ∧ m' ((c.tc : Thread Cert.GcpRefIdeal.nD Cert.GcpRefIdeal.τ).loc Cert.GcpRefIdeal.main_arg1) = m ((c.tc : Thread Cert.GcpIdeal.nD Cert.GcpIdeal.τ).loc Cert.GcpIdeal.main_arg1)
      ∧ m' ((c.tc : Thread Cert.GcpRefIdeal.nD Cert.GcpRefIdeal.τ).loc Cert.GcpRefIdeal.main_arg2) = m ((c.tc : Thread Cert.GcpIdeal.nD Cert.GcpIdeal.τ).loc Cert.GcpIdeal.main_arg2)) →
    ∃ (v0 : (c : Dev Cert.GcpIdeal.nD) → Buf (Elt Ideal) ((c.tc : Thread Cert.GcpIdeal.nD Cert.GcpIdeal.τ).loc Cert.GcpIdeal.main_v1_0)) (v1 : (c : Dev Cert.GcpIdeal.nD) → Buf (Elt Ideal) ((c.tc : Thread Cert.GcpIdeal.nD Cert.GcpIdeal.τ).loc Cert.GcpIdeal.main_v1_1)),
      θ_run (Cert.GcpIdeal.defs (F := Ideal)) (onTc (τ := Cert.GcpIdeal.τ) (Cert.GcpIdeal.main (F := Ideal))) ⟨m, fun _ => 0, g⟩ (fun r => ∀ c : Dev Cert.GcpIdeal.nD,
          r.2.mem ((c.tc : Thread Cert.GcpIdeal.nD Cert.GcpIdeal.τ).loc Cert.GcpIdeal.main_v1_0) = v0 c
          ∧ r.2.mem ((c.tc : Thread Cert.GcpIdeal.nD Cert.GcpIdeal.τ).loc Cert.GcpIdeal.main_v1_1) = v1 c
          ∧ r.2.mem ((c.tc : Thread Cert.GcpIdeal.nD Cert.GcpIdeal.τ).loc Cert.GcpIdeal.main_arg0) = m ((c.tc : Thread Cert.GcpIdeal.nD Cert.GcpIdeal.τ).loc Cert.GcpIdeal.main_arg0)
          ∧ r.2.mem ((c.tc : Thread Cert.GcpIdeal.nD Cert.GcpIdeal.τ).loc Cert.GcpIdeal.main_arg1) = m ((c.tc : Thread Cert.GcpIdeal.nD Cert.GcpIdeal.τ).loc Cert.GcpIdeal.main_arg1)
          ∧ r.2.mem ((c.tc : Thread Cert.GcpIdeal.nD Cert.GcpIdeal.τ).loc Cert.GcpIdeal.main_arg2) = m ((c.tc : Thread Cert.GcpIdeal.nD Cert.GcpIdeal.τ).loc Cert.GcpIdeal.main_arg2))
      ∧ θ_run (Cert.GcpRefIdeal.defs (F := Ideal)) (onTc (τ := Cert.GcpRefIdeal.τ) (Cert.GcpRefIdeal.main (F := Ideal))) ⟨m', fun _ => 0, g'⟩ (fun r => ∀ c : Dev Cert.GcpRefIdeal.nD,
          r.2.mem ((c.tc : Thread Cert.GcpRefIdeal.nD Cert.GcpRefIdeal.τ).loc Cert.GcpRefIdeal.main_v59) = v0 c
          ∧ r.2.mem ((c.tc : Thread Cert.GcpRefIdeal.nD Cert.GcpRefIdeal.τ).loc Cert.GcpRefIdeal.main_v31) = v1 c
          ∧ r.2.mem ((c.tc : Thread Cert.GcpRefIdeal.nD Cert.GcpRefIdeal.τ).loc Cert.GcpRefIdeal.main_arg0) = m' ((c.tc : Thread Cert.GcpRefIdeal.nD Cert.GcpRefIdeal.τ).loc Cert.GcpRefIdeal.main_arg0)
          ∧ r.2.mem ((c.tc : Thread Cert.GcpRefIdeal.nD Cert.GcpRefIdeal.τ).loc Cert.GcpRefIdeal.main_arg1) = m' ((c.tc : Thread Cert.GcpRefIdeal.nD Cert.GcpRefIdeal.τ).loc Cert.GcpRefIdeal.main_arg1)
          ∧ r.2.mem ((c.tc : Thread Cert.GcpRefIdeal.nD Cert.GcpRefIdeal.τ).loc Cert.GcpRefIdeal.main_arg2) = m' ((c.tc : Thread Cert.GcpRefIdeal.nD Cert.GcpRefIdeal.τ).loc Cert.GcpRefIdeal.main_arg2))

def preserves_Ccp_CcpIdeal : Prop :=
  True

def algebraic_CcpIdeal_CcpRefIdeal [hCcpIdeal : Cert.CcpIdeal.Facts] [hCcpRefIdeal : Cert.CcpRefIdeal.Facts] : Prop :=
  ∀ (m : (ℓ : Loc Cert.CcpIdeal.nD Cert.CcpIdeal.τ Cert.CcpIdeal.sig) → Buf (Elt Ideal) ℓ) (g : Dev Cert.CcpIdeal.nD → PrngReg)
    (m' : (ℓ : Loc Cert.CcpRefIdeal.nD Cert.CcpRefIdeal.τ Cert.CcpRefIdeal.sig) → Buf (Elt Ideal) ℓ) (g' : Dev Cert.CcpRefIdeal.nD → PrngReg), Pre_CcpIdeal m →
    (∀ c : Dev Cert.CcpIdeal.nD,
      m' ((c.tc : Thread Cert.CcpRefIdeal.nD Cert.CcpRefIdeal.τ).loc Cert.CcpRefIdeal.main_arg0) = m ((c.tc : Thread Cert.CcpIdeal.nD Cert.CcpIdeal.τ).loc Cert.CcpIdeal.main_arg0)
      ∧ m' ((c.tc : Thread Cert.CcpRefIdeal.nD Cert.CcpRefIdeal.τ).loc Cert.CcpRefIdeal.main_arg1) = m ((c.tc : Thread Cert.CcpIdeal.nD Cert.CcpIdeal.τ).loc Cert.CcpIdeal.main_arg1)
      ∧ m' ((c.tc : Thread Cert.CcpRefIdeal.nD Cert.CcpRefIdeal.τ).loc Cert.CcpRefIdeal.main_arg2) = m ((c.tc : Thread Cert.CcpIdeal.nD Cert.CcpIdeal.τ).loc Cert.CcpIdeal.main_arg2)
      ∧ m' ((c.tc : Thread Cert.CcpRefIdeal.nD Cert.CcpRefIdeal.τ).loc Cert.CcpRefIdeal.main_arg3) = m ((c.tc : Thread Cert.CcpIdeal.nD Cert.CcpIdeal.τ).loc Cert.CcpIdeal.main_arg3)
      ∧ m' ((c.tc : Thread Cert.CcpRefIdeal.nD Cert.CcpRefIdeal.τ).loc Cert.CcpRefIdeal.main_arg4) = m ((c.tc : Thread Cert.CcpIdeal.nD Cert.CcpIdeal.τ).loc Cert.CcpIdeal.main_arg4)
      ∧ m' ((c.tc : Thread Cert.CcpRefIdeal.nD Cert.CcpRefIdeal.τ).loc Cert.CcpRefIdeal.main_arg5) = m ((c.tc : Thread Cert.CcpIdeal.nD Cert.CcpIdeal.τ).loc Cert.CcpIdeal.main_arg5)) →
    ∃ (v0 : (c : Dev Cert.CcpIdeal.nD) → Buf (Elt Ideal) ((c.tc : Thread Cert.CcpIdeal.nD Cert.CcpIdeal.τ).loc Cert.CcpIdeal.main_v7_0)) (v1 : (c : Dev Cert.CcpIdeal.nD) → Buf (Elt Ideal) ((c.tc : Thread Cert.CcpIdeal.nD Cert.CcpIdeal.τ).loc Cert.CcpIdeal.main_v7_1)),
      θ_run (Cert.CcpIdeal.defs (F := Ideal)) (onTc (τ := Cert.CcpIdeal.τ) (Cert.CcpIdeal.main (F := Ideal))) ⟨m, fun _ => 0, g⟩ (fun r => ∀ c : Dev Cert.CcpIdeal.nD,
          r.2.mem ((c.tc : Thread Cert.CcpIdeal.nD Cert.CcpIdeal.τ).loc Cert.CcpIdeal.main_v7_0) = v0 c
          ∧ r.2.mem ((c.tc : Thread Cert.CcpIdeal.nD Cert.CcpIdeal.τ).loc Cert.CcpIdeal.main_v7_1) = v1 c
          ∧ r.2.mem ((c.tc : Thread Cert.CcpIdeal.nD Cert.CcpIdeal.τ).loc Cert.CcpIdeal.main_arg0) = m ((c.tc : Thread Cert.CcpIdeal.nD Cert.CcpIdeal.τ).loc Cert.CcpIdeal.main_arg0)
          ∧ r.2.mem ((c.tc : Thread Cert.CcpIdeal.nD Cert.CcpIdeal.τ).loc Cert.CcpIdeal.main_arg1) = m ((c.tc : Thread Cert.CcpIdeal.nD Cert.CcpIdeal.τ).loc Cert.CcpIdeal.main_arg1)
          ∧ r.2.mem ((c.tc : Thread Cert.CcpIdeal.nD Cert.CcpIdeal.τ).loc Cert.CcpIdeal.main_arg2) = m ((c.tc : Thread Cert.CcpIdeal.nD Cert.CcpIdeal.τ).loc Cert.CcpIdeal.main_arg2)
          ∧ r.2.mem ((c.tc : Thread Cert.CcpIdeal.nD Cert.CcpIdeal.τ).loc Cert.CcpIdeal.main_arg3) = m ((c.tc : Thread Cert.CcpIdeal.nD Cert.CcpIdeal.τ).loc Cert.CcpIdeal.main_arg3)
          ∧ r.2.mem ((c.tc : Thread Cert.CcpIdeal.nD Cert.CcpIdeal.τ).loc Cert.CcpIdeal.main_arg4) = m ((c.tc : Thread Cert.CcpIdeal.nD Cert.CcpIdeal.τ).loc Cert.CcpIdeal.main_arg4)
          ∧ r.2.mem ((c.tc : Thread Cert.CcpIdeal.nD Cert.CcpIdeal.τ).loc Cert.CcpIdeal.main_arg5) = m ((c.tc : Thread Cert.CcpIdeal.nD Cert.CcpIdeal.τ).loc Cert.CcpIdeal.main_arg5))
      ∧ θ_run (Cert.CcpRefIdeal.defs (F := Ideal)) (onTc (τ := Cert.CcpRefIdeal.τ) (Cert.CcpRefIdeal.main (F := Ideal))) ⟨m', fun _ => 0, g'⟩ (fun r => ∀ c : Dev Cert.CcpRefIdeal.nD,
          r.2.mem ((c.tc : Thread Cert.CcpRefIdeal.nD Cert.CcpRefIdeal.τ).loc Cert.CcpRefIdeal.main_v249) = v0 c
          ∧ r.2.mem ((c.tc : Thread Cert.CcpRefIdeal.nD Cert.CcpRefIdeal.τ).loc Cert.CcpRefIdeal.main_v219) = v1 c
          ∧ r.2.mem ((c.tc : Thread Cert.CcpRefIdeal.nD Cert.CcpRefIdeal.τ).loc Cert.CcpRefIdeal.main_arg0) = m' ((c.tc : Thread Cert.CcpRefIdeal.nD Cert.CcpRefIdeal.τ).loc Cert.CcpRefIdeal.main_arg0)
          ∧ r.2.mem ((c.tc : Thread Cert.CcpRefIdeal.nD Cert.CcpRefIdeal.τ).loc Cert.CcpRefIdeal.main_arg1) = m' ((c.tc : Thread Cert.CcpRefIdeal.nD Cert.CcpRefIdeal.τ).loc Cert.CcpRefIdeal.main_arg1)
          ∧ r.2.mem ((c.tc : Thread Cert.CcpRefIdeal.nD Cert.CcpRefIdeal.τ).loc Cert.CcpRefIdeal.main_arg2) = m' ((c.tc : Thread Cert.CcpRefIdeal.nD Cert.CcpRefIdeal.τ).loc Cert.CcpRefIdeal.main_arg2)
          ∧ r.2.mem ((c.tc : Thread Cert.CcpRefIdeal.nD Cert.CcpRefIdeal.τ).loc Cert.CcpRefIdeal.main_arg3) = m' ((c.tc : Thread Cert.CcpRefIdeal.nD Cert.CcpRefIdeal.τ).loc Cert.CcpRefIdeal.main_arg3)
          ∧ r.2.mem ((c.tc : Thread Cert.CcpRefIdeal.nD Cert.CcpRefIdeal.τ).loc Cert.CcpRefIdeal.main_arg4) = m' ((c.tc : Thread Cert.CcpRefIdeal.nD Cert.CcpRefIdeal.τ).loc Cert.CcpRefIdeal.main_arg4)
          ∧ r.2.mem ((c.tc : Thread Cert.CcpRefIdeal.nD Cert.CcpRefIdeal.τ).loc Cert.CcpRefIdeal.main_arg5) = m' ((c.tc : Thread Cert.CcpRefIdeal.nD Cert.CcpRefIdeal.τ).loc Cert.CcpRefIdeal.main_arg5))

def Claim : Prop :=
  ∃ (hGla : Cert.Gla.Facts) (hGlaIdeal : Cert.GlaIdeal.Facts) (hGlaRefIdeal : Cert.GlaRefIdeal.Facts) (hKv : Cert.Kv.Facts) (hKvIdeal : Cert.KvIdeal.Facts) (hKvRefIdeal : Cert.KvRefIdeal.Facts) (hSw : Cert.Sw.Facts) (hSwIdeal : Cert.SwIdeal.Facts) (hSwRefIdeal : Cert.SwRefIdeal.Facts) (hDn : Cert.Dn.Facts) (hDnIdeal : Cert.DnIdeal.Facts) (hDnRefIdeal : Cert.DnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGcv : Cert.Gcv.Facts) (hGcvIdeal : Cert.GcvIdeal.Facts) (hGcvRefIdeal : Cert.GcvRefIdeal.Facts) (hCcv : Cert.Ccv.Facts) (hCcvIdeal : Cert.CcvIdeal.Facts) (hCcvRefIdeal : Cert.CcvRefIdeal.Facts) (hQz : Cert.Qz.Facts) (hQzIdeal : Cert.QzIdeal.Facts) (hQzRefIdeal : Cert.QzRefIdeal.Facts) (hOc : Cert.Oc.Facts) (hOcIdeal : Cert.OcIdeal.Facts) (hOcRefIdeal : Cert.OcRefIdeal.Facts) (hMq : Cert.Mq.Facts) (hMqIdeal : Cert.MqIdeal.Facts) (hMqRefIdeal : Cert.MqRefIdeal.Facts) (hMo : Cert.Mo.Facts) (hMoIdeal : Cert.MoIdeal.Facts) (hMoRefIdeal : Cert.MoRefIdeal.Facts) (hQr : Cert.Qr.Facts) (hQrIdeal : Cert.QrIdeal.Facts) (hQrRefIdeal : Cert.QrRefIdeal.Facts) (hGl : Cert.Gl.Facts) (hGlIdeal : Cert.GlIdeal.Facts) (hGlRefIdeal : Cert.GlRefIdeal.Facts) (hGcp : Cert.Gcp.Facts) (hGcpIdeal : Cert.GcpIdeal.Facts) (hGcpRefIdeal : Cert.GcpRefIdeal.Facts) (hCcp : Cert.Ccp.Facts) (hCcpIdeal : Cert.CcpIdeal.Facts) (hCcpRefIdeal : Cert.CcpRefIdeal.Facts) (hPre_experts_named : Cert.Pre_experts_named.Facts) (hPre_down_experts_named : Cert.Pre_down_experts_named.Facts),
    quiescent_Gla (hGla := hGla)
    ∧ quiescent_GlaIdeal (hGlaIdeal := hGlaIdeal)
    ∧ quiescent_GlaRefIdeal (hGlaRefIdeal := hGlaRefIdeal)
    ∧ quiescent_Kv (hKv := hKv)
    ∧ quiescent_KvIdeal (hKvIdeal := hKvIdeal)
    ∧ quiescent_KvRefIdeal (hKvRefIdeal := hKvRefIdeal)
    ∧ quiescent_Sw (hSw := hSw)
    ∧ quiescent_SwIdeal (hSwIdeal := hSwIdeal)
    ∧ quiescent_SwRefIdeal (hSwRefIdeal := hSwRefIdeal)
    ∧ quiescent_Dn (hDn := hDn)
    ∧ quiescent_DnIdeal (hDnIdeal := hDnIdeal)
    ∧ quiescent_DnRefIdeal (hDnRefIdeal := hDnRefIdeal)
    ∧ quiescent_Up (hUp := hUp) (hPre_experts_named := hPre_experts_named)
    ∧ quiescent_UpIdeal (hUpIdeal := hUpIdeal) (hPre_experts_named := hPre_experts_named)
    ∧ quiescent_UpRefIdeal (hUpRefIdeal := hUpRefIdeal) (hPre_experts_named := hPre_experts_named)
    ∧ quiescent_Down (hDown := hDown) (hPre_down_experts_named := hPre_down_experts_named)
    ∧ quiescent_DownIdeal (hDownIdeal := hDownIdeal) (hPre_down_experts_named := hPre_down_experts_named)
    ∧ quiescent_DownRefIdeal (hDownRefIdeal := hDownRefIdeal) (hPre_down_experts_named := hPre_down_experts_named)
    ∧ quiescent_Gcv (hGcv := hGcv)
    ∧ quiescent_GcvIdeal (hGcvIdeal := hGcvIdeal)
    ∧ quiescent_GcvRefIdeal (hGcvRefIdeal := hGcvRefIdeal)
    ∧ quiescent_Ccv (hCcv := hCcv)
    ∧ quiescent_CcvIdeal (hCcvIdeal := hCcvIdeal)
    ∧ quiescent_CcvRefIdeal (hCcvRefIdeal := hCcvRefIdeal)
    ∧ quiescent_Qz (hQz := hQz)
    ∧ quiescent_QzIdeal (hQzIdeal := hQzIdeal)
    ∧ quiescent_QzRefIdeal (hQzRefIdeal := hQzRefIdeal)
    ∧ quiescent_Oc (hOc := hOc)
    ∧ quiescent_OcIdeal (hOcIdeal := hOcIdeal)
    ∧ quiescent_OcRefIdeal (hOcRefIdeal := hOcRefIdeal)
    ∧ quiescent_Mq (hMq := hMq)
    ∧ quiescent_MqIdeal (hMqIdeal := hMqIdeal)
    ∧ quiescent_MqRefIdeal (hMqRefIdeal := hMqRefIdeal)
    ∧ quiescent_Mo (hMo := hMo)
    ∧ quiescent_MoIdeal (hMoIdeal := hMoIdeal)
    ∧ quiescent_MoRefIdeal (hMoRefIdeal := hMoRefIdeal)
    ∧ quiescent_Qr (hQr := hQr)
    ∧ quiescent_QrIdeal (hQrIdeal := hQrIdeal)
    ∧ quiescent_QrRefIdeal (hQrRefIdeal := hQrRefIdeal)
    ∧ quiescent_Gl (hGl := hGl)
    ∧ quiescent_GlIdeal (hGlIdeal := hGlIdeal)
    ∧ quiescent_GlRefIdeal (hGlRefIdeal := hGlRefIdeal)
    ∧ quiescent_Gcp (hGcp := hGcp)
    ∧ quiescent_GcpIdeal (hGcpIdeal := hGcpIdeal)
    ∧ quiescent_GcpRefIdeal (hGcpRefIdeal := hGcpRefIdeal)
    ∧ quiescent_Ccp (hCcp := hCcp)
    ∧ quiescent_CcpIdeal (hCcpIdeal := hCcpIdeal)
    ∧ quiescent_CcpRefIdeal (hCcpRefIdeal := hCcpRefIdeal)
    ∧ preserves_Gla_GlaIdeal
    ∧ algebraic_GlaIdeal_GlaRefIdeal (hGlaIdeal := hGlaIdeal) (hGlaRefIdeal := hGlaRefIdeal)
    ∧ preserves_Kv_KvIdeal
    ∧ algebraic_KvIdeal_KvRefIdeal (hKvIdeal := hKvIdeal) (hKvRefIdeal := hKvRefIdeal)
    ∧ preserves_Sw_SwIdeal
    ∧ algebraic_SwIdeal_SwRefIdeal (hSwIdeal := hSwIdeal) (hSwRefIdeal := hSwRefIdeal)
    ∧ preserves_Dn_DnIdeal
    ∧ algebraic_DnIdeal_DnRefIdeal (hDnIdeal := hDnIdeal) (hDnRefIdeal := hDnRefIdeal)
    ∧ preserves_Up_UpIdeal
    ∧ algebraic_UpIdeal_UpRefIdeal (hUpIdeal := hUpIdeal) (hUpRefIdeal := hUpRefIdeal) (hPre_experts_named := hPre_experts_named)
    ∧ preserves_Down_DownIdeal
    ∧ algebraic_DownIdeal_DownRefIdeal (hDownIdeal := hDownIdeal) (hDownRefIdeal := hDownRefIdeal) (hPre_down_experts_named := hPre_down_experts_named)
    ∧ preserves_Gcv_GcvIdeal
    ∧ algebraic_GcvIdeal_GcvRefIdeal (hGcvIdeal := hGcvIdeal) (hGcvRefIdeal := hGcvRefIdeal)
    ∧ preserves_Ccv_CcvIdeal
    ∧ algebraic_CcvIdeal_CcvRefIdeal (hCcvIdeal := hCcvIdeal) (hCcvRefIdeal := hCcvRefIdeal)
    ∧ preserves_Qz_QzIdeal
    ∧ algebraic_QzIdeal_QzRefIdeal (hQzIdeal := hQzIdeal) (hQzRefIdeal := hQzRefIdeal)
    ∧ preserves_Oc_OcIdeal
    ∧ algebraic_OcIdeal_OcRefIdeal (hOcIdeal := hOcIdeal) (hOcRefIdeal := hOcRefIdeal)
    ∧ preserves_Mq_MqIdeal
    ∧ algebraic_MqIdeal_MqRefIdeal (hMqIdeal := hMqIdeal) (hMqRefIdeal := hMqRefIdeal)
    ∧ preserves_Mo_MoIdeal
    ∧ algebraic_MoIdeal_MoRefIdeal (hMoIdeal := hMoIdeal) (hMoRefIdeal := hMoRefIdeal)
    ∧ preserves_Qr_QrIdeal
    ∧ algebraic_QrIdeal_QrRefIdeal (hQrIdeal := hQrIdeal) (hQrRefIdeal := hQrRefIdeal)
    ∧ preserves_Gl_GlIdeal
    ∧ algebraic_GlIdeal_GlRefIdeal (hGlIdeal := hGlIdeal) (hGlRefIdeal := hGlRefIdeal)
    ∧ preserves_Gcp_GcpIdeal
    ∧ algebraic_GcpIdeal_GcpRefIdeal (hGcpIdeal := hGcpIdeal) (hGcpRefIdeal := hGcpRefIdeal)
    ∧ preserves_Ccp_CcpIdeal
    ∧ algebraic_CcpIdeal_CcpRefIdeal (hCcpIdeal := hCcpIdeal) (hCcpRefIdeal := hCcpRefIdeal)
-- ==== Pre_down_experts_named.lean ====
abbrev S37888x7168 : Shape := ⟨2, ![37888, 7168]⟩
abbrev S8x7168x2048 : Shape := ⟨3, ![8, 7168, 2048]⟩
abbrev S74 : Shape := ⟨1, ![74]⟩
abbrev S1 : Shape := ⟨1, ![1]⟩
abbrev S_ : Shape := ⟨0, ![]⟩

class Facts : Prop where
  bcast_S_S74 : S_.BroadcastsInDim S74 (![] : Fin 0 → Fin S74.rank)

variable [Facts]

def fn {F : FTy → Type} [FloatOps F] (main_arg0 : FVec F S37888x7168 .bf16) (main_arg1 : FVec F S8x7168x2048 .f32) (main_arg2 : IVec S74 32) (main_arg3 : IVec S1 32) : IVec S74 1 :=
  let main_c : IVec S_ 32 := constantI S_ 32 0#32
  let main_v0 : IVec S74 32 := broadcastInDim S74 ![] bcast_S_S74 main_c
  let main_v1 : IVec S74 1 := cmpi .sge main_arg2 main_v0
  let main_c_0 : IVec S_ 32 := constantI S_ 32 8#32
  let main_v2 : IVec S74 32 := broadcastInDim S74 ![] bcast_S_S74 main_c_0
  let main_v3 : IVec S74 1 := cmpi .slt main_arg2 main_v2
  let main_v4 : IVec S74 1 := andi main_v1 main_v3
  main_v4
-- ==== Pre_experts_named.lean ====
abbrev S37888x2048 : Shape := ⟨2, ![37888, 2048]⟩
abbrev S8x2048x7168 : Shape := ⟨3, ![8, 2048, 7168]⟩
abbrev S74 : Shape := ⟨1, ![74]⟩
abbrev S1 : Shape := ⟨1, ![1]⟩
abbrev S_ : Shape := ⟨0, ![]⟩

class Facts : Prop where
  bcast_S_S74 : S_.BroadcastsInDim S74 (![] : Fin 0 → Fin S74.rank)

variable [Facts]

def fn {F : FTy → Type} [FloatOps F] (main_arg0 : FVec F S37888x2048 .bf16) (main_arg1 : FVec F S8x2048x7168 .f32) (main_arg2 : FVec F S8x2048x7168 .f32) (main_arg3 : IVec S74 32) (main_arg4 : IVec S1 32) : IVec S74 1 :=
  let main_c : IVec S_ 32 := constantI S_ 32 0#32
  let main_v0 : IVec S74 32 := broadcastInDim S74 ![] bcast_S_S74 main_c
  let main_v1 : IVec S74 1 := cmpi .sge main_arg3 main_v0
  let main_c_0 : IVec S_ 32 := constantI S_ 32 8#32
  let main_v2 : IVec S74 32 := broadcastInDim S74 ![] bcast_S_S74 main_c_0
  let main_v3 : IVec S74 1 := cmpi .slt main_arg3 main_v2
  let main_v4 : IVec S74 1 := andi main_v1 main_v3
  main_v4
-- ==== Gla.lean ====
abbrev S512x3072 : Shape := ⟨2, ![512, 3072]⟩
abbrev S512x512 : Shape := ⟨2, ![512, 512]⟩
abbrev S32x4x128x256 : Shape := ⟨4, ![32, 4, 128, 256]⟩
abbrev S256 : Shape := ⟨1, ![256]⟩
abbrev S1x256 : Shape := ⟨2, ![1, 256]⟩
abbrev S512x1024 : Shape := ⟨2, ![512, 1024]⟩
abbrev S16x128 : Shape := ⟨2, ![16, 128]⟩
abbrev S16x256 : Shape := ⟨2, ![16, 256]⟩
abbrev S1x1x128x256 : Shape := ⟨4, ![1, 1, 128, 256]⟩
abbrev S256x128 : Shape := ⟨2, ![256, 128]⟩
abbrev S128x256 : Shape := ⟨2, ![128, 256]⟩
abbrev S16x16 : Shape := ⟨2, ![16, 16]⟩
abbrev S1x128 : Shape := ⟨2, ![1, 128]⟩
abbrev S16 : Shape := ⟨1, ![16]⟩
abbrev S16x1 : Shape := ⟨2, ![16, 1]⟩

abbrev nBuf : Space → Nat
  | .hbm => 7
  | .vmem => 19
  | .smem => 0
  | _ => 0

abbrev bufTy : (tb : Table) → Fin (tcTables nBuf tb) → BufTy
  | .hbm, ⟨0, _⟩ => ⟨S512x3072, .f32⟩
  | .hbm, ⟨1, _⟩ => ⟨S512x512, .f32⟩
  | .hbm, ⟨2, _⟩ => ⟨S32x4x128x256, .f32⟩
  | .hbm, ⟨3, _⟩ => ⟨S256, .f32⟩
  | .hbm, ⟨4, _⟩ => ⟨S1x256, .f32⟩
  | .hbm, ⟨5, _⟩ => ⟨S512x1024, .bf16⟩
  | .hbm, ⟨6, _⟩ => ⟨S32x4x128x256, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x256, .f32⟩
  | .local _ .vmem, ⟨5, _⟩ => ⟨S16x256, .f32⟩
  | .local _ .vmem, ⟨6, _⟩ => ⟨S16x128, .f32⟩
  | .local _ .vmem, ⟨7, _⟩ => ⟨S16x128, .f32⟩
  | .local _ .vmem, ⟨8, _⟩ => ⟨S16x256, .f32⟩
  | .local _ .vmem, ⟨9, _⟩ => ⟨S16x256, .f32⟩
  | .local _ .vmem, ⟨10, _⟩ => ⟨S1x1x128x256, .f32⟩
  | .local _ .vmem, ⟨11, _⟩ => ⟨S1x1x128x256, .f32⟩
  | .local _ .vmem, ⟨12, _⟩ => ⟨S1x256, .f32⟩
  | .local _ .vmem, ⟨13, _⟩ => ⟨S16x256, .bf16⟩
  | .local _ .vmem, ⟨14, _⟩ => ⟨S16x256, .bf16⟩
  | .local _ .vmem, ⟨15, _⟩ => ⟨S1x1x128x256, .f32⟩
  | .local _ .vmem, ⟨16, _⟩ => ⟨S1x1x128x256, .f32⟩
  | .local _ .vmem, ⟨17, _⟩ => ⟨S256x128, .f32⟩
  | .local _ .vmem, ⟨18, _⟩ => ⟨S16x128, .f32⟩
  | _, _ => ⟨S512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_87 : BitVec 32 := 0#32
  let v386 : BitVec 1 := Scalar.cmpi .eq arg2 c0_i32_87
  let v387 : BitVec 32 := Scalar.extui v386
  let c0_i32_88 : BitVec 32 := 0#32
  let v388 : BitVec 1 := Scalar.cmpi .ne v387 c0_i32_88
  v388

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== GlaRefIdeal.lean ====
abbrev S512x3072 : Shape := ⟨2, ![512, 3072]⟩
abbrev S512x512 : Shape := ⟨2, ![512, 512]⟩
abbrev S32x4x128x256 : Shape := ⟨4, ![32, 4, 128, 256]⟩
abbrev S256 : Shape := ⟨1, ![256]⟩
abbrev S32x16x3072 : Shape := ⟨3, ![32, 16, 3072]⟩
abbrev S32x16x512 : Shape := ⟨3, ![32, 16, 512]⟩
abbrev S32x16x1024 : Shape := ⟨3, ![32, 16, 1024]⟩
abbrev S32x16x4x128 : Shape := ⟨4, ![32, 16, 4, 128]⟩
abbrev S32x4x16x128 : Shape := ⟨4, ![32, 4, 16, 128]⟩
abbrev S_ : Shape := ⟨0, ![]⟩
abbrev S32x16x4x256 : Shape := ⟨4, ![32, 16, 4, 256]⟩
abbrev S32x4x16x256 : Shape := ⟨4, ![32, 4, 16, 256]⟩
abbrev S16x16 : Shape := ⟨2, ![16, 16]⟩
abbrev S16x16x1 : Shape := ⟨3, ![16, 16, 1]⟩
abbrev S32x4x16x1x128 : Shape := ⟨5, ![32, 4, 16, 1, 128]⟩
abbrev S32x4x1x16x128 : Shape := ⟨5, ![32, 4, 1, 16, 128]⟩
abbrev S32x4x16x16x128 : Shape := ⟨5, ![32, 4, 16, 16, 128]⟩
abbrev S32x4x16x16 : Shape := ⟨4, ![32, 4, 16, 16]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x16x4 : Shape := ⟨3, ![32, 16, 4]⟩
abbrev S32x16x4x1 : Shape := ⟨4, ![32, 16, 4, 1]⟩
abbrev S1x1x1x256 : Shape := ⟨4, ![1, 1, 1, 256]⟩
abbrev S512x1024 : Shape := ⟨2, ![512, 1024]⟩

abbrev nBuf : Space → Nat
  | .hbm => 99
  | .vmem => 0
  | .smem => 0
  | _ => 0

abbrev bufTy : (tb : Table) → Fin (tcTables nBuf tb) → BufTy
  | .hbm, ⟨0, _⟩ => ⟨S512x3072, .f32⟩
  | .hbm, ⟨1, _⟩ => ⟨S512x512, .f32⟩
  | .hbm, ⟨2, _⟩ => ⟨S32x4x128x256, .f32⟩
  | .hbm, ⟨3, _⟩ => ⟨S256, .f32⟩
  | .hbm, ⟨4, _⟩ => ⟨S32x16x3072, .f32⟩
  | .hbm, ⟨5, _⟩ => ⟨S32x16x512, .f32⟩
  | .hbm, ⟨6, _⟩ => ⟨S32x16x512, .f32⟩
  | .hbm, ⟨7, _⟩ => ⟨S32x16x1024, .f32⟩
  | .hbm, ⟨8, _⟩ => ⟨S32x16x1024, .f32⟩
  | .hbm, ⟨9, _⟩ => ⟨S32x16x4x128, .f32⟩
  | .hbm, ⟨10, _⟩ => ⟨S32x4x16x128, .f32⟩
  | .hbm, ⟨11, _⟩ => ⟨S_, .f32⟩
  | .hbm, ⟨12, _⟩ => ⟨S32x4x16x128, .f32⟩
  | .hbm, ⟨13, _⟩ => ⟨S32x4x16x128, .f32⟩
  | .hbm, ⟨14, _⟩ => ⟨S32x16x4x128, .f32⟩
  | .hbm, ⟨15, _⟩ => ⟨S32x4x16x128, .f32⟩
  | .hbm, ⟨16, _⟩ => ⟨S32x16x4x256, .f32⟩
  | .hbm, ⟨17, _⟩ => ⟨S32x4x16x256, .f32⟩
  | .hbm, ⟨18, _⟩ => ⟨S32x16x4x128, .f32⟩
  | .hbm, ⟨19, _⟩ => ⟨S32x4x16x128, .f32⟩
  | .hbm, ⟨20, _⟩ => ⟨S_, .i1⟩
  | .hbm, ⟨21, _⟩ => ⟨S16x16, .i1⟩
  | .hbm, ⟨22, _⟩ => ⟨S16x16, .i32⟩
  | .hbm, ⟨23, _⟩ => ⟨S_, .i32⟩
  | .hbm, ⟨24, _⟩ => ⟨S16x16, .i32⟩
  | .hbm, ⟨25, _⟩ => ⟨S16x16, .i32⟩
  | .hbm, ⟨26, _⟩ => ⟨S16x16, .i32⟩
  | .hbm, ⟨27, _⟩ => ⟨S16x16, .i1⟩
  | .hbm, ⟨28, _⟩ => ⟨S_, .i1⟩
  | .hbm, ⟨29, _⟩ => ⟨S16x16, .i1⟩
  | .hbm, ⟨30, _⟩ => ⟨S16x16, .i1⟩
  | .hbm, ⟨31, _⟩ => ⟨S_, .f32⟩
  | .hbm, ⟨32, _⟩ => ⟨S_, .f32⟩
  | .hbm, ⟨33, _⟩ => ⟨S32x4x16x128, .f32⟩
  | .hbm, ⟨34, _⟩ => ⟨S32x4x16x128, .f32⟩
  | .hbm, ⟨35, _⟩ => ⟨S32x4x16x128, .f32⟩
  | .hbm, ⟨36, _⟩ => ⟨S32x4x16x256, .f32⟩
  | .hbm, ⟨37, _⟩ => ⟨S16x16x1, .i1⟩
  | .hbm, ⟨38, _⟩ => ⟨S32x4x16x1x128, .f32⟩
  | .hbm, ⟨39, _⟩ => ⟨S32x4x1x16x128, .f32⟩
  | .hbm, ⟨40, _⟩ => ⟨S32x4x16x16x128, .f32⟩
  | .hbm, ⟨41, _⟩ => ⟨S32x4x16x16x128, .f32⟩
  | .hbm, ⟨42, _⟩ => ⟨S32x4x16x16x128, .f32⟩
  | .hbm, ⟨43, _⟩ => ⟨S_, .f32⟩
  | .hbm, ⟨44, _⟩ => ⟨S_, .f32⟩
  | .hbm, ⟨45, _⟩ => ⟨S32x4x16x16x128, .i1⟩
  | .hbm, ⟨46, _⟩ => ⟨S32x4x16x16x128, .f32⟩
  | .hbm, ⟨47, _⟩ => ⟨S32x4x16x16x128, .f32⟩
  | .hbm, ⟨48, _⟩ => ⟨S32x4x16x16x128, .f32⟩
  | .hbm, ⟨49, _⟩ => ⟨S32x4x16x1x128, .f32⟩
  | .hbm, ⟨50, _⟩ => ⟨S32x4x16x16x128, .f32⟩
  | .hbm, ⟨51, _⟩ => ⟨S32x4x16x16x128, .f32⟩
  | .hbm, ⟨52, _⟩ => ⟨S32x4x16x16, .f32⟩
  | .hbm, ⟨53, _⟩ => ⟨S32x4x16x16, .f32⟩
  | .hbm, ⟨54, _⟩ => ⟨S32x4x16x256, .f32⟩
  | .hbm, ⟨55, _⟩ => ⟨S32x4x16x256, .f32⟩
  | .hbm, ⟨56, _⟩ => ⟨S32x4x1x128, .f32⟩
  | .hbm, ⟨57, _⟩ => ⟨S32x4x128, .f32⟩
  | .hbm, ⟨58, _⟩ => ⟨S32x4x128, .f32⟩
  | .hbm, ⟨59, _⟩ => ⟨S32x4x128x1, .f32⟩
  | .hbm, ⟨60, _⟩ => ⟨S32x4x128x256, .f32⟩
  | .hbm, ⟨61, _⟩ => ⟨S32x4x128x256, .f32⟩
  | .hbm, ⟨62, _⟩ => ⟨S32x4x1x128, .f32⟩
  | .hbm, ⟨63, _⟩ => ⟨S32x4x16x128, .f32⟩
  | .hbm, ⟨64, _⟩ => ⟨S32x4x16x128, .f32⟩
  | .hbm, ⟨65, _⟩ => ⟨S32x4x16x128, .f32⟩
  | .hbm, ⟨66, _⟩ => ⟨S32x4x16x128, .f32⟩
  | .hbm, ⟨67, _⟩ => ⟨S32x4x128x256, .f32⟩
  | .hbm, ⟨68, _⟩ => ⟨S32x4x128x256, .f32⟩
  | .hbm, ⟨69, _⟩ => ⟨S32x16x4x256, .f32⟩
  | .hbm, ⟨70, _⟩ => ⟨S32x16x4x256, .f32⟩
  | .hbm, ⟨71, _⟩ => ⟨S_, .f32⟩
  | .hbm, ⟨72, _⟩ => ⟨S32x16x4, .f32⟩
  | .hbm, ⟨73, _⟩ => ⟨S32x16x4x1, .f32⟩
  | .hbm, ⟨74, _⟩ => ⟨S_, .f32⟩
  | .hbm, ⟨75, _⟩ => ⟨S32x16x4x1, .f32⟩
  | .hbm, ⟨76, _⟩ => ⟨S32x16x4x1, .f32⟩
  | .hbm, ⟨77, _⟩ => ⟨S_, .f32⟩
  | .hbm, ⟨78, _⟩ => ⟨S32x16x4x1, .f32⟩
  | .hbm, ⟨79, _⟩ => ⟨S32x16x4x1, .f32⟩
  | .hbm, ⟨80, _⟩ => ⟨S32x16x4x1, .f32⟩
  | .hbm, ⟨81, _⟩ => ⟨S32x16x4x256, .f32⟩
  | .hbm, ⟨82, _⟩ => ⟨S32x16x4x256, .f32⟩
  | .hbm, ⟨83, _⟩ => ⟨S1x1x1x256, .f32⟩
  | .hbm, ⟨84, _⟩ => ⟨S32x16x4x256, .f32⟩
  | .hbm, ⟨85, _⟩ => ⟨S32x16x4x256, .f32⟩
  | .hbm, ⟨86, _⟩ => ⟨S32x16x1024, .f32⟩
  | .hbm, ⟨87, _⟩ => ⟨S32x16x1024, .f32⟩
  | .hbm, ⟨88, _⟩ => ⟨S_, .f32⟩
  | .hbm, ⟨89, _⟩ => ⟨S32x16x1024, .f32⟩
  | .hbm, ⟨90, _⟩ => ⟨S32x16x1024, .f32⟩
  | .hbm, ⟨91, _⟩ => ⟨S_, .f32⟩
  | .hbm, ⟨92, _⟩ => ⟨S32x16x1024, .f32⟩
  | .hbm, ⟨93, _⟩ => ⟨S32x16x1024, .f32⟩
  | .hbm, ⟨94, _⟩ => ⟨S32x16x1024, .f32⟩
  | .hbm, ⟨95, _⟩ => ⟨S32x16x4x256, .f32⟩
  | .hbm, ⟨96, _⟩ => ⟨S32x16x4x256, .f32⟩
  | .hbm, ⟨97, _⟩ => ⟨S512x1024, .f32⟩
  | .hbm, ⟨98, _⟩ => ⟨S512x1024, .bf16⟩
  | _, _ => ⟨S512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v16 : Ref sig .tc := ⟨.hbm, 30, rfl⟩
abbrev main_call1_call0_cst : Ref sig .tc := ⟨.hbm, 31, rfl⟩
abbrev main_call1_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_1 : Ref sig .tc := ⟨.hbm, 71, rfl⟩
abbrev main_v51 : Ref sig .tc := ⟨.hbm, 72, rfl⟩
abbrev main_v52 : Ref sig .tc := ⟨.hbm, 73, rfl⟩
abbrev main_cst_2 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kv.lean ====
abbrev S4x256x2048 : Shape := ⟨3, ![4, 256, 2048]⟩
abbrev S2x2048x2048 : Shape := ⟨3, ![2, 2048, 2048]⟩
abbrev S1024x2048 : Shape := ⟨2, ![1024, 2048]⟩
abbrev S2x1024x2048 : Shape := ⟨3, ![2, 1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x256x2048, .f32⟩
  | .hbm, ⟨1, _⟩ => ⟨S2x2048x2048, .f32⟩
  | .hbm, ⟨2, _⟩ => ⟨S1024x2048, .f32⟩
  | .hbm, ⟨3, _⟩ => ⟨S1024x2048, .bf16⟩
  | .hbm, ⟨4, _⟩ => ⟨S2x2048x2048, .bf16⟩
  | .hbm, ⟨5, _⟩ => ⟨S2x1024x2048, .f32⟩
  | .local _ .vmem, ⟨0, _⟩ => ⟨S1024x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x1024, .f32⟩
  | .local _ .vmem, ⟨4, _⟩ => ⟨S1x1024x1024, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KvRefIdeal.lean ====
abbrev S4x256x2048 : Shape := ⟨3, ![4, 256, 2048]⟩
abbrev S2x2048x2048 : Shape := ⟨3, ![2, 2048, 2048]⟩
abbrev S2x2048x4x256 : Shape := ⟨4, ![2, 2048, 4, 256]⟩
abbrev S2x4x256x2048 : Shape := ⟨4, ![2, 4, 256, 2048]⟩
abbrev S2x1024x2048 : Shape := ⟨3, ![2, 1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048x2048, .f32⟩
  | .hbm, ⟨2, _⟩ => ⟨S2x2048x4x256, .f32⟩
  | .hbm, ⟨3, _⟩ => ⟨S2x4x256x2048, .f32⟩
  | .hbm, ⟨4, _⟩ => ⟨S2x1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Sw.lean ====
abbrev S16384x2048 : Shape := ⟨2, ![16384, 2048]⟩
abbrev S1x2048x5632 : Shape := ⟨3, ![1, 2048, 5632]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048x5632, .f32⟩
  | .hbm, ⟨2, _⟩ => ⟨S1x2048x5632, .f32⟩
  | .hbm, ⟨3, _⟩ => ⟨S16384x2048, .bf16⟩
  | .hbm, ⟨4, _⟩ => ⟨S1x2048x5632, .bf16⟩
  | .hbm, ⟨5, _⟩ => ⟨S1x2048x5632, .bf16⟩
  | .hbm, ⟨6, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x512, .bf16⟩
  | .local _ .vmem, ⟨7, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwRefIdeal.lean ====
abbrev S16384x2048 : Shape := ⟨2, ![16384, 2048]⟩
abbrev S1x2048x5632 : Shape := ⟨3, ![1, 2048, 5632]⟩
abbrev S2048x5632 : Shape := ⟨2, ![2048, 5632]⟩
abbrev S16384x5632 : Shape := ⟨2, ![16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S16384x5632, .f32⟩
  | .hbm, ⟨5, _⟩ => ⟨S16384x5632, .f32⟩
  | .hbm, ⟨6, _⟩ => ⟨S16384x5632, .f32⟩
  | .hbm, ⟨7, _⟩ => ⟨S_, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S2048x5632, .f32⟩
  | .hbm, ⟨15, _⟩ => ⟨S16384x5632, .f32⟩
  | .hbm, ⟨16, _⟩ => ⟨S16384x5632, .f32⟩
  | .hbm, ⟨17, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Dn.lean ====
abbrev S16384x5632 : Shape := ⟨2, ![16384, 5632]⟩
abbrev S1x5632x2048 : Shape := ⟨3, ![1, 5632, 2048]⟩
abbrev S16384x2048 : Shape := ⟨2, ![16384, 2048]⟩
abbrev S2048 : Shape := ⟨1, ![2048]⟩
abbrev S5632x2048 : Shape := ⟨2, ![5632, 2048]⟩
abbrev S1x2048 : Shape := ⟨2, ![1, 2048]⟩
abbrev S512x2816 : Shape := ⟨2, ![512, 2816]⟩
abbrev S2816x2048 : Shape := ⟨2, ![2816, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x5632, .f32⟩
  | .hbm, ⟨1, _⟩ => ⟨S1x5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x5632, .bf16⟩
  | .hbm, ⟨6, _⟩ => ⟨S5632x2048, .f32⟩
  | .hbm, ⟨7, _⟩ => ⟨S5632x2048, .bf16⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DnRefIdeal.lean ====
abbrev S16384x5632 : Shape := ⟨2, ![16384, 5632]⟩
abbrev S1x5632x2048 : Shape := ⟨3, ![1, 5632, 2048]⟩
abbrev S16384x2048 : Shape := ⟨2, ![16384, 2048]⟩
abbrev S2048 : Shape := ⟨1, ![2048]⟩
abbrev S_ : Shape := ⟨0, ![]⟩
abbrev S5632x2048 : Shape := ⟨2, ![5632, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S1x5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S5632x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Up.lean ====
abbrev S37888x2048 : Shape := ⟨2, ![37888, 2048]⟩
abbrev S8x2048x7168 : Shape := ⟨3, ![8, 2048, 7168]⟩
abbrev S74 : Shape := ⟨1, ![74]⟩
abbrev S1 : Shape := ⟨1, ![1]⟩
abbrev S37888x7168 : Shape := ⟨2, ![37888, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 8
  | .smem => 2
  | _ => 0

abbrev bufTy : (tb : Table) → Fin (tcTables nBuf tb) → BufTy
  | .hbm, ⟨0, _⟩ => ⟨S37888x2048, .bf16⟩
  | .hbm, ⟨1, _⟩ => ⟨S8x2048x7168, .f32⟩
  | .hbm, ⟨2, _⟩ => ⟨S8x2048x7168, .f32⟩
  | .hbm, ⟨3, _⟩ => ⟨S37888x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .smem, ⟨0, _⟩ => ⟨S74, .i32⟩
  | .local _ .smem, ⟨1, _⟩ => ⟨S1, .i32⟩
  | _, _ => ⟨S37888x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 74], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S37888x2048 : Shape := ⟨2, ![37888, 2048]⟩
abbrev S8x2048x7168 : Shape := ⟨3, ![8, 2048, 7168]⟩
abbrev S74 : Shape := ⟨1, ![74]⟩
abbrev S1 : Shape := ⟨1, ![1]⟩
abbrev S_ : Shape := ⟨0, ![]⟩
abbrev S74x1 : Shape := ⟨2, ![74, 1]⟩
abbrev S1x8 : Shape := ⟨2, ![1, 8]⟩
abbrev S74x8 : Shape := ⟨2, ![74, 8]⟩
abbrev S74x512x8 : Shape := ⟨3, ![74, 512, 8]⟩
abbrev S37888x8 : Shape := ⟨2, ![37888, 8]⟩
abbrev S37888x7168 : Shape := ⟨2, ![37888, 7168]⟩
abbrev S1x2048x7168 : Shape := ⟨3, ![1, 2048, 7168]⟩
abbrev S2048x7168 : Shape := ⟨2, ![2048, 7168]⟩
abbrev S37888x1 : Shape := ⟨2, ![37888, 1]⟩

abbrev nBuf : Space → Nat
  | .hbm => 185
  | .vmem => 0
  | .smem => 0
  | _ => 0

abbrev hbmTy0_0 (i : Nat) : BufTy := match i % 128 with
  | 0 => ⟨S37888x2048, .bf16⟩
  | 1 => ⟨S8x2048x7168, .f32⟩
  | 2 => ⟨S8x2048x7168, .f32⟩
  | 3 => ⟨S74, .i32⟩
  | 4 => ⟨S1, .i32⟩
  | 5 => ⟨S37888x2048, .f32⟩
  | 6 => ⟨S74, .i32⟩
  | 7 => ⟨S_, .i32⟩
  | 8 => ⟨S74, .i32⟩
  | 9 => ⟨S74, .i1⟩
  | 10 => ⟨S74, .f32⟩
  | 11 => ⟨S74x1, .i32⟩
  | 12 => ⟨S1x8, .i32⟩
  | 13 => ⟨S74x8, .i32⟩
  | 14 => ⟨S74x8, .i32⟩
  | 15 => ⟨S74x8, .i1⟩
  | 16 => ⟨S74x8, .f32⟩
  | 17 => ⟨S74x1, .f32⟩
  | 18 => ⟨S74x8, .f32⟩
  | 19 => ⟨S74x8, .f32⟩
  | 20 => ⟨S74x512x8, .f32⟩
  | 21 => ⟨S37888x8, .f32⟩
  | 22 => ⟨S_, .f32⟩
  | 23 => ⟨S37888x7168, .f32⟩
  | 24 => ⟨S1x2048x7168, .f32⟩
  | 25 => ⟨S2048x7168, .f32⟩
  | 26 => ⟨S37888x7168, .f32⟩
  | 27 => ⟨S37888x7168, .f32⟩
  | 28 => ⟨S37888x7168, .f32⟩
  | 29 => ⟨S_, .f32⟩
  | 30 => ⟨S37888x7168, .f32⟩
  | 31 => ⟨S37888x7168, .f32⟩
  | 32 => ⟨S_, .f32⟩
  | 33 => ⟨S37888x7168, .f32⟩
  | 34 => ⟨S37888x7168, .f32⟩
  | 35 => ⟨S37888x7168, .f32⟩
  | 36 => ⟨S1x2048x7168, .f32⟩
  | 37 => ⟨S2048x7168, .f32⟩
  | 38 => ⟨S37888x7168, .f32⟩
  | 39 => ⟨S37888x7168, .f32⟩
  | 40 => ⟨S37888x1, .f32⟩
  | 41 => ⟨S37888x7168, .f32⟩
  | 42 => ⟨S37888x7168, .f32⟩
  | 43 => ⟨S37888x7168, .f32⟩
  | 44 => ⟨S1x2048x7168, .f32⟩
  | 45 => ⟨S2048x7168, .f32⟩
  | 46 => ⟨S37888x7168, .f32⟩
  | 47 => ⟨S37888x7168, .f32⟩
  | 48 => ⟨S37888x7168, .f32⟩
  | 49 => ⟨S_, .f32⟩
  | 50 => ⟨S37888x7168, .f32⟩
  | 51 => ⟨S37888x7168, .f32⟩
  | 52 => ⟨S_, .f32⟩
  | 53 => ⟨S37888x7168, .f32⟩
  | 54 => ⟨S37888x7168, .f32⟩
  | 55 => ⟨S37888x7168, .f32⟩
  | 56 => ⟨S1x2048x7168, .f32⟩
  | 57 => ⟨S2048x7168, .f32⟩
  | 58 => ⟨S37888x7168, .f32⟩
  | 59 => ⟨S37888x7168, .f32⟩
  | 60 => ⟨S37888x1, .f32⟩
  | 61 => ⟨S37888x7168, .f32⟩
  | 62 => ⟨S37888x7168, .f32⟩
  | 63 => ⟨S37888x7168, .f32⟩
  | 64 => ⟨S1x2048x7168, .f32⟩
  | 65 => ⟨S2048x7168, .f32⟩
  | 66 => ⟨S37888x7168, .f32⟩
  | 67 => ⟨S37888x7168, .f32⟩
  | 68 => ⟨S37888x7168, .f32⟩
  | 69 => ⟨S_, .f32⟩
  | 70 => ⟨S37888x7168, .f32⟩
  | 71 => ⟨S37888x7168, .f32⟩
  | 72 => ⟨S_, .f32⟩
  | 73 => ⟨S37888x7168, .f32⟩
  | 74 => ⟨S37888x7168, .f32⟩
  | 75 => ⟨S37888x7168, .f32⟩
  | 76 => ⟨S1x2048x7168, .f32⟩
  | 77 => ⟨S2048x7168, .f32⟩
  | 78 => ⟨S37888x7168, .f32⟩
  | 79 => ⟨S37888x7168, .f32⟩
  | 80 => ⟨S37888x1, .f32⟩
  | 81 => ⟨S37888x7168, .f32⟩
  | 82 => ⟨S37888x7168, .f32⟩
  | 83 => ⟨S37888x7168, .f32⟩
  | 84 => ⟨S1x2048x7168, .f32⟩
  | 85 => ⟨S2048x7168, .f32⟩
  | 86 => ⟨S37888x7168, .f32⟩
  | 87 => ⟨S37888x7168, .f32⟩
  | 88 => ⟨S37888x7168, .f32⟩
  | 89 => ⟨S_, .f32⟩
  | 90 => ⟨S37888x7168, .f32⟩
  | 91 => ⟨S37888x7168, .f32⟩
  | 92 => ⟨S_, .f32⟩
  | 93 => ⟨S37888x7168, .f32⟩
  | 94 => ⟨S37888x7168, .f32⟩
  | 95 => ⟨S37888x7168, .f32⟩
  | 96 => ⟨S1x2048x7168, .f32⟩
  | 97 => ⟨S2048x7168, .f32⟩
  | 98 => ⟨S37888x7168, .f32⟩
  | 99 => ⟨S37888x7168, .f32⟩
  | 100 => ⟨S37888x1, .f32⟩
  | 101 => ⟨S37888x7168, .f32⟩
  | 102 => ⟨S37888x7168, .f32⟩
  | 103 => ⟨S37888x7168, .f32⟩
  | 104 => ⟨S1x2048x7168, .f32⟩
  | 105 => ⟨S2048x7168, .f32⟩
  | 106 => ⟨S37888x7168, .f32⟩
  | 107 => ⟨S37888x7168, .f32⟩
  | 108 => ⟨S37888x7168, .f32⟩
  | 109 => ⟨S_, .f32⟩
  | 110 => ⟨S37888x7168, .f32⟩
  | 111 => ⟨S37888x7168, .f32⟩
  | 112 => ⟨S_, .f32⟩
  | 113 => ⟨S37888x7168, .f32⟩
  | 114 => ⟨S37888x7168, .f32⟩
  | 115 => ⟨S37888x7168, .f32⟩
  | 116 => ⟨S1x2048x7168, .f32⟩
  | 117 => ⟨S2048x7168, .f32⟩
  | 118 => ⟨S37888x7168, .f32⟩
  | 119 => ⟨S37888x7168, .f32⟩
  | 120 => ⟨S37888x1, .f32⟩
  | 121 => ⟨S37888x7168, .f32⟩
  | 122 => ⟨S37888x7168, .f32⟩
  | 123 => ⟨S37888x7168, .f32⟩
  | 124 => ⟨S1x2048x7168, .f32⟩
  | 125 => ⟨S2048x7168, .f32⟩
  | 126 => ⟨S37888x7168, .f32⟩
  | 127 => ⟨S37888x7168, .f32⟩
  | _ => ⟨S37888x2048, .bf16⟩

abbrev hbmTy0_1 (i : Nat) : BufTy := match i % 128 with
  | 0 => ⟨S37888x7168, .f32⟩
  | 1 => ⟨S_, .f32⟩
  | 2 => ⟨S37888x7168, .f32⟩
  | 3 => ⟨S37888x7168, .f32⟩
  | 4 => ⟨S_, .f32⟩
  | 5 => ⟨S37888x7168, .f32⟩
  | 6 => ⟨S37888x7168, .f32⟩
  | 7 => ⟨S37888x7168, .f32⟩
  | 8 => ⟨S1x2048x7168, .f32⟩
  | 9 => ⟨S2048x7168, .f32⟩
  | 10 => ⟨S37888x7168, .f32⟩
  | 11 => ⟨S37888x7168, .f32⟩
  | 12 => ⟨S37888x1, .f32⟩
  | 13 => ⟨S37888x7168, .f32⟩
  | 14 => ⟨S37888x7168, .f32⟩
  | 15 => ⟨S37888x7168, .f32⟩
  | 16 => ⟨S1x2048x7168, .f32⟩
  | 17 => ⟨S2048x7168, .f32⟩
  | 18 => ⟨S37888x7168, .f32⟩
  | 19 => ⟨S37888x7168, .f32⟩
  | 20 => ⟨S37888x7168, .f32⟩
  | 21 => ⟨S_, .f32⟩
  | 22 => ⟨S37888x7168, .f32⟩
  | 23 => ⟨S37888x7168, .f32⟩
  | 24 => ⟨S_, .f32⟩
  | 25 => ⟨S37888x7168, .f32⟩
  | 26 => ⟨S37888x7168, .f32⟩
  | 27 => ⟨S37888x7168, .f32⟩
  | 28 => ⟨S1x2048x7168, .f32⟩
  | 29 => ⟨S2048x7168, .f32⟩
  | 30 => ⟨S37888x7168, .f32⟩
  | 31 => ⟨S37888x7168, .f32⟩
  | 32 => ⟨S37888x1, .f32⟩
  | 33 => ⟨S37888x7168, .f32⟩
  | 34 => ⟨S37888x7168, .f32⟩
  | 35 => ⟨S37888x7168, .f32⟩
  | 36 => ⟨S1x2048x7168, .f32⟩
  | 37 => ⟨S2048x7168, .f32⟩
  | 38 => ⟨S37888x7168, .f32⟩
  | 39 => ⟨S37888x7168, .f32⟩
  | 40 => ⟨S37888x7168, .f32⟩
  | 41 => ⟨S_, .f32⟩
  | 42 => ⟨S37888x7168, .f32⟩
  | 43 => ⟨S37888x7168, .f32⟩
  | 44 => ⟨S_, .f32⟩
  | 45 => ⟨S37888x7168, .f32⟩
  | 46 => ⟨S37888x7168, .f32⟩
  | 47 => ⟨S37888x7168, .f32⟩
  | 48 => ⟨S1x2048x7168, .f32⟩
  | 49 => ⟨S2048x7168, .f32⟩
  | 50 => ⟨S37888x7168, .f32⟩
  | 51 => ⟨S37888x7168, .f32⟩
  | 52 => ⟨S37888x1, .f32⟩
  | 53 => ⟨S37888x7168, .f32⟩
  | 54 => ⟨S37888x7168, .f32⟩
  | 55 => ⟨S37888x7168, .f32⟩
  | 56 => ⟨S37888x7168, .bf16⟩
  | _ => ⟨S37888x2048, .bf16⟩

abbrev hbmTy (i : Nat) : BufTy := match i / 128 with
  | 0 => hbmTy0_0 i
  | 1 => hbmTy0_1 i
  | _ => ⟨S37888x2048, .bf16⟩

abbrev bufTy : (tb : Table) → Fin (tcTables nBuf tb) → BufTy
  | .hbm, ⟨i, _⟩ => hbmTy i
  | _, _ => ⟨S37888x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call4_v0 : Ref sig .tc := ⟨.hbm, 87, rfl⟩
abbrev main_call4_v1 : Ref sig .tc := ⟨.hbm, 88, rfl⟩
abbrev main_call4_cst : Ref sig .tc := ⟨.hbm, 89, rfl⟩
abbrev main_call4_v2 : Ref sig .tc := ⟨.hbm, 90, rfl⟩
abbrev main_call4_v3 : Ref sig .tc := ⟨.hbm, 91, rfl⟩
abbrev main_call4_cst_0 : Ref sig .tc := ⟨.hbm, 92, rfl⟩
abbrev main_call4_v4 : Ref sig .tc := ⟨.hbm, 93, rfl⟩
abbrev main_call4_v5 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_call5_v0 : Ref sig .tc := ⟨.hbm, 107, rfl⟩
abbrev main_call5_v1 : Ref sig .tc := ⟨.hbm, 108, rfl⟩
abbrev main_call5_cst : Ref sig .tc := ⟨.hbm, 109, rfl⟩
abbrev main_call5_v2 : Ref sig .tc := ⟨.hbm, 110, rfl⟩
abbrev main_call5_v3 : Ref sig .tc := ⟨.hbm, 111, rfl⟩
abbrev main_call5_cst_0 : Ref sig .tc := ⟨.hbm, 112, rfl⟩
abbrev main_call5_v4 : Ref sig .tc := ⟨.hbm, 113, rfl⟩
abbrev main_call5_v5 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_call6_v0 : Ref sig .tc := ⟨.hbm, 127, rfl⟩
abbrev main_call6_v1 : Ref sig .tc := ⟨.hbm, 128, rfl⟩
abbrev main_call6_cst : Ref sig .tc := ⟨.hbm, 129, rfl⟩
abbrev main_call6_v2 : Ref sig .tc := ⟨.hbm, 130, rfl⟩
abbrev main_call6_v3 : Ref sig .tc := ⟨.hbm, 131, rfl⟩
abbrev main_call6_cst_0 : Ref sig .tc := ⟨.hbm, 132, rfl⟩
abbrev main_call6_v4 : Ref sig .tc := ⟨.hbm, 133, rfl⟩
abbrev main_call6_v5 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_call7_v0 : Ref sig .tc := ⟨.hbm, 147, rfl⟩
abbrev main_call7_v1 : Ref sig .tc := ⟨.hbm, 148, rfl⟩
abbrev main_call7_cst : Ref sig .tc := ⟨.hbm, 149, rfl⟩
abbrev main_call7_v2 : Ref sig .tc := ⟨.hbm, 150, rfl⟩
abbrev main_call7_v3 : Ref sig .tc := ⟨.hbm, 151, rfl⟩
abbrev main_call7_cst_0 : Ref sig .tc := ⟨.hbm, 152, rfl⟩
abbrev main_call7_v4 : Ref sig .tc := ⟨.hbm, 153, rfl⟩
abbrev main_call7_v5 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_call8_v0 : Ref sig .tc := ⟨.hbm, 167, rfl⟩
abbrev main_call8_v1 : Ref sig .tc := ⟨.hbm, 168, rfl⟩
abbrev main_call8_cst : Ref sig .tc := ⟨.hbm, 169, rfl⟩
abbrev main_call8_v2 : Ref sig .tc := ⟨.hbm, 170, rfl⟩
abbrev main_call8_v3 : Ref sig .tc := ⟨.hbm, 171, rfl⟩
abbrev main_call8_cst_0 : Ref sig .tc := ⟨.hbm, 172, rfl⟩
abbrev main_call8_v4 : Ref sig .tc := ⟨.hbm, 173, rfl⟩
abbrev main_call8_v5 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩

abbrev nD : Nat := 1
abbrev τ : Topo := Topo.v7x

variable {F : FTy → Type} [FloatOps F]
-- ==== Down.lean ====
abbrev S37888x7168 : Shape := ⟨2, ![37888, 7168]⟩
abbrev S8x7168x2048 : Shape := ⟨3, ![8, 7168, 2048]⟩
abbrev S74 : Shape := ⟨1, ![74]⟩
abbrev S1 : Shape := ⟨1, ![1]⟩
abbrev S37888x2048 : Shape := ⟨2, ![37888, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 3
  | .vmem => 6
  | .smem => 2
  | _ => 0

abbrev bufTy : (tb : Table) → Fin (tcTables nBuf tb) → BufTy
  | .hbm, ⟨0, _⟩ => ⟨S37888x7168, .bf16⟩
  | .hbm, ⟨1, _⟩ => ⟨S8x7168x2048, .f32⟩
  | .hbm, ⟨2, _⟩ => ⟨S37888x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .smem, ⟨0, _⟩ => ⟨S74, .i32⟩
  | .local _ .smem, ⟨1, _⟩ => ⟨S1, .i32⟩
  | _, _ => ⟨S37888x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 74], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S37888x7168 : Shape := ⟨2, ![37888, 7168]⟩
abbrev S8x7168x2048 : Shape := ⟨3, ![8, 7168, 2048]⟩
abbrev S74 : Shape := ⟨1, ![74]⟩
abbrev S1 : Shape := ⟨1, ![1]⟩
abbrev S_ : Shape := ⟨0, ![]⟩
abbrev S74x1 : Shape := ⟨2, ![74, 1]⟩
abbrev S1x8 : Shape := ⟨2, ![1, 8]⟩
abbrev S74x8 : Shape := ⟨2, ![74, 8]⟩
abbrev S74x512x8 : Shape := ⟨3, ![74, 512, 8]⟩
abbrev S37888x8 : Shape := ⟨2, ![37888, 8]⟩
abbrev S37888x2048 : Shape := ⟨2, ![37888, 2048]⟩
abbrev S1x7168x2048 : Shape := ⟨3, ![1, 7168, 2048]⟩
abbrev S7168x2048 : Shape := ⟨2, ![7168, 2048]⟩
abbrev S37888x1 : Shape := ⟨2, ![37888, 1]⟩

abbrev nBuf : Space → Nat
  | .hbm => 79
  | .vmem => 0
  | .smem => 0
  | _ => 0

abbrev bufTy : (tb : Table) → Fin (tcTables nBuf tb) → BufTy
  | .hbm, ⟨0, _⟩ => ⟨S37888x7168, .bf16⟩
  | .hbm, ⟨1, _⟩ => ⟨S8x7168x2048, .f32⟩
  | .hbm, ⟨2, _⟩ => ⟨S74, .i32⟩
  | .hbm, ⟨3, _⟩ => ⟨S1, .i32⟩
  | .hbm, ⟨4, _⟩ => ⟨S37888x7168, .f32⟩
  | .hbm, ⟨5, _⟩ => ⟨S74, .i32⟩
  | .hbm, ⟨6, _⟩ => ⟨S_, .i32⟩
  | .hbm, ⟨7, _⟩ => ⟨S74, .i32⟩
  | .hbm, ⟨8, _⟩ => ⟨S74, .i1⟩
  | .hbm, ⟨9, _⟩ => ⟨S74, .f32⟩
  | .hbm, ⟨10, _⟩ => ⟨S74x1, .i32⟩
  | .hbm, ⟨11, _⟩ => ⟨S1x8, .i32⟩
  | .hbm, ⟨12, _⟩ => ⟨S74x8, .i32⟩
  | .hbm, ⟨13, _⟩ => ⟨S74x8, .i32⟩
  | .hbm, ⟨14, _⟩ => ⟨S74x8, .i1⟩
  | .hbm, ⟨15, _⟩ => ⟨S74x8, .f32⟩
  | .hbm, ⟨16, _⟩ => ⟨S74x1, .f32⟩
  | .hbm, ⟨17, _⟩ => ⟨S74x8, .f32⟩
  | .hbm, ⟨18, _⟩ => ⟨S74x8, .f32⟩
  | .hbm, ⟨19, _⟩ => ⟨S74x512x8, .f32⟩
  | .hbm, ⟨20, _⟩ => ⟨S37888x8, .f32⟩
  | .hbm, ⟨21, _⟩ => ⟨S_, .f32⟩
  | .hbm, ⟨22, _⟩ => ⟨S37888x2048, .f32⟩
  | .hbm, ⟨23, _⟩ => ⟨S1x7168x2048, .f32⟩
  | .hbm, ⟨24, _⟩ => ⟨S7168x2048, .f32⟩
  | .hbm, ⟨25, _⟩ => ⟨S37888x2048, .f32⟩
  | .hbm, ⟨26, _⟩ => ⟨S37888x1, .f32⟩
  | .hbm, ⟨27, _⟩ => ⟨S37888x2048, .f32⟩
  | .hbm, ⟨28, _⟩ => ⟨S37888x2048, .f32⟩
  | .hbm, ⟨29, _⟩ => ⟨S37888x2048, .f32⟩
  | .hbm, ⟨30, _⟩ => ⟨S1x7168x2048, .f32⟩
  | .hbm, ⟨31, _⟩ => ⟨S7168x2048, .f32⟩
  | .hbm, ⟨32, _⟩ => ⟨S37888x2048, .f32⟩
  | .hbm, ⟨33, _⟩ => ⟨S37888x1, .f32⟩
  | .hbm, ⟨34, _⟩ => ⟨S37888x2048, .f32⟩
  | .hbm, ⟨35, _⟩ => ⟨S37888x2048, .f32⟩
  | .hbm, ⟨36, _⟩ => ⟨S37888x2048, .f32⟩
  | .hbm, ⟨37, _⟩ => ⟨S1x7168x2048, .f32⟩
  | .hbm, ⟨38, _⟩ => ⟨S7168x2048, .f32⟩
  | .hbm, ⟨39, _⟩ => ⟨S37888x2048, .f32⟩
  | .hbm, ⟨40, _⟩ => ⟨S37888x1, .f32⟩
  | .hbm, ⟨41, _⟩ => ⟨S37888x2048, .f32⟩
  | .hbm, ⟨42, _⟩ => ⟨S37888x2048, .f32⟩
  | .hbm, ⟨43, _⟩ => ⟨S37888x2048, .f32⟩
  | .hbm, ⟨44, _⟩ => ⟨S1x7168x2048, .f32⟩
  | .hbm, ⟨45, _⟩ => ⟨S7168x2048, .f32⟩
  | .hbm, ⟨46, _⟩ => ⟨S37888x2048, .f32⟩
  | .hbm, ⟨47, _⟩ => ⟨S37888x1, .f32⟩
  | .hbm, ⟨48, _⟩ => ⟨S37888x2048, .f32⟩
  | .hbm, ⟨49, _⟩ => ⟨S37888x2048, .f32⟩
  | .hbm, ⟨50, _⟩ => ⟨S37888x2048, .f32⟩
  | .hbm, ⟨51, _⟩ => ⟨S1x7168x2048, .f32⟩
  | .hbm, ⟨52, _⟩ => ⟨S7168x2048, .f32⟩
  | .hbm, ⟨53, _⟩ => ⟨S37888x2048, .f32⟩
  | .hbm, ⟨54, _⟩ => ⟨S37888x1, .f32⟩
  | .hbm, ⟨55, _⟩ => ⟨S37888x2048, .f32⟩
  | .hbm, ⟨56, _⟩ => ⟨S37888x2048, .f32⟩
  | .hbm, ⟨57, _⟩ => ⟨S37888x2048, .f32⟩
  | .hbm, ⟨58, _⟩ => ⟨S1x7168x2048, .f32⟩
  | .hbm, ⟨59, _⟩ => ⟨S7168x2048, .f32⟩
  | .hbm, ⟨60, _⟩ => ⟨S37888x2048, .f32⟩
  | .hbm, ⟨61, _⟩ => ⟨S37888x1, .f32⟩
  | .hbm, ⟨62, _⟩ => ⟨S37888x2048, .f32⟩
  | .hbm, ⟨63, _⟩ => ⟨S37888x2048, .f32⟩
  | .hbm, ⟨64, _⟩ => ⟨S37888x2048, .f32⟩
  | .hbm, ⟨65, _⟩ => ⟨S1x7168x2048, .f32⟩
  | .hbm, ⟨66, _⟩ => ⟨S7168x2048, .f32⟩
  | .hbm, ⟨67, _⟩ => ⟨S37888x2048, .f32⟩
  | .hbm, ⟨68, _⟩ => ⟨S37888x1, .f32⟩
  | .hbm, ⟨69, _⟩ => ⟨S37888x2048, .f32⟩
  | .hbm, ⟨70, _⟩ => ⟨S37888x2048, .f32⟩
  | .hbm, ⟨71, _⟩ => ⟨S37888x2048, .f32⟩
  | .hbm, ⟨72, _⟩ => ⟨S1x7168x2048, .f32⟩
  | .hbm, ⟨73, _⟩ => ⟨S7168x2048, .f32⟩
  | .hbm, ⟨74, _⟩ => ⟨S37888x2048, .f32⟩
  | .hbm, ⟨75, _⟩ => ⟨S37888x1, .f32⟩
  | .hbm, ⟨76, _⟩ => ⟨S37888x2048, .f32⟩
  | .hbm, ⟨77, _⟩ => ⟨S37888x2048, .f32⟩
  | .hbm, ⟨78, _⟩ => ⟨S37888x2048, .f32⟩
  | _, _ => ⟨S37888x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩

abbrev nD : Nat := 1
abbrev τ : Topo := Topo.v7x

variable {F : FTy → Type} [FloatOps F]
-- ==== Gcv.lean ====
abbrev S512x12288 : Shape := ⟨2, ![512, 12288]⟩
abbrev S1x32x3x8192 : Shape := ⟨4, ![1, 32, 3, 8192]⟩
abbrev S1x4x8192 : Shape := ⟨3, ![1, 4, 8192]⟩
abbrev S32x3x8192 : Shape := ⟨3, ![32, 3, 8192]⟩
abbrev S4x8192 : Shape := ⟨2, ![4, 8192]⟩
abbrev S512x8192 : Shape := ⟨2, ![512, 8192]⟩
abbrev S16x1024 : Shape := ⟨2, ![16, 1024]⟩
abbrev S1x3x1024 : Shape := ⟨3, ![1, 3, 1024]⟩
abbrev S4x1024 : Shape := ⟨2, ![4, 1024]⟩
abbrev S24x1024 : Shape := ⟨2, ![24, 1024]⟩
abbrev S5x1024 : Shape := ⟨2, ![5, 1024]⟩
abbrev S3x1024 : Shape := ⟨2, ![3, 1024]⟩
abbrev S1x1024 : Shape := ⟨2, ![1, 1024]⟩
abbrev S16x128 : Shape := ⟨2, ![16, 128]⟩
abbrev S16 : Shape := ⟨1, ![16]⟩
abbrev S16x1 : Shape := ⟨2, ![16, 1]⟩
abbrev S8x1024 : Shape := ⟨2, ![8, 1024]⟩

abbrev nBuf : Space → Nat
  | .hbm => 7
  | .vmem => 11
  | .smem => 0
  | _ => 0

abbrev bufTy : (tb : Table) → Fin (tcTables nBuf tb) → BufTy
  | .hbm, ⟨0, _⟩ => ⟨S512x12288, .f32⟩
  | .hbm, ⟨1, _⟩ => ⟨S1x32x3x8192, .f32⟩
  | .hbm, ⟨2, _⟩ => ⟨S1x4x8192, .f32⟩
  | .hbm, ⟨3, _⟩ => ⟨S32x3x8192, .f32⟩
  | .hbm, ⟨4, _⟩ => ⟨S4x8192, .f32⟩
  | .hbm, ⟨5, _⟩ => ⟨S512x8192, .f32⟩
  | .hbm, ⟨6, _⟩ => ⟨S32x3x8192, .f32⟩
  | .local _ .vmem, ⟨0, _⟩ => ⟨S16x1024, .f32⟩
  | .local _ .vmem, ⟨1, _⟩ => ⟨S16x1024, .f32⟩
  | .local _ .vmem, ⟨2, _⟩ => ⟨S1x3x1024, .f32⟩
  | .local _ .vmem, ⟨3, _⟩ => ⟨S1x3x1024, .f32⟩
  | .local _ .vmem, ⟨4, _⟩ => ⟨S4x1024, .f32⟩
  | .local _ .vmem, ⟨5, _⟩ => ⟨S4x1024, .f32⟩
  | .local _ .vmem, ⟨6, _⟩ => ⟨S16x1024, .f32⟩
  | .local _ .vmem, ⟨7, _⟩ => ⟨S16x1024, .f32⟩
  | .local _ .vmem, ⟨8, _⟩ => ⟨S1x3x1024, .f32⟩
  | .local _ .vmem, ⟨9, _⟩ => ⟨S1x3x1024, .f32⟩
  | .local _ .vmem, ⟨10, _⟩ => ⟨S24x1024, .f32⟩
  | _, _ => ⟨S512x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg2 : BitVec 32 := BitVec.ofNat 32 (i 2).val
  let c0_i32_43 : BitVec 32 := 0#32
  let v147 : BitVec 1 := Scalar.cmpi .eq arg2 c0_i32_43
  let v148 : BitVec 32 := Scalar.extui v147
  let c0_i32_44 : BitVec 32 := 0#32
  let v149 : BitVec 1 := Scalar.cmpi .ne v148 c0_i32_44
  v149

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GcvRefIdeal.lean ====
abbrev S512x12288 : Shape := ⟨2, ![512, 12288]⟩
abbrev S1x32x3x8192 : Shape := ⟨4, ![1, 32, 3, 8192]⟩
abbrev S1x4x8192 : Shape := ⟨3, ![1, 4, 8192]⟩
abbrev S32x16x12288 : Shape := ⟨3, ![32, 16, 12288]⟩
abbrev S32x16x8192 : Shape := ⟨3, ![32, 16, 8192]⟩
abbrev S32x3x8192 : Shape := ⟨3, ![32, 3, 8192]⟩
abbrev S4x8192 : Shape := ⟨2, ![4, 8192]⟩
abbrev S32x19x8192 : Shape := ⟨3, ![32, 19, 8192]⟩
abbrev S1x8192 : Shape := ⟨2, ![1, 8192]⟩
abbrev S8192 : Shape := ⟨1, ![8192]⟩
abbrev S1x1x8192 : Shape := ⟨3, ![1, 1, 8192]⟩
abbrev S_ : Shape := ⟨0, ![]⟩
abbrev S32x16x2048 : Shape := ⟨3, ![32, 16, 2048]⟩
abbrev S32x16x4096 : Shape := ⟨3, ![32, 16, 4096]⟩
abbrev S32x16x16x128 : Shape := ⟨4, ![32, 16, 16, 128]⟩
abbrev S32x16x16 : Shape := ⟨3, ![32, 16, 16]⟩
abbrev S32x16x16x1 : Shape := ⟨4, ![32, 16, 16, 1]⟩
abbrev S512x2048 : Shape := ⟨2, ![512, 2048]⟩
abbrev S512x4096 : Shape := ⟨2, ![512, 4096]⟩
abbrev S512x8192 : Shape := ⟨2, ![512, 8192]⟩

abbrev nBuf : Space → Nat
  | .hbm => 77
  | .vmem => 0
  | .smem => 0
  | _ => 0

abbrev bufTy : (tb : Table) → Fin (tcTables nBuf tb) → BufTy
  | .hbm, ⟨0, _⟩ => ⟨S512x12288, .f32⟩
  | .hbm, ⟨1, _⟩ => ⟨S1x32x3x8192, .f32⟩
  | .hbm, ⟨2, _⟩ => ⟨S1x4x8192, .f32⟩
  | .hbm, ⟨3, _⟩ => ⟨S32x16x12288, .f32⟩
  | .hbm, ⟨4, _⟩ => ⟨S32x16x8192, .f32⟩
  | .hbm, ⟨5, _⟩ => ⟨S32x3x8192, .f32⟩
  | .hbm, ⟨6, _⟩ => ⟨S4x8192, .f32⟩
  | .hbm, ⟨7, _⟩ => ⟨S32x19x8192, .f32⟩
  | .hbm, ⟨8, _⟩ => ⟨S1x8192, .f32⟩
  | .hbm, ⟨9, _⟩ => ⟨S8192, .f32⟩
  | .hbm, ⟨10, _⟩ => ⟨S32x16x8192, .f32⟩
  | .hbm, ⟨11, _⟩ => ⟨S1x1x8192, .f32⟩
  | .hbm, ⟨12, _⟩ => ⟨S32x16x8192, .f32⟩
  | .hbm, ⟨13, _⟩ => ⟨S32x16x8192, .f32⟩
  | .hbm, ⟨14, _⟩ => ⟨S1x8192, .f32⟩
  | .hbm, ⟨15, _⟩ => ⟨S8192, .f32⟩
  | .hbm, ⟨16, _⟩ => ⟨S32x16x8192, .f32⟩
  | .hbm, ⟨17, _⟩ => ⟨S1x1x8192, .f32⟩
  | .hbm, ⟨18, _⟩ => ⟨S32x16x8192, .f32⟩
  | .hbm, ⟨19, _⟩ => ⟨S32x16x8192, .f32⟩
  | .hbm, ⟨20, _⟩ => ⟨S32x16x8192, .f32⟩
  | .hbm, ⟨21, _⟩ => ⟨S1x8192, .f32⟩
  | .hbm, ⟨22, _⟩ => ⟨S8192, .f32⟩
  | .hbm, ⟨23, _⟩ => ⟨S32x16x8192, .f32⟩
  | .hbm, ⟨24, _⟩ => ⟨S1x1x8192, .f32⟩
  | .hbm, ⟨25, _⟩ => ⟨S32x16x8192, .f32⟩
  | .hbm, ⟨26, _⟩ => ⟨S32x16x8192, .f32⟩
  | .hbm, ⟨27, _⟩ => ⟨S32x16x8192, .f32⟩
  | .hbm, ⟨28, _⟩ => ⟨S1x8192, .f32⟩
  | .hbm, ⟨29, _⟩ => ⟨S8192, .f32⟩
  | .hbm, ⟨30, _⟩ => ⟨S32x16x8192, .f32⟩
  | .hbm, ⟨31, _⟩ => ⟨S1x1x8192, .f32⟩
  | .hbm, ⟨32, _⟩ => ⟨S32x16x8192, .f32⟩
  | .hbm, ⟨33, _⟩ => ⟨S32x16x8192, .f32⟩
  | .hbm, ⟨34, _⟩ => ⟨S32x16x8192, .f32⟩
  | .hbm, ⟨35, _⟩ => ⟨S32x3x8192, .f32⟩
  | .hbm, ⟨36, _⟩ => ⟨S32x16x8192, .f32⟩
  | .hbm, ⟨37, _⟩ => ⟨S32x16x8192, .f32⟩
  | .hbm, ⟨38, _⟩ => ⟨S_, .f32⟩
  | .hbm, ⟨39, _⟩ => ⟨S32x16x8192, .f32⟩
  | .hbm, ⟨40, _⟩ => ⟨S32x16x8192, .f32⟩
  | .hbm, ⟨41, _⟩ => ⟨S_, .f32⟩
  | .hbm, ⟨42, _⟩ => ⟨S32x16x8192, .f32⟩
  | .hbm, ⟨43, _⟩ => ⟨S32x16x8192, .f32⟩
  | .hbm, ⟨44, _⟩ => ⟨S32x16x8192, .f32⟩
  | .hbm, ⟨45, _⟩ => ⟨S32x16x2048, .f32⟩
  | .hbm, ⟨46, _⟩ => ⟨S32x16x2048, .f32⟩
  | .hbm, ⟨47, _⟩ => ⟨S32x16x4096, .f32⟩
  | .hbm, ⟨48, _⟩ => ⟨S32x16x16x128, .f32⟩
  | .hbm, ⟨49, _⟩ => ⟨S32x16x16x128, .f32⟩
  | .hbm, ⟨50, _⟩ => ⟨S_, .f32⟩
  | .hbm, ⟨51, _⟩ => ⟨S32x16x16, .f32⟩
  | .hbm, ⟨52, _⟩ => ⟨S32x16x16x1, .f32⟩
  | .hbm, ⟨53, _⟩ => ⟨S_, .f32⟩
  | .hbm, ⟨54, _⟩ => ⟨S32x16x16x1, .f32⟩
  | .hbm, ⟨55, _⟩ => ⟨S32x16x16x1, .f32⟩
  | .hbm, ⟨56, _⟩ => ⟨S32x16x16x1, .f32⟩
  | .hbm, ⟨57, _⟩ => ⟨S32x16x16x128, .f32⟩
  | .hbm, ⟨58, _⟩ => ⟨S32x16x16x128, .f32⟩
  | .hbm, ⟨59, _⟩ => ⟨S_, .f32⟩
  | .hbm, ⟨60, _⟩ => ⟨S32x16x16x128, .f32⟩
  | .hbm, ⟨61, _⟩ => ⟨S32x16x16x128, .f32⟩
  | .hbm, ⟨62, _⟩ => ⟨S32x16x16x128, .f32⟩
  | .hbm, ⟨63, _⟩ => ⟨S32x16x16x128, .f32⟩
  | .hbm, ⟨64, _⟩ => ⟨S_, .f32⟩
  | .hbm, ⟨65, _⟩ => ⟨S32x16x16, .f32⟩
  | .hbm, ⟨66, _⟩ => ⟨S32x16x16x1, .f32⟩
  | .hbm, ⟨67, _⟩ => ⟨S_, .f32⟩
  | .hbm, ⟨68, _⟩ => ⟨S32x16x16x1, .f32⟩
  | .hbm, ⟨69, _⟩ => ⟨S32x16x16x1, .f32⟩
  | .hbm, ⟨70, _⟩ => ⟨S32x16x16x1, .f32⟩
  | .hbm, ⟨71, _⟩ => ⟨S32x16x16x128, .f32⟩
  | .hbm, ⟨72, _⟩ => ⟨S32x16x16x128, .f32⟩
  | .hbm, ⟨73, _⟩ => ⟨S512x2048, .f32⟩
  | .hbm, ⟨74, _⟩ => ⟨S512x2048, .f32⟩
  | .hbm, ⟨75, _⟩ => ⟨S512x4096, .f32⟩
  | .hbm, ⟨76, _⟩ => ⟨S512x8192, .f32⟩
  | _, _ => ⟨S512x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_v39 : Ref sig .tc := ⟨.hbm, 51, rfl⟩
abbrev main_v40 : Ref sig .tc := ⟨.hbm, 52, rfl⟩
abbrev main_cst_0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_2 : Ref sig .tc := ⟨.hbm, 64, rfl⟩
abbrev main_v50 : Ref sig .tc := ⟨.hbm, 65, rfl⟩
abbrev main_v51 : Ref sig .tc := ⟨.hbm, 66, rfl⟩
abbrev main_cst_3 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Ccv.lean ====
abbrev S512x1024 : Shape := ⟨2, ![512, 1024]⟩
abbrev S1x32x30x1024 : Shape := ⟨4, ![1, 32, 30, 1024]⟩
abbrev S1x31x1024 : Shape := ⟨3, ![1, 31, 1024]⟩
abbrev S1x1024 : Shape := ⟨2, ![1, 1024]⟩
abbrev S32x30x1024 : Shape := ⟨3, ![32, 30, 1024]⟩
abbrev S31x1024 : Shape := ⟨2, ![31, 1024]⟩
abbrev S1024 : Shape := ⟨1, ![1024]⟩
abbrev S16x1024 : Shape := ⟨2, ![16, 1024]⟩
abbrev S1x30x1024 : Shape := ⟨3, ![1, 30, 1024]⟩
abbrev S48x1024 : Shape := ⟨2, ![48, 1024]⟩
abbrev S2x1024 : Shape := ⟨2, ![2, 1024]⟩
abbrev S30x1024 : Shape := ⟨2, ![30, 1024]⟩
abbrev S16x256 : Shape := ⟨2, ![16, 256]⟩
abbrev S1x256 : Shape := ⟨2, ![1, 256]⟩
abbrev S16 : Shape := ⟨1, ![16]⟩
abbrev S16x1 : Shape := ⟨2, ![16, 1]⟩
abbrev S32x1024 : Shape := ⟨2, ![32, 1024]⟩

abbrev nBuf : Space → Nat
  | .hbm => 16
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S1x32x30x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S32x30x1024, .f32⟩
  | .hbm, ⟨7, _⟩ => ⟨S31x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S512x1024, .f32⟩
  | .hbm, ⟨15, _⟩ => ⟨S32x30x1024, .f32⟩
  | .local _ .vmem, ⟨0, _⟩ => ⟨S16x1024, .f32⟩
  | .local _ .vmem, ⟨1, _⟩ => ⟨S16x1024, .f32⟩
  | .local _ .vmem, ⟨2, _⟩ => ⟨S1x30x1024, .f32⟩
  | .local _ .vmem, ⟨3, _⟩ => ⟨S1x30x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S16x1024, .f32⟩
  | .local _ .vmem, ⟨9, _⟩ => ⟨S16x1024, .f32⟩
  | .local _ .vmem, ⟨10, _⟩ => ⟨S1x30x1024, .f32⟩
  | .local _ .vmem, ⟨11, _⟩ => ⟨S1x30x1024, .f32⟩
  | .local _ .vmem, ⟨12, _⟩ => ⟨S48x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_500 : BitVec 32 := 0#32
  let v810 : BitVec 1 := Scalar.cmpi .eq arg1 c0_i32_500
  let v811 : BitVec 32 := Scalar.extui v810
  let c0_i32_501 : BitVec 32 := 0#32
  let v812 : BitVec 1 := Scalar.cmpi .ne v811 c0_i32_501
  v812

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== CcvRefIdeal.lean ====
abbrev S512x1024 : Shape := ⟨2, ![512, 1024]⟩
abbrev S1x32x30x1024 : Shape := ⟨4, ![1, 32, 30, 1024]⟩
abbrev S1x31x1024 : Shape := ⟨3, ![1, 31, 1024]⟩
abbrev S1x1024 : Shape := ⟨2, ![1, 1024]⟩
abbrev S32x16x1024 : Shape := ⟨3, ![32, 16, 1024]⟩
abbrev S32x30x1024 : Shape := ⟨3, ![32, 30, 1024]⟩
abbrev S31x1024 : Shape := ⟨2, ![31, 1024]⟩
abbrev S32x46x1024 : Shape := ⟨3, ![32, 46, 1024]⟩
abbrev S1024 : Shape := ⟨1, ![1024]⟩
abbrev S1x1x1024 : Shape := ⟨3, ![1, 1, 1024]⟩
abbrev S_ : Shape := ⟨0, ![]⟩
abbrev S32x16 : Shape := ⟨2, ![32, 16]⟩
abbrev S32x16x1 : Shape := ⟨3, ![32, 16, 1]⟩

abbrev nBuf : Space → Nat
  | .hbm => 270
  | .vmem => 0
  | .smem => 0
  | _ => 0

abbrev hbmTy0_0 (i : Nat) : BufTy := match i % 128 with
  | 0 => ⟨S512x1024, .f32⟩
  | 1 => ⟨S1x32x30x1024, .f32⟩
  | 2 => ⟨S1x31x1024, .f32⟩
  | 3 => ⟨S1x1024, .f32⟩
  | 4 => ⟨S1x1024, .f32⟩
  | 5 => ⟨S1x1024, .f32⟩
  | 6 => ⟨S32x16x1024, .f32⟩
  | 7 => ⟨S32x30x1024, .f32⟩
  | 8 => ⟨S31x1024, .f32⟩
  | 9 => ⟨S32x46x1024, .f32⟩
  | 10 => ⟨S1x1024, .f32⟩
  | 11 => ⟨S1024, .f32⟩
  | 12 => ⟨S32x16x1024, .f32⟩
  | 13 => ⟨S1x1x1024, .f32⟩
  | 14 => ⟨S32x16x1024, .f32⟩
  | 15 => ⟨S32x16x1024, .f32⟩
  | 16 => ⟨S1x1024, .f32⟩
  | 17 => ⟨S1024, .f32⟩
  | 18 => ⟨S32x16x1024, .f32⟩
  | 19 => ⟨S1x1x1024, .f32⟩
  | 20 => ⟨S32x16x1024, .f32⟩
  | 21 => ⟨S32x16x1024, .f32⟩
  | 22 => ⟨S32x16x1024, .f32⟩
  | 23 => ⟨S1x1024, .f32⟩
  | 24 => ⟨S1024, .f32⟩
  | 25 => ⟨S32x16x1024, .f32⟩
  | 26 => ⟨S1x1x1024, .f32⟩
  | 27 => ⟨S32x16x1024, .f32⟩
  | 28 => ⟨S32x16x1024, .f32⟩
  | 29 => ⟨S32x16x1024, .f32⟩
  | 30 => ⟨S1x1024, .f32⟩
  | 31 => ⟨S1024, .f32⟩
  | 32 => ⟨S32x16x1024, .f32⟩
  | 33 => ⟨S1x1x1024, .f32⟩
  | 34 => ⟨S32x16x1024, .f32⟩
  | 35 => ⟨S32x16x1024, .f32⟩
  | 36 => ⟨S32x16x1024, .f32⟩
  | 37 => ⟨S1x1024, .f32⟩
  | 38 => ⟨S1024, .f32⟩
  | 39 => ⟨S32x16x1024, .f32⟩
  | 40 => ⟨S1x1x1024, .f32⟩
  | 41 => ⟨S32x16x1024, .f32⟩
  | 42 => ⟨S32x16x1024, .f32⟩
  | 43 => ⟨S32x16x1024, .f32⟩
  | 44 => ⟨S1x1024, .f32⟩
  | 45 => ⟨S1024, .f32⟩
  | 46 => ⟨S32x16x1024, .f32⟩
  | 47 => ⟨S1x1x1024, .f32⟩
  | 48 => ⟨S32x16x1024, .f32⟩
  | 49 => ⟨S32x16x1024, .f32⟩
  | 50 => ⟨S32x16x1024, .f32⟩
  | 51 => ⟨S1x1024, .f32⟩
  | 52 => ⟨S1024, .f32⟩
  | 53 => ⟨S32x16x1024, .f32⟩
  | 54 => ⟨S1x1x1024, .f32⟩
  | 55 => ⟨S32x16x1024, .f32⟩
  | 56 => ⟨S32x16x1024, .f32⟩
  | 57 => ⟨S32x16x1024, .f32⟩
  | 58 => ⟨S1x1024, .f32⟩
  | 59 => ⟨S1024, .f32⟩
  | 60 => ⟨S32x16x1024, .f32⟩
  | 61 => ⟨S1x1x1024, .f32⟩
  | 62 => ⟨S32x16x1024, .f32⟩
  | 63 => ⟨S32x16x1024, .f32⟩
  | 64 => ⟨S32x16x1024, .f32⟩
  | 65 => ⟨S1x1024, .f32⟩
  | 66 => ⟨S1024, .f32⟩
  | 67 => ⟨S32x16x1024, .f32⟩
  | 68 => ⟨S1x1x1024, .f32⟩
  | 69 => ⟨S32x16x1024, .f32⟩
  | 70 => ⟨S32x16x1024, .f32⟩
  | 71 => ⟨S32x16x1024, .f32⟩
  | 72 => ⟨S1x1024, .f32⟩
  | 73 => ⟨S1024, .f32⟩
  | 74 => ⟨S32x16x1024, .f32⟩
  | 75 => ⟨S1x1x1024, .f32⟩
  | 76 => ⟨S32x16x1024, .f32⟩
  | 77 => ⟨S32x16x1024, .f32⟩
  | 78 => ⟨S32x16x1024, .f32⟩
  | 79 => ⟨S1x1024, .f32⟩
  | 80 => ⟨S1024, .f32⟩
  | 81 => ⟨S32x16x1024, .f32⟩
  | 82 => ⟨S1x1x1024, .f32⟩
  | 83 => ⟨S32x16x1024, .f32⟩
  | 84 => ⟨S32x16x1024, .f32⟩
  | 85 => ⟨S32x16x1024, .f32⟩
  | 86 => ⟨S1x1024, .f32⟩
  | 87 => ⟨S1024, .f32⟩
  | 88 => ⟨S32x16x1024, .f32⟩
  | 89 => ⟨S1x1x1024, .f32⟩
  | 90 => ⟨S32x16x1024, .f32⟩
  | 91 => ⟨S32x16x1024, .f32⟩
  | 92 => ⟨S32x16x1024, .f32⟩
  | 93 => ⟨S1x1024, .f32⟩
  | 94 => ⟨S1024, .f32⟩
  | 95 => ⟨S32x16x1024, .f32⟩
  | 96 => ⟨S1x1x1024, .f32⟩
  | 97 => ⟨S32x16x1024, .f32⟩
  | 98 => ⟨S32x16x1024, .f32⟩
  | 99 => ⟨S32x16x1024, .f32⟩
  | 100 => ⟨S1x1024, .f32⟩
  | 101 => ⟨S1024, .f32⟩
  | 102 => ⟨S32x16x1024, .f32⟩
  | 103 => ⟨S1x1x1024, .f32⟩
  | 104 => ⟨S32x16x1024, .f32⟩
  | 105 => ⟨S32x16x1024, .f32⟩
  | 106 => ⟨S32x16x1024, .f32⟩
  | 107 => ⟨S1x1024, .f32⟩
  | 108 => ⟨S1024, .f32⟩
  | 109 => ⟨S32x16x1024, .f32⟩
  | 110 => ⟨S1x1x1024, .f32⟩
  | 111 => ⟨S32x16x1024, .f32⟩
  | 112 => ⟨S32x16x1024, .f32⟩
  | 113 => ⟨S32x16x1024, .f32⟩
  | 114 => ⟨S1x1024, .f32⟩
  | 115 => ⟨S1024, .f32⟩
  | 116 => ⟨S32x16x1024, .f32⟩
  | 117 => ⟨S1x1x1024, .f32⟩
  | 118 => ⟨S32x16x1024, .f32⟩
  | 119 => ⟨S32x16x1024, .f32⟩
  | 120 => ⟨S32x16x1024, .f32⟩
  | 121 => ⟨S1x1024, .f32⟩
  | 122 => ⟨S1024, .f32⟩
  | 123 => ⟨S32x16x1024, .f32⟩
  | 124 => ⟨S1x1x1024, .f32⟩
  | 125 => ⟨S32x16x1024, .f32⟩
  | 126 => ⟨S32x16x1024, .f32⟩
  | 127 => ⟨S32x16x1024, .f32⟩
  | _ => ⟨S512x1024, .f32⟩

abbrev hbmTy0_1 (i : Nat) : BufTy := match i % 128 with
  | 0 => ⟨S1x1024, .f32⟩
  | 1 => ⟨S1024, .f32⟩
  | 2 => ⟨S32x16x1024, .f32⟩
  | 3 => ⟨S1x1x1024, .f32⟩
  | 4 => ⟨S32x16x1024, .f32⟩
  | 5 => ⟨S32x16x1024, .f32⟩
  | 6 => ⟨S32x16x1024, .f32⟩
  | 7 => ⟨S1x1024, .f32⟩
  | 8 => ⟨S1024, .f32⟩
  | 9 => ⟨S32x16x1024, .f32⟩
  | 10 => ⟨S1x1x1024, .f32⟩
  | 11 => ⟨S32x16x1024, .f32⟩
  | 12 => ⟨S32x16x1024, .f32⟩
  | 13 => ⟨S32x16x1024, .f32⟩
  | 14 => ⟨S1x1024, .f32⟩
  | 15 => ⟨S1024, .f32⟩
  | 16 => ⟨S32x16x1024, .f32⟩
  | 17 => ⟨S1x1x1024, .f32⟩
  | 18 => ⟨S32x16x1024, .f32⟩
  | 19 => ⟨S32x16x1024, .f32⟩
  | 20 => ⟨S32x16x1024, .f32⟩
  | 21 => ⟨S1x1024, .f32⟩
  | 22 => ⟨S1024, .f32⟩
  | 23 => ⟨S32x16x1024, .f32⟩
  | 24 => ⟨S1x1x1024, .f32⟩
  | 25 => ⟨S32x16x1024, .f32⟩
  | 26 => ⟨S32x16x1024, .f32⟩
  | 27 => ⟨S32x16x1024, .f32⟩
  | 28 => ⟨S1x1024, .f32⟩
  | 29 => ⟨S1024, .f32⟩
  | 30 => ⟨S32x16x1024, .f32⟩
  | 31 => ⟨S1x1x1024, .f32⟩
  | 32 => ⟨S32x16x1024, .f32⟩
  | 33 => ⟨S32x16x1024, .f32⟩
  | 34 => ⟨S32x16x1024, .f32⟩
  | 35 => ⟨S1x1024, .f32⟩
  | 36 => ⟨S1024, .f32⟩
  | 37 => ⟨S32x16x1024, .f32⟩
  | 38 => ⟨S1x1x1024, .f32⟩
  | 39 => ⟨S32x16x1024, .f32⟩
  | 40 => ⟨S32x16x1024, .f32⟩
  | 41 => ⟨S32x16x1024, .f32⟩
  | 42 => ⟨S1x1024, .f32⟩
  | 43 => ⟨S1024, .f32⟩
  | 44 => ⟨S32x16x1024, .f32⟩
  | 45 => ⟨S1x1x1024, .f32⟩
  | 46 => ⟨S32x16x1024, .f32⟩
  | 47 => ⟨S32x16x1024, .f32⟩
  | 48 => ⟨S32x16x1024, .f32⟩
  | 49 => ⟨S1x1024, .f32⟩
  | 50 => ⟨S1024, .f32⟩
  | 51 => ⟨S32x16x1024, .f32⟩
  | 52 => ⟨S1x1x1024, .f32⟩
  | 53 => ⟨S32x16x1024, .f32⟩
  | 54 => ⟨S32x16x1024, .f32⟩
  | 55 => ⟨S32x16x1024, .f32⟩
  | 56 => ⟨S1x1024, .f32⟩
  | 57 => ⟨S1024, .f32⟩
  | 58 => ⟨S32x16x1024, .f32⟩
  | 59 => ⟨S1x1x1024, .f32⟩
  | 60 => ⟨S32x16x1024, .f32⟩
  | 61 => ⟨S32x16x1024, .f32⟩
  | 62 => ⟨S32x16x1024, .f32⟩
  | 63 => ⟨S1x1024, .f32⟩
  | 64 => ⟨S1024, .f32⟩
  | 65 => ⟨S32x16x1024, .f32⟩
  | 66 => ⟨S1x1x1024, .f32⟩
  | 67 => ⟨S32x16x1024, .f32⟩
  | 68 => ⟨S32x16x1024, .f32⟩
  | 69 => ⟨S32x16x1024, .f32⟩
  | 70 => ⟨S1x1024, .f32⟩
  | 71 => ⟨S1024, .f32⟩
  | 72 => ⟨S32x16x1024, .f32⟩
  | 73 => ⟨S1x1x1024, .f32⟩
  | 74 => ⟨S32x16x1024, .f32⟩
  | 75 => ⟨S32x16x1024, .f32⟩
  | 76 => ⟨S32x16x1024, .f32⟩
  | 77 => ⟨S1x1024, .f32⟩
  | 78 => ⟨S1024, .f32⟩
  | 79 => ⟨S32x16x1024, .f32⟩
  | 80 => ⟨S1x1x1024, .f32⟩
  | 81 => ⟨S32x16x1024, .f32⟩
  | 82 => ⟨S32x16x1024, .f32⟩
  | 83 => ⟨S32x16x1024, .f32⟩
  | 84 => ⟨S1x1024, .f32⟩
  | 85 => ⟨S1024, .f32⟩
  | 86 => ⟨S32x16x1024, .f32⟩
  | 87 => ⟨S1x1x1024, .f32⟩
  | 88 => ⟨S32x16x1024, .f32⟩
  | 89 => ⟨S32x16x1024, .f32⟩
  | 90 => ⟨S32x16x1024, .f32⟩
  | 91 => ⟨S1x1024, .f32⟩
  | 92 => ⟨S1024, .f32⟩
  | 93 => ⟨S32x16x1024, .f32⟩
  | 94 => ⟨S1x1x1024, .f32⟩
  | 95 => ⟨S32x16x1024, .f32⟩
  | 96 => ⟨S32x16x1024, .f32⟩
  | 97 => ⟨S32x16x1024, .f32⟩
  | 98 => ⟨S32x30x1024, .f32⟩
  | 99 => ⟨S1024, .f32⟩
  | 100 => ⟨S1x1x1024, .f32⟩
  | 101 => ⟨S32x16x1024, .f32⟩
  | 102 => ⟨S32x16x1024, .f32⟩
  | 103 => ⟨S_, .f32⟩
  | 104 => ⟨S32x16, .f32⟩
  | 105 => ⟨S32x16x1, .f32⟩
  | 106 => ⟨S_, .f32⟩
  | 107 => ⟨S32x16x1, .f32⟩
  | 108 => ⟨S32x16x1, .f32⟩
  | 109 => ⟨S32x16x1024, .f32⟩
  | 110 => ⟨S32x16x1024, .f32⟩
  | 111 => ⟨S32x16x1024, .f32⟩
  | 112 => ⟨S_, .f32⟩
  | 113 => ⟨S32x16, .f32⟩
  | 114 => ⟨S32x16x1, .f32⟩
  | 115 => ⟨S_, .f32⟩
  | 116 => ⟨S32x16x1, .f32⟩
  | 117 => ⟨S32x16x1, .f32⟩
  | 118 => ⟨S_, .f32⟩
  | 119 => ⟨S32x16x1, .f32⟩
  | 120 => ⟨S32x16x1, .f32⟩
  | 121 => ⟨S32x16x1, .f32⟩
  | 122 => ⟨S32x16x1024, .f32⟩
  | 123 => ⟨S32x16x1024, .f32⟩
  | 124 => ⟨S1024, .f32⟩
  | 125 => ⟨S1x1x1024, .f32⟩
  | 126 => ⟨S32x16x1024, .f32⟩
  | 127 => ⟨S32x16x1024, .f32⟩
  | _ => ⟨S512x1024, .f32⟩

abbrev hbmTy0_2 (i : Nat) : BufTy := match i % 128 with
  | 0 => ⟨S1024, .f32⟩
  | 1 => ⟨S1x1x1024, .f32⟩
  | 2 => ⟨S32x16x1024, .f32⟩
  | 3 => ⟨S32x16x1024, .f32⟩
  | 4 => ⟨S32x16x1024, .f32⟩
  | 5 => ⟨S32x16x1024, .f32⟩
  | 6 => ⟨S_, .f32⟩
  | 7 => ⟨S32x16x1024, .f32⟩
  | 8 => ⟨S32x16x1024, .f32⟩
  | 9 => ⟨S_, .f32⟩
  | 10 => ⟨S32x16x1024, .f32⟩
  | 11 => ⟨S32x16x1024, .f32⟩
  | 12 => ⟨S32x16x1024, .f32⟩
  | 13 => ⟨S512x1024, .f32⟩
  | _ => ⟨S512x1024, .f32⟩

abbrev hbmTy (i : Nat) : BufTy := match i / 128 with
  | 0 => hbmTy0_0 i
  | 1 => hbmTy0_1 i
  | 2 => hbmTy0_2 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_cst : Ref sig .tc := ⟨.hbm, 231, rfl⟩
abbrev main_v225 : Ref sig .tc := ⟨.hbm, 232, rfl⟩
abbrev main_v226 : Ref sig .tc := ⟨.hbm, 233, rfl⟩
abbrev main_cst_0 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_cst_1 : Ref sig .tc := ⟨.hbm, 240, rfl⟩
abbrev main_v232 : Ref sig .tc := ⟨.hbm, 241, rfl⟩
abbrev main_v233 : Ref sig .tc := ⟨.hbm, 242, rfl⟩
abbrev main_cst_2 : Ref sig .tc := ⟨.hbm, 243, rfl⟩
abbrev main_v234 : Ref sig .tc := ⟨.hbm, 244, rfl⟩
abbrev main_v235 : Ref sig .tc := ⟨.hbm, 245, rfl⟩
abbrev main_cst_3 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_call0_v0 : Ref sig .tc := ⟨.hbm, 260, rfl⟩
abbrev main_call0_v1 : Ref sig .tc := ⟨.hbm, 261, rfl⟩
abbrev main_call0_cst : Ref sig .tc := ⟨.hbm, 262, rfl⟩
abbrev main_call0_v2 : Ref sig .tc := ⟨.hbm, 263, rfl⟩
abbrev main_call0_v3 : Ref sig .tc := ⟨.hbm, 264, rfl⟩
abbrev main_call0_cst_0 : Ref sig .tc := ⟨.hbm, 265, rfl⟩
abbrev main_call0_v4 : Ref sig .tc := ⟨.hbm, 266, rfl⟩
abbrev main_call0_v5 : Ref sig .tc := ⟨.hbm, 267, rfl⟩
abbrev main_v249 : Ref sig .tc := ⟨.hbm, 268, rfl⟩
abbrev main_v250 : Ref sig .tc := ⟨.hbm, 269, rfl⟩

abbrev nD : Nat := 1
abbrev τ : Topo := Topo.v7x

variable {F : FTy → Type} [FloatOps F]
-- ==== Qz.lean ====
abbrev S16384x2048 : Shape := ⟨2, ![16384, 2048]⟩
abbrev S1x2048x12352 : Shape := ⟨3, ![1, 2048, 12352]⟩
abbrev S1x2048x12288 : Shape := ⟨3, ![1, 2048, 12288]⟩
abbrev S1x16384x12288 : Shape := ⟨3, ![1, 16384, 12288]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x12352, .f32⟩
  | .hbm, ⟨2, _⟩ => ⟨S16384x2048, .bf16⟩
  | .hbm, ⟨3, _⟩ => ⟨S1x2048x12288, .f32⟩
  | .hbm, ⟨4, _⟩ => ⟨S1x2048x12288, .bf16⟩
  | .hbm, ⟨5, _⟩ => ⟨S1x16384x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 12], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== QzRefIdeal.lean ====
abbrev S16384x2048 : Shape := ⟨2, ![16384, 2048]⟩
abbrev S1x2048x12352 : Shape := ⟨3, ![1, 2048, 12352]⟩
abbrev S2048x12352 : Shape := ⟨2, ![2048, 12352]⟩
abbrev S16384x12352 : Shape := ⟨2, ![16384, 12352]⟩
abbrev S16384x12288 : Shape := ⟨2, ![16384, 12288]⟩
abbrev S1x16384x12288 : Shape := ⟨3, ![1, 16384, 12288]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x12352, .f32⟩
  | .hbm, ⟨2, _⟩ => ⟨S2048x12352, .f32⟩
  | .hbm, ⟨3, _⟩ => ⟨S16384x12352, .f32⟩
  | .hbm, ⟨4, _⟩ => ⟨S16384x12288, .f32⟩
  | .hbm, ⟨5, _⟩ => ⟨S1x16384x12288, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Oc.lean ====
abbrev S16384x4096 : Shape := ⟨2, ![16384, 4096]⟩
abbrev S1x4096x2048 : Shape := ⟨3, ![1, 4096, 2048]⟩
abbrev S16384x2048 : Shape := ⟨2, ![16384, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S1x4096x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x4096, .bf16⟩
  | .hbm, ⟨6, _⟩ => ⟨S4096x2048, .f32⟩
  | .hbm, ⟨7, _⟩ => ⟨S4096x2048, .bf16⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OcRefIdeal.lean ====
abbrev S16384x4096 : Shape := ⟨2, ![16384, 4096]⟩
abbrev S1x4096x2048 : Shape := ⟨3, ![1, 4096, 2048]⟩
abbrev S16384x2048 : Shape := ⟨2, ![16384, 2048]⟩
abbrev S2048 : Shape := ⟨1, ![2048]⟩
abbrev S_ : Shape := ⟨0, ![]⟩
abbrev S4096x2048 : Shape := ⟨2, ![4096, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S4096x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Mq.lean ====
abbrev S16384x2048 : Shape := ⟨2, ![16384, 2048]⟩
abbrev S2x2048x2048 : Shape := ⟨3, ![2, 2048, 2048]⟩
abbrev S1x2048x2048 : Shape := ⟨3, ![1, 2048, 2048]⟩
abbrev S1x16384x2048 : Shape := ⟨3, ![1, 16384, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2x2048x2048, .f32⟩
  | .hbm, ⟨2, _⟩ => ⟨S16384x2048, .bf16⟩
  | .hbm, ⟨3, _⟩ => ⟨S2x2048x2048, .bf16⟩
  | .hbm, ⟨4, _⟩ => ⟨S1x2048x2048, .bf16⟩
  | .hbm, ⟨5, _⟩ => ⟨S1x16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== MqRefIdeal.lean ====
abbrev S16384x2048 : Shape := ⟨2, ![16384, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1x16384x2048 : Shape := ⟨3, ![1, 16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S16384x2048, .f32⟩
  | .hbm, ⟨5, _⟩ => ⟨S1x16384x2048, .f32⟩
  | .hbm, ⟨6, _⟩ => ⟨S1x16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mo.lean ====
abbrev S16384x2048 : Shape := ⟨2, ![16384, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2x2048x2048, .f32⟩
  | .hbm, ⟨2, _⟩ => ⟨S16384x2048, .f32⟩
  | .hbm, ⟨3, _⟩ => ⟨S2x2048, .f32⟩
  | .hbm, ⟨4, _⟩ => ⟨S2x2048, .f32⟩
  | .hbm, ⟨5, _⟩ => ⟨S16384x2048, .bf16⟩
  | .hbm, ⟨6, _⟩ => ⟨S2x2048x2048, .bf16⟩
  | .hbm, ⟨7, _⟩ => ⟨S1x2048x2048, .bf16⟩
  | .hbm, ⟨8, _⟩ => ⟨S2048x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S16384x2048, .f32⟩
  | .hbm, ⟨16, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoRefIdeal.lean ====
abbrev S16384x2048 : Shape := ⟨2, ![16384, 2048]⟩
abbrev S2x2048x2048 : Shape := ⟨3, ![2, 2048, 2048]⟩
abbrev S2x2048 : Shape := ⟨2, ![2, 2048]⟩
abbrev S_ : Shape := ⟨0, ![]⟩
abbrev S1x2048x2048 : Shape := ⟨3, ![1, 2048, 2048]⟩
abbrev S2048x2048 : Shape := ⟨2, ![2048, 2048]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x2048, .f32⟩
  | .hbm, ⟨2, _⟩ => ⟨S16384x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Qr.lean ====
abbrev S16384x2048 : Shape := ⟨2, ![16384, 2048]⟩
abbrev S1x2048x5136 : Shape := ⟨3, ![1, 2048, 5136]⟩
abbrev S1x2048x3072 : Shape := ⟨3, ![1, 2048, 3072]⟩
abbrev S1x16384x3072 : Shape := ⟨3, ![1, 16384, 3072]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048x5136, .f32⟩
  | .hbm, ⟨2, _⟩ => ⟨S16384x2048, .bf16⟩
  | .hbm, ⟨3, _⟩ => ⟨S1x2048x3072, .f32⟩
  | .hbm, ⟨4, _⟩ => ⟨S1x2048x3072, .bf16⟩
  | .hbm, ⟨5, _⟩ => ⟨S1x16384x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== QrRefIdeal.lean ====
abbrev S16384x2048 : Shape := ⟨2, ![16384, 2048]⟩
abbrev S1x2048x5136 : Shape := ⟨3, ![1, 2048, 5136]⟩
abbrev S2048x5136 : Shape := ⟨2, ![2048, 5136]⟩
abbrev S16384x5136 : Shape := ⟨2, ![16384, 5136]⟩
abbrev S16384x3072 : Shape := ⟨2, ![16384, 3072]⟩
abbrev S1x16384x3072 : Shape := ⟨3, ![1, 16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x5136, .f32⟩
  | .hbm, ⟨2, _⟩ => ⟨S2048x5136, .f32⟩
  | .hbm, ⟨3, _⟩ => ⟨S16384x5136, .f32⟩
  | .hbm, ⟨4, _⟩ => ⟨S16384x3072, .f32⟩
  | .hbm, ⟨5, _⟩ => ⟨S1x16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gl.lean ====
abbrev S16384x2048 : Shape := ⟨2, ![16384, 2048]⟩
abbrev S1x2048x5136 : Shape := ⟨3, ![1, 2048, 5136]⟩
abbrev S1x2048x2048 : Shape := ⟨3, ![1, 2048, 2048]⟩
abbrev S16384x1024 : Shape := ⟨2, ![16384, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048x5136, .f32⟩
  | .hbm, ⟨2, _⟩ => ⟨S1x2048x2048, .f32⟩
  | .hbm, ⟨3, _⟩ => ⟨S1x2048x2048, .bf16⟩
  | .hbm, ⟨4, _⟩ => ⟨S16384x2048, .bf16⟩
  | .hbm, ⟨5, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1024x512, .f32⟩
  | .local _ .vmem, ⟨7, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GlRefIdeal.lean ====
abbrev S16384x2048 : Shape := ⟨2, ![16384, 2048]⟩
abbrev S1x2048x5136 : Shape := ⟨3, ![1, 2048, 5136]⟩
abbrev S2048x5136 : Shape := ⟨2, ![2048, 5136]⟩
abbrev S16384x5136 : Shape := ⟨2, ![16384, 5136]⟩
abbrev S16384x1024 : Shape := ⟨2, ![16384, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x5136, .f32⟩
  | .hbm, ⟨2, _⟩ => ⟨S2048x5136, .f32⟩
  | .hbm, ⟨3, _⟩ => ⟨S16384x5136, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Gcp.lean ====
abbrev S16384x12288 : Shape := ⟨2, ![16384, 12288]⟩
abbrev S4x3x8192 : Shape := ⟨3, ![4, 3, 8192]⟩
abbrev S1x4x8192 : Shape := ⟨3, ![1, 4, 8192]⟩
abbrev S4x8192 : Shape := ⟨2, ![4, 8192]⟩
abbrev S16384x8192 : Shape := ⟨2, ![16384, 8192]⟩
abbrev S256x1024 : Shape := ⟨2, ![256, 1024]⟩
abbrev S1x3x1024 : Shape := ⟨3, ![1, 3, 1024]⟩
abbrev S4x1024 : Shape := ⟨2, ![4, 1024]⟩
abbrev S264x1024 : Shape := ⟨2, ![264, 1024]⟩
abbrev S5x1024 : Shape := ⟨2, ![5, 1024]⟩
abbrev S3x1024 : Shape := ⟨2, ![3, 1024]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩
abbrev S8x1024 : Shape := ⟨2, ![8, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x12288, .f32⟩
  | .hbm, ⟨1, _⟩ => ⟨S4x3x8192, .f32⟩
  | .hbm, ⟨2, _⟩ => ⟨S1x4x8192, .f32⟩
  | .hbm, ⟨3, _⟩ => ⟨S4x8192, .f32⟩
  | .hbm, ⟨4, _⟩ => ⟨S16384x8192, .f32⟩
  | .hbm, ⟨5, _⟩ => ⟨S4x3x8192, .f32⟩
  | .local _ .vmem, ⟨0, _⟩ => ⟨S256x1024, .f32⟩
  | .local _ .vmem, ⟨1, _⟩ => ⟨S256x1024, .f32⟩
  | .local _ .vmem, ⟨2, _⟩ => ⟨S1x3x1024, .f32⟩
  | .local _ .vmem, ⟨3, _⟩ => ⟨S1x3x1024, .f32⟩
  | .local _ .vmem, ⟨4, _⟩ => ⟨S4x1024, .f32⟩
  | .local _ .vmem, ⟨5, _⟩ => ⟨S4x1024, .f32⟩
  | .local _ .vmem, ⟨6, _⟩ => ⟨S256x1024, .f32⟩
  | .local _ .vmem, ⟨7, _⟩ => ⟨S256x1024, .f32⟩
  | .local _ .vmem, ⟨8, _⟩ => ⟨S1x3x1024, .f32⟩
  | .local _ .vmem, ⟨9, _⟩ => ⟨S1x3x1024, .f32⟩
  | .local _ .vmem, ⟨10, _⟩ => ⟨S264x1024, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v147 : BitVec 1 := Scalar.cmpi .eq arg2 c15_i32
  let v148 : BitVec 32 := Scalar.extui v147
  let c0_i32_43 : BitVec 32 := 0#32
  let v149 : BitVec 1 := Scalar.cmpi .ne v148 c0_i32_43
  v149

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GcpRefIdeal.lean ====
abbrev S16384x12288 : Shape := ⟨2, ![16384, 12288]⟩
abbrev S4x3x8192 : Shape := ⟨3, ![4, 3, 8192]⟩
abbrev S1x4x8192 : Shape := ⟨3, ![1, 4, 8192]⟩
abbrev S4x4096x12288 : Shape := ⟨3, ![4, 4096, 12288]⟩
abbrev S4x4096x8192 : Shape := ⟨3, ![4, 4096, 8192]⟩
abbrev S4x8192 : Shape := ⟨2, ![4, 8192]⟩
abbrev S4x4099x8192 : Shape := ⟨3, ![4, 4099, 8192]⟩
abbrev S1x8192 : Shape := ⟨2, ![1, 8192]⟩
abbrev S8192 : Shape := ⟨1, ![8192]⟩
abbrev S1x1x8192 : Shape := ⟨3, ![1, 1, 8192]⟩
abbrev S_ : Shape := ⟨0, ![]⟩
abbrev S4x4096x2048 : Shape := ⟨3, ![4, 4096, 2048]⟩
abbrev S4x4096x4096 : Shape := ⟨3, ![4, 4096, 4096]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩
abbrev S16384x2048 : Shape := ⟨2, ![16384, 2048]⟩
abbrev S16384x4096 : Shape := ⟨2, ![16384, 4096]⟩
abbrev S16384x8192 : Shape := ⟨2, ![16384, 8192]⟩

abbrev nBuf : Space → Nat
  | .hbm => 76
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x3x8192, .f32⟩
  | .hbm, ⟨2, _⟩ => ⟨S1x4x8192, .f32⟩
  | .hbm, ⟨3, _⟩ => ⟨S4x4096x12288, .f32⟩
  | .hbm, ⟨4, _⟩ => ⟨S4x4096x8192, .f32⟩
  | .hbm, ⟨5, _⟩ => ⟨S4x8192, .f32⟩
  | .hbm, ⟨6, _⟩ => ⟨S4x4099x8192, .f32⟩
  | .hbm, ⟨7, _⟩ => ⟨S1x8192, .f32⟩
  | .hbm, ⟨8, _⟩ => ⟨S8192, .f32⟩
  | .hbm, ⟨9, _⟩ => ⟨S4x4096x8192, .f32⟩
  | .hbm, ⟨10, _⟩ => ⟨S1x1x8192, .f32⟩
  | .hbm, ⟨11, _⟩ => ⟨S4x4096x8192, .f32⟩
  | .hbm, ⟨12, _⟩ => ⟨S4x4096x8192, .f32⟩
  | .hbm, ⟨13, _⟩ => ⟨S1x8192, .f32⟩
  | .hbm, ⟨14, _⟩ => ⟨S8192, .f32⟩
  | .hbm, ⟨15, _⟩ => ⟨S4x4096x8192, .f32⟩
  | .hbm, ⟨16, _⟩ => ⟨S1x1x8192, .f32⟩
  | .hbm, ⟨17, _⟩ => ⟨S4x4096x8192, .f32⟩
  | .hbm, ⟨18, _⟩ => ⟨S4x4096x8192, .f32⟩
  | .hbm, ⟨19, _⟩ => ⟨S4x4096x8192, .f32⟩
  | .hbm, ⟨20, _⟩ => ⟨S1x8192, .f32⟩
  | .hbm, ⟨21, _⟩ => ⟨S8192, .f32⟩
  | .hbm, ⟨22, _⟩ => ⟨S4x4096x8192, .f32⟩
  | .hbm, ⟨23, _⟩ => ⟨S1x1x8192, .f32⟩
  | .hbm, ⟨24, _⟩ => ⟨S4x4096x8192, .f32⟩
  | .hbm, ⟨25, _⟩ => ⟨S4x4096x8192, .f32⟩
  | .hbm, ⟨26, _⟩ => ⟨S4x4096x8192, .f32⟩
  | .hbm, ⟨27, _⟩ => ⟨S1x8192, .f32⟩
  | .hbm, ⟨28, _⟩ => ⟨S8192, .f32⟩
  | .hbm, ⟨29, _⟩ => ⟨S4x4096x8192, .f32⟩
  | .hbm, ⟨30, _⟩ => ⟨S1x1x8192, .f32⟩
  | .hbm, ⟨31, _⟩ => ⟨S4x4096x8192, .f32⟩
  | .hbm, ⟨32, _⟩ => ⟨S4x4096x8192, .f32⟩
  | .hbm, ⟨33, _⟩ => ⟨S4x4096x8192, .f32⟩
  | .hbm, ⟨34, _⟩ => ⟨S4x3x8192, .f32⟩
  | .hbm, ⟨35, _⟩ => ⟨S4x4096x8192, .f32⟩
  | .hbm, ⟨36, _⟩ => ⟨S4x4096x8192, .f32⟩
  | .hbm, ⟨37, _⟩ => ⟨S_, .f32⟩
  | .hbm, ⟨38, _⟩ => ⟨S4x4096x8192, .f32⟩
  | .hbm, ⟨39, _⟩ => ⟨S4x4096x8192, .f32⟩
  | .hbm, ⟨40, _⟩ => ⟨S_, .f32⟩
  | .hbm, ⟨41, _⟩ => ⟨S4x4096x8192, .f32⟩
  | .hbm, ⟨42, _⟩ => ⟨S4x4096x8192, .f32⟩
  | .hbm, ⟨43, _⟩ => ⟨S4x4096x8192, .f32⟩
  | .hbm, ⟨44, _⟩ => ⟨S4x4096x2048, .f32⟩
  | .hbm, ⟨45, _⟩ => ⟨S4x4096x2048, .f32⟩
  | .hbm, ⟨46, _⟩ => ⟨S4x4096x4096, .f32⟩
  | .hbm, ⟨47, _⟩ => ⟨S4x4096x16x128, .f32⟩
  | .hbm, ⟨48, _⟩ => ⟨S4x4096x16x128, .f32⟩
  | .hbm, ⟨49, _⟩ => ⟨S_, .f32⟩
  | .hbm, ⟨50, _⟩ => ⟨S4x4096x16, .f32⟩
  | .hbm, ⟨51, _⟩ => ⟨S4x4096x16x1, .f32⟩
  | .hbm, ⟨52, _⟩ => ⟨S_, .f32⟩
  | .hbm, ⟨53, _⟩ => ⟨S4x4096x16x1, .f32⟩
  | .hbm, ⟨54, _⟩ => ⟨S4x4096x16x1, .f32⟩
  | .hbm, ⟨55, _⟩ => ⟨S4x4096x16x1, .f32⟩
  | .hbm, ⟨56, _⟩ => ⟨S4x4096x16x128, .f32⟩
  | .hbm, ⟨57, _⟩ => ⟨S4x4096x16x128, .f32⟩
  | .hbm, ⟨58, _⟩ => ⟨S_, .f32⟩
  | .hbm, ⟨59, _⟩ => ⟨S4x4096x16x128, .f32⟩
  | .hbm, ⟨60, _⟩ => ⟨S4x4096x16x128, .f32⟩
  | .hbm, ⟨61, _⟩ => ⟨S4x4096x16x128, .f32⟩
  | .hbm, ⟨62, _⟩ => ⟨S4x4096x16x128, .f32⟩
  | .hbm, ⟨63, _⟩ => ⟨S_, .f32⟩
  | .hbm, ⟨64, _⟩ => ⟨S4x4096x16, .f32⟩
  | .hbm, ⟨65, _⟩ => ⟨S4x4096x16x1, .f32⟩
  | .hbm, ⟨66, _⟩ => ⟨S_, .f32⟩
  | .hbm, ⟨67, _⟩ => ⟨S4x4096x16x1, .f32⟩
  | .hbm, ⟨68, _⟩ => ⟨S4x4096x16x1, .f32⟩
  | .hbm, ⟨69, _⟩ => ⟨S4x4096x16x1, .f32⟩
  | .hbm, ⟨70, _⟩ => ⟨S4x4096x16x128, .f32⟩
  | .hbm, ⟨71, _⟩ => ⟨S4x4096x16x128, .f32⟩
  | .hbm, ⟨72, _⟩ => ⟨S16384x2048, .f32⟩
  | .hbm, ⟨73, _⟩ => ⟨S16384x2048, .f32⟩
  | .hbm, ⟨74, _⟩ => ⟨S16384x4096, .f32⟩
  | .hbm, ⟨75, _⟩ => ⟨S16384x8192, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_2 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Ccp.lean ====
abbrev S16384x1024 : Shape := ⟨2, ![16384, 1024]⟩
abbrev S4x30x1024 : Shape := ⟨3, ![4, 30, 1024]⟩
abbrev S1x31x1024 : Shape := ⟨3, ![1, 31, 1024]⟩
abbrev S1x1024 : Shape := ⟨2, ![1, 1024]⟩
abbrev S31x1024 : Shape := ⟨2, ![31, 1024]⟩
abbrev S1024 : Shape := ⟨1, ![1024]⟩
abbrev S128x1024 : Shape := ⟨2, ![128, 1024]⟩
abbrev S1x30x1024 : Shape := ⟨3, ![1, 30, 1024]⟩
abbrev S160x1024 : Shape := ⟨2, ![160, 1024]⟩
abbrev S2x1024 : Shape := ⟨2, ![2, 1024]⟩
abbrev S30x1024 : Shape := ⟨2, ![30, 1024]⟩
abbrev S128x256 : Shape := ⟨2, ![128, 256]⟩
abbrev S1x256 : Shape := ⟨2, ![1, 256]⟩
abbrev S128 : Shape := ⟨1, ![128]⟩
abbrev S128x1 : Shape := ⟨2, ![128, 1]⟩
abbrev S32x1024 : Shape := ⟨2, ![32, 1024]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S4x30x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S4x30x1024, .f32⟩
  | .local _ .vmem, ⟨0, _⟩ => ⟨S128x1024, .f32⟩
  | .local _ .vmem, ⟨1, _⟩ => ⟨S128x1024, .f32⟩
  | .local _ .vmem, ⟨2, _⟩ => ⟨S1x30x1024, .f32⟩
  | .local _ .vmem, ⟨3, _⟩ => ⟨S1x30x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | .local _ .vmem, ⟨9, _⟩ => ⟨S128x1024, .f32⟩
  | .local _ .vmem, ⟨10, _⟩ => ⟨S1x30x1024, .f32⟩
  | .local _ .vmem, ⟨11, _⟩ => ⟨S1x30x1024, .f32⟩
  | .local _ .vmem, ⟨12, _⟩ => ⟨S160x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v810 : BitVec 1 := Scalar.cmpi .eq arg1 c31_i32
  let v811 : BitVec 32 := Scalar.extui v810
  let c0_i32_500 : BitVec 32 := 0#32
  let v812 : BitVec 1 := Scalar.cmpi .ne v811 c0_i32_500
  v812

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== CcpRefIdeal.lean ====
abbrev S16384x1024 : Shape := ⟨2, ![16384, 1024]⟩
abbrev S4x30x1024 : Shape := ⟨3, ![4, 30, 1024]⟩
abbrev S1x31x1024 : Shape := ⟨3, ![1, 31, 1024]⟩
abbrev S1x1024 : Shape := ⟨2, ![1, 1024]⟩
abbrev S4x4096x1024 : Shape := ⟨3, ![4, 4096, 1024]⟩
abbrev S31x1024 : Shape := ⟨2, ![31, 1024]⟩
abbrev S4x4126x1024 : Shape := ⟨3, ![4, 4126, 1024]⟩
abbrev S1024 : Shape := ⟨1, ![1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 269
  | .vmem => 0
  | .smem => 0
  | _ => 0

abbrev hbmTy0_0 (i : Nat) : BufTy := match i % 128 with
  | 0 => ⟨S16384x1024, .f32⟩
  | 1 => ⟨S4x30x1024, .f32⟩
  | 2 => ⟨S1x31x1024, .f32⟩
  | 3 => ⟨S1x1024, .f32⟩
  | 4 => ⟨S1x1024, .f32⟩
  | 5 => ⟨S1x1024, .f32⟩
  | 6 => ⟨S4x4096x1024, .f32⟩
  | 7 => ⟨S31x1024, .f32⟩
  | 8 => ⟨S4x4126x1024, .f32⟩
  | 9 => ⟨S1x1024, .f32⟩
  | 10 => ⟨S1024, .f32⟩
  | 11 => ⟨S4x4096x1024, .f32⟩
  | 12 => ⟨S1x1x1024, .f32⟩
  | 13 => ⟨S4x4096x1024, .f32⟩
  | 14 => ⟨S4x4096x1024, .f32⟩
  | 15 => ⟨S1x1024, .f32⟩
  | 16 => ⟨S1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x4096x1024, .f32⟩
  | 22 => ⟨S1x1024, .f32⟩
  | 23 => ⟨S1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x4096x1024, .f32⟩
  | 29 => ⟨S1x1024, .f32⟩
  | 30 => ⟨S1024, .f32⟩
  | 31 => ⟨S4x4096x1024, .f32⟩
  | 32 => ⟨S1x1x1024, .f32⟩
  | 33 => ⟨S4x4096x1024, .f32⟩
  | 34 => ⟨S4x4096x1024, .f32⟩
  | 35 => ⟨S4x4096x1024, .f32⟩
  | 36 => ⟨S1x1024, .f32⟩
  | 37 => ⟨S1024, .f32⟩
  | 38 => ⟨S4x4096x1024, .f32⟩
  | 39 => ⟨S1x1x1024, .f32⟩
  | 40 => ⟨S4x4096x1024, .f32⟩
  | 41 => ⟨S4x4096x1024, .f32⟩
  | 42 => ⟨S4x4096x1024, .f32⟩
  | 43 => ⟨S1x1024, .f32⟩
  | 44 => ⟨S1024, .f32⟩
  | 45 => ⟨S4x4096x1024, .f32⟩
  | 46 => ⟨S1x1x1024, .f32⟩
  | 47 => ⟨S4x4096x1024, .f32⟩
  | 48 => ⟨S4x4096x1024, .f32⟩
  | 49 => ⟨S4x4096x1024, .f32⟩
  | 50 => ⟨S1x1024, .f32⟩
  | 51 => ⟨S1024, .f32⟩
  | 52 => ⟨S4x4096x1024, .f32⟩
  | 53 => ⟨S1x1x1024, .f32⟩
  | 54 => ⟨S4x4096x1024, .f32⟩
  | 55 => ⟨S4x4096x1024, .f32⟩
  | 56 => ⟨S4x4096x1024, .f32⟩
  | 57 => ⟨S1x1024, .f32⟩
  | 58 => ⟨S1024, .f32⟩
  | 59 => ⟨S4x4096x1024, .f32⟩
  | 60 => ⟨S1x1x1024, .f32⟩
  | 61 => ⟨S4x4096x1024, .f32⟩
  | 62 => ⟨S4x4096x1024, .f32⟩
  | 63 => ⟨S4x4096x1024, .f32⟩
  | 64 => ⟨S1x1024, .f32⟩
  | 65 => ⟨S1024, .f32⟩
  | 66 => ⟨S4x4096x1024, .f32⟩
  | 67 => ⟨S1x1x1024, .f32⟩
  | 68 => ⟨S4x4096x1024, .f32⟩
  | 69 => ⟨S4x4096x1024, .f32⟩
  | 70 => ⟨S4x4096x1024, .f32⟩
  | 71 => ⟨S1x1024, .f32⟩
  | 72 => ⟨S1024, .f32⟩
  | 73 => ⟨S4x4096x1024, .f32⟩
  | 74 => ⟨S1x1x1024, .f32⟩
  | 75 => ⟨S4x4096x1024, .f32⟩
  | 76 => ⟨S4x4096x1024, .f32⟩
  | 77 => ⟨S4x4096x1024, .f32⟩
  | 78 => ⟨S1x1024, .f32⟩
  | 79 => ⟨S1024, .f32⟩
  | 80 => ⟨S4x4096x1024, .f32⟩
  | 81 => ⟨S1x1x1024, .f32⟩
  | 82 => ⟨S4x4096x1024, .f32⟩
  | 83 => ⟨S4x4096x1024, .f32⟩
  | 84 => ⟨S4x4096x1024, .f32⟩
  | 85 => ⟨S1x1024, .f32⟩
  | 86 => ⟨S1024, .f32⟩
  | 87 => ⟨S4x4096x1024, .f32⟩
  | 88 => ⟨S1x1x1024, .f32⟩
  | 89 => ⟨S4x4096x1024, .f32⟩
  | 90 => ⟨S4x4096x1024, .f32⟩
  | 91 => ⟨S4x4096x1024, .f32⟩
  | 92 => ⟨S1x1024, .f32⟩
  | 93 => ⟨S1024, .f32⟩
  | 94 => ⟨S4x4096x1024, .f32⟩
  | 95 => ⟨S1x1x1024, .f32⟩
  | 96 => ⟨S4x4096x1024, .f32⟩
  | 97 => ⟨S4x4096x1024, .f32⟩
  | 98 => ⟨S4x4096x1024, .f32⟩
  | 99 => ⟨S1x1024, .f32⟩
  | 100 => ⟨S1024, .f32⟩
  | 101 => ⟨S4x4096x1024, .f32⟩
  | 102 => ⟨S1x1x1024, .f32⟩
  | 103 => ⟨S4x4096x1024, .f32⟩
  | 104 => ⟨S4x4096x1024, .f32⟩
  | 105 => ⟨S4x4096x1024, .f32⟩
  | 106 => ⟨S1x1024, .f32⟩
  | 107 => ⟨S1024, .f32⟩
  | 108 => ⟨S4x4096x1024, .f32⟩
  | 109 => ⟨S1x1x1024, .f32⟩
  | 110 => ⟨S4x4096x1024, .f32⟩
  | 111 => ⟨S4x4096x1024, .f32⟩
  | 112 => ⟨S4x4096x1024, .f32⟩
  | 113 => ⟨S1x1024, .f32⟩
  | 114 => ⟨S1024, .f32⟩
  | 115 => ⟨S4x4096x1024, .f32⟩
  | 116 => ⟨S1x1x1024, .f32⟩
  | 117 => ⟨S4x4096x1024, .f32⟩
  | 118 => ⟨S4x4096x1024, .f32⟩
  | 119 => ⟨S4x4096x1024, .f32⟩
  | 120 => ⟨S1x1024, .f32⟩
  | 121 => ⟨S1024, .f32⟩
  | 122 => ⟨S4x4096x1024, .f32⟩
  | 123 => ⟨S1x1x1024, .f32⟩
  | 124 => ⟨S4x4096x1024, .f32⟩
  | 125 => ⟨S4x4096x1024, .f32⟩
  | 126 => ⟨S4x4096x1024, .f32⟩
  | 127 => ⟨S1x1024, .f32⟩
  | _ => ⟨S16384x1024, .f32⟩

abbrev hbmTy0_1 (i : Nat) : BufTy := match i % 128 with
  | 0 => ⟨S1024, .f32⟩
  | 1 => ⟨S4x4096x1024, .f32⟩
  | 2 => ⟨S1x1x1024, .f32⟩
  | 3 => ⟨S4x4096x1024, .f32⟩
  | 4 => ⟨S4x4096x1024, .f32⟩
  | 5 => ⟨S4x4096x1024, .f32⟩
  | 6 => ⟨S1x1024, .f32⟩
  | 7 => ⟨S1024, .f32⟩
  | 8 => ⟨S4x4096x1024, .f32⟩
  | 9 => ⟨S1x1x1024, .f32⟩
  | 10 => ⟨S4x4096x1024, .f32⟩
  | 11 => ⟨S4x4096x1024, .f32⟩
  | 12 => ⟨S4x4096x1024, .f32⟩
  | 13 => ⟨S1x1024, .f32⟩
  | 14 => ⟨S1024, .f32⟩
  | 15 => ⟨S4x4096x1024, .f32⟩
  | 16 => ⟨S1x1x1024, .f32⟩
  | 17 => ⟨S4x4096x1024, .f32⟩
  | 18 => ⟨S4x4096x1024, .f32⟩
  | 19 => ⟨S4x4096x1024, .f32⟩
  | 20 => ⟨S1x1024, .f32⟩
  | 21 => ⟨S1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x4096x1024, .f32⟩
  | 27 => ⟨S1x1024, .f32⟩
  | 28 => ⟨S1024, .f32⟩
  | 29 => ⟨S4x4096x1024, .f32⟩
  | 30 => ⟨S1x1x1024, .f32⟩
  | 31 => ⟨S4x4096x1024, .f32⟩
  | 32 => ⟨S4x4096x1024, .f32⟩
  | 33 => ⟨S4x4096x1024, .f32⟩
  | 34 => ⟨S1x1024, .f32⟩
  | 35 => ⟨S1024, .f32⟩
  | 36 => ⟨S4x4096x1024, .f32⟩
  | 37 => ⟨S1x1x1024, .f32⟩
  | 38 => ⟨S4x4096x1024, .f32⟩
  | 39 => ⟨S4x4096x1024, .f32⟩
  | 40 => ⟨S4x4096x1024, .f32⟩
  | 41 => ⟨S1x1024, .f32⟩
  | 42 => ⟨S1024, .f32⟩
  | 43 => ⟨S4x4096x1024, .f32⟩
  | 44 => ⟨S1x1x1024, .f32⟩
  | 45 => ⟨S4x4096x1024, .f32⟩
  | 46 => ⟨S4x4096x1024, .f32⟩
  | 47 => ⟨S4x4096x1024, .f32⟩
  | 48 => ⟨S1x1024, .f32⟩
  | 49 => ⟨S1024, .f32⟩
  | 50 => ⟨S4x4096x1024, .f32⟩
  | 51 => ⟨S1x1x1024, .f32⟩
  | 52 => ⟨S4x4096x1024, .f32⟩
  | 53 => ⟨S4x4096x1024, .f32⟩
  | 54 => ⟨S4x4096x1024, .f32⟩
  | 55 => ⟨S1x1024, .f32⟩
  | 56 => ⟨S1024, .f32⟩
  | 57 => ⟨S4x4096x1024, .f32⟩
  | 58 => ⟨S1x1x1024, .f32⟩
  | 59 => ⟨S4x4096x1024, .f32⟩
  | 60 => ⟨S4x4096x1024, .f32⟩
  | 61 => ⟨S4x4096x1024, .f32⟩
  | 62 => ⟨S1x1024, .f32⟩
  | 63 => ⟨S1024, .f32⟩
  | 64 => ⟨S4x4096x1024, .f32⟩
  | 65 => ⟨S1x1x1024, .f32⟩
  | 66 => ⟨S4x4096x1024, .f32⟩
  | 67 => ⟨S4x4096x1024, .f32⟩
  | 68 => ⟨S4x4096x1024, .f32⟩
  | 69 => ⟨S1x1024, .f32⟩
  | 70 => ⟨S1024, .f32⟩
  | 71 => ⟨S4x4096x1024, .f32⟩
  | 72 => ⟨S1x1x1024, .f32⟩
  | 73 => ⟨S4x4096x1024, .f32⟩
  | 74 => ⟨S4x4096x1024, .f32⟩
  | 75 => ⟨S4x4096x1024, .f32⟩
  | 76 => ⟨S1x1024, .f32⟩
  | 77 => ⟨S1024, .f32⟩
  | 78 => ⟨S4x4096x1024, .f32⟩
  | 79 => ⟨S1x1x1024, .f32⟩
  | 80 => ⟨S4x4096x1024, .f32⟩
  | 81 => ⟨S4x4096x1024, .f32⟩
  | 82 => ⟨S4x4096x1024, .f32⟩
  | 83 => ⟨S1x1024, .f32⟩
  | 84 => ⟨S1024, .f32⟩
  | 85 => ⟨S4x4096x1024, .f32⟩
  | 86 => ⟨S1x1x1024, .f32⟩
  | 87 => ⟨S4x4096x1024, .f32⟩
  | 88 => ⟨S4x4096x1024, .f32⟩
  | 89 => ⟨S4x4096x1024, .f32⟩
  | 90 => ⟨S1x1024, .f32⟩
  | 91 => ⟨S1024, .f32⟩
  | 92 => ⟨S4x4096x1024, .f32⟩
  | 93 => ⟨S1x1x1024, .f32⟩
  | 94 => ⟨S4x4096x1024, .f32⟩
  | 95 => ⟨S4x4096x1024, .f32⟩
  | 96 => ⟨S4x4096x1024, .f32⟩
  | 97 => ⟨S4x30x1024, .f32⟩
  | 98 => ⟨S1024, .f32⟩
  | 99 => ⟨S1x1x1024, .f32⟩
  | 100 => ⟨S4x4096x1024, .f32⟩
  | 101 => ⟨S4x4096x1024, .f32⟩
  | 102 => ⟨S_, .f32⟩
  | 103 => ⟨S4x4096, .f32⟩
  | 104 => ⟨S4x4096x1, .f32⟩
  | 105 => ⟨S_, .f32⟩
  | 106 => ⟨S4x4096x1, .f32⟩
  | 107 => ⟨S4x4096x1, .f32⟩
  | 108 => ⟨S4x4096x1024, .f32⟩
  | 109 => ⟨S4x4096x1024, .f32⟩
  | 110 => ⟨S4x4096x1024, .f32⟩
  | 111 => ⟨S_, .f32⟩
  | 112 => ⟨S4x4096, .f32⟩
  | 113 => ⟨S4x4096x1, .f32⟩
  | 114 => ⟨S_, .f32⟩
  | 115 => ⟨S4x4096x1, .f32⟩
  | 116 => ⟨S4x4096x1, .f32⟩
  | 117 => ⟨S_, .f32⟩
  | 118 => ⟨S4x4096x1, .f32⟩
  | 119 => ⟨S4x4096x1, .f32⟩
  | 120 => ⟨S4x4096x1, .f32⟩
  | 121 => ⟨S4x4096x1024, .f32⟩
  | 122 => ⟨S4x4096x1024, .f32⟩
  | 123 => ⟨S1024, .f32⟩
  | 124 => ⟨S1x1x1024, .f32⟩
  | 125 => ⟨S4x4096x1024, .f32⟩
  | 126 => ⟨S4x4096x1024, .f32⟩
  | 127 => ⟨S1024, .f32⟩
  | _ => ⟨S16384x1024, .f32⟩

abbrev hbmTy0_2 (i : Nat) : BufTy := match i % 128 with
  | 0 => ⟨S1x1x1024, .f32⟩
  | 1 => ⟨S4x4096x1024, .f32⟩
  | 2 => ⟨S4x4096x1024, .f32⟩
  | 3 => ⟨S4x4096x1024, .f32⟩
  | 4 => ⟨S4x4096x1024, .f32⟩
  | 5 => ⟨S_, .f32⟩
  | 6 => ⟨S4x4096x1024, .f32⟩
  | 7 => ⟨S4x4096x1024, .f32⟩
  | 8 => ⟨S_, .f32⟩
  | 9 => ⟨S4x4096x1024, .f32⟩
  | 10 => ⟨S4x4096x1024, .f32⟩
  | 11 => ⟨S4x4096x1024, .f32⟩
  | 12 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_cst : Ref sig .tc := ⟨.hbm, 230, rfl⟩
abbrev main_v224 : Ref sig .tc := ⟨.hbm, 231, rfl⟩
abbrev main_v225 : Ref sig .tc := ⟨.hbm, 232, rfl⟩
abbrev main_cst_0 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_1 : Ref sig .tc := ⟨.hbm, 239, rfl⟩
abbrev main_v231 : Ref sig .tc := ⟨.hbm, 240, rfl⟩
abbrev main_v232 : Ref sig .tc := ⟨.hbm, 241, rfl⟩
abbrev main_cst_2 : Ref sig .tc := ⟨.hbm, 242, rfl⟩
abbrev main_v233 : Ref sig .tc := ⟨.hbm, 243, rfl⟩
abbrev main_v234 : Ref sig .tc := ⟨.hbm, 244, rfl⟩
abbrev main_cst_3 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_call0_v0 : Ref sig .tc := ⟨.hbm, 259, rfl⟩
abbrev main_call0_v1 : Ref sig .tc := ⟨.hbm, 260, rfl⟩
abbrev main_call0_cst : Ref sig .tc := ⟨.hbm, 261, rfl⟩
abbrev main_call0_v2 : Ref sig .tc := ⟨.hbm, 262, rfl⟩
abbrev main_call0_v3 : Ref sig .tc := ⟨.hbm, 263, rfl⟩
abbrev main_call0_cst_0 : Ref sig .tc := ⟨.hbm, 264, rfl⟩
abbrev main_call0_v4 : Ref sig .tc := ⟨.hbm, 265, rfl⟩
abbrev main_call0_v5 : Ref sig .tc := ⟨.hbm, 266, rfl⟩
abbrev main_v248 : Ref sig .tc := ⟨.hbm, 267, rfl⟩
abbrev main_v249 : Ref sig .tc := ⟨.hbm, 268, rfl⟩

abbrev nD : Nat := 1
abbrev τ : Topo := Topo.v7x

variable {F : FTy → Type} [FloatOps F]
-- ==== Proof.GlaMath.lean ====
module

public import Idealize.ShloMosaic.PureOps.Ideal
set_option maxRecDepth 16384
@[expose] public section

noncomputable section
open Idealize.ShloMosaic

/-! # One chunk of the gated linear attention over the extended reals -/

namespace Gla

/-- The scale of the queries. -/
abbrev scale : EReal := Ideal.ofBits FTy.f32 0x3DB504F3#32
/-- The exponent of a masked entry. -/
abbrev masked : EReal := Ideal.ofBits FTy.f32 4286578688#32

/-- The running sum of the log decays, row `r` included. -/
def bcum (la : Fin 16 → Fin 128 → EReal) (r : Fin 16) (c : Fin 128) : EReal := ∑ s : Fin 16, if s ≤ r then la s c else 0

/-- The weight of row `s` in row `r`. -/
def att (q k la : Fin 16 → Fin 128 → EReal) (r s : Fin 16) : EReal :=
  ∑ c, q r c * scale * k s c * Ideal.exp (if s ≤ r then bcum la r c - bcum la s c else masked)

/-- A row of the attention before its norm: the chunk's own rows, then the state. -/
def core (q k la : Fin 16 → Fin 128 → EReal) (v : Fin 16 → Fin 256 → EReal) (s0 : Fin 128 → Fin 256 → EReal) (r : Fin 16) (e : Fin 256) : EReal :=
  (∑ s, att q k la r s * v s e) + ∑ c, q r c * scale * Ideal.exp (bcum la r c) * s0 c e

/-- The mean of a row's squares, plus the norm's small constant. -/
def meanSq (o : Fin 256 → EReal) : EReal :=
  Ideal.div (∑ x, o x * o x) (Ideal.ofBits FTy.f32 1132462080#32) + Ideal.ofBits FTy.f32 925353388#32

/-- A row after its norm, its weight and its gate. -/
def out (q k la : Fin 16 → Fin 128 → EReal) (v g : Fin 16 → Fin 256 → EReal) (s0 : Fin 128 → Fin 256 → EReal) (ng : Fin 256 → EReal)
    (r : Fin 16) (e : Fin 256) : EReal :=
  core q k la v s0 r e * Ideal.rsqrt (meanSq (core q k la v s0 r)) * ng e * (g r e * Ideal.div 1 (1 + Ideal.exp (-g r e)))

/-- The state after the chunk. -/
def state (k la : Fin 16 → Fin 128 → EReal) (v : Fin 16 → Fin 256 → EReal) (s0 : Fin 128 → Fin 256 → EReal) (c : Fin 128) (e : Fin 256) : EReal :=
  s0 c e * Ideal.exp (bcum la 15 c) + ∑ x, k x c * Ideal.exp (bcum la 15 c - bcum la x c) * v x e

end Gla
-- ==== Proof.GlaKernel.lean ====
module

public import proofs.«01_k».proof.Proof.Gen.GlaIdeal.Value
public import proofs.«01_k».proof.Proof.GlaMath
public import Idealize.ShloMosaic.Lib.Pipeline.ValueKit
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # What the gated linear attention's kernel stores -/

namespace Cert.GlaIdeal.Hand
open Cert.GlaIdeal Cert.GlaIdeal.Gen

/-- The mask of the running sum: row `x` counts in row `r` exactly when it is not after it. -/
theorem tri_cond : ∀ r x : Fin 16, (IntOp.andi
          (IntOp.cmpi CmpIPredicate.eq (IntOp.andi (BitVec.ofNat 32 ↑r) 4294967280#32)
            (IntOp.andi (BitVec.ofNat 32 ↑x) 4294967280#32))
          (IntOp.cmpi CmpIPredicate.sle (BitVec.ofNat 32 ↑x) (BitVec.ofNat 32 ↑r))) = if x ≤ r then 1#1 else 0#1 := by decide

/-- The product with the triangle of ones is the running sum. -/
theorem pay5_at (la : FVec Ideal S16x128 .f32) (r : Fin 16) (c : Fin 128) :
    k0_pay5 (F := Ideal) la (ix2 r c) = Gla.bcum (fun s c => la (ix2 s c)) r c := by
  pointwise [k0_pay5]
  refine Finset.sum_congr rfl fun x _ => ?_
  rw [tri_cond]
  by_cases h : x ≤ r
  · rw [if_pos h, if_pos h]; rfl
  · rw [if_neg h, if_neg h]; rfl

/-- The column of weights of row `s`, as the kernel computes it. -/
def col (B K Q : FVec Ideal S16x128 .f32) (r s : Fin 16) : EReal :=
  ∑ x : Fin 128, Q (ix2 r x) * K (ix2 s x) * Ideal.exp (if s ≤ r then B (ix2 r x) - B (ix2 s x) else Gla.masked)

/-- A masked column is the column. -/
theorem col_eq (B K Q : FVec Ideal S16x128 .f32) (r s : Fin 16) (n : BitVec 32) (hn : n = BitVec.ofNat 32 s) :
    (∑ x : Fin 128, Q (ix2 r x) * K (ix2 s x) * Ideal.exp (Scalar.select (IntOp.cmpi CmpIPredicate.sge (BitVec.ofNat 32 ↑r) n) (B (ix2 r x) - B (ix2 s x))
                  (Ideal.ofBits FTy.f32 4286578688#32))) = col B K Q r s := by
  have e : IntOp.cmpi CmpIPredicate.sge (BitVec.ofNat 32 ↑r) n = if s ≤ r then 1#1 else 0#1 := by
    rw [hn]; exact (by decide : ∀ r s : Fin 16, IntOp.cmpi CmpIPredicate.sge (BitVec.ofNat 32 ↑r) (BitVec.ofNat 32 ↑s) = if s ≤ r then 1#1 else 0#1) r s
  refine Finset.sum_congr rfl fun x _ => ?_
  rw [e]
  by_cases h : s ≤ r
  · rw [if_pos h, if_pos h]; rfl
  · rw [if_neg h, if_neg h]; rfl

/-- The weights of columns 0 to 14 as the body leaves them. -/
abbrev weights (B K Q : FVec Ideal S16x128 .f32) : FVec Ideal S16x128 .f32 :=
  let i0 : IVec S16x128 32 := iota Kind.tc S16x128 32 [0] iota_S16x128_d0_w32
  let i1 : IVec S16x128 32 := iota Kind.tc S16x128 32 [1] iota_S16x128_d1_w32
  k0_pay21 (F := Ideal) i0 i1 B Q K
    (k0_pay18 (F := Ideal) i0 i1 B Q K
      (k0_pay16 (F := Ideal) i0 i1 B Q K
        (k0_pay15 (F := Ideal) i0 i1 B Q K
          (k0_pay13 (F := Ideal) i0 i1 B Q K (k0_pay11 (F := Ideal) i0 i1 B Q K (k0_pay8 (F := Ideal)) k0_pay9 (k0_pay10 (F := Ideal) B))
            (k0_pay12 (F := Ideal) i0 B Q K) 2#32)
          (k0_pay14 (F := Ideal) i0 B)))
      (k0_pay17 (F := Ideal) i0 B Q K))
    (k0_pay19 i0) (k0_pay20 (F := Ideal) B)

/-- The body's column `s` (with the last column put in its place) is the column of weights of row `s`. -/
theorem weights_at (B K Q : FVec Ideal S16x128 .f32) (r s : Fin 16) (hs : (s : ℕ) < 128) :
    Scalar.select (IntOp.cmpi CmpIPredicate.eq (BitVec.ofNat 32 ↑s) 15#32) (k0_pay22 (F := Ideal) (iota Kind.tc S16x128 32 [0] iota_S16x128_d0_w32) B Q K (ix2 r 0))
      (weights B K Q (ix2 r ⟨s, hs⟩)) = col B K Q r s := by
  pointwise [weights, k0_pay8, k0_pay9, k0_pay10, k0_pay11, k0_pay12, k0_pay13, k0_pay14, k0_pay15, k0_pay16, k0_pay17, k0_pay18, k0_pay19, k0_pay20, k0_pay21, k0_pay22]
  fin_cases s <;> exact col_eq B K Q r _ _ rfl

/-- What the body stores in the state's block. -/
theorem pay3_at (B K : FVec Ideal S16x128 .f32) (V : FVec Ideal S16x256 .f32) (s0 : FVec Ideal S1x1x128x256 .f32) (i j : Fin 1) (c : Fin 128) (e : Fin 256) :
    k0_pay3 (F := Ideal) (k0_pay2 (F := Ideal) (k0_pay24 (F := Ideal) B K V (k0_pay4 (F := Ideal) s0))) (ix4 i j c e)
      = s0 (ix4 0 0 c e) * Ideal.exp (B (ix2 15 c)) + ∑ x : Fin 16, K (ix2 x c) * Ideal.exp (B (ix2 15 c) - B (ix2 x c)) * V (ix2 x e) := by
  pointwise [k0_pay3, k0_pay2, k0_pay24, k0_pay4]
  simp only [mul_comm (V _)]

/-- A row of the body's attention before its norm. -/
def row (B K Q : FVec Ideal S16x128 .f32) (V : FVec Ideal S16x256 .f32) (s0 : FVec Ideal S1x1x128x256 .f32) (r : Fin 16) (e : Fin 256) : EReal :=
  (∑ x : Fin 16, col B K Q r x * V (ix2 x e)) + ∑ x : Fin 128, Q (ix2 r x) * Ideal.exp (B (ix2 r x)) * s0 (ix4 0 0 x e)

/-- What the body stores in the attention's block. -/
theorem pay1_at (ng : FVec Ideal S1x256 .f32) (B K Q : FVec Ideal S16x128 .f32) (V : FVec Ideal S16x256 .f32) (s0 : FVec Ideal S1x1x128x256 .f32)
    (R : FVec Ideal S16x256 .f32) (r : Fin 16) (e : Fin 256) :
    k0_pay1 (F := Ideal) (k0_pay25 (F := Ideal) (iota Kind.tc S16x128 32 [1] iota_S16x128_d1_w32) (k0_pay6 (F := Ideal) ng) B Q (weights B K Q)
        (k0_pay22 (F := Ideal) (iota Kind.tc S16x128 32 [0] iota_S16x128_d0_w32) B Q K) k0_pay23 V (k0_pay4 (F := Ideal) s0)) R (k0_pay26 (F := Ideal) R) (ix2 r e)
      = row B K Q V s0 r e * Ideal.rsqrt (Gla.meanSq (row B K Q V s0 r)) * ng (ix2 0 e) * (R (ix2 r e) * Ideal.div 1 (1 + Ideal.exp (-R (ix2 r e)))) := by
  have hw := fun s : Fin 16 => weights_at B K Q r s (by omega)
  generalize weights B K Q = A at hw ⊢
  generalize k0_pay22 (F := Ideal) (iota Kind.tc S16x128 32 [0] iota_S16x128_d0_w32) B Q K = L at hw ⊢
  pointwise [k0_pay1, k0_pay25, k0_pay6, k0_pay23, k0_pay4, k0_pay26]
  simp only [hw, zero_sub]
  rfl

variable (m : (ℓ : Loc nD τ sig) → Buf (Elt Ideal) ℓ)

/-- The blocks' places in their arrays: batch row `t / 4`, head `t % 4`. -/
theorem idx : ∀ t : Fin cfg0.N, win0_0.index t = ![t.val / 4, t.val % 4] ∧ win0_1.index t = ![t.val / 4, 4 + t.val % 4]
    ∧ win0_2.index t = ![t.val / 4, 4 + t.val % 4] ∧ win0_3.index t = ![t.val / 4, t.val % 4] ∧ win0_4.index t = ![t.val / 4, 8 + t.val % 4]
    ∧ win0_5.index t = ![t.val / 4, t.val % 4, 0, 0] ∧ win0_6.index t = ![0, 0] ∧ win0_7.index t = ![t.val / 4, t.val % 4]
    ∧ win0_8.index t = ![t.val / 4, t.val % 4, 0, 0] ∧ t.val < 128 :=
  (by decide +kernel : ∀ t : Fin grid0.N, _)

/-- A row of the attention at point `t`, over the point's blocks. -/
theorem row_eq (B K Q q : FVec Ideal S16x128 .f32) (la : FVec Ideal S16x128 .f32) (V : FVec Ideal S16x256 .f32) (s0 : FVec Ideal S1x1x128x256 .f32) (r : Fin 16) (e : Fin 256)
    (hB : B = k0_pay5 (F := Ideal) la) (hQ : Q = k0_pay7 (F := Ideal) q) :
    row B K Q V s0 r e = Gla.core (fun r c => q (ix2 r c)) (fun r c => K (ix2 r c)) (fun r c => la (ix2 r c)) (fun r c => V (ix2 r c)) (fun c e => s0 (ix4 0 0 c e)) r e := by
  have hb : ∀ (r : Fin 16) (c : Fin 128), B (ix2 r c) = Gla.bcum (fun s c => la (ix2 s c)) r c := fun r c => by rw [hB]; exact pay5_at la r c
  have hq : ∀ (r : Fin 16) (c : Fin 128), Q (ix2 r c) = q (ix2 r c) * Gla.scale := fun r c => by rw [hQ]; pointwise [k0_pay7]
  unfold row Gla.core Gla.att col
  simp only [hb, hq]

/-- What point `t` stores in the attention's block: the chunk's rows over the point's blocks. -/
theorem point7 (c : Dev nD) (t : Fin cfg0.N) (r : Fin 16) (e : Fin 256) :
    ((dats m 0 c).after 7 t : FVec Ideal S16x256 .bf16) (ix2 r e)
      = Gla.out (fun r c' => (iblk m c 0 t : FVec Ideal S16x128 .f32) (ix2 r c')) (fun r c' => (iblk m c 1 t : FVec Ideal S16x128 .f32) (ix2 r c')) (fun r c' => (iblk m c 3 t : FVec Ideal S16x128 .f32) (ix2 r c'))
          (fun r c' => (iblk m c 2 t : FVec Ideal S16x256 .f32) (ix2 r c')) (fun r c' => (iblk m c 4 t : FVec Ideal S16x256 .f32) (ix2 r c'))
          (fun x e => (iblk m c 5 t : FVec Ideal S1x1x128x256 .f32) (ix4 0 0 x e)) (fun e => (iblk m c 6 t : FVec Ideal S1x256 .f32) (ix2 0 e)) r e := by
  rw [after0_7]
  unfold outsAt0
  frame_open
  simp (disch := decide) only [↓ View.readCov_skip, ↓ View.readCov_cons_toLoadRect, ↓ View.readCov_fill]
  frame_out
  refine (pay1_at _ _ _ _ _ _ _ _ _).trans ?_
  have h := fun e' => row_eq _ (iblk m c 1 t) _ (iblk m c 0 t) (iblk m c 3 t) (iblk m c 2 t) (iblk m c 5 t) r e' rfl rfl
  unfold Gla.out
  rw [funext h]

/-- What point `t` stores in the state's block. -/
theorem point8 (c : Dev nD) (t : Fin cfg0.N) (i j : Fin 1) (d : Fin 128) (e : Fin 256) :
    ((dats m 0 c).after 8 t : FVec Ideal S1x1x128x256 .f32) (ix4 i j d e)
      = Gla.state (fun r c' => (iblk m c 1 t : FVec Ideal S16x128 .f32) (ix2 r c')) (fun r c' => (iblk m c 3 t : FVec Ideal S16x128 .f32) (ix2 r c'))
          (fun r c' => (iblk m c 2 t : FVec Ideal S16x256 .f32) (ix2 r c')) (fun x e => (iblk m c 5 t : FVec Ideal S1x1x128x256 .f32) (ix4 0 0 x e)) d e := by
  rw [after0_8]
  unfold outsAt0
  frame_open
  simp (disch := decide) only [↓ View.readCov_skip, ↓ View.readCov_cons_toLoadRect, ↓ View.readCov_fill]
  frame_out
  refine (pay3_at _ _ _ _ _ _ _ _).trans ?_
  have hb := fun (r : Fin 16) (c' : Fin 128) => pay5_at (iblk m c 3 t) r c'
  unfold Gla.state
  simp only [hb]

end Cert.GlaIdeal.Hand
-- ==== Proof.GlaRefMath.lean ====
module

public import proofs.«01_k».proof.Proof.Gen.GlaRefIdeal.Read
public import proofs.«01_k».proof.Proof.GlaMath
public import Idealize.ShloMosaic.Lib.Pipeline.ValueKit
set_option maxRecDepth 16384
@[expose] public section

noncomputable section
open Idealize.ShloMosaic Idealize.ShloMosaic.TcCoe Idealize.SL.Sem

/-! # What the gated linear attention's reference computes -/

namespace Cert.GlaRefIdeal.Hand
open Cert.GlaRefIdeal Cert.GlaRefIdeal.Gen Cert.GlaRefIdeal.Read

/-- A fold that adds is the sum. -/
theorem foldl_add {n : ℕ} (g : Fin n → EReal) (l : List (Fin n)) (a : EReal) : l.foldl (fun r k => r + g k) a = a + (l.map g).sum := by
  induction l generalizing a with
  | nil => simp
  | cons x l ih => rw [List.foldl_cons, ih, List.map_cons, List.sum_cons, add_assoc]

/-- The window: 16 rows. -/
abbrev W : Shape := ⟨4, ![1, 1, 16, 1]⟩

/-- The window has 16 elements. -/
theorem numel_W : W.numel = 16 := by decide +kernel

/-- The position of the window's element `n`: row `n`. -/
theorem window_pos : ∀ n : Fin W.numel, (W.rowMajor.symm n 0).val = 0 ∧ (W.rowMajor.symm n 1).val = 0
    ∧ (W.rowMajor.symm n 2).val = n.val ∧ (W.rowMajor.symm n 3).val = 0 := by
  decide +kernel

/-- A row of the window is inside exactly when it is not after row `r`. -/
theorem window_row : ∀ r n : Fin 16, (15 ≤ r.val + n.val ↔ n + (r + 1) ≤ r) ∧ (15 ≤ r.val + n.val → (n + (r + 1)).val = r.val + n.val - 15) := by
  decide +kernel

/-- A running sum over the rows, as a window padded by fifteen rows. -/
theorem cumsum_at (y : S32x4x16x128.Idx → EReal) (init : S_.Idx → EReal) (h : S32x4x16x128.ReduceWindows ![1, 1, 16, 1] ![1, 1, 1, 1] ![0, 0, 15, 0] ![0, 0, 0, 0] S32x4x16x128)
    (hu : 0 < S_.numel) (h0 : init (Shape.Idx.first hu) = 0) (i : Fin 32) (j : Fin 4) (r : Fin 16) (c : Fin 128) :
    Host.reduceWindow (· + ·) ![1, 1, 16, 1] ![1, 1, 1, 1] ![0, 0, 15, 0] ![0, 0, 0, 0] y init h hu (ix4 i j r c) = ∑ s : Fin 16, if s ≤ r then y (ix4 i j s c) else 0 := by
  unfold Host.reduceWindow
  rw [h0]
  refine (foldl_add (n := W.numel) _ (List.finRange W.numel) (0 : EReal)).trans ?_
  rw [zero_add, ← Fin.sum_univ_def]
  refine Fintype.sum_equiv ((finCongr numel_W).trans (Equiv.addRight (r + 1))) _ _ fun n => ?_
  obtain ⟨p0, p1, p2, p3⟩ := window_pos n
  obtain ⟨w1, w2⟩ := window_row r (n.cast numel_W)
  have hi := i.isLt
  have hj := j.isLt
  have hc := c.isLt
  have hr := r.isLt
  have hn : n.val < 16 := lt_of_lt_of_eq n.isLt numel_W
  change (15 ≤ r.val + n.val ↔ _) at w1
  change (15 ≤ r.val + n.val → _ = r.val + n.val - 15) at w2
  show _ = if n.cast numel_W + (r + 1) ≤ r then y (ix4 i j (n.cast numel_W + (r + 1)) c) else 0
  generalize n.cast numel_W + (r + 1) = k at w1 w2
  by_cases h : 15 ≤ r.val + n.val
  · rw [if_pos (w1.1 h), dif_pos (fun a => by
      match a with
      | ⟨0, _⟩ => show 0 ≤ i.val * 1 + _ ∧ i.val * 1 + (W.rowMajor.symm n 0).val - 0 < 32; omega
      | ⟨1, _⟩ => show 0 ≤ j.val * 1 + _ ∧ j.val * 1 + (W.rowMajor.symm n 1).val - 0 < 4; omega
      | ⟨2, _⟩ => show 15 ≤ r.val * 1 + (W.rowMajor.symm n 2).val ∧ r.val * 1 + (W.rowMajor.symm n 2).val - 15 < 16; omega
      | ⟨3, _⟩ => show 0 ≤ c.val * 1 + _ ∧ c.val * 1 + (W.rowMajor.symm n 3).val - 0 < 128; omega)]
    refine congrArg y (funext fun a => Fin.ext ?_)
    match a with
    | ⟨0, _⟩ => show i.val * 1 + (W.rowMajor.symm n 0).val - 0 = i.val; omega
    | ⟨1, _⟩ => show j.val * 1 + (W.rowMajor.symm n 1).val - 0 = j.val; omega
    | ⟨2, _⟩ => show r.val * 1 + (W.rowMajor.symm n 2).val - 15 = k.val; rw [w2 h]; omega
    | ⟨3, _⟩ => show c.val * 1 + (W.rowMajor.symm n 3).val - 0 = c.val; omega
  · rw [if_neg (fun q => h (w1.2 q)), dif_neg (fun q => h (by
      have q2 := (q 2).1
      change 15 ≤ r.val * 1 + (W.rowMajor.symm n 2).val at q2
      omega))]

/-- The reference's running sum over the rows. -/
theorem v17_at (x1 : FVec Ideal S512x512 .f32) (i : Fin 32) (j : Fin 4) (r : Fin 16) (c : Fin 128) :
    val_main_v17 (F := Ideal) x1 (ix4 i j r c) = ∑ s : Fin 16, if s ≤ r then val_main_v14 (F := Ideal) x1 (ix4 i j s c) else 0 := by
  unfold val_main_v17
  generalize val_main_v14 (F := Ideal) x1 = y
  have h0 : val_main_call1_call0_v0 (F := Ideal) (Shape.Idx.first h_S_) = (0 : EReal) := by
    pointwise [val_main_call1_call0_v0, val_main_call1_call0_cst]
  exact cumsum_at y (fun _ => val_main_call1_call0_v0 (F := Ideal) (Shape.Idx.first h_S_)) reduceWindows_S32x4x16x128_S32x4x16x128_w1s1p0_0_w1s1p0_0_w16s1p15_0_w1s1p0_0 h_S_ h0 i j r c

/-- The reference's running sum over the block of batch row `i` and head `j`. -/
theorem bcum_at (x1 : FVec Ideal S512x512 .f32) (i : Fin 32) (j : Fin 4) (r : Fin 16) (c : Fin 128) :
    val_main_v17 (F := Ideal) x1 (ix4 i j r c) = Gla.bcum (fun s c => x1 (ix2 ⟨i * 16 + s, by omega⟩ ⟨j * 128 + c, by omega⟩)) r c := by
  rw [v17_at]
  unfold Gla.bcum
  refine Finset.sum_congr rfl fun s _ => ?_
  pointwise [val_main_v14, val_main_v13]

/-- The reference's state after the chunk. -/
theorem v48_at (x0 : FVec Ideal S512x3072 .f32) (x1 : FVec Ideal S512x512 .f32) (x2 : FVec Ideal S32x4x128x256 .f32) (i : Fin 32) (j : Fin 4) (c : Fin 128) (v : Fin 256) :
    val_main_v48 (F := Ideal) x0 x1 x2 (ix4 i j c v)
      = Gla.state (fun s c => x0 (ix2 ⟨i * 16 + s, by omega⟩ ⟨512 + (j * 128 + c), by omega⟩)) (fun s c => x1 (ix2 ⟨i * 16 + s, by omega⟩ ⟨j * 128 + c, by omega⟩))
          (fun s c => x0 (ix2 ⟨i * 16 + s, by omega⟩ ⟨1024 + (j * 256 + c), by omega⟩)) (fun c v => x2 (ix4 i j c v)) c v := by
  pointwise [val_main_v48, val_main_v47, val_main_v46, val_main_v45, val_main_v44, val_main_v43, val_main_v42, val_main_v41, val_main_v40, val_main_v39, val_main_v38, val_main_v37, val_main_v36, val_main_v0, val_main_v1, val_main_v2, val_main_v3, val_main_v4, val_main_v5, val_main_v6, val_main_v9, val_main_v10, val_main_v11, val_main_v12]
  unfold Gla.state
  have hb := fun s => bcum_at x1 i j s c
  simp only [hb]

/-- The causal mask of the reference. -/
theorem mask_at : ∀ r s : Fin 16, (val_main_v16 (F := Ideal) (ix2 r s) : BitVec 1) = if s ≤ r then 1#1 else 0#1 := by
  have h : ∀ r s : Fin 16, Scalar.select (IntOp.cmpi CmpIPredicate.sge (IntOp.addi (BitVec.ofNat 32 ↑r) 0#32) (BitVec.ofNat 32 ↑s)) 1#1 0#1 = if s ≤ r then 1#1 else 0#1 := by decide
  intro r s
  rw [← h r s]
  pointwise [val_main_v16, val_main_v15, val_main_c, val_main_call0_v0, val_main_call0_v1, val_main_call0_v2, val_main_call0_v3, val_main_call0_v4, val_main_call0_v5, val_main_call0_c, val_main_call0_c_0]

/-- The reference's rows before the norm. -/
theorem v35_at (x0 : FVec Ideal S512x3072 .f32) (x1 : FVec Ideal S512x512 .f32) (x2 : FVec Ideal S32x4x128x256 .f32) (i : Fin 32) (j : Fin 4) (r : Fin 16) (v : Fin 256) :
    val_main_v35 (F := Ideal) x0 x1 x2 (ix4 i j r v)
      = Gla.core (fun s c => x0 (ix2 ⟨i * 16 + s, by omega⟩ ⟨j * 128 + c, by omega⟩)) (fun s c => x0 (ix2 ⟨i * 16 + s, by omega⟩ ⟨512 + (j * 128 + c), by omega⟩)) (fun s c => x1 (ix2 ⟨i * 16 + s, by omega⟩ ⟨j * 128 + c, by omega⟩))
          (fun s c => x0 (ix2 ⟨i * 16 + s, by omega⟩ ⟨1024 + (j * 256 + c), by omega⟩)) (fun c v => x2 (ix4 i j c v)) r v := by
  pointwise [ val_main_v0, val_main_v1, val_main_v2, val_main_v3, val_main_v4, val_main_v5, val_main_v6, val_main_v9, val_main_v10, val_main_v11, val_main_v12,
     val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v8, val_main_v7, val_main_cst,  val_main_cst_0, val_main_call2_v0, val_main_call2_v1, val_main_call2_v2]
  unfold Gla.core Gla.att
  have hb := fun s => bcum_at x1 i j s
  simp only [hb, mask_at]
  refine (add_comm _ _).trans (congrArg₂ (· + ·) (Finset.sum_congr rfl fun x _ => congrArg (· * _) (Finset.sum_congr rfl fun x1 _ => ?_)) rfl)
  by_cases h : x ≤ r
  · simp only [if_pos h]
    exact (mul_comm _ _).trans (mul_right_comm _ _ _)
  · simp only [if_neg h]
    exact (mul_comm _ _).trans (mul_right_comm _ _ _)

/-- The reference's rows. -/
theorem v67_at (x0 : FVec Ideal S512x3072 .f32) (x1 : FVec Ideal S512x512 .f32) (x2 : FVec Ideal S32x4x128x256 .f32) (x3 : FVec Ideal S256 .f32) (i : Fin 32) (j : Fin 4) (r : Fin 16) (v : Fin 256)
    (I : Fin 512) (V : Fin 1024) (hI : I.val = i * 16 + r) (hV : V.val = j * 256 + v) :
    val_main_v67 (F := Ideal) x0 x1 x2 x3 (ix2 I V)
      = Gla.out (fun s c => x0 (ix2 ⟨i * 16 + s, by omega⟩ ⟨j * 128 + c, by omega⟩)) (fun s c => x0 (ix2 ⟨i * 16 + s, by omega⟩ ⟨512 + (j * 128 + c), by omega⟩)) (fun s c => x1 (ix2 ⟨i * 16 + s, by omega⟩ ⟨j * 128 + c, by omega⟩))
          (fun s c => x0 (ix2 ⟨i * 16 + s, by omega⟩ ⟨1024 + (j * 256 + c), by omega⟩)) (fun s c => x0 (ix2 ⟨i * 16 + s, by omega⟩ ⟨2048 + (j * 256 + c), by omega⟩)) (fun c v => x2 (ix4 i j c v)) (fun v => x3 (ix1 v)) r v := by
  have hc := fun v => v35_at x0 x1 x2 i j r v
  pointwise [ val_main_v0, val_main_v1, val_main_v2, val_main_v3, val_main_v4, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_cst_1, val_main_cst_2, val_main_cst_3, val_main_call3_v0, val_main_call3_v1, val_main_call3_v2, val_main_call3_v3, val_main_call3_v4, val_main_call3_v5, val_main_call3_cst, val_main_call3_cst_0]
  have e1 : (⟨I.val / 16, by omega⟩ : Fin 32) = i := Fin.ext (by show I.val / 16 = i.val; omega)
  have e2 : (⟨V.val / 256, by omega⟩ : Fin 4) = j := Fin.ext (by show V.val / 256 = j.val; omega)
  have e3 : (⟨I.val % 16, by omega⟩ : Fin 16) = r := Fin.ext (by show I.val % 16 = r.val; omega)
  have e4 : (⟨V.val % 256, by omega⟩ : Fin 256) = v := Fin.ext (by show V.val % 256 = v.val; omega)
  have e5 : I = (⟨i * 16 + r, by omega⟩ : Fin 512) := Fin.ext hI
  have e6 : (⟨2048 + V.val, by omega⟩ : Fin 3072) = ⟨2048 + (j * 256 + v), by omega⟩ := Fin.ext (by show 2048 + V.val = 2048 + (j.val * 256 + v.val); omega)
  have e7 : x0 (ix2 I ⟨2048 + (j * 256 + v), by omega⟩) = x0 (ix2 ⟨i * 16 + r, by omega⟩ ⟨2048 + (j * 256 + v), by omega⟩) := congrArg (fun I => x0 (ix2 I _)) e5
  simp only [e1, e2, e3, e4, e6, hc, e7]
  rfl

end Cert.GlaRefIdeal.Hand
-- ==== Proof.GlaFinal.lean ====
module

public import proofs.«01_k».proof.Proof.GlaKernel
public import proofs.«01_k».proof.Proof.GlaRefMath
set_option maxRecDepth 16384
@[expose] public section

noncomputable section
open Idealize.ShloMosaic Idealize.ShloMosaic.TcCoe Idealize.SL.Sem
open Idealize.ShloMosaic.Pipeline (Dat)

/-! # The gated linear attention's result arrays are the reference's -/

namespace Cert.GlaIdeal.Hand
open Cert.GlaIdeal Cert.GlaIdeal.Gen
variable (m : (ℓ : Loc nD τ sig) → Buf (Elt Ideal) ℓ)

/-- There are 128 points. -/
theorem lt_N (t : Fin cfg0.N) : t.val < 128 := (idx t).2.2.2.2.2.2.2.2.2

/-- The norm's weight, laid out as a row, read at an element. -/
theorem weight_at (c : Dev nD) (t : Fin cfg0.N) (e : Fin 256) :
    (iblk m c 6 t : FVec Ideal S1x256 .f32) (ix2 0 e) = (m ((c : Thread nD τ).loc main_arg3) : FVec Ideal S256 .f32) (ix1 e) := by
  have h : ((cfg0.win 6).blk t).view.emb (ix2 0 e : S1x256.Idx) = (ix2 0 e : S1x256.Idx) := by blk_ext [idx t]
  unfold iblk
  refine (congrArg (V m c (Pipeline.arrRef spec0 6)) h).trans ?_
  entry_read
  pointwise

/-- The block of queries of point `t`. -/
theorem blk0_at (c : Dev nD) (t : Fin cfg0.N) (r : Fin 16) (x : Fin 128) : (iblk m c 0 t : FVec Ideal S16x128 .f32) (ix2 r x)
    = (m ((c : Thread nD τ).loc main_arg0) : FVec Ideal S512x3072 .f32) (ix2 ⟨t.val / 4 * 16 + r, by have := lt_N t; omega⟩ ⟨t.val % 4 * 128 + x, by omega⟩) := by
  blk_ext [iblk, V, idx t]

/-- The block of keys of point `t`. -/
theorem blk1_at (c : Dev nD) (t : Fin cfg0.N) (r : Fin 16) (x : Fin 128) : (iblk m c 1 t : FVec Ideal S16x128 .f32) (ix2 r x)
    = (m ((c : Thread nD τ).loc main_arg0) : FVec Ideal S512x3072 .f32) (ix2 ⟨t.val / 4 * 16 + r, by have := lt_N t; omega⟩ ⟨512 + (t.val % 4 * 128 + x), by omega⟩) := by
  blk_ext [iblk, V, idx t]

/-- The block of values of point `t`. -/
theorem blk2_at (c : Dev nD) (t : Fin cfg0.N) (r : Fin 16) (x : Fin 256) : (iblk m c 2 t : FVec Ideal S16x256 .f32) (ix2 r x)
    = (m ((c : Thread nD τ).loc main_arg0) : FVec Ideal S512x3072 .f32) (ix2 ⟨t.val / 4 * 16 + r, by have := lt_N t; omega⟩ ⟨1024 + (t.val % 4 * 256 + x), by omega⟩) := by
  blk_ext [iblk, V, idx t]

/-- The block of log decays of point `t`. -/
theorem blk3_at (c : Dev nD) (t : Fin cfg0.N) (r : Fin 16) (x : Fin 128) : (iblk m c 3 t : FVec Ideal S16x128 .f32) (ix2 r x)
    = (m ((c : Thread nD τ).loc main_arg1) : FVec Ideal S512x512 .f32) (ix2 ⟨t.val / 4 * 16 + r, by have := lt_N t; omega⟩ ⟨t.val % 4 * 128 + x, by omega⟩) := by
  blk_ext [iblk, V, idx t]

/-- The block of gates of point `t`. -/
theorem blk4_at (c : Dev nD) (t : Fin cfg0.N) (r : Fin 16) (x : Fin 256) : (iblk m c 4 t : FVec Ideal S16x256 .f32) (ix2 r x)
    = (m ((c : Thread nD τ).loc main_arg0) : FVec Ideal S512x3072 .f32) (ix2 ⟨t.val / 4 * 16 + r, by have := lt_N t; omega⟩ ⟨2048 + (t.val % 4 * 256 + x), by omega⟩) := by
  blk_ext [iblk, V, idx t]

/-- The state that point `t` starts from. -/
theorem blk5_at (c : Dev nD) (t : Fin cfg0.N) (x : Fin 128) (e : Fin 256) : (iblk m c 5 t : FVec Ideal S1x1x128x256 .f32) (ix4 0 0 x e)
    = (m ((c : Thread nD τ).loc main_arg2) : FVec Ideal S32x4x128x256 .f32) (ix4 ⟨t.val / 4, by have := lt_N t; omega⟩ ⟨t.val % 4, by omega⟩ x e) := by
  blk_ext [iblk, V, idx t]

/-- The state's array after the run is the reference's. -/
theorem final8 (c : Dev nD) : (dats m 0 c).arrAt 8 (cfgs 0).N
    = Cert.GlaRefIdeal.Read.val_main_v48 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  have ht := lt_N t
  idx_vars y
  refine (point8 m c t y0 y1 y2 y3).trans ?_
  refine Eq.trans ?_ ((congrArg _ ?_).trans (Cert.GlaRefIdeal.Hand.v48_at _ _ _ ⟨t.val / 4, by omega⟩ ⟨t.val % 4, by omega⟩ y2 y3)).symm
  · simp only [blk1_at m c t, blk2_at m c t, blk3_at m c t, blk5_at m c t]

  · blk_ext [idx t]

/-- The attention's array after the run is the reference's. -/
theorem final7 (c : Dev nD) : (dats m 0 c).arrAt 7 (cfgs 0).N
    = Cert.GlaRefIdeal.Read.val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  have ht := lt_N t
  idx_vars y
  refine (point7 m c t y0 y1).trans ?_
  refine Eq.trans ?_ ((congrArg _ ?_).trans (Cert.GlaRefIdeal.Hand.v67_at _ _ _ _ ⟨t.val / 4, by omega⟩ ⟨t.val % 4, by omega⟩ y0 y1
    ⟨t.val / 4 * 16 + y0, by omega⟩ ⟨t.val % 4 * 256 + y1, by omega⟩ rfl rfl)).symm
  · simp only [blk0_at m c t, blk1_at m c t, blk2_at m c t, blk3_at m c t, blk4_at m c t, blk5_at m c t, weight_at m c t]

  · blk_ext [idx t]

end Cert.GlaIdeal.Hand
-- ==== Proof.GlaClaims.lean ====
module

public import proofs.«01_k».proof.Defs
public import proofs.«01_k».proof.Proof.Gen.Gla.Frame
public import proofs.«01_k».proof.Proof.GlaFinal

@[expose] public section

noncomputable section

/-! # The claims about the gated linear attention -/

namespace GlaClaims
open Idealize.ShloMosaic Idealize.SL.Sem

/-- The kernel runs, keeps its arguments and leaves no semaphore raised. -/
theorem frame_kernel : Cert.quiescent_Gla := fun m ρ _ => Cert.Gla.Gen.frame m ρ

/-- So does the kernel over the extended reals. -/
theorem frame_ideal : Cert.quiescent_GlaIdeal := fun m ρ _ => Cert.GlaIdeal.Gen.frame m ρ

/-- So does the reference over the extended reals. -/
theorem frame_ref : Cert.quiescent_GlaRefIdeal := fun m ρ _ =>
  (θ_run Cert.GlaRefIdeal.defs _ _).mono (fun r h => ⟨fun c => (h c).2.2, Idealize.ShloMosaic.sem_eq_zero_of_no_sems (by decide) r.2⟩)
    (Cert.GlaRefIdeal.Value.run (F := Ideal) m ρ)

/-- The two results over the extended reals are the reference's. -/
theorem algebraic : Cert.algebraic_GlaIdeal_GlaRefIdeal := by
  intro m g m' g' _ hag
  refine ⟨fun c => (Cert.GlaIdeal.Gen.dats m 0 c).arrAt 7 Cert.GlaIdeal.cfg0.N, fun c => (Cert.GlaIdeal.Gen.dats m 0 c).arrAt 8 Cert.GlaIdeal.cfg0.N,
    Cert.GlaIdeal.Value.run_blocks (F := Ideal) m g, (θ_run _ _ _).mono (fun r h c => ?_) (Cert.GlaRefIdeal.Value.run (F := Ideal) m' g')⟩
  obtain ⟨h0, h1, h2, h3⟩ := hag c
  refine ⟨(h c).1.trans ?_, (h c).2.1.trans ?_, (h c).2.2⟩
  · refine Eq.trans ?_ (Cert.GlaIdeal.Hand.final7 m c).symm
    rw [Cert.GlaRefIdeal.Read.val_main_v67_eq, h0, h1, h2, h3]
  · refine Eq.trans ?_ (Cert.GlaIdeal.Hand.final8 m c).symm
    rw [Cert.GlaRefIdeal.Read.val_main_v48_eq, h0, h1, h2]

end GlaClaims
-- ==== Proof.Products.lean ====
module

public import Idealize.ShloMosaic.Lib.Pipeline.ValueKit
@[expose] public section

noncomputable section
open Idealize.ShloMosaic

/-! # Closed forms that kernels and references share -/

namespace Layer

/-- The product of a row and a column. -/
def dot {n : ℕ} (x w : Fin n → EReal) : EReal := ∑ k : Fin n, x k * w k

/-- The gate's product through the gate's nonlinearity, times the other product. -/
def gated (a b : EReal) : EReal := a * Ideal.div 1 (1 + Ideal.exp (-a)) * b

/-- The product of two rows of double length is the sum of the products of their halves. -/
theorem dot_halves {n : ℕ} (x w : Fin (n + n) → EReal) :
    dot x w = dot (fun k : Fin n => x (Fin.castAdd n k)) (fun k => w (Fin.castAdd n k)) + dot (fun k : Fin n => x (Fin.natAdd n k)) (fun k => w (Fin.natAdd n k)) :=
  Fin.sum_univ_add _

/-- The factor of the residual. -/
def alpha : EReal := Ideal.ofBits .f32 0x3FB504F3#32

/-- The mean over 2048 features. -/
def mean (y : Fin 2048 → EReal) : EReal := Ideal.div (∑ k : Fin 2048, y k) (Ideal.ofBits .f32 0x45000000#32)

/-- The layer norm over 2048 features. -/
def norm (y g b : Fin 2048 → EReal) (c : Fin 2048) : EReal :=
  (y c - mean y) * Ideal.rsqrt (mean (fun k => (y k - mean y) * (y k - mean y)) + Ideal.ofBits .f32 0x3727C5AC#32) * g c + b c

/-- The layer norm of a residual plus an update. -/
def resNorm (res y g b : Fin 2048 → EReal) (c : Fin 2048) : EReal := norm (fun k => alpha * res k + y k) g b c

/-- One where a test holds, zero elsewhere. -/
def flag (b : Bool) : EReal := if b then 1 else 0

/-- A converted test is its flag. -/
theorem flag_eq (b : Bool) : FloatOps.uitofp (F := Ideal) .f32 (BitVec.ofBool b) = flag b := by
  have h : FloatOps.uitofp (F := Ideal) .f32 (BitVec.ofBool b) = (((BitVec.ofBool b).toNat : ℝ) : EReal) := rfl
  rw [h]
  cases b <;> simp [flag]

/-- A sum over eight experts of their products times their gates, expert by expert. -/
def picked (p g : Fin 8 → EReal) : EReal :=
  p 0 * g 0 + p 1 * g 1 + p 2 * g 2 + p 3 * g 3 + p 4 * g 4 + p 5 * g 5 + p 6 * g 6 + p 7 * g 7

/-- With the gates of one expert's live tile that expert's product is picked; a dead tile picks nothing. -/
theorem picked_eq (p : Fin 8 → EReal) (e : Fin 8) (b : Bool) :
    picked p (fun i => flag (BitVec.ofNat 32 e.val == BitVec.ofNat 32 i.val) * flag b) = if b then p e else 0 := by
  cases b <;> fin_cases e <;> simp [picked, flag]

end Layer
-- ==== Proof.MemoryRows.lean ====
module

public import proofs.«01_k».proof.Defs
public import proofs.«01_k».proof.Proof.Gen.Kv.Frame
public import proofs.«01_k».proof.Proof.Gen.KvIdeal.Value
public import proofs.«01_k».proof.Proof.Gen.KvRefIdeal.Run
public import proofs.«01_k».proof.Proof.Gen.KvRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The memory's keys and values -/

namespace Cert.KvIdeal.Hand
open Cert.KvIdeal Cert.KvIdeal.Gen

/-- An element of the stored block: the row of the memory times the column of the weight. -/
theorem pay_at (x : FVec Ideal S1024x2048 .bf16) (w : FVec Ideal S1x2048x1024 .bf16) (l : Fin 1) (r s : Fin 1024) :
    k0_pay1 (F := Ideal) x w (ix3 l r s) = Layer.dot (fun k : Fin 2048 => x (ix2 r k)) (fun k => w (ix3 0 k s)) := by
  pointwise [k0_pay1]
  rfl

variable (m : (ℓ : Loc nD τ sig) → Buf (Elt Ideal) ℓ)

/-- The blocks' places: layer `t / 2`, half `t % 2` of the columns. -/
theorem idx : ∀ t : Fin cfg0.N, win0_0.index t = ![0, 0] ∧ win0_1.index t = ![t.val / 2, 0, t.val % 2]
    ∧ win0_2.index t = ![t.val / 2, 0, t.val % 2] ∧ t.val < 4 :=
  (by decide +kernel : ∀ t : Fin grid0.N, _)

/-- There are four points. -/
theorem lt_N (t : Fin cfg0.N) : t.val < 4 := (idx t).2.2.2

/-- What point `t` stores. -/
theorem point2 (c : Dev nD) (t : Fin cfg0.N) (l : Fin 1) (r s : Fin 1024) :
    ((dats m 0 c).after 2 t : FVec Ideal S1x1024x1024 .f32) (ix3 l r s)
      = Layer.dot (fun k : Fin 2048 => (iblk m c 0 t : FVec Ideal S1024x2048 .bf16) (ix2 r k)) (fun k => (iblk m c 1 t : FVec Ideal S1x2048x1024 .bf16) (ix3 0 k s)) := by
  rw [after0_2]
  frame_open
  simp (disch := decide) only [↓ View.readCov_skip, ↓ View.readCov_cons_toLoadRect, ↓ View.readCov_fill]
  frame_out
  exact pay_at _ _ _ _ _

/-- The rows of the memory, all of its batch rows one after the other. -/
theorem blk0_at (c : Dev nD) (t : Fin cfg0.N) (r : Fin 1024) (k : Fin 2048) : (iblk m c 0 t : FVec Ideal S1024x2048 .bf16) (ix2 r k)
    = (m ((c : Thread nD τ).loc main_arg0) : FVec Ideal S4x256x2048 .f32) (ix3 ⟨r / 256, by omega⟩ ⟨r % 256, by omega⟩ k) := by
  have h : ((cfg0.win 0).blk t).view.emb (ix2 r k : S1024x2048.Idx) = (ix2 r k : S1024x2048.Idx) := by blk_ext [idx t]
  unfold iblk
  refine (congrArg (V m c (Pipeline.arrRef spec0 0)) h).trans ?_
  entry_read
  pointwise

/-- The block of the weight. -/
theorem blk1_at (c : Dev nD) (t : Fin cfg0.N) (k : Fin 2048) (s : Fin 1024) : (iblk m c 1 t : FVec Ideal S1x2048x1024 .bf16) (ix3 0 k s)
    = (m ((c : Thread nD τ).loc main_arg1) : FVec Ideal S2x2048x2048 .f32) (ix3 ⟨t.val / 2, by have := lt_N t; omega⟩ k ⟨t.val % 2 * 1024 + s, by omega⟩) := by
  have h : ((cfg0.win 1).blk t).view.emb (ix3 0 k s : S1x2048x1024.Idx) = (ix3 ⟨t.val / 2, by have := lt_N t; omega⟩ k ⟨t.val % 2 * 1024 + s, by omega⟩ : S2x2048x2048.Idx) := by blk_ext [idx t]
  unfold iblk
  refine (congrArg (V m c (Pipeline.arrRef spec0 1)) h).trans ?_
  entry_read
  pointwise

/-- An element of the reference's result. -/
theorem ref_at (x : FVec Ideal S4x256x2048 .f32) (w : FVec Ideal S2x2048x2048 .f32) (l : Fin 2) (r : Fin 1024) (s : Fin 2048) :
    Cert.KvRefIdeal.Read.val_main_v2 (F := Ideal) x w (ix3 l r s) = Layer.dot (fun k : Fin 2048 => x (ix3 ⟨r / 256, by omega⟩ ⟨r % 256, by omega⟩ k)) (fun k => w (ix3 l k s)) := by
  pointwise [Cert.KvRefIdeal.Read.val_main_v2, Cert.KvRefIdeal.Read.val_main_v1, Cert.KvRefIdeal.Read.val_main_v0]
  exact Finset.sum_congr rfl fun _ _ => mul_comm _ _

/-- The keys and values after the run are the reference's. -/
theorem final2 (c : Dev nD) : (dats m 0 c).arrAt 2 (cfgs 0).N
    = Cert.KvRefIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  have ht := lt_N t
  idx_vars y
  refine (point2 m c t y0 y1 y2).trans ?_
  refine Eq.trans ?_ ((congrArg _ ?_).trans (ref_at _ _ ⟨t.val / 2, by omega⟩ y1 ⟨t.val % 2 * 1024 + y2, by omega⟩)).symm
  · simp only [blk0_at m c t, blk1_at m c t]
  · blk_ext [idx t]

end Cert.KvIdeal.Hand

namespace KvClaims

/-- The kernel runs, keeps its arguments and leaves no semaphore raised. -/
theorem frame_kernel : Cert.quiescent_Kv := fun m ρ _ => Cert.Kv.Gen.frame m ρ

/-- So does the kernel over the extended reals. -/
theorem frame_ideal : Cert.quiescent_KvIdeal := fun m ρ _ => Cert.KvIdeal.Gen.frame m ρ

/-- So does the reference over the extended reals. -/
theorem frame_ref : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)

/-- The result over the extended reals is the reference's. -/
theorem algebraic : Cert.algebraic_KvIdeal_KvRefIdeal := by
  intro m g m' g' _ hag
  refine ⟨fun c => (Cert.KvIdeal.Gen.dats m 0 c).arrAt 2 Cert.KvIdeal.cfg0.N,
    Cert.KvIdeal.Value.run_blocks (F := Ideal) m g, (θ_run _ _ _).mono (fun r h c => ?_) (Cert.KvRefIdeal.Value.run (F := Ideal) m' g')⟩
  obtain ⟨h0, h1⟩ := hag c
  refine ⟨(h c).1.trans ?_, (h c).2⟩
  refine Eq.trans ?_ (Cert.KvIdeal.Hand.final2 m c).symm
  rw [Cert.KvRefIdeal.Read.val_main_v2_eq, h0, h1]

end KvClaims
-- ==== Proof.SwiGlu.lean ====
module

public import proofs.«01_k».proof.Defs
public import proofs.«01_k».proof.Proof.Gen.Sw.Frame
public import proofs.«01_k».proof.Proof.Gen.SwIdeal.Value
public import proofs.«01_k».proof.Proof.Gen.SwRefIdeal.Run
public import proofs.«01_k».proof.Proof.Gen.SwRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The gated products of the feed-forward layer -/

namespace Cert.SwIdeal.Hand
open Cert.SwIdeal Cert.SwIdeal.Gen

/-- An element of the stored block. -/
theorem pay_at (x : FVec Ideal S1024x2048 .bf16) (w u : FVec Ideal S1x2048x512 .bf16) (r : Fin 1024) (s : Fin 512) :
    k0_pay1 (F := Ideal) x w u (ix2 r s) = Layer.gated (Layer.dot (fun k : Fin 2048 => x (ix2 r k)) (fun k => w (ix3 0 k s))) (Layer.dot (fun k => x (ix2 r k)) (fun k => u (ix3 0 k s))) := by
  pointwise [k0_pay1]
  simp only [zero_sub]
  rfl

variable (m : (ℓ : Loc nD τ sig) → Buf (Elt Ideal) ℓ)

/-- The blocks' places: block `t / 11` of the rows, block `t % 11` of the columns. -/
theorem idx : ∀ t : Fin cfg0.N, win0_0.index t = ![t.val / 11, 0] ∧ win0_1.index t = ![0, 0, t.val % 11] ∧ win0_2.index t = ![0, 0, t.val % 11]
    ∧ win0_3.index t = ![t.val / 11, t.val % 11] ∧ t.val < 176 :=
  (by decide +kernel : ∀ t : Fin grid0.N, _)

/-- There are 176 points. -/
theorem lt_N (t : Fin cfg0.N) : t.val < 176 := (idx t).2.2.2.2

/-- What point `t` stores. -/
theorem point3 (c : Dev nD) (t : Fin cfg0.N) (r : Fin 1024) (s : Fin 512) :
    ((dats m 0 c).after 3 t : FVec Ideal S1024x512 .bf16) (ix2 r s)
      = Layer.gated (Layer.dot (fun k : Fin 2048 => (iblk m c 0 t : FVec Ideal S1024x2048 .bf16) (ix2 r k)) (fun k => (iblk m c 1 t : FVec Ideal S1x2048x512 .bf16) (ix3 0 k s)))
          (Layer.dot (fun k : Fin 2048 => (iblk m c 0 t : FVec Ideal S1024x2048 .bf16) (ix2 r k)) (fun k => (iblk m c 2 t : FVec Ideal S1x2048x512 .bf16) (ix3 0 k s))) := by
  rw [after0_3]
  frame_open
  simp (disch := decide) only [↓ View.readCov_skip, ↓ View.readCov_cons_toLoadRect, ↓ View.readCov_fill]
  frame_out
  exact pay_at _ _ _ _ _

/-- The block of rows. -/
theorem blk0_at (c : Dev nD) (t : Fin cfg0.N) (r : Fin 1024) (k : Fin 2048) : (iblk m c 0 t : FVec Ideal S1024x2048 .bf16) (ix2 r k)
    = (m ((c : Thread nD τ).loc main_arg0) : FVec Ideal S16384x2048 .f32) (ix2 ⟨t.val / 11 * 1024 + r, by have := lt_N t; omega⟩ k) := by
  have h : ((cfg0.win 0).blk t).view.emb (ix2 r k : S1024x2048.Idx) = (ix2 ⟨t.val / 11 * 1024 + r, by have := lt_N t; omega⟩ k : S16384x2048.Idx) := by blk_ext [idx t]
  unfold iblk
  refine (congrArg (V m c (Pipeline.arrRef spec0 0)) h).trans ?_
  entry_read
  pointwise

/-- The block of the gate's weight. -/
theorem blk1_at (c : Dev nD) (t : Fin cfg0.N) (k : Fin 2048) (s : Fin 512) : (iblk m c 1 t : FVec Ideal S1x2048x512 .bf16) (ix3 0 k s)
    = (m ((c : Thread nD τ).loc main_arg1) : FVec Ideal S1x2048x5632 .f32) (ix3 0 k ⟨t.val % 11 * 512 + s, by omega⟩) := by
  have h : ((cfg0.win 1).blk t).view.emb (ix3 0 k s : S1x2048x512.Idx) = (ix3 0 k ⟨t.val % 11 * 512 + s, by omega⟩ : S1x2048x5632.Idx) := by blk_ext [idx t]
  unfold iblk
  refine (congrArg (V m c (Pipeline.arrRef spec0 1)) h).trans ?_
  entry_read
  pointwise

/-- The block of the other weight. -/
theorem blk2_at (c : Dev nD) (t : Fin cfg0.N) (k : Fin 2048) (s : Fin 512) : (iblk m c 2 t : FVec Ideal S1x2048x512 .bf16) (ix3 0 k s)
    = (m ((c : Thread nD τ).loc main_arg2) : FVec Ideal S1x2048x5632 .f32) (ix3 0 k ⟨t.val % 11 * 512 + s, by omega⟩) := by
  have h : ((cfg0.win 2).blk t).view.emb (ix3 0 k s : S1x2048x512.Idx) = (ix3 0 k ⟨t.val % 11 * 512 + s, by omega⟩ : S1x2048x5632.Idx) := by blk_ext [idx t]
  unfold iblk
  refine (congrArg (V m c (Pipeline.arrRef spec0 2)) h).trans ?_
  entry_read
  pointwise

open Cert.SwRefIdeal.Read in
/-- An element of the reference's result. -/
theorem ref_at (x : FVec Ideal S16384x2048 .f32) (w u : FVec Ideal S1x2048x5632 .f32) (r : Fin 16384) (s : Fin 5632) :
    val_main_v6 (F := Ideal) x w u (ix2 r s) = Layer.gated (Layer.dot (fun k : Fin 2048 => x (ix2 r k)) (fun k => w (ix3 0 k s))) (Layer.dot (fun k => x (ix2 r k)) (fun k => u (ix3 0 k s))) := by
  pointwise [val_main_v6, val_main_v5, val_main_v4, val_main_v3, val_main_v2, val_main_v1, val_main_v0, val_main_call0_v0, val_main_call0_v1, val_main_call0_v2,
    val_main_call0_v3, val_main_call0_v4, val_main_call0_v5, val_main_call0_cst, val_main_call0_cst_0]
  rfl

/-- The gated products after the run are the reference's. -/
theorem final3 (c : Dev nD) : (dats m 0 c).arrAt 3 (cfgs 0).N
    = Cert.SwRefIdeal.Read.val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  have ht := lt_N t
  idx_vars y
  refine (point3 m c t y0 y1).trans ?_
  refine Eq.trans ?_ ((congrArg _ ?_).trans (ref_at _ _ _ ⟨t.val / 11 * 1024 + y0, by omega⟩ ⟨t.val % 11 * 512 + y1, by omega⟩)).symm
  · simp only [blk0_at m c t, blk1_at m c t, blk2_at m c t]
  · blk_ext [idx t]

end Cert.SwIdeal.Hand

namespace SwClaims

/-- The kernel runs, keeps its arguments and leaves no semaphore raised. -/
theorem frame_kernel : Cert.quiescent_Sw := fun m ρ _ => Cert.Sw.Gen.frame m ρ

/-- So does the kernel over the extended reals. -/
theorem frame_ideal : Cert.quiescent_SwIdeal := fun m ρ _ => Cert.SwIdeal.Gen.frame m ρ

/-- So does the reference over the extended reals. -/
theorem frame_ref : Cert.quiescent_SwRefIdeal := fun m ρ _ =>
  (θ_run Cert.SwRefIdeal.defs _ _).mono (fun r h => ⟨fun c => (h c).2, Idealize.ShloMosaic.sem_eq_zero_of_no_sems (by decide) r.2⟩)
    (Cert.SwRefIdeal.Value.run (F := Ideal) m ρ)

/-- The result over the extended reals is the reference's. -/
theorem algebraic : Cert.algebraic_SwIdeal_SwRefIdeal := by
  intro m g m' g' _ hag
  refine ⟨fun c => (Cert.SwIdeal.Gen.dats m 0 c).arrAt 3 Cert.SwIdeal.cfg0.N,
    Cert.SwIdeal.Value.run_blocks (F := Ideal) m g, (θ_run _ _ _).mono (fun r h c => ?_) (Cert.SwRefIdeal.Value.run (F := Ideal) m' g')⟩
  obtain ⟨h0, h1, h2⟩ := hag c
  refine ⟨(h c).1.trans ?_, (h c).2⟩
  refine Eq.trans ?_ (Cert.SwIdeal.Hand.final3 m c).symm
  rw [Cert.SwRefIdeal.Read.val_main_v6_eq, h0, h1, h2]

end SwClaims
-- ==== Proof.DownNorm.lean ====
module

public import proofs.«01_k».proof.Defs
public import proofs.«01_k».proof.Proof.Gen.Dn.Frame
public import proofs.«01_k».proof.Proof.Gen.DnIdeal.Value
public import proofs.«01_k».proof.Proof.Gen.DnRefIdeal.Run
public import proofs.«01_k».proof.Proof.Gen.DnRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The feed-forward layer's second product, its residual and its norm -/

namespace Cert.DnIdeal.Hand
open Cert.DnIdeal Cert.DnIdeal.Gen

/-- An element of the accumulator after a step. -/
theorem pay2_at (acc : FVec Ideal S512x2048 .f32) (x : FVec Ideal S512x2816 .bf16) (w : FVec Ideal S2816x2048 .bf16) (r : Fin 512) (s : Fin 2048) :
    k0_pay2 (F := Ideal) acc x w (ix2 r s) = acc (ix2 r s) + Layer.dot (fun k : Fin 2816 => x (ix2 r k)) (fun k => w (ix2 k s)) := by
  pointwise [k0_pay2]
  rfl

/-- An element of the first result's block. -/
theorem pay3_at (res acc : FVec Ideal S512x2048 .f32) (g b : FVec Ideal S1x2048 .f32) (r : Fin 512) (s : Fin 2048) :
    k0_pay3 (F := Ideal) res acc g b (ix2 r s) = Layer.resNorm (fun k => res (ix2 r k)) (fun k => acc (ix2 r k)) (fun k => g (ix2 0 k)) (fun k => b (ix2 0 k)) s := by
  pointwise [k0_pay3]
  rfl

/-- An element of the second result's block. -/
theorem pay4_at (res acc : FVec Ideal S512x2048 .f32) (g b : FVec Ideal S1x2048 .f32) (r : Fin 512) (s : Fin 2048) :
    k0_pay4 (F := Ideal) res acc g b (ix2 r s) = Layer.resNorm (fun k => res (ix2 r k)) (fun k => acc (ix2 r k)) (fun k => g (ix2 0 k)) (fun k => b (ix2 0 k)) s := by
  refine Eq.trans ?_ (pay3_at res acc g b r s)
  pointwise [k0_pay4]

variable (m : (ℓ : Loc nD τ sig) → Buf (Elt Ideal) ℓ)

/-- The blocks' places: block `t / 2` of the rows, half `t % 2` of the inner axis. -/
theorem idx : ∀ t : Fin cfg0.N, win0_0.index t = ![t.val / 2, t.val % 2] ∧ win0_1.index t = ![t.val % 2, 0] ∧ win0_2.index t = ![t.val / 2, 0]
    ∧ win0_3.index t = ![0, 0] ∧ win0_4.index t = ![0, 0] ∧ win0_5.index t = ![t.val / 2, 0] ∧ win0_6.index t = ![t.val / 2, 0] ∧ t.val < 64 :=
  (by decide +kernel : ∀ t : Fin grid0.N, _)

/-- There are 64 points. -/
theorem lt_N (t : Fin cfg0.N) : t.val < 64 := (idx t).2.2.2.2.2.2.2

/-- What the first step of a block of rows leaves in the accumulator. -/
theorem first (c : Dev nD) (t : Fin cfg0.N) (h0 : t.val % 2 = 0) (r : Fin 512) (s : Fin 2048) :
    ((outsAt0 m c t.val t.isLt).2.2 : FVec Ideal S512x2048 .f32) (ix2 r s)
      = Layer.dot (fun k : Fin 2816 => (iblk m c 0 t : FVec Ideal S512x2816 .bf16) (ix2 r k)) (fun k => (iblk m c 1 t : FVec Ideal S2816x2048 .bf16) (ix2 k s)) := by
  rw [outsAt0_A m c t h0 (by omega)]
  frame_open
  simp (disch := decide) only [↓ View.readCov_skip, ↓ View.readCov_cons_toLoadRect, ↓ View.readCov_fill]
  frame_out
  refine (pay2_at _ _ _ _ _).trans ?_
  refine (congrArg (· + _) ?_).trans (zero_add _)
  pointwise [k0_pay1]

/-- The accumulator after a block's last step. -/
def acc (c : Dev nD) (t t' : Fin cfg0.N) (r : Fin 512) (s : Fin 2048) : EReal :=
  Layer.dot (fun k : Fin 2816 => (iblk m c 0 t' : FVec Ideal S512x2816 .bf16) (ix2 r k)) (fun k => (iblk m c 1 t' : FVec Ideal S2816x2048 .bf16) (ix2 k s))
    + Layer.dot (fun k : Fin 2816 => (iblk m c 0 t : FVec Ideal S512x2816 .bf16) (ix2 r k)) (fun k => (iblk m c 1 t : FVec Ideal S2816x2048 .bf16) (ix2 k s))

/-- What a block's last point stores in the first result. -/
theorem point5 (c : Dev nD) (t t' : Fin cfg0.N) (h : t.val = t'.val + 1) (h0 : t'.val % 2 = 0) (r : Fin 512) (s : Fin 2048) :
    ((dats m 0 c).after 5 t : FVec Ideal S512x2048 .f32) (ix2 r s)
      = Layer.resNorm (fun k => (iblk m c 2 t : FVec Ideal S512x2048 .f32) (ix2 r k)) (acc m c t t' r)
          (fun k => (iblk m c 3 t : FVec Ideal S1x2048 .f32) (ix2 0 k)) (fun k => (iblk m c 4 t : FVec Ideal S1x2048 .f32) (ix2 0 k)) s := by
  rw [after0_5, outsAt0_B m c t (by omega) (by omega)]
  frame_open
  simp (disch := decide) only [↓ View.readCov_skip, ↓ View.readCov_cons_toLoadRect, ↓ View.readCov_fill]
  frame_out
  refine (pay3_at _ _ _ _ _ _).trans ?_
  refine congrArg (fun f => Layer.resNorm _ f _ _ s) (funext fun k => ?_)
  refine (pay2_at _ _ _ _ _).trans ?_
  have e : t.val - 1 = t'.val := by omega
  simp only [e]
  exact congrArg (· + _) ((congrFun (read_unread_whole _ _ _) _).trans (first m c t' h0 r k))

/-- What a block's last point stores in the second result. -/
theorem point6 (c : Dev nD) (t t' : Fin cfg0.N) (h : t.val = t'.val + 1) (h0 : t'.val % 2 = 0) (r : Fin 512) (s : Fin 2048) :
    ((dats m 0 c).after 6 t : FVec Ideal S512x2048 .bf16) (ix2 r s)
      = Layer.resNorm (fun k => (iblk m c 2 t : FVec Ideal S512x2048 .f32) (ix2 r k)) (acc m c t t' r)
          (fun k => (iblk m c 3 t : FVec Ideal S1x2048 .f32) (ix2 0 k)) (fun k => (iblk m c 4 t : FVec Ideal S1x2048 .f32) (ix2 0 k)) s := by
  rw [after0_6, outsAt0_B m c t (by omega) (by omega)]
  frame_open
  simp (disch := decide) only [↓ View.readCov_skip, ↓ View.readCov_cons_toLoadRect, ↓ View.readCov_fill]
  frame_out
  refine (pay4_at _ _ _ _ _ _).trans ?_
  refine congrArg (fun f => Layer.resNorm _ f _ _ s) (funext fun k => ?_)
  refine (pay2_at _ _ _ _ _).trans ?_
  have e : t.val - 1 = t'.val := by omega
  simp only [e]
  exact congrArg (· + _) ((congrFun (read_unread_whole _ _ _) _).trans (first m c t' h0 r k))

/-- The block of rows. -/
theorem blk0_at (c : Dev nD) (t : Fin cfg0.N) (r : Fin 512) (k : Fin 2816) : (iblk m c 0 t : FVec Ideal S512x2816 .bf16) (ix2 r k)
    = (m ((c : Thread nD τ).loc main_arg0) : FVec Ideal S16384x5632 .f32) (ix2 ⟨t.val / 2 * 512 + r, by have := lt_N t; omega⟩ ⟨t.val % 2 * 2816 + k, by omega⟩) := by
  have h : ((cfg0.win 0).blk t).view.emb (ix2 r k : S512x2816.Idx)
      = (ix2 ⟨t.val / 2 * 512 + r, by have := lt_N t; omega⟩ ⟨t.val % 2 * 2816 + k, by omega⟩ : S16384x5632.Idx) := by blk_ext [idx t]
  unfold iblk
  refine (congrArg (V m c (Pipeline.arrRef spec0 0)) h).trans ?_
  entry_read
  pointwise

/-- The block of the weight. -/
theorem blk1_at (c : Dev nD) (t : Fin cfg0.N) (k : Fin 2816) (s : Fin 2048) : (iblk m c 1 t : FVec Ideal S2816x2048 .bf16) (ix2 k s)
    = (m ((c : Thread nD τ).loc main_arg1) : FVec Ideal S1x5632x2048 .f32) (ix3 0 ⟨t.val % 2 * 2816 + k, by omega⟩ s) := by
  have h : ((cfg0.win 1).blk t).view.emb (ix2 k s : S2816x2048.Idx) = (ix2 ⟨t.val % 2 * 2816 + k, by omega⟩ s : S5632x2048.Idx) := by blk_ext [idx t]
  unfold iblk
  refine (congrArg (V m c (Pipeline.arrRef spec0 1)) h).trans ?_
  entry_read
  pointwise

/-- The block of the residual. -/
theorem blk2_at (c : Dev nD) (t : Fin cfg0.N) (r : Fin 512) (k : Fin 2048) : (iblk m c 2 t : FVec Ideal S512x2048 .f32) (ix2 r k)
    = (m ((c : Thread nD τ).loc main_arg2) : FVec Ideal S16384x2048 .f32) (ix2 ⟨t.val / 2 * 512 + r, by have := lt_N t; omega⟩ k) := by
  have h : ((cfg0.win 2).blk t).view.emb (ix2 r k : S512x2048.Idx) = (ix2 ⟨t.val / 2 * 512 + r, by have := lt_N t; omega⟩ k : S16384x2048.Idx) := by blk_ext [idx t]
  unfold iblk
  refine (congrArg (V m c (Pipeline.arrRef spec0 2)) h).trans ?_
  entry_read
  rfl

/-- The norm's scale, laid out as a row. -/
theorem blk3_at (c : Dev nD) (t : Fin cfg0.N) (k : Fin 2048) : (iblk m c 3 t : FVec Ideal S1x2048 .f32) (ix2 0 k)
    = (m ((c : Thread nD τ).loc main_arg3) : FVec Ideal S2048 .f32) (ix1 k) := by
  have h : ((cfg0.win 3).blk t).view.emb (ix2 0 k : S1x2048.Idx) = (ix2 0 k : S1x2048.Idx) := by blk_ext [idx t]
  unfold iblk
  refine (congrArg (V m c (Pipeline.arrRef spec0 3)) h).trans ?_
  entry_read
  pointwise

/-- The norm's shift, laid out as a row. -/
theorem blk4_at (c : Dev nD) (t : Fin cfg0.N) (k : Fin 2048) : (iblk m c 4 t : FVec Ideal S1x2048 .f32) (ix2 0 k)
    = (m ((c : Thread nD τ).loc main_arg4) : FVec Ideal S2048 .f32) (ix1 k) := by
  have h : ((cfg0.win 4).blk t).view.emb (ix2 0 k : S1x2048.Idx) = (ix2 0 k : S1x2048.Idx) := by blk_ext [idx t]
  unfold iblk
  refine (congrArg (V m c (Pipeline.arrRef spec0 4)) h).trans ?_
  entry_read
  pointwise

section
open Cert.DnRefIdeal.Read

/-- An element of the reference's product. -/
theorem v4_at (x : FVec Ideal S16384x5632 .f32) (w : FVec Ideal S1x5632x2048 .f32) (res : FVec Ideal S16384x2048 .f32) (r : Fin 16384) (s : Fin 2048) :
    val_main_v4 (F := Ideal) x w res (ix2 r s)
      = Layer.alpha * res (ix2 r s) + Layer.dot (fun k : Fin 5632 => x (ix2 r k)) (fun k => w (ix3 0 k s)) := by
  pointwise [val_main_v4, val_main_v3, val_main_v2, val_main_v1, val_main_v0, val_main_cst]
  rfl

/-- An element of the reference's centred row. -/
theorem v10_at (x : FVec Ideal S16384x5632 .f32) (w : FVec Ideal S1x5632x2048 .f32) (res : FVec Ideal S16384x2048 .f32) (r : Fin 16384) (s : Fin 2048) :
    val_main_v10 (F := Ideal) x w res (ix2 r s)
      = val_main_v4 (F := Ideal) x w res (ix2 r s) - Layer.mean (fun k => val_main_v4 (F := Ideal) x w res (ix2 r k)) := by
  pointwise [val_main_v10, val_main_v9, val_main_v8, val_main_v7, val_main_v6, val_main_v5, val_main_cst_0, val_main_cst_1]
  rfl

/-- An element of the reference's first result. -/
theorem v26_at (x : FVec Ideal S16384x5632 .f32) (w : FVec Ideal S1x5632x2048 .f32) (res : FVec Ideal S16384x2048 .f32) (g b : FVec Ideal S2048 .f32) (r : Fin 16384) (s : Fin 2048) :
    val_main_v26 (F := Ideal) x w res g b (ix2 r s)
      = Layer.resNorm (fun k => res (ix2 r k)) (fun c => Layer.dot (fun k : Fin 5632 => x (ix2 r k)) (fun k => w (ix3 0 k c))) (fun k => g (ix1 k)) (fun k => b (ix1 k)) s := by
  have h : val_main_v26 (F := Ideal) x w res g b (ix2 r s)
      = val_main_v10 (F := Ideal) x w res (ix2 r s) * Ideal.rsqrt (Layer.mean (fun k => val_main_v10 (F := Ideal) x w res (ix2 r k) * val_main_v10 (F := Ideal) x w res (ix2 r k))
          + Ideal.ofBits .f32 0x3727C5AC#32) * g (ix1 s) + b (ix1 s) := by
    pointwise [val_main_v26, val_main_v25, val_main_v24, val_main_v23, val_main_v22, val_main_v21, val_main_v20, val_main_v19, val_main_v18, val_main_v17, val_main_v16,
      val_main_v15, val_main_v14, val_main_v13, val_main_v12, val_main_v11, val_main_cst_2, val_main_cst_3, val_main_cst_4]
    rfl
  rw [h]
  simp only [v10_at, v4_at]
  rfl

/-- An element of the reference's second result. -/
theorem v27_at (x : FVec Ideal S16384x5632 .f32) (w : FVec Ideal S1x5632x2048 .f32) (res : FVec Ideal S16384x2048 .f32) (g b : FVec Ideal S2048 .f32) (r : Fin 16384) (s : Fin 2048) :
    val_main_v27 (F := Ideal) x w res g b (ix2 r s) = val_main_v26 (F := Ideal) x w res g b (ix2 r s) := by
  pointwise [val_main_v27]

end

/-- The point before a block's last point. -/
def prev (t : Fin cfg0.N) : Fin cfg0.N := ⟨t.val - 1, lt_of_le_of_lt (Nat.sub_le _ _) t.isLt⟩

/-- The accumulator after a block's last step is the whole product. -/
theorem acc_eq (c : Dev nD) (t : Fin cfg0.N) (h : t.val % 2 = 1) (r : Fin 512) (s : Fin 2048) :
    acc m c t (prev t) r s = Layer.dot (fun k : Fin 5632 => (m ((c : Thread nD τ).loc main_arg0) : FVec Ideal S16384x5632 .f32) (ix2 ⟨t.val / 2 * 512 + r, by have := lt_N t; omega⟩ k))
      (fun k => (m ((c : Thread nD τ).loc main_arg1) : FVec Ideal S1x5632x2048 .f32) (ix3 0 k s)) := by
  refine Eq.trans ?_ (Layer.dot_halves (n := 2816) _ _).symm
  unfold acc
  have e1 : (prev t).val / 2 = t.val / 2 := by show (t.val - 1) / 2 = _; omega
  have e2 : (prev t).val % 2 = 0 := by show (t.val - 1) % 2 = _; omega
  simp only [blk0_at, blk1_at, e1, e2, h]
  congr 3 <;> funext k <;> congr 2 <;> exact Fin.ext (by first | (show 0 * 2816 + k.val = k.val; omega) | (show 1 * 2816 + k.val = 2816 + k.val; omega))

/-- The points that write a result back are the blocks' last. -/
theorem last5 : ∀ t : Fin cfg0.N, (cfg0.win 5).flush t = true → t.val % 2 = 1 := (by decide +kernel : ∀ t : Fin grid0.N, _)

/-- The points that write the second result back are the same. -/
theorem last6 : ∀ t : Fin cfg0.N, (cfg0.win 6).flush t = true → t.val % 2 = 1 := (by decide +kernel : ∀ t : Fin grid0.N, _)

/-- The first result after the run is the reference's. -/
theorem final5 (c : Dev nD) : (dats m 0 c).arrAt 5 (cfgs 0).N
    = Cert.DnRefIdeal.Read.val_main_v26 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h := last5 t hf
  blk_simp
  have ht := lt_N t
  idx_vars y
  refine (point5 m c t (prev t) (by show t.val = t.val - 1 + 1; omega) (by show (t.val - 1) % 2 = 0; omega) y0 y1).trans ?_
  refine Eq.trans ?_ ((congrArg _ ?_).trans (v26_at _ _ _ _ _ ⟨t.val / 2 * 512 + y0, by omega⟩ y1)).symm
  · simp only [blk2_at m c t, blk3_at m c t, blk4_at m c t, funext (acc_eq m c t h y0)]
  · blk_ext [idx t]

/-- The second result after the run is the reference's. -/
theorem final6 (c : Dev nD) : (dats m 0 c).arrAt 6 (cfgs 0).N
    = Cert.DnRefIdeal.Read.val_main_v27 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h := last6 t hf
  blk_simp
  have ht := lt_N t
  idx_vars y
  refine (point6 m c t (prev t) (by show t.val = t.val - 1 + 1; omega) (by show (t.val - 1) % 2 = 0; omega) y0 y1).trans ?_
  refine Eq.trans ?_ ((congrArg _ ?_).trans ((v27_at _ _ _ _ _ _ _).trans (v26_at _ _ _ _ _ ⟨t.val / 2 * 512 + y0, by omega⟩ y1))).symm
  · simp only [blk2_at m c t, blk3_at m c t, blk4_at m c t, funext (acc_eq m c t h y0)]
  · blk_ext [idx t]

end Cert.DnIdeal.Hand

namespace DnClaims

/-- The kernel runs, keeps its arguments and leaves no semaphore raised. -/
theorem frame_kernel : Cert.quiescent_Dn := fun m ρ _ => Cert.Dn.Gen.frame m ρ

/-- So does the kernel over the extended reals. -/
theorem frame_ideal : Cert.quiescent_DnIdeal := fun m ρ _ => Cert.DnIdeal.Gen.frame m ρ

/-- So does the reference over the extended reals. -/
theorem frame_ref : Cert.quiescent_DnRefIdeal := fun m ρ _ =>
  (θ_run Cert.DnRefIdeal.defs _ _).mono (fun r h => ⟨fun c => (h c).2.2, Idealize.ShloMosaic.sem_eq_zero_of_no_sems (by decide) r.2⟩)
    (Cert.DnRefIdeal.Value.run (F := Ideal) m ρ)

/-- The two results over the extended reals are the reference's. -/
theorem algebraic : Cert.algebraic_DnIdeal_DnRefIdeal := by
  intro m g m' g' _ hag
  refine ⟨fun c => (Cert.DnIdeal.Gen.dats m 0 c).arrAt 5 Cert.DnIdeal.cfg0.N, fun c => (Cert.DnIdeal.Gen.dats m 0 c).arrAt 6 Cert.DnIdeal.cfg0.N,
    Cert.DnIdeal.Value.run_blocks (F := Ideal) m g, (θ_run _ _ _).mono (fun r h c => ?_) (Cert.DnRefIdeal.Value.run (F := Ideal) m' g')⟩
  obtain ⟨h0, h1, h2, h3, h4⟩ := hag c
  refine ⟨(h c).1.trans ?_, (h c).2.1.trans ?_, (h c).2.2⟩
  · refine Eq.trans ?_ (Cert.DnIdeal.Hand.final5 m c).symm
    rw [Cert.DnRefIdeal.Read.val_main_v26_eq, h0, h1, h2, h3, h4]
  · refine Eq.trans ?_ (Cert.DnIdeal.Hand.final6 m c).symm
    rw [Cert.DnRefIdeal.Read.val_main_v27_eq, h0, h1, h2, h3, h4]

end DnClaims
-- ==== Proof.MoeUpRun.lean ====
module

public import proofs.«01_k».proof.Proof.Gen.UpIdeal.Launch
public import proofs.«01_k».proof.Proof.Gen.UpIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pipeline.ReadBack
public import Idealize.ShloMosaic.Lib.Claim

/-! The run of the experts' first call: 74 tiles of 512 gathered rows by 7 column blocks of width 1024. A tile
    whose number is below the count of live tiles stores the gated product of its rows with its expert's two
    matrices, every other tile stores zeros; which expert a tile has is read off a prefetched table. -/

@[expose] public section

set_option maxRecDepth 16384

noncomputable section

namespace Cert.UpIdeal.Hand

open Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of the run. -/
local notation "𝕄" => MT nD τ sig Unit (Elt F) ℕ (UR sig nD τ) ℕ

/-! ## The two conditions of the body -/

/-- The two branches of the body exclude each other and one of them is taken: "tile below the count" and "tile
    at or above it", signed. -/
theorem cond2_iff (i : grid0.Coords) (v : BitVec 32) : k0_cond2 i v = 1#1 ↔ ¬ k0_cond1 i v = 1#1 := by
  have hb : ∀ b : Bool, (Scalar.cmpi .ne (Scalar.extui (BitVec.ofBool b) : BitVec 32) 0#32 = 1#1) ↔ b = true := by decide
  have hs : Scalar.cmpi .sge (BitVec.ofNat 32 (i 1).val) v = BitVec.ofBool (v.sle (BitVec.ofNat 32 (i 1).val)) := rfl
  have hl : Scalar.cmpi .slt (BitVec.ofNat 32 (i 1).val) v = BitVec.ofBool ((BitVec.ofNat 32 (i 1).val).slt v) := rfl
  unfold k0_cond1 k0_cond2
  dsimp only
  rw [hs, hl, hb, hb]
  simp [BitVec.slt, BitVec.sle]

/-- The first condition in numbers of the tile. -/
theorem cond1_iff (i : grid0.Coords) (v : BitVec 32) : k0_cond1 i v = 1#1 ↔ ((BitVec.ofNat 32 (i 1).val).slt v) = true := by
  have hb : ∀ b : Bool, (Scalar.cmpi .ne (Scalar.extui (BitVec.ofBool b) : BitVec 32) 0#32 = 1#1) ↔ b = true := by decide
  have hl : Scalar.cmpi .slt (BitVec.ofNat 32 (i 1).val) v = BitVec.ofBool ((BitVec.ofNat 32 (i 1).val).slt v) := rfl
  unfold k0_cond1
  dsimp only
  rw [hl, hb]

/-! ## What the region finds -/

variable (m : (ℓ : Loc nD τ sig) → Buf (Elt F) ℓ) (ρ : Dev nD → PrngReg)

/-- The buffers the region finds: those of the launch, the program being the one call. -/
abbrev V (c : Dev nD) (b : Ref sig .tc) : Buf (Elt F) ((c : Thread nD τ).loc b) := m ((c : Thread nD τ).loc b)

set_option maxHeartbeats 800000 in
/-- The program up to its call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables at launch. -/
def tbl : pre0.Contents (Elt F) := fun j => V m (0 : Dev nD) (pre0.ref j)

/-- There is one device, so these are the tables on every device. -/
theorem V_pre (c : Dev nD) (j : Fin 2) : V m c (pre0.ref j) = tbl m j := by
  obtain rfl : c = 0 := Subsingleton.elim _ _; rfl

/-- Every tile's expert is one of the stored experts. -/
abbrev Ok : Prop := ok0 (F := F) (tbl m)

/-- The tables as contents the call can run at, and the call at them. -/
abbrev adm (hO : Ok m) : (pcfg0 (F := F)).Adm := ⟨tbl m, hO⟩
abbrev cfgM (hO : Ok m) : Pipeline.Cfg sig Λ₀ := cfg0 (adm m hO)

/-- The tables as the body holds them: half of each. -/
abbrev experts : Memref sig .tc .smem S74 .i32 := Memref.whole main_arg3
abbrev count : Memref sig .tc .smem S1 .i32 := Memref.whole main_arg4
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

theorem tables_eq (c : Dev nD) : (Pipeline.ΦT pre0 (tbl m) c : sProp 𝕄) = iprop(tabHalf c experts (tbl m 0) ∗ tabHalf c count (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The count of live tiles, as the body reads it. -/
abbrev word (c : Dev nD) (T : TabBuf (F := F) c count) : BitVec 32 :=
  View.readAt (Elt F) count.view (Rect.unit (s := S1) ![0] S1.size inb_S1_S1_0).toLoadRect T (Shape.Idx.first (numel1_S1.symm ▸ Nat.one_pos))

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The body, branch by branch -/

set_option maxHeartbeats 1000000 in
/-- A live tile: the body leaves the gated product in the output's buffer. -/
def runLive (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole)
    (x0 : Vec F S512x2048 .bf16) (x1 x2 : Vec F S1x2048x1024 .f32) (T0 : TabBuf (F := F) c experts) (T1 : TabBuf (F := F) c count)
    (h1 : k0_cond1 i (word c T1) = 1#1) (h2 : ¬ k0_cond2 i (word c T1) = 1#1) :
    { L : List (View.Piece (Elt F) S512x1024 .bf16) // ∀ (K : PUnit → sProp 𝕄),
      iprop(owns (c : Thread nD τ) arg4 fullShare x0 ∗ owns (c : Thread nD τ) arg5 fullShare x1 ∗ owns (c : Thread nD τ) arg6 fullShare x2 ∗ (∃ d, owns (c : Thread nD τ) arg7 fullShare d) ∗ tabHalf c experts T0 ∗ tabHalf c count T1
          ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L) ∗ tabHalf c experts T0 ∗ tabHalf c count T1) -∗ K ⟨⟩))
        ⊢ wp frame (wpE (defs₀ (F := F)) Variants.none c none) Set.univ (cc0__moe_up_kernel i experts (Memref.isWhole_whole _) count (Memref.isWhole_whole _) arg4 harg4 arg5 harg5 arg6 harg6 arg7 harg7) K } := by
  refine ⟨?_, fun K => ?run⟩
  case run =>
    simp only [cc0__moe_up_kernel_eq_skeleton]; unfold cc0__moe_up_kernel_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec! (disch := first | (guard_target = k0_cond1 _ _ = _; exact h1) | (guard_target = ¬(k0_cond2 _ _ = _); exact h2))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

set_option maxHeartbeats 1000000 in
/-- A tile past the count: the body leaves zeros. -/
def runDead (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole)
    (x0 : Vec F S512x2048 .bf16) (x1 x2 : Vec F S1x2048x1024 .f32) (T0 : TabBuf (F := F) c experts) (T1 : TabBuf (F := F) c count)
    (h1 : ¬ k0_cond1 i (word c T1) = 1#1) (h2 : k0_cond2 i (word c T1) = 1#1) :
    { L : List (View.Piece (Elt F) S512x1024 .bf16) // ∀ (K : PUnit → sProp 𝕄),
      iprop(owns (c : Thread nD τ) arg4 fullShare x0 ∗ owns (c : Thread nD τ) arg5 fullShare x1 ∗ owns (c : Thread nD τ) arg6 fullShare x2 ∗ (∃ d, owns (c : Thread nD τ) arg7 fullShare d) ∗ tabHalf c experts T0 ∗ tabHalf c count T1
          ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L) ∗ tabHalf c experts T0 ∗ tabHalf c count T1) -∗ K ⟨⟩))
        ⊢ wp frame (wpE (defs₀ (F := F)) Variants.none c none) Set.univ (cc0__moe_up_kernel i experts (Memref.isWhole_whole _) count (Memref.isWhole_whole _) arg4 harg4 arg5 harg5 arg6 harg6 arg7 harg7) K } := by
  refine ⟨?_, fun K => ?run⟩
  case run =>
    simp only [cc0__moe_up_kernel_eq_skeleton]; unfold cc0__moe_up_kernel_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec! (disch := first | (guard_target = ¬(k0_cond1 _ _ = _); exact h1) | (guard_target = k0_cond2 _ _ = _; exact h2))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

/-! ## What each branch leaves -/

/-- A view of the output's buffers to read stores through: any does. -/
abbrev outView : View sig .tc .vmem S512x1024 .bf16 := (Memref.whole cc0_stg3_0 : Memref sig .tc .vmem S512x1024 .bf16).view

section
variable (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole)
  (x0 : Vec F S512x2048 .bf16) (x1 x2 : Vec F S1x2048x1024 .f32) (T0 : TabBuf (F := F) c experts) (T1 : TabBuf (F := F) c count)

def leftLive (h1 : k0_cond1 i (word c T1) = 1#1) (h2 : ¬ k0_cond2 i (word c T1) = 1#1) : Vec F S512x1024 .bf16 :=
  outView.read (Elt F) (outView.writes (Elt F) outView.junk (runLive c i arg4 harg4 arg5 harg5 arg6 harg6 arg7 harg7 x0 x1 x2 T0 T1 h1 h2).1)

def leftDead (h1 : ¬ k0_cond1 i (word c T1) = 1#1) (h2 : k0_cond2 i (word c T1) = 1#1) : Vec F S512x1024 .bf16 :=
  outView.read (Elt F) (outView.writes (Elt F) outView.junk (runDead c i arg4 harg4 arg5 harg5 arg6 harg6 arg7 harg7 x0 x1 x2 T0 T1 h1 h2).1)

theorem leftLive_eq (h1 h2) : leftLive c i arg4 harg4 arg5 harg5 arg6 harg6 arg7 harg7 x0 x1 x2 T0 T1 h1 h2 = k0_pay1 x0 x1 x2 := by
  frame_open
  frame_out

theorem leftDead_eq (h1 h2) : leftDead c i arg4 harg4 arg5 harg5 arg6 harg6 arg7 harg7 x0 x1 x2 T0 T1 h1 h2 = k0_pay2 (F := F) := by
  frame_open
  frame_out

theorem live_covers (h1 h2) (y : S512x1024.Idx) : ∃ p ∈ (runLive c i arg4 harg4 arg5 harg5 arg6 harg6 arg7 harg7 x0 x1 x2 T0 T1 h1 h2).1, y ∈ p.1.set :=
  View.cover_of_tiledL (runLive c i arg4 harg4 arg5 harg5 arg6 harg6 arg7 harg7 x0 x1 x2 T0 T1 h1 h2).1 S512x1024.size (by sl_kernel_rfl) y

theorem dead_covers (h1 h2) (y : S512x1024.Idx) : ∃ p ∈ (runDead c i arg4 harg4 arg5 harg5 arg6 harg6 arg7 harg7 x0 x1 x2 T0 T1 h1 h2).1, y ∈ p.1.set :=
  View.cover_of_tiledL (runDead c i arg4 harg4 arg5 harg5 arg6 harg6 arg7 harg7 x0 x1 x2 T0 T1 h1 h2).1 S512x1024.size (by sl_kernel_rfl) y

/-- Either way: the body leaves the gated product at a live tile and zeros at the others. -/
theorem body_triple (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ tabHalf c experts T0 ∗ tabHalf c count T1
        ∗ (iprop(owns (c : Thread nD τ) arg4 fullShare x0 ∗ owns (c : Thread nD τ) arg5 fullShare x1 ∗ owns (c : Thread nD τ) arg6 fullShare x2
            ∗ owns (c : Thread nD τ) arg7 fullShare (if k0_cond1 i (word c T1) = 1#1 then k0_pay1 x0 x1 x2 else k0_pay2 (F := F)) ∗ tabHalf c experts T0 ∗ tabHalf c count T1) -∗ K ⟨⟩))
      ⊢ wp frame (wpE (defs₀ (F := F)) Variants.none c none) Set.univ (cc0__moe_up_kernel i experts (Memref.isWhole_whole _) count (Memref.isWhole_whole _) arg4 harg4 arg5 harg5 arg6 harg6 arg7 harg7) K := by
  by_cases h1 : k0_cond1 i (word c T1) = 1#1
  · have h2 : ¬ k0_cond2 i (word c T1) = 1#1 := fun h => (cond2_iff i _).1 h h1
    rw [if_pos h1]
    iintro ⟨H0, H1, H2, H3, HT0, HT1, Hk⟩
    iapply ((runLive c i arg4 harg4 arg5 harg5 arg6 harg6 arg7 harg7 x0 x1 x2 T0 T1 h1 h2).2 K)
    isplitl [H0]; · iexact H0
    isplitl [H1]; · iexact H1
    isplitl [H2]; · iexact H2
    isplitl [H3]; · iexact H3
    isplitl [HT0]; · iexact HT0
    isplitl [HT1]; · iexact HT1
    iintro ⟨H0, H1, H2, ⟨%e3, H3⟩, HT0, HT1⟩
    iapply Hk
    isplitl [H0]; · iexact H0
    isplitl [H1]; · iexact H1
    isplitl [H2]; · iexact H2
    isplitl [H3]
    · unfold owns; iexists _; isplitr
      swap; · iexact H3
      ipureintro
      exact (View.read_writes_of_cover _ _ outView outView.junk _ (live_covers c i arg4 harg4 arg5 harg5 arg6 harg6 arg7 harg7 x0 x1 x2 T0 T1 h1 h2)).trans
        (leftLive_eq c i arg4 harg4 arg5 harg5 arg6 harg6 arg7 harg7 x0 x1 x2 T0 T1 h1 h2)
    isplitl [HT0]; · iexact HT0
    iexact HT1
  · have h2 : k0_cond2 i (word c T1) = 1#1 := (cond2_iff i _).2 h1
    rw [if_neg h1]
    iintro ⟨H0, H1, H2, H3, HT0, HT1, Hk⟩
    iapply ((runDead c i arg4 harg4 arg5 harg5 arg6 harg6 arg7 harg7 x0 x1 x2 T0 T1 h1 h2).2 K)
    isplitl [H0]; · iexact H0
    isplitl [H1]; · iexact H1
    isplitl [H2]; · iexact H2
    isplitl [H3]; · iexact H3
    isplitl [HT0]; · iexact HT0
    isplitl [HT1]; · iexact HT1
    iintro ⟨H0, H1, H2, ⟨%e3, H3⟩, HT0, HT1⟩
    iapply Hk
    isplitl [H0]; · iexact H0
    isplitl [H1]; · iexact H1
    isplitl [H2]; · iexact H2
    isplitl [H3]
    · unfold owns; iexists _; isplitr
      swap; · iexact H3
      ipureintro
      exact (View.read_writes_of_cover _ _ outView outView.junk _ (dead_covers c i arg4 harg4 arg5 harg5 arg6 harg6 arg7 harg7 x0 x1 x2 T0 T1 h1 h2)).trans
        (leftDead_eq c i arg4 harg4 arg5 harg5 arg6 harg6 arg7 harg7 x0 x1 x2 T0 T1 h1 h2)
    isplitl [HT0]; · iexact HT0
    iexact HT1
end

/-! ## The whole call -/

/-- The point's output block: the gated product where the tile is below the count, zeros elsewhere. -/
def outsAt (hO : Ok m) (c : Dev nD) (t : Fin (cfgM m hO).N) : Vec F S512x1024 .bf16 :=
  if k0_cond1 (grid0.coords t) (word c (tbl m 1)) = 1#1 then k0_pay1 (iblk m hO c 0 t) (iblk m hO c 1 t) (iblk m hO c 2 t) else k0_pay2 (F := F)

/-- What every buffer holds after the body at a point: inputs their blocks, the output `outsAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outsAt m hO c t := by dsimp only [dats]; try rfl

/-- An input's buffer holds its block before the body at every point, fetched there or kept from the point before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The output's buffer is stored at every point: one of the two branches is taken. -/
theorem stored (hO : Ok m) (i : grid0.Coords) : (cfgM m hO).idle 3 i = false := by
  show (!(k0_cond1 i ((tbl m).atD 1 ![0]) == 1#1) && !(k0_cond2 i ((tbl m).atD 1 ![0]) == 1#1)) = false
  by_cases h : k0_cond1 i ((tbl m).atD 1 ![0]) = 1#1
  · simp [h]
  · simp [(cond2_iff i _).2 h]

/-- The windows' buffers at point `t`. -/
abbrev ms0 (hO : Ok m) (t : Fin (cfgM m hO).N) : Memref sig .tc .vmem S512x2048 .bf16 := spec0_0.stage ((cfgM m hO).slots t 0)
abbrev ms1 (hO : Ok m) (t : Fin (cfgM m hO).N) : Memref sig .tc .vmem S1x2048x1024 .f32 := spec0_1.stage ((cfgM m hO).slots t 1)
abbrev ms2 (hO : Ok m) (t : Fin (cfgM m hO).N) : Memref sig .tc .vmem S1x2048x1024 .f32 := spec0_2.stage ((cfgM m hO).slots t 2)
abbrev ms3 (hO : Ok m) (t : Fin (cfgM m hO).N) : Memref sig .tc .vmem S512x1024 .bf16 := spec0_3.stage ((cfgM m hO).slots t 3)

/-- The body at point `t` as the call runs it. -/
abbrev bodyAt (hO : Ok m) (t : Fin (cfgM m hO).N) : Prog (TpuEff nD τ sig (Elt F) Λ₀ .tc) PUnit :=
  cc0__moe_up_kernel (grid0.coords t) experts (Memref.isWhole_whole _) count (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3))

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body at any point does what `dats` says. -/
theorem body_obligation (hO : Ok m) (c : Dev nD) : BodyObligation (dats (F := F) m hO 0 c) (defs₀ (F := F)) Variants.none () Set.univ := fun t => by
  rw [bigSep_W0, bigSep_W0, row_eq m hO]
  rewrite [stored m hO]
  show iprop((dats m hO 0 c).Φ t.castSucc ∗ (dats m hO 0 c).owesAt () t.castSucc
      ∗ (∃ d, owns (c : Thread nD τ) (ms0 m hO t) fullShare ((dats m hO 0 c).before 0 t d))
      ∗ (∃ d, owns (c : Thread nD τ) (ms1 m hO t) fullShare ((dats m hO 0 c).before 1 t d))
      ∗ (∃ d, owns (c : Thread nD τ) (ms2 m hO t) fullShare ((dats m hO 0 c).before 2 t d))
      ∗ (∃ d, owns (c : Thread nD τ) (ms3 m hO t) fullShare ((dats m hO 0 c).before 3 t d)))
    ⊢ wp frame (wpE (defs₀ (F := F)) Variants.none c none) Set.univ (bodyAt m hO t) (fun _ =>
      iprop((dats m hO 0 c).Φ t.succ ∗ (dats m hO 0 c).owesAt () t.succ
        ∗ owns (c : Thread nD τ) (ms0 m hO t) fullShare ((dats m hO 0 c).after 0 t)
        ∗ owns (c : Thread nD τ) (ms1 m hO t) fullShare ((dats m hO 0 c).after 1 t)
        ∗ owns (c : Thread nD τ) (ms2 m hO t) fullShare ((dats m hO 0 c).after 2 t)
        ∗ owns (c : Thread nD τ) (ms3 m hO t) fullShare ((dats m hO 0 c).after 3 t)))
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, tables_eq]
  unfold outsAt
  iintro ⟨⟨HΦ, ⟨HT0, HT1⟩⟩, Ho, ⟨%d0, H0⟩, ⟨%d1, H1⟩, ⟨%d2, H2⟩, ⟨%d3, H3⟩⟩
  iapply (body_triple c (grid0.coords t) _ _ _ _ _ _ _ _ (iblk m hO c 0 t) (iblk m hO c 1 t) (iblk m hO c 2 t) (tbl m 0) (tbl m 1) _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  iexact H3

set_option backward.isDefEq.respectTransparency.types false in
/-- The call from any memory whose tables are admissible: it ends with every array as `dats` computes it, the other
    buffers as found, and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The call's result and its arguments, at the end. -/
theorem run_blocks (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      (h.1 c).2 main_arg3 (by decide : main_arg3 ∈ Pipeline.restRefs sig spec0),
      (h.1 c).2 main_arg4 (by decide : main_arg4 ∈ Pipeline.restRefs sig spec0)⟩, h.2⟩) (run_main m ρ hO)

end Cert.UpIdeal.Hand

end
-- ==== Proof.MoeUpRef.lean ====
module

public import proofs.«01_k».proof.Proof.Gen.UpRefIdeal.Run
public import proofs.«01_k».proof.Proof.Gen.UpRefIdeal.Read
public import proofs.«01_k».proof.Proof.Products
public import Idealize.ShloMosaic.Lib.Pipeline.ValueKit

set_option maxRecDepth 16384
@[expose] public section

noncomputable section
open Idealize.ShloMosaic Idealize.ShloMosaic.TcCoe Idealize.SL.Sem

/-! # The experts' first product as the reference writes it

The reference adds over the eight experts the gated product of every row with the expert's matrices, times the
expert's gate: one where the row's tile has that expert and is live. -/

namespace Cert.UpRefIdeal.Hand
open Cert.UpRefIdeal Cert.UpRefIdeal.Read

/-- A row's gated product with expert `e`'s two matrices. -/
def product (x : FVec Ideal S37888x2048 .bf16) (w u : FVec Ideal S8x2048x7168 .f32) (e : Fin 8) (r : Fin 37888) (s : Fin 7168) : EReal :=
  Layer.gated (Layer.dot (fun k : Fin 2048 => x (ix2 r k)) (fun k => w (ix3 e k s))) (Layer.dot (fun k : Fin 2048 => x (ix2 r k)) (fun k => u (ix3 e k s)))

variable (x : FVec Ideal S37888x2048 .bf16) (w u : FVec Ideal S8x2048x7168 .f32) (T0 : IVec S74 32) (T1 : IVec S1 32) (r : Fin 37888) (s : Fin 7168)

/-- The gate of expert `e` at a row. -/
theorem gate_at (e : Fin 8) : val_main_v11 (F := Ideal) T0 T1 (ix2 r e)
    = Layer.flag (T0 (ix1 ⟨r / 512, by omega⟩) == BitVec.ofNat 32 e) * Layer.flag ((BitVec.ofNat 32 (r / 512)).slt (T1 (ix1 0))) := by
  pointwise [val_main_v11, val_main_v10, val_main_v9, val_main_v8, val_main_v7, val_main_v6, val_main_v5, val_main_v4, val_main_v3, val_main_v2, val_main_v1,
    val_main_call0_v0, val_main_call0_v1, val_main_call0_v2, val_main_call0_v3, val_main_call0_v4]
  refine congrArg₂ (· * ·) ?_ ?_
  · exact Layer.flag_eq _
  · exact Layer.flag_eq _

/-- Expert 0's gated product in the reference. -/
theorem product0_at : val_main_v20 (F := Ideal) x w u (ix2 r s) = product x w u 0 r s := by
  pointwise [val_main_v20, val_main_v19, val_main_v18, val_main_v17, val_main_v16, val_main_v15, val_main_v14, val_main_v13, val_main_v0,
    val_main_call1_v5, val_main_call1_v4, val_main_call1_v3, val_main_call1_v2, val_main_call1_v1, val_main_call1_v0, val_main_call1_cst, val_main_call1_cst_0]
  rfl

/-- Expert 1's gated product in the reference. -/
theorem product1_at : val_main_v32 (F := Ideal) x w u (ix2 r s) = product x w u 1 r s := by
  pointwise [val_main_v32, val_main_v31, val_main_v30, val_main_v29, val_main_v28, val_main_v27, val_main_v26, val_main_v25, val_main_v0,
    val_main_call2_v5, val_main_call2_v4, val_main_call2_v3, val_main_call2_v2, val_main_call2_v1, val_main_call2_v0, val_main_call2_cst, val_main_call2_cst_0]
  rfl

/-- Expert 2's gated product in the reference. -/
theorem product2_at : val_main_v44 (F := Ideal) x w u (ix2 r s) = product x w u 2 r s := by
  pointwise [val_main_v44, val_main_v43, val_main_v42, val_main_v41, val_main_v40, val_main_v39, val_main_v38, val_main_v37, val_main_v0,
    val_main_call3_v5, val_main_call3_v4, val_main_call3_v3, val_main_call3_v2, val_main_call3_v1, val_main_call3_v0, val_main_call3_cst, val_main_call3_cst_0]
  rfl

/-- Expert 3's gated product in the reference. -/
theorem product3_at : val_main_v56 (F := Ideal) x w u (ix2 r s) = product x w u 3 r s := by
  pointwise [val_main_v56, val_main_v55, val_main_v54, val_main_v53, val_main_v52, val_main_v51, val_main_v50, val_main_v49, val_main_v0,
    val_main_call4_v5, val_main_call4_v4, val_main_call4_v3, val_main_call4_v2, val_main_call4_v1, val_main_call4_v0, val_main_call4_cst, val_main_call4_cst_0]
  rfl

/-- Expert 4's gated product in the reference. -/
theorem product4_at : val_main_v68 (F := Ideal) x w u (ix2 r s) = product x w u 4 r s := by
  pointwise [val_main_v68, val_main_v67, val_main_v66, val_main_v65, val_main_v64, val_main_v63, val_main_v62, val_main_v61, val_main_v0,
    val_main_call5_v5, val_main_call5_v4, val_main_call5_v3, val_main_call5_v2, val_main_call5_v1, val_main_call5_v0, val_main_call5_cst, val_main_call5_cst_0]
  rfl

/-- Expert 5's gated product in the reference. -/
theorem product5_at : val_main_v80 (F := Ideal) x w u (ix2 r s) = product x w u 5 r s := by
  pointwise [val_main_v80, val_main_v79, val_main_v78, val_main_v77, val_main_v76, val_main_v75, val_main_v74, val_main_v73, val_main_v0,
    val_main_call6_v5, val_main_call6_v4, val_main_call6_v3, val_main_call6_v2, val_main_call6_v1, val_main_call6_v0, val_main_call6_cst, val_main_call6_cst_0]
  rfl

/-- Expert 6's gated product in the reference. -/
theorem product6_at : val_main_v92 (F := Ideal) x w u (ix2 r s) = product x w u 6 r s := by
  pointwise [val_main_v92, val_main_v91, val_main_v90, val_main_v89, val_main_v88, val_main_v87, val_main_v86, val_main_v85, val_main_v0,
    val_main_call7_v5, val_main_call7_v4, val_main_call7_v3, val_main_call7_v2, val_main_call7_v1, val_main_call7_v0, val_main_call7_cst, val_main_call7_cst_0]
  rfl

/-- Expert 7's gated product in the reference. -/
theorem product7_at : val_main_v104 (F := Ideal) x w u (ix2 r s) = product x w u 7 r s := by
  pointwise [val_main_v104, val_main_v103, val_main_v102, val_main_v101, val_main_v100, val_main_v99, val_main_v98, val_main_v97, val_main_v0,
    val_main_call8_v5, val_main_call8_v4, val_main_call8_v3, val_main_call8_v2, val_main_call8_v1, val_main_call8_v0, val_main_call8_cst, val_main_call8_cst_0]
  rfl

/-- Expert 0's column of the gates, over a row. -/
theorem gate0_at : val_main_v22 (F := Ideal) T0 T1 (ix2 r s) = val_main_v11 (F := Ideal) T0 T1 (ix2 r 0) := by
  pointwise [val_main_v22, val_main_v21]

/-- Expert 1's column of the gates, over a row. -/
theorem gate1_at : val_main_v34 (F := Ideal) T0 T1 (ix2 r s) = val_main_v11 (F := Ideal) T0 T1 (ix2 r 1) := by
  pointwise [val_main_v34, val_main_v33]

/-- Expert 2's column of the gates, over a row. -/
theorem gate2_at : val_main_v46 (F := Ideal) T0 T1 (ix2 r s) = val_main_v11 (F := Ideal) T0 T1 (ix2 r 2) := by
  pointwise [val_main_v46, val_main_v45]

/-- Expert 3's column of the gates, over a row. -/
theorem gate3_at : val_main_v58 (F := Ideal) T0 T1 (ix2 r s) = val_main_v11 (F := Ideal) T0 T1 (ix2 r 3) := by
  pointwise [val_main_v58, val_main_v57]

/-- Expert 4's column of the gates, over a row. -/
theorem gate4_at : val_main_v70 (F := Ideal) T0 T1 (ix2 r s) = val_main_v11 (F := Ideal) T0 T1 (ix2 r 4) := by
  pointwise [val_main_v70, val_main_v69]

/-- Expert 5's column of the gates, over a row. -/
theorem gate5_at : val_main_v82 (F := Ideal) T0 T1 (ix2 r s) = val_main_v11 (F := Ideal) T0 T1 (ix2 r 5) := by
  pointwise [val_main_v82, val_main_v81]

/-- Expert 6's column of the gates, over a row. -/
theorem gate6_at : val_main_v94 (F := Ideal) T0 T1 (ix2 r s) = val_main_v11 (F := Ideal) T0 T1 (ix2 r 6) := by
  pointwise [val_main_v94, val_main_v93]

/-- Expert 7's column of the gates, over a row. -/
theorem gate7_at : val_main_v106 (F := Ideal) T0 T1 (ix2 r s) = val_main_v11 (F := Ideal) T0 T1 (ix2 r 7) := by
  pointwise [val_main_v106, val_main_v105]

/-- The reference's result at a row of a tile whose expert is `e`. -/
theorem result_at (e : Fin 8) (he : T0 (ix1 ⟨r / 512, by omega⟩) = BitVec.ofNat 32 e) : val_main_v109 (F := Ideal) x w u T0 T1 (ix2 r s)
    = if (BitVec.ofNat 32 (r / 512)).slt (T1 (ix1 0)) then product x w u e r s else 0 := by
  have h : val_main_v109 (F := Ideal) x w u T0 T1 (ix2 r s) = Layer.picked (fun e => product x w u e r s) (fun e => val_main_v11 (F := Ideal) T0 T1 (ix2 r e)) := by
    pointwise [val_main_v109, val_main_v107, val_main_v108, val_main_v95, val_main_v96, val_main_v83, val_main_v84, val_main_v71, val_main_v72, val_main_v59, val_main_v60, val_main_v47, val_main_v48, val_main_v35, val_main_v36, val_main_v23, val_main_v24, val_main_v12, val_main_cst]
    rw [product0_at, product1_at, product2_at, product3_at, product4_at, product5_at, product6_at, product7_at,
      gate0_at, gate1_at, gate2_at, gate3_at, gate4_at, gate5_at, gate6_at, gate7_at]
    rfl
  rw [h]
  simp only [gate_at, he]
  exact Layer.picked_eq _ e _

end Cert.UpRefIdeal.Hand

end
-- ==== Proof.MoeUp.lean ====
module

public import proofs.«01_k».proof.Proof.MoeUpRun
public import proofs.«01_k».proof.Proof.MoeUpRef
public import proofs.«01_k».proof.Defs
public import proofs.«01_k».proof.Proof.Gen.Up
public import proofs.«01_k».proof.Proof.Gen.Pre_experts_named
public import Idealize.ShloMosaic.Adequacy
public import Idealize.ShloMosaic.Init
public import Idealize.ShloMosaic.Lib.Tactic

set_option maxRecDepth 16384
@[expose] public section

noncomputable section
open Idealize.ShloMosaic Idealize.ShloMosaic.TcCoe Idealize.SL.Sem
open Idealize.ShloMosaic.Pipeline (Dat)

/-! # The experts' first product: the kernel's result is the reference's -/

namespace Cert.UpIdeal.Hand
open Cert.UpIdeal Cert.UpIdeal.Gen

/-- An element of a live tile's block. -/
theorem live_at (x : FVec Ideal S512x2048 .bf16) (w u : FVec Ideal S1x2048x1024 .f32) (r : Fin 512) (s : Fin 1024) :
    k0_pay1 (F := Ideal) x w u (ix2 r s) = Layer.gated (Layer.dot (fun k : Fin 2048 => x (ix2 r k)) (fun k => w (ix3 0 k s))) (Layer.dot (fun k => x (ix2 r k)) (fun k => u (ix3 0 k s))) := by
  pointwise [k0_pay1]
  simp only [zero_sub]
  rfl

/-- An element of a dead tile's block. -/
theorem dead_at (r : Fin 512) (s : Fin 1024) : k0_pay2 (F := Ideal) (ix2 r s) = (0 : EReal) := by
  pointwise [k0_pay2]

/-! ## Which experts the tiles have -/

section
variable {F : FTy → Type} [FloatOps F] (m : (ℓ : Loc nD τ sig) → Buf (Elt F) ℓ)

/-- The tile's expert, as the tables hold it. -/
abbrev expert (i : Fin 74) : BitVec 32 := (m (((0 : Dev nD) : Thread nD τ).loc main_arg3) : IVec S74 32) (ix1 i)

/-- Every tile's expert is one of the eight. -/
def Named : Prop := ∀ i : Fin 74, (expert m i).toNat < 8

/-- The table's word at a grid point. -/
theorem word_at (i : grid0.Coords) : (tbl m).at 0 (Rect.unit (s := S74) (k0_off1 i) S1.size (k0_off1_inb i)) numel1_S1 = expert m (i 1) := by
  refine congrArg (m (((0 : Dev nD) : Thread nD τ).loc main_arg3) : IVec S74 32) ?_
  funext a
  apply Fin.ext
  fin_cases a
  have h : k0_off1 i 0 = (i 1).val := congrFun (k0_off1_eq i) 0
  show k0_off1 i 0 + 1 * 0 = (i 1).val
  rw [h, Nat.mul_zero, Nat.add_zero]

theorem idx1 (i : grid0.Coords) : cc0_transform_1 k0_off1_inb numel1_S1 (tbl m) i = ![(expert m (i 1)).toNat, 0, (i 0).val] := by
  have h0 : (BitVec.ofNat 32 (i 0).val).toNat = (i 0).val := Nat.mod_eq_of_lt (by have := (i 0).isLt; have h : (i 0).val < 7 := this; omega)
  have h1 : cc0_transform_1 k0_off1_inb numel1_S1 (tbl m) i
    = ![((tbl m).at 0 (Rect.unit (s := S74) (k0_off1 i) S1.size (k0_off1_inb i)) numel1_S1 : BitVec 32).toNat, 0, (BitVec.ofNat 32 (i 0).val).toNat] := rfl
  rw [h1, word_at, h0]

theorem idx2 (i : grid0.Coords) : cc0_transform_2 k0_off1_inb numel1_S1 (tbl m) i = ![(expert m (i 1)).toNat, 0, (i 0).val] := idx1 m i

/-- Then the tables are admissible. -/
theorem ok_of_named (h : Named m) : Ok m := by
  have key : ∀ i : grid0.Coords, ∀ a, ((![(expert m (i 1)).toNat, 0, (i 0).val] : Fin 3 → ℕ) a + 1) * S1x2048x1024.size a ≤ S8x2048x7168.size a := by
    intro i a
    have he := h (i 1)
    have h0 : (i 0).val < 7 := (i 0).isLt
    fin_cases a
    · show ((expert m (i 1)).toNat + 1) * 1 ≤ 8; omega
    · show (0 + 1) * 2048 ≤ 2048; omega
    · show ((i 0).val + 1) * 1024 ≤ 7168; omega
  exact ⟨fun i => ⟨fun a => by rw [idx1]; exact key i a, Or.inl rfl⟩, fun i => ⟨fun a => by rw [idx2]; exact key i a, Or.inl rfl⟩⟩

end

/-- The precondition names the experts. -/
theorem named_of_pre {F : FTy → Type} [FloatOps F] (T : IVec S74 32) (x : FVec F S37888x2048 .bf16) (w u : FVec F S8x2048x7168 .f32) (n : IVec S1 32) [Cert.Pre_experts_named.Facts]
    (h : Cert.Pre_experts_named.fn (F := F) x w u T n = fun _ => 1#1) (i : Fin 74) : (T (ix1 i)).toNat < 8 := by
  have h1 := congrFun h (ix1 i)
  have h2 : BitVec.ofBool ((0#32).sle (T (ix1 i))) &&& BitVec.ofBool ((T (ix1 i)).slt 8#32) = 1#1 := h1
  generalize T (ix1 i) = v at h2
  have h3 : (0#32).sle v = true ∧ v.slt 8#32 = true := by
    revert h2; cases (0#32).sle v <;> cases v.slt 8#32 <;> decide
  have h4 : (0 : Int) ≤ v.toInt := by simpa [BitVec.sle] using h3.1
  have h5 : v.toInt < 8 := by simpa [BitVec.slt] using h3.2
  rw [BitVec.toInt_eq_toNat_cond] at h4 h5
  have := v.isLt
  split at h4 <;> omega

/-! ## Blocks at coordinates -/

variable (m : (ℓ : Loc nD τ sig) → Buf (Elt Ideal) ℓ) (hO : Ok m)

/-- The grid's coordinates and the fixed windows' places. -/
theorem idx : ∀ t : Fin grid0.N, (grid0.coords t 0).val = t.val / 74 ∧ (grid0.coords t 1).val = t.val % 74 ∧ cc0_transform_0 (grid0.coords t) = ![t.val % 74, 0]
    ∧ cc0_transform_3 (grid0.coords t) = ![t.val % 74, t.val / 74] ∧ Pipeline.Window.flushOf grid0 true cc0_transform_3 t = true ∧ t.val < 518 := by decide +kernel

theorem lt_N (t : Fin (cfgM m hO).N) : t.val < 518 := (idx t).2.2.2.2.2

/-- The block of rows. -/
theorem blk0_at (c : Dev nD) (t : Fin (cfgM m hO).N) (r : Fin 512) (k : Fin 2048) : (iblk m hO c 0 t : FVec Ideal S512x2048 .bf16) (ix2 r k)
    = (m ((c : Thread nD τ).loc main_arg0) : FVec Ideal S37888x2048 .bf16) (ix2 ⟨t.val % 74 * 512 + r, by omega⟩ k) := by
  unfold iblk
  refine congrArg (m ((c : Thread nD τ).loc main_arg0)) ?_
  funext a
  apply Fin.ext
  refine (Pipeline.Window.rect_emb_val ((cfgM m hO).win 0) t (ix2 r k : S512x2048.Idx) a rfl).trans ?_
  have h : ((cfgM m hO).win 0).index t = ![t.val % 74, 0] := (idx t).2.2.1
  rw [h]
  fin_cases a
  · rfl
  · show 0 * 2048 + k.val = k.val; omega

/-- The block of a weight of the tile's expert. -/
theorem blk1_at (c : Dev nD) (t : Fin (cfgM m hO).N) (e : Fin 8) (he : (expert m ⟨t.val % 74, by omega⟩).toNat = e.val) (k : Fin 2048) (s : Fin 1024) :
    (iblk m hO c 1 t : FVec Ideal S1x2048x1024 .f32) (ix3 0 k s)
      = (m ((c : Thread nD τ).loc main_arg1) : FVec Ideal S8x2048x7168 .f32) (ix3 e k ⟨t.val / 74 * 1024 + s, by have := lt_N m hO t; omega⟩) := by
  unfold iblk
  refine congrArg (m ((c : Thread nD τ).loc main_arg1)) ?_
  funext a
  apply Fin.ext
  refine (Pipeline.Window.rect_emb_val ((cfgM m hO).win 1) t (ix3 0 k s : S1x2048x1024.Idx) a rfl).trans ?_
  have h : ((cfgM m hO).win 1).index t = ![e.val, 0, t.val / 74] := by
    refine (idx1 m (grid0.coords t)).trans ?_
    rw [(idx t).1, ← he, show grid0.coords t 1 = (⟨t.val % 74, by omega⟩ : Fin 74) from Fin.ext (idx t).2.1]
  rw [h]
  fin_cases a
  · show e.val * 1 + 0 = e.val; omega
  · show 0 * 2048 + k.val = k.val; omega
  · rfl

theorem blk2_at (c : Dev nD) (t : Fin (cfgM m hO).N) (e : Fin 8) (he : (expert m ⟨t.val % 74, by omega⟩).toNat = e.val) (k : Fin 2048) (s : Fin 1024) :
    (iblk m hO c 2 t : FVec Ideal S1x2048x1024 .f32) (ix3 0 k s)
      = (m ((c : Thread nD τ).loc main_arg2) : FVec Ideal S8x2048x7168 .f32) (ix3 e k ⟨t.val / 74 * 1024 + s, by have := lt_N m hO t; omega⟩) := by
  unfold iblk
  refine congrArg (m ((c : Thread nD τ).loc main_arg2)) ?_
  funext a
  apply Fin.ext
  refine (Pipeline.Window.rect_emb_val ((cfgM m hO).win 2) t (ix3 0 k s : S1x2048x1024.Idx) a rfl).trans ?_
  have h : ((cfgM m hO).win 2).index t = ![e.val, 0, t.val / 74] := by
    refine (idx2 m (grid0.coords t)).trans ?_
    rw [(idx t).1, ← he, show grid0.coords t 1 = (⟨t.val % 74, by omega⟩ : Fin 74) from Fin.ext (idx t).2.1]
  rw [h]
  fin_cases a
  · show e.val * 1 + 0 = e.val; omega
  · show 0 * 2048 + k.val = k.val; omega
  · rfl

/-- The place of an output element. -/
theorem out_at (t : Fin (cfgM m hO).N) (r : Fin 512) (s : Fin 1024) : (((cfgM m hO).win 3).blk t).view.emb (ix2 r s : S512x1024.Idx)
    = (ix2 ⟨t.val % 74 * 512 + r, by omega⟩ ⟨t.val / 74 * 1024 + s, by have := lt_N m hO t; omega⟩ : S37888x7168.Idx) := by
  funext a
  apply Fin.ext
  refine (Pipeline.Window.rect_emb_val ((cfgM m hO).win 3) t (ix2 r s : S512x1024.Idx) a rfl).trans ?_
  have h : ((cfgM m hO).win 3).index t = ![t.val % 74, t.val / 74] := (idx t).2.2.2.1
  rw [h]
  fin_cases a
  · rfl
  · rfl

/-- Every element of the output is in some point's block. -/
theorem covers : ((cfgM m hO).win 3).Covers := by
  refine ⟨fun a => by
    fin_cases a
    · show 0 < 512; decide
    · show 0 < 1024; decide, fun β => ?_⟩
  have n0 : ((cfgM m hO).win 3).nblk (0 : Fin 2) = 74 := (by decide +kernel : (37888 + 512 - 1) / 512 = 74)
  have n1 : ((cfgM m hO).win 3).nblk (1 : Fin 2) = 7 := (by decide +kernel : (7168 + 1024 - 1) / 1024 = 7)
  obtain ⟨b0, hb0⟩ : ∃ b : Fin 74, b.val = (β (0 : Fin 2)).val := ⟨⟨_, lt_of_lt_of_eq (β (0 : Fin 2)).isLt n0⟩, rfl⟩
  obtain ⟨b1, hb1⟩ : ∃ b : Fin 7, b.val = (β (1 : Fin 2)).val := ⟨⟨_, lt_of_lt_of_eq (β (1 : Fin 2)).isLt n1⟩, rfl⟩
  have hN : b1.val * 74 + b0.val < grid0.N := by
    have : grid0.N = 518 := by decide +kernel
    omega
  let t : Fin grid0.N := ⟨b1.val * 74 + b0.val, hN⟩
  have h : ((cfgM m hO).win 3).index t = ![t.val % 74, t.val / 74] := (idx t).2.2.2.1
  refine ⟨t, (idx t).2.2.2.2.1, fun a => ⟨?_, Or.inl rfl⟩⟩
  rw [h]
  fin_cases a
  · refine Eq.trans ?_ hb0
    show (b1.val * 74 + b0.val) % 74 = b0.val; omega
  · refine Eq.trans ?_ hb1
    show (b1.val * 74 + b0.val) / 74 = b1.val; omega

/-- An index of an output block by its coordinates. -/
theorem coords_of (y : S512x1024.Idx) : ∃ (y0 : Fin 512) (y1 : Fin 1024), y = ix2 y0 y1 := ⟨y 0, y 1, by funext a; fin_cases a <;> rfl⟩

/-- The result after the run is the reference's. -/
theorem final (hN : Named m) (c : Dev nD) : (dats m hO 0 c).arrAt 3 (cfgM m hO).N
    = Cert.UpRefIdeal.Read.val_main_v109 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  obtain rfl : c = 0 := Subsingleton.elim _ _
  refine (dats m hO 0 0).arrAt_eq_of_covers 3 _ (covers m hO) (fun t _ y => ?_) (Memref.isWhole_whole _)
  have ht := lt_N m hO t
  obtain ⟨y0, y1, rfl⟩ : ∃ (y0 : Fin 512) (y1 : Fin 1024), y = (ix2 y0 y1 : S512x1024.Idx) := coords_of y
  rw [out_at]
  show (dats m hO 0 0).after 3 t (ix2 y0 y1 : S512x1024.Idx) = _
  rw [after_3]
  let e : Fin 8 := ⟨(expert m ⟨t.val % 74, by omega⟩).toNat, hN _⟩
  have he : expert m ⟨t.val % 74, by omega⟩ = BitVec.ofNat 32 e.val := by simp [e]
  refine Eq.trans ?_ (Cert.UpRefIdeal.Hand.result_at _ _ _ _ _ _ _ e (by
    refine Eq.trans (congrArg (m (((0 : Dev nD) : Thread nD τ).loc main_arg3) : IVec S74 32) ?_) he
    congr 1
    apply Fin.ext
    show (t.val % 74 * 512 + y0.val) / 512 = t.val % 74
    omega)).symm
  have hq : (t.val % 74 * 512 + y0.val) / 512 = t.val % 74 := by omega
  have hc : k0_cond1 (grid0.coords t) (word 0 (tbl m 1)) = 1#1 ↔ (BitVec.ofNat 32 (t.val % 74)).slt ((m (((0 : Dev nD) : Thread nD τ).loc main_arg4) : IVec S1 32) (ix1 0)) = true := by
    have hw : word 0 (tbl m 1) = (m (((0 : Dev nD) : Thread nD τ).loc main_arg4) : IVec S1 32) (ix1 0) := by
      refine congrArg (m (((0 : Dev nD) : Thread nD τ).loc main_arg4) : IVec S1 32) ?_
      funext a; fin_cases a; rfl
    rw [cond1_iff, hw, (idx t).2.1]
  rw [hq]
  unfold outsAt
  by_cases hl : (BitVec.ofNat 32 (t.val % 74)).slt ((m (((0 : Dev nD) : Thread nD τ).loc main_arg4) : IVec S1 32) (ix1 0)) = true
  · rw [if_pos (hc.2 hl), if_pos hl]
    refine (live_at _ _ _ y0 y1).trans ?_
    simp only [blk0_at m hO 0 t, blk1_at m hO 0 t e rfl, blk2_at m hO 0 t e rfl]
    rfl
  · rw [if_neg (fun h => hl (hc.1 h)), if_neg hl]
    exact dead_at y0 y1

end Cert.UpIdeal.Hand

namespace UpClaims

/-- What the frame of the kernel says, in the words of the program the run is of. -/
def Quiet (m : (ℓ : Loc Cert.UpIdeal.nD Cert.UpIdeal.τ Cert.UpIdeal.sig) → Buf (Elt Bits) ℓ) (ρ : Dev Cert.UpIdeal.nD → PrngReg) : Prop :=
  θ_run (Cert.UpIdeal.defs (F := Bits)) (onTc (τ := Cert.UpIdeal.τ) (Cert.UpIdeal.main (F := Bits))) ⟨m, fun _ => 0, ρ⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
    ∧ r.2.sem = fun _ => 0)

/-- The two programs have the same text, so the kernel's frame says just that. -/
theorem same_text : Cert.quiescent_Up = ∀ (m : (ℓ : Loc Cert.UpIdeal.nD Cert.UpIdeal.τ Cert.UpIdeal.sig) → Buf (Elt Bits) ℓ) (ρ : Dev Cert.UpIdeal.nD → PrngReg), Cert.Pre_Up m → Quiet m ρ := by
  sl_kernel_rfl

/-- Under the kernel's precondition every live tile names a stored expert. -/
theorem named_kernel (m : (ℓ : Loc Cert.UpIdeal.nD Cert.UpIdeal.τ Cert.UpIdeal.sig) → Buf (Elt Bits) ℓ) (hp : Cert.Pre_Up m) : Cert.UpIdeal.Hand.Named m :=
  fun i => Cert.UpIdeal.Hand.named_of_pre _ _ _ _ _ (hp 0) i

/-- The kernel runs, keeps its arguments and leaves no semaphore raised: its text is the text the run is of. -/
theorem frame_kernel : Cert.quiescent_Up :=
  same_text.mpr fun m ρ hp => (θ_run Cert.UpIdeal.defs _ _).mono (fun r h => ⟨fun c => (h.1 c).2, h.2⟩)
    (Cert.UpIdeal.Hand.run_blocks (F := Bits) m ρ (Cert.UpIdeal.Hand.ok_of_named m (named_kernel m hp)))

/-- So does the kernel over the extended reals. -/
theorem frame_ideal : Cert.quiescent_UpIdeal := fun m ρ hp =>
  (θ_run Cert.UpIdeal.defs _ _).mono (fun r h => ⟨fun c => (h.1 c).2, h.2⟩)
    (Cert.UpIdeal.Hand.run_blocks (F := Ideal) m ρ (Cert.UpIdeal.Hand.ok_of_named m fun i => Cert.UpIdeal.Hand.named_of_pre _ _ _ _ _ (hp 0) i))

/-- So does the reference over the extended reals. -/
theorem frame_ref : Cert.quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)

/-- The result over the extended reals is the reference's. -/
theorem algebraic : Cert.algebraic_UpIdeal_UpRefIdeal := by
  intro m g m' g' hp hag
  have hN : Cert.UpIdeal.Hand.Named m := fun i => Cert.UpIdeal.Hand.named_of_pre _ _ _ _ _ (hp 0) i
  have hO := Cert.UpIdeal.Hand.ok_of_named m hN
  refine ⟨fun c => (Cert.UpIdeal.Hand.dats m hO 0 c).arrAt 3 (Cert.UpIdeal.Hand.cfgM m hO).N,
    (θ_run _ _ _).mono (fun r h => h.1) (Cert.UpIdeal.Hand.run_blocks (F := Ideal) m g hO),
    (θ_run _ _ _).mono (fun r h c => ?_) (Cert.UpRefIdeal.Value.run (F := Ideal) m' g')⟩
  obtain ⟨h0, h1, h2, h3, h4⟩ := hag c
  refine ⟨(h c).1.trans ?_, (h c).2⟩
  refine Eq.trans ?_ (Cert.UpIdeal.Hand.final m hO hN c).symm
  rw [Cert.UpRefIdeal.Read.val_main_v109_eq, h0, h1, h2, h3, h4]

end UpClaims

end
-- ==== Proof.MoeDownRun.lean ====
module

public import proofs.«01_k».proof.Proof.Gen.DownIdeal.Launch
public import proofs.«01_k».proof.Proof.Gen.DownIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pipeline.ReadBack
public import Idealize.ShloMosaic.Lib.Claim

/-! The run of the experts' second call: 74 tiles of 512 rows by 4 column blocks of width 512. A tile whose number is
    below the count of live tiles stores the product of its rows with its expert's matrix, every other tile stores
    zeros; which expert a tile has is read off a prefetched table. -/

@[expose] public section

set_option maxRecDepth 16384

noncomputable section

namespace Cert.DownIdeal.Hand

open Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of the run. -/
local notation "𝕄" => MT nD τ sig Unit (Elt F) ℕ (UR sig nD τ) ℕ

/-! ## The two conditions of the body -/

/-- The two branches of the body exclude each other and one of them is taken: "tile below the count" and "tile
    at or above it", signed. -/
theorem cond2_iff (i : grid0.Coords) (v : BitVec 32) : k0_cond2 i v = 1#1 ↔ ¬ k0_cond1 i v = 1#1 := by
  have hb : ∀ b : Bool, (Scalar.cmpi .ne (Scalar.extui (BitVec.ofBool b) : BitVec 32) 0#32 = 1#1) ↔ b = true := by decide
  have hs : Scalar.cmpi .sge (BitVec.ofNat 32 (i 1).val) v = BitVec.ofBool (v.sle (BitVec.ofNat 32 (i 1).val)) := rfl
  have hl : Scalar.cmpi .slt (BitVec.ofNat 32 (i 1).val) v = BitVec.ofBool ((BitVec.ofNat 32 (i 1).val).slt v) := rfl
  unfold k0_cond1 k0_cond2
  dsimp only
  rw [hs, hl, hb, hb]
  simp [BitVec.slt, BitVec.sle]

/-- The first condition in numbers of the tile. -/
theorem cond1_iff (i : grid0.Coords) (v : BitVec 32) : k0_cond1 i v = 1#1 ↔ ((BitVec.ofNat 32 (i 1).val).slt v) = true := by
  have hb : ∀ b : Bool, (Scalar.cmpi .ne (Scalar.extui (BitVec.ofBool b) : BitVec 32) 0#32 = 1#1) ↔ b = true := by decide
  have hl : Scalar.cmpi .slt (BitVec.ofNat 32 (i 1).val) v = BitVec.ofBool ((BitVec.ofNat 32 (i 1).val).slt v) := rfl
  unfold k0_cond1
  dsimp only
  rw [hl, hb]

/-! ## What the region finds -/

variable (m : (ℓ : Loc nD τ sig) → Buf (Elt F) ℓ) (ρ : Dev nD → PrngReg)

/-- The buffers the region finds: those of the launch, the program being the one call. -/
abbrev V (c : Dev nD) (b : Ref sig .tc) : Buf (Elt F) ((c : Thread nD τ).loc b) := m ((c : Thread nD τ).loc b)

set_option maxHeartbeats 800000 in
/-- The program up to its call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables at launch. -/
def tbl : pre0.Contents (Elt F) := fun j => V m (0 : Dev nD) (pre0.ref j)

/-- There is one device, so these are the tables on every device. -/
theorem V_pre (c : Dev nD) (j : Fin 2) : V m c (pre0.ref j) = tbl m j := by
  obtain rfl : c = 0 := Subsingleton.elim _ _; rfl

/-- Every tile's expert is one of the stored experts. -/
abbrev Ok : Prop := ok0 (F := F) (tbl m)

/-- The tables as contents the call can run at, and the call at them. -/
abbrev adm (hO : Ok m) : (pcfg0 (F := F)).Adm := ⟨tbl m, hO⟩
abbrev cfgM (hO : Ok m) : Pipeline.Cfg sig Λ₀ := cfg0 (adm m hO)

/-- The tables as the body holds them: half of each. -/
abbrev experts : Memref sig .tc .smem S74 .i32 := Memref.whole main_arg2
abbrev count : Memref sig .tc .smem S1 .i32 := Memref.whole main_arg3
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

theorem tables_eq (c : Dev nD) : (Pipeline.ΦT pre0 (tbl m) c : sProp 𝕄) = iprop(tabHalf c experts (tbl m 0) ∗ tabHalf c count (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The count of live tiles, as the body reads it. -/
abbrev word (c : Dev nD) (T : TabBuf (F := F) c count) : BitVec 32 :=
  View.readAt (Elt F) count.view (Rect.unit (s := S1) ![0] S1.size inb_S1_S1_0).toLoadRect T (Shape.Idx.first (numel1_S1.symm ▸ Nat.one_pos))

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The body, branch by branch -/

set_option maxHeartbeats 1000000 in
/-- A live tile: the body leaves the product in the output's buffer. -/
def runLive (c : Dev nD) (i : grid0.Coords) (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole)
    (x0 : Vec F S512x7168 .bf16) (x1 : Vec F S1x7168x512 .f32) (T0 : TabBuf (F := F) c experts) (T1 : TabBuf (F := F) c count)
    (h1 : k0_cond1 i (word c T1) = 1#1) (h2 : ¬ k0_cond2 i (word c T1) = 1#1) :
    { L : List (View.Piece (Elt F) S512x512 .f32) // ∀ (K : PUnit → sProp 𝕄),
      iprop(owns (c : Thread nD τ) arg4 fullShare x0 ∗ owns (c : Thread nD τ) arg5 fullShare x1 ∗ (∃ d, owns (c : Thread nD τ) arg6 fullShare d) ∗ tabHalf c experts T0 ∗ tabHalf c count T1
          ∗ (iprop(owns (c : Thread nD τ) arg4 fullShare x0 ∗ owns (c : Thread nD τ) arg5 fullShare x1 ∗ (∃ f, arg6.view.loc (c : Thread nD τ) ↦[arg6.view.set]{fullShare} arg6.view.writes (Elt F) f L) ∗ tabHalf c experts T0 ∗ tabHalf c count T1) -∗ K ⟨⟩))
        ⊢ wp frame (wpE (defs₀ (F := F)) Variants.none c none) Set.univ (cc0__moe_down_kernel i experts (Memref.isWhole_whole _) count (Memref.isWhole_whole _) arg4 harg4 arg5 harg5 arg6 harg6) K } := by
  refine ⟨?_, fun K => ?run⟩
  case run =>
    simp only [cc0__moe_down_kernel_eq_skeleton]; unfold cc0__moe_down_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec! (disch := first | (guard_target = k0_cond1 _ _ = _; exact h1) | (guard_target = ¬(k0_cond2 _ _ = _); exact h2))
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

set_option maxHeartbeats 1000000 in
/-- A tile past the count: the body leaves zeros. -/
def runDead (c : Dev nD) (i : grid0.Coords) (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole)
    (x0 : Vec F S512x7168 .bf16) (x1 : Vec F S1x7168x512 .f32) (T0 : TabBuf (F := F) c experts) (T1 : TabBuf (F := F) c count)
    (h1 : ¬ k0_cond1 i (word c T1) = 1#1) (h2 : k0_cond2 i (word c T1) = 1#1) :
    { L : List (View.Piece (Elt F) S512x512 .f32) // ∀ (K : PUnit → sProp 𝕄),
      iprop(owns (c : Thread nD τ) arg4 fullShare x0 ∗ owns (c : Thread nD τ) arg5 fullShare x1 ∗ (∃ d, owns (c : Thread nD τ) arg6 fullShare d) ∗ tabHalf c experts T0 ∗ tabHalf c count T1
          ∗ (iprop(owns (c : Thread nD τ) arg4 fullShare x0 ∗ owns (c : Thread nD τ) arg5 fullShare x1 ∗ (∃ f, arg6.view.loc (c : Thread nD τ) ↦[arg6.view.set]{fullShare} arg6.view.writes (Elt F) f L) ∗ tabHalf c experts T0 ∗ tabHalf c count T1) -∗ K ⟨⟩))
        ⊢ wp frame (wpE (defs₀ (F := F)) Variants.none c none) Set.univ (cc0__moe_down_kernel i experts (Memref.isWhole_whole _) count (Memref.isWhole_whole _) arg4 harg4 arg5 harg5 arg6 harg6) K } := by
  refine ⟨?_, fun K => ?run⟩
  case run =>
    simp only [cc0__moe_down_kernel_eq_skeleton]; unfold cc0__moe_down_kernel_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec! (disch := first | (guard_target = ¬(k0_cond1 _ _ = _); exact h1) | (guard_target = k0_cond2 _ _ = _; exact h2))
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HT0]; · iexact HT0
    iexact HT1

/-! ## What each branch leaves -/

/-- A view of the output's buffers to read stores through: any does. -/
abbrev outView : View sig .tc .vmem S512x512 .f32 := (Memref.whole cc0_stg2_0 : Memref sig .tc .vmem S512x512 .f32).view

section
variable (c : Dev nD) (i : grid0.Coords) (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole)
  (x0 : Vec F S512x7168 .bf16) (x1 : Vec F S1x7168x512 .f32) (T0 : TabBuf (F := F) c experts) (T1 : TabBuf (F := F) c count)

def leftLive (h1 : k0_cond1 i (word c T1) = 1#1) (h2 : ¬ k0_cond2 i (word c T1) = 1#1) : Vec F S512x512 .f32 :=
  outView.read (Elt F) (outView.writes (Elt F) outView.junk (runLive c i arg4 harg4 arg5 harg5 arg6 harg6 x0 x1 T0 T1 h1 h2).1)

def leftDead (h1 : ¬ k0_cond1 i (word c T1) = 1#1) (h2 : k0_cond2 i (word c T1) = 1#1) : Vec F S512x512 .f32 :=
  outView.read (Elt F) (outView.writes (Elt F) outView.junk (runDead c i arg4 harg4 arg5 harg5 arg6 harg6 x0 x1 T0 T1 h1 h2).1)

theorem leftLive_eq (h1 h2) : leftLive c i arg4 harg4 arg5 harg5 arg6 harg6 x0 x1 T0 T1 h1 h2 = k0_pay1 x0 x1 := by
  frame_open
  frame_out

theorem leftDead_eq (h1 h2) : leftDead c i arg4 harg4 arg5 harg5 arg6 harg6 x0 x1 T0 T1 h1 h2 = k0_pay2 (F := F) := by
  frame_open
  frame_out

theorem live_covers (h1 h2) (y : S512x512.Idx) : ∃ p ∈ (runLive c i arg4 harg4 arg5 harg5 arg6 harg6 x0 x1 T0 T1 h1 h2).1, y ∈ p.1.set :=
  View.cover_of_tiledL (runLive c i arg4 harg4 arg5 harg5 arg6 harg6 x0 x1 T0 T1 h1 h2).1 S512x512.size (by sl_kernel_rfl) y

theorem dead_covers (h1 h2) (y : S512x512.Idx) : ∃ p ∈ (runDead c i arg4 harg4 arg5 harg5 arg6 harg6 x0 x1 T0 T1 h1 h2).1, y ∈ p.1.set :=
  View.cover_of_tiledL (runDead c i arg4 harg4 arg5 harg5 arg6 harg6 x0 x1 T0 T1 h1 h2).1 S512x512.size (by sl_kernel_rfl) y

/-- Either way: the body leaves the product at a live tile and zeros at the others. -/
theorem body_triple (K : PUnit → sProp 𝕄) :
    iprop(owns (c : Thread nD τ) arg4 fullShare x0 ∗ owns (c : Thread nD τ) arg5 fullShare x1 ∗ (∃ d, owns (c : Thread nD τ) arg6 fullShare d) ∗ tabHalf c experts T0 ∗ tabHalf c count T1
        ∗ (iprop(owns (c : Thread nD τ) arg4 fullShare x0 ∗ owns (c : Thread nD τ) arg5 fullShare x1
            ∗ owns (c : Thread nD τ) arg6 fullShare (if k0_cond1 i (word c T1) = 1#1 then k0_pay1 x0 x1 else k0_pay2 (F := F)) ∗ tabHalf c experts T0 ∗ tabHalf c count T1) -∗ K ⟨⟩))
      ⊢ wp frame (wpE (defs₀ (F := F)) Variants.none c none) Set.univ (cc0__moe_down_kernel i experts (Memref.isWhole_whole _) count (Memref.isWhole_whole _) arg4 harg4 arg5 harg5 arg6 harg6) K := by
  by_cases h1 : k0_cond1 i (word c T1) = 1#1
  · have h2 : ¬ k0_cond2 i (word c T1) = 1#1 := fun h => (cond2_iff i _).1 h h1
    rw [if_pos h1]
    iintro ⟨H0, H1, H2, HT0, HT1, Hk⟩
    iapply ((runLive c i arg4 harg4 arg5 harg5 arg6 harg6 x0 x1 T0 T1 h1 h2).2 K)
    isplitl [H0]; · iexact H0
    isplitl [H1]; · iexact H1
    isplitl [H2]; · iexact H2
    isplitl [HT0]; · iexact HT0
    isplitl [HT1]; · iexact HT1
    iintro ⟨H0, H1, ⟨%e2, H2⟩, HT0, HT1⟩
    iapply Hk
    isplitl [H0]; · iexact H0
    isplitl [H1]; · iexact H1
    isplitl [H2]
    · unfold owns; iexists _; isplitr
      swap; · iexact H2
      ipureintro
      exact (View.read_writes_of_cover _ _ outView outView.junk _ (live_covers c i arg4 harg4 arg5 harg5 arg6 harg6 x0 x1 T0 T1 h1 h2)).trans
        (leftLive_eq c i arg4 harg4 arg5 harg5 arg6 harg6 x0 x1 T0 T1 h1 h2)
    isplitl [HT0]; · iexact HT0
    iexact HT1
  · have h2 : k0_cond2 i (word c T1) = 1#1 := (cond2_iff i _).2 h1
    rw [if_neg h1]
    iintro ⟨H0, H1, H2, HT0, HT1, Hk⟩
    iapply ((runDead c i arg4 harg4 arg5 harg5 arg6 harg6 x0 x1 T0 T1 h1 h2).2 K)
    isplitl [H0]; · iexact H0
    isplitl [H1]; · iexact H1
    isplitl [H2]; · iexact H2
    isplitl [HT0]; · iexact HT0
    isplitl [HT1]; · iexact HT1
    iintro ⟨H0, H1, ⟨%e2, H2⟩, HT0, HT1⟩
    iapply Hk
    isplitl [H0]; · iexact H0
    isplitl [H1]; · iexact H1
    isplitl [H2]
    · unfold owns; iexists _; isplitr
      swap; · iexact H2
      ipureintro
      exact (View.read_writes_of_cover _ _ outView outView.junk _ (dead_covers c i arg4 harg4 arg5 harg5 arg6 harg6 x0 x1 T0 T1 h1 h2)).trans
        (leftDead_eq c i arg4 harg4 arg5 harg5 arg6 harg6 x0 x1 T0 T1 h1 h2)
    isplitl [HT0]; · iexact HT0
    iexact HT1
end

/-! ## The whole call -/

/-- The point's output block: the product where the tile is below the count, zeros elsewhere. -/
def outsAt (hO : Ok m) (c : Dev nD) (t : Fin (cfgM m hO).N) : Vec F S512x512 .f32 :=
  if k0_cond1 (grid0.coords t) (word c (tbl m 1)) = 1#1 then k0_pay1 (iblk m hO c 0 t) (iblk m hO c 1 t) else k0_pay2 (F := F)

/-- What every buffer holds after the body at a point: inputs their blocks, the output `outsAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = outsAt m hO c t := by dsimp only [dats]; try rfl

/-- An input's buffer holds its block before the body at every point, fetched there or kept from the point before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- The output's buffer is stored at every point: one of the two branches is taken. -/
theorem stored (hO : Ok m) (i : grid0.Coords) : (cfgM m hO).idle 2 i = false := by
  show (!(k0_cond1 i ((tbl m).atD 1 ![0]) == 1#1) && !(k0_cond2 i ((tbl m).atD 1 ![0]) == 1#1)) = false
  by_cases h : k0_cond1 i ((tbl m).atD 1 ![0]) = 1#1
  · simp [h]
  · simp [(cond2_iff i _).2 h]

/-- The windows' buffers at point `t`. -/
abbrev ms0 (hO : Ok m) (t : Fin (cfgM m hO).N) : Memref sig .tc .vmem S512x7168 .bf16 := spec0_0.stage ((cfgM m hO).slots t 0)
abbrev ms1 (hO : Ok m) (t : Fin (cfgM m hO).N) : Memref sig .tc .vmem S1x7168x512 .f32 := spec0_1.stage ((cfgM m hO).slots t 1)
abbrev ms2 (hO : Ok m) (t : Fin (cfgM m hO).N) : Memref sig .tc .vmem S512x512 .f32 := spec0_2.stage ((cfgM m hO).slots t 2)

/-- The body at point `t` as the call runs it. -/
abbrev bodyAt (hO : Ok m) (t : Fin (cfgM m hO).N) : Prog (TpuEff nD τ sig (Elt F) Λ₀ .tc) PUnit :=
  cc0__moe_down_kernel (grid0.coords t) experts (Memref.isWhole_whole _) count (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2))

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body at any point does what `dats` says. -/
theorem body_obligation (hO : Ok m) (c : Dev nD) : BodyObligation (dats (F := F) m hO 0 c) (defs₀ (F := F)) Variants.none () Set.univ := fun t => by
  rw [bigSep_W0, bigSep_W0, row_eq m hO]
  rewrite [stored m hO]
  show iprop((dats m hO 0 c).Φ t.castSucc ∗ (dats m hO 0 c).owesAt () t.castSucc
      ∗ (∃ d, owns (c : Thread nD τ) (ms0 m hO t) fullShare ((dats m hO 0 c).before 0 t d))
      ∗ (∃ d, owns (c : Thread nD τ) (ms1 m hO t) fullShare ((dats m hO 0 c).before 1 t d))
      ∗ (∃ d, owns (c : Thread nD τ) (ms2 m hO t) fullShare ((dats m hO 0 c).before 2 t d)))
    ⊢ wp frame (wpE (defs₀ (F := F)) Variants.none c none) Set.univ (bodyAt m hO t) (fun _ =>
      iprop((dats m hO 0 c).Φ t.succ ∗ (dats m hO 0 c).owesAt () t.succ
        ∗ owns (c : Thread nD τ) (ms0 m hO t) fullShare ((dats m hO 0 c).after 0 t)
        ∗ owns (c : Thread nD τ) (ms1 m hO t) fullShare ((dats m hO 0 c).after 1 t)
        ∗ owns (c : Thread nD τ) (ms2 m hO t) fullShare ((dats m hO 0 c).after 2 t)))
  simp only [before_0, before_1]
  rw [show (dats m hO 0 c).Φ t.succ = (dats m hO 0 c).Φ t.castSucc from rfl,
    show (dats m hO 0 c).owesAt () t.succ = (dats m hO 0 c).owesAt () t.castSucc from rfl,
    after_0, after_1, after_2]
  rw [show (dats m hO 0 c).Φ t.castSucc = iprop(Pipeline.ΦA spec0 c ∗ Pipeline.ΦT pre0 (tbl m) c) from rfl, tables_eq]
  unfold outsAt
  iintro ⟨⟨HΦ, ⟨HT0, HT1⟩⟩, Ho, ⟨%d0, H0⟩, ⟨%d1, H1⟩, ⟨%d2, H2⟩⟩
  iapply (body_triple c (grid0.coords t) _ _ _ _ _ _ (iblk m hO c 0 t) (iblk m hO c 1 t) (tbl m 0) (tbl m 1) _)
  isplitl [H0]; · iexact H0
  isplitl [H1]; · iexact H1
  isplitl [H2]; · iexists _; iexact H2
  isplitl [HT0]; · iexact HT0
  isplitl [HT1]; · iexact HT1
  iintro ⟨H0, H1, H2, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  iexact H2

set_option backward.isDefEq.respectTransparency.types false in
/-- The call from any memory whose tables are admissible: it ends with every array as `dats` computes it, the other
    buffers as found, and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The call's result and its arguments, at the end. -/
theorem run_blocks (hO : Ok m) : θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 2,
      ((h.1 c).1 0).trans (((dats m hO 0 c).arrAt_in 0 rfl _).trans (A_eq m hO c 0)),
      ((h.1 c).1 1).trans (((dats m hO 0 c).arrAt_in 1 rfl _).trans (A_eq m hO c 1)),
      (h.1 c).2 main_arg2 (by decide : main_arg2 ∈ Pipeline.restRefs sig spec0),
      (h.1 c).2 main_arg3 (by decide : main_arg3 ∈ Pipeline.restRefs sig spec0)⟩, h.2⟩) (run_main m ρ hO)

end Cert.DownIdeal.Hand

end
-- ==== Proof.MoeDownRef.lean ====
module

public import proofs.«01_k».proof.Proof.Gen.DownRefIdeal.Run
public import proofs.«01_k».proof.Proof.Gen.DownRefIdeal.Read
public import proofs.«01_k».proof.Proof.Products
public import Idealize.ShloMosaic.Lib.Pipeline.ValueKit

set_option maxRecDepth 16384
@[expose] public section

noncomputable section
open Idealize.ShloMosaic Idealize.ShloMosaic.TcCoe Idealize.SL.Sem

/-! # The experts' second product as the reference writes it

The reference adds over the eight experts the product of every row with the expert's matrix, times the
expert's gate: one where the row's tile has that expert and is live. -/

namespace Cert.DownRefIdeal.Hand
open Cert.DownRefIdeal Cert.DownRefIdeal.Read

/-- A row's product with expert `e`'s matrix. -/
def product (x : FVec Ideal S37888x7168 .bf16) (w : FVec Ideal S8x7168x2048 .f32) (e : Fin 8) (r : Fin 37888) (s : Fin 2048) : EReal :=
  Layer.dot (fun k : Fin 7168 => x (ix2 r k)) (fun k => w (ix3 e k s))

variable (x : FVec Ideal S37888x7168 .bf16) (w : FVec Ideal S8x7168x2048 .f32) (T0 : IVec S74 32) (T1 : IVec S1 32) (r : Fin 37888) (s : Fin 2048)

/-- The gate of expert `e` at a row. -/
theorem gate_at (e : Fin 8) : val_main_v11 (F := Ideal) T0 T1 (ix2 r e)
    = Layer.flag (T0 (ix1 ⟨r / 512, by omega⟩) == BitVec.ofNat 32 e) * Layer.flag ((BitVec.ofNat 32 (r / 512)).slt (T1 (ix1 0))) := by
  pointwise [val_main_v11, val_main_v10, val_main_v9, val_main_v8, val_main_v7, val_main_v6, val_main_v5, val_main_v4, val_main_v3, val_main_v2, val_main_v1,
    val_main_call0_v0, val_main_call0_v1, val_main_call0_v2, val_main_call0_v3, val_main_call0_v4]
  refine congrArg₂ (· * ·) ?_ ?_
  · exact Layer.flag_eq _
  · exact Layer.flag_eq _

/-- Expert 0's product in the reference. -/
theorem product0_at : val_main_v15 (F := Ideal) x w (ix2 r s) = product x w 0 r s := by
  pointwise [val_main_v15, val_main_v14, val_main_v13, val_main_v0]
  rfl

/-- Expert 1's product in the reference. -/
theorem product1_at : val_main_v22 (F := Ideal) x w (ix2 r s) = product x w 1 r s := by
  pointwise [val_main_v22, val_main_v21, val_main_v20, val_main_v0]
  rfl

/-- Expert 2's product in the reference. -/
theorem product2_at : val_main_v29 (F := Ideal) x w (ix2 r s) = product x w 2 r s := by
  pointwise [val_main_v29, val_main_v28, val_main_v27, val_main_v0]
  rfl

/-- Expert 3's product in the reference. -/
theorem product3_at : val_main_v36 (F := Ideal) x w (ix2 r s) = product x w 3 r s := by
  pointwise [val_main_v36, val_main_v35, val_main_v34, val_main_v0]
  rfl

/-- Expert 4's product in the reference. -/
theorem product4_at : val_main_v43 (F := Ideal) x w (ix2 r s) = product x w 4 r s := by
  pointwise [val_main_v43, val_main_v42, val_main_v41, val_main_v0]
  rfl

/-- Expert 5's product in the reference. -/
theorem product5_at : val_main_v50 (F := Ideal) x w (ix2 r s) = product x w 5 r s := by
  pointwise [val_main_v50, val_main_v49, val_main_v48, val_main_v0]
  rfl

/-- Expert 6's product in the reference. -/
theorem product6_at : val_main_v57 (F := Ideal) x w (ix2 r s) = product x w 6 r s := by
  pointwise [val_main_v57, val_main_v56, val_main_v55, val_main_v0]
  rfl

/-- Expert 7's product in the reference. -/
theorem product7_at : val_main_v64 (F := Ideal) x w (ix2 r s) = product x w 7 r s := by
  pointwise [val_main_v64, val_main_v63, val_main_v62, val_main_v0]
  rfl

/-- Expert 0's column of the gates, over a row. -/
theorem gate0_at : val_main_v17 (F := Ideal) T0 T1 (ix2 r s) = val_main_v11 (F := Ideal) T0 T1 (ix2 r 0) := by
  pointwise [val_main_v17, val_main_v16]

/-- Expert 1's column of the gates, over a row. -/
theorem gate1_at : val_main_v24 (F := Ideal) T0 T1 (ix2 r s) = val_main_v11 (F := Ideal) T0 T1 (ix2 r 1) := by
  pointwise [val_main_v24, val_main_v23]

/-- Expert 2's column of the gates, over a row. -/
theorem gate2_at : val_main_v31 (F := Ideal) T0 T1 (ix2 r s) = val_main_v11 (F := Ideal) T0 T1 (ix2 r 2) := by
  pointwise [val_main_v31, val_main_v30]

/-- Expert 3's column of the gates, over a row. -/
theorem gate3_at : val_main_v38 (F := Ideal) T0 T1 (ix2 r s) = val_main_v11 (F := Ideal) T0 T1 (ix2 r 3) := by
  pointwise [val_main_v38, val_main_v37]

/-- Expert 4's column of the gates, over a row. -/
theorem gate4_at : val_main_v45 (F := Ideal) T0 T1 (ix2 r s) = val_main_v11 (F := Ideal) T0 T1 (ix2 r 4) := by
  pointwise [val_main_v45, val_main_v44]

/-- Expert 5's column of the gates, over a row. -/
theorem gate5_at : val_main_v52 (F := Ideal) T0 T1 (ix2 r s) = val_main_v11 (F := Ideal) T0 T1 (ix2 r 5) := by
  pointwise [val_main_v52, val_main_v51]

/-- Expert 6's column of the gates, over a row. -/
theorem gate6_at : val_main_v59 (F := Ideal) T0 T1 (ix2 r s) = val_main_v11 (F := Ideal) T0 T1 (ix2 r 6) := by
  pointwise [val_main_v59, val_main_v58]

/-- Expert 7's column of the gates, over a row. -/
theorem gate7_at : val_main_v66 (F := Ideal) T0 T1 (ix2 r s) = val_main_v11 (F := Ideal) T0 T1 (ix2 r 7) := by
  pointwise [val_main_v66, val_main_v65]

/-- The reference's result at a row of a tile whose expert is `e`. -/
theorem result_at (e : Fin 8) (he : T0 (ix1 ⟨r / 512, by omega⟩) = BitVec.ofNat 32 e) : val_main_v68 (F := Ideal) x w T0 T1 (ix2 r s)
    = if (BitVec.ofNat 32 (r / 512)).slt (T1 (ix1 0)) then product x w e r s else 0 := by
  have h : val_main_v68 (F := Ideal) x w T0 T1 (ix2 r s) = Layer.picked (fun e => product x w e r s) (fun e => val_main_v11 (F := Ideal) T0 T1 (ix2 r e)) := by
    pointwise [val_main_v67, val_main_v68, val_main_v60, val_main_v61, val_main_v53, val_main_v54, val_main_v46, val_main_v47, val_main_v39, val_main_v40, val_main_v32, val_main_v33, val_main_v25, val_main_v26, val_main_v18, val_main_v19, val_main_v12, val_main_cst]
    rw [product0_at, product1_at, product2_at, product3_at, product4_at, product5_at, product6_at, product7_at,
      gate0_at, gate1_at, gate2_at, gate3_at, gate4_at, gate5_at, gate6_at, gate7_at]
    rfl
  rw [h]
  simp only [gate_at, he]
  exact Layer.picked_eq _ e _

end Cert.DownRefIdeal.Hand

end
-- ==== Proof.MoeDown.lean ====
module

public import proofs.«01_k».proof.Proof.MoeDownRun
public import proofs.«01_k».proof.Proof.MoeDownRef
public import proofs.«01_k».proof.Defs
public import proofs.«01_k».proof.Proof.Gen.Down
public import proofs.«01_k».proof.Proof.Gen.Pre_down_experts_named
public import Idealize.ShloMosaic.Adequacy
public import Idealize.ShloMosaic.Init
public import Idealize.ShloMosaic.Lib.Tactic

set_option maxRecDepth 16384
@[expose] public section

noncomputable section
open Idealize.ShloMosaic Idealize.ShloMosaic.TcCoe Idealize.SL.Sem
open Idealize.ShloMosaic.Pipeline (Dat)

/-! # The experts' second product: the kernel's result is the reference's -/

namespace Cert.DownIdeal.Hand
open Cert.DownIdeal Cert.DownIdeal.Gen

/-- An element of a live tile's block. -/
theorem live_at (x : FVec Ideal S512x7168 .bf16) (w : FVec Ideal S1x7168x512 .f32) (r s : Fin 512) :
    k0_pay1 (F := Ideal) x w (ix2 r s) = Layer.dot (fun k : Fin 7168 => x (ix2 r k)) (fun k => w (ix3 0 k s)) := by
  pointwise [k0_pay1]
  rfl

/-- An element of a dead tile's block. -/
theorem dead_at (r s : Fin 512) : k0_pay2 (F := Ideal) (ix2 r s) = (0 : EReal) := by
  pointwise [k0_pay2]

/-! ## Which experts the tiles have -/

section
variable {F : FTy → Type} [FloatOps F] (m : (ℓ : Loc nD τ sig) → Buf (Elt F) ℓ)

/-- The tile's expert, as the tables hold it. -/
abbrev expert (i : Fin 74) : BitVec 32 := (m (((0 : Dev nD) : Thread nD τ).loc main_arg2) : IVec S74 32) (ix1 i)

/-- Every tile's expert is one of the eight. -/
def Named : Prop := ∀ i : Fin 74, (expert m i).toNat < 8

/-- The table's word at a grid point. -/
theorem word_at (i : grid0.Coords) : (tbl m).at 0 (Rect.unit (s := S74) (k0_off1 i) S1.size (k0_off1_inb i)) numel1_S1 = expert m (i 1) := by
  refine congrArg (m (((0 : Dev nD) : Thread nD τ).loc main_arg2) : IVec S74 32) ?_
  funext a
  apply Fin.ext
  fin_cases a
  have h : k0_off1 i 0 = (i 1).val := congrFun (k0_off1_eq i) 0
  show k0_off1 i 0 + 1 * 0 = (i 1).val
  rw [h, Nat.mul_zero, Nat.add_zero]

theorem idx1 (i : grid0.Coords) : cc0_transform_1 k0_off1_inb numel1_S1 (tbl m) i = ![(expert m (i 1)).toNat, 0, (i 0).val] := by
  have h0 : (BitVec.ofNat 32 (i 0).val).toNat = (i 0).val := Nat.mod_eq_of_lt (by have := (i 0).isLt; have h : (i 0).val < 4 := this; omega)
  have h1 : cc0_transform_1 k0_off1_inb numel1_S1 (tbl m) i
    = ![((tbl m).at 0 (Rect.unit (s := S74) (k0_off1 i) S1.size (k0_off1_inb i)) numel1_S1 : BitVec 32).toNat, 0, (BitVec.ofNat 32 (i 0).val).toNat] := rfl
  rw [h1, word_at, h0]

/-- Then the tables are admissible. -/
theorem ok_of_named (h : Named m) : Ok m := by
  have key : ∀ i : grid0.Coords, ∀ a, ((![(expert m (i 1)).toNat, 0, (i 0).val] : Fin 3 → ℕ) a + 1) * S1x7168x512.size a ≤ S8x7168x2048.size a := by
    intro i a
    have he := h (i 1)
    have h0 : (i 0).val < 4 := (i 0).isLt
    fin_cases a
    · show ((expert m (i 1)).toNat + 1) * 1 ≤ 8; omega
    · show (0 + 1) * 7168 ≤ 7168; omega
    · show ((i 0).val + 1) * 512 ≤ 2048; omega
  exact fun i => ⟨fun a => by rw [idx1]; exact key i a, Or.inl rfl⟩

end

/-- The precondition names the experts. -/
theorem named_of_pre {F : FTy → Type} [FloatOps F] (T : IVec S74 32) (x : FVec F S37888x7168 .bf16) (w : FVec F S8x7168x2048 .f32) (n : IVec S1 32) [Cert.Pre_down_experts_named.Facts]
    (h : Cert.Pre_down_experts_named.fn (F := F) x w T n = fun _ => 1#1) (i : Fin 74) : (T (ix1 i)).toNat < 8 := by
  have h1 := congrFun h (ix1 i)
  have h2 : BitVec.ofBool ((0#32).sle (T (ix1 i))) &&& BitVec.ofBool ((T (ix1 i)).slt 8#32) = 1#1 := h1
  generalize T (ix1 i) = v at h2
  have h3 : (0#32).sle v = true ∧ v.slt 8#32 = true := by
    revert h2; cases (0#32).sle v <;> cases v.slt 8#32 <;> decide
  have h4 : (0 : Int) ≤ v.toInt := by simpa [BitVec.sle] using h3.1
  have h5 : v.toInt < 8 := by simpa [BitVec.slt] using h3.2
  rw [BitVec.toInt_eq_toNat_cond] at h4 h5
  have := v.isLt
  split at h4 <;> omega

/-! ## Blocks at coordinates -/

variable (m : (ℓ : Loc nD τ sig) → Buf (Elt Ideal) ℓ) (hO : Ok m)

/-- The grid's coordinates and the fixed windows' places. -/
theorem idx : ∀ t : Fin grid0.N, (grid0.coords t 0).val = t.val / 74 ∧ (grid0.coords t 1).val = t.val % 74 ∧ cc0_transform_0 (grid0.coords t) = ![t.val % 74, 0]
    ∧ cc0_transform_2 (grid0.coords t) = ![t.val % 74, t.val / 74] ∧ Pipeline.Window.flushOf grid0 true cc0_transform_2 t = true ∧ t.val < 296 := by decide +kernel

theorem lt_N (t : Fin (cfgM m hO).N) : t.val < 296 := (idx t).2.2.2.2.2

/-- The block of rows. -/
theorem blk0_at (c : Dev nD) (t : Fin (cfgM m hO).N) (r : Fin 512) (k : Fin 7168) : (iblk m hO c 0 t : FVec Ideal S512x7168 .bf16) (ix2 r k)
    = (m ((c : Thread nD τ).loc main_arg0) : FVec Ideal S37888x7168 .bf16) (ix2 ⟨t.val % 74 * 512 + r, by omega⟩ k) := by
  unfold iblk
  refine congrArg (m ((c : Thread nD τ).loc main_arg0)) ?_
  funext a
  apply Fin.ext
  refine (Pipeline.Window.rect_emb_val ((cfgM m hO).win 0) t (ix2 r k : S512x7168.Idx) a rfl).trans ?_
  have h : ((cfgM m hO).win 0).index t = ![t.val % 74, 0] := (idx t).2.2.1
  rw [h]
  fin_cases a
  · rfl
  · show 0 * 7168 + k.val = k.val; omega

/-- The block of a weight of the tile's expert. -/
theorem blk1_at (c : Dev nD) (t : Fin (cfgM m hO).N) (e : Fin 8) (he : (expert m ⟨t.val % 74, by omega⟩).toNat = e.val) (k : Fin 7168) (s : Fin 512) :
    (iblk m hO c 1 t : FVec Ideal S1x7168x512 .f32) (ix3 0 k s)
      = (m ((c : Thread nD τ).loc main_arg1) : FVec Ideal S8x7168x2048 .f32) (ix3 e k ⟨t.val / 74 * 512 + s, by have := lt_N m hO t; omega⟩) := by
  unfold iblk
  refine congrArg (m ((c : Thread nD τ).loc main_arg1)) ?_
  funext a
  apply Fin.ext
  refine (Pipeline.Window.rect_emb_val ((cfgM m hO).win 1) t (ix3 0 k s : S1x7168x512.Idx) a rfl).trans ?_
  have h : ((cfgM m hO).win 1).index t = ![e.val, 0, t.val / 74] := by
    refine (idx1 m (grid0.coords t)).trans ?_
    rw [(idx t).1, ← he, show grid0.coords t 1 = (⟨t.val % 74, by omega⟩ : Fin 74) from Fin.ext (idx t).2.1]
  rw [h]
  fin_cases a
  · show e.val * 1 + 0 = e.val; omega
  · show 0 * 7168 + k.val = k.val; omega
  · rfl

/-- The place of an output element. -/
theorem out_at (t : Fin (cfgM m hO).N) (r : Fin 512) (s : Fin 512) : (((cfgM m hO).win 2).blk t).view.emb (ix2 r s : S512x512.Idx)
    = (ix2 ⟨t.val % 74 * 512 + r, by omega⟩ ⟨t.val / 74 * 512 + s, by have := lt_N m hO t; omega⟩ : S37888x2048.Idx) := by
  funext a
  apply Fin.ext
  refine (Pipeline.Window.rect_emb_val ((cfgM m hO).win 2) t (ix2 r s : S512x512.Idx) a rfl).trans ?_
  have h : ((cfgM m hO).win 2).index t = ![t.val % 74, t.val / 74] := (idx t).2.2.2.1
  rw [h]
  fin_cases a
  · rfl
  · rfl

/-- Every element of the output is in some point's block. -/
theorem covers : ((cfgM m hO).win 2).Covers := by
  refine ⟨fun a => by
    fin_cases a
    · show 0 < 512; decide
    · show 0 < 512; decide, fun β => ?_⟩
  have n0 : ((cfgM m hO).win 2).nblk (0 : Fin 2) = 74 := (by decide +kernel : (37888 + 512 - 1) / 512 = 74)
  have n1 : ((cfgM m hO).win 2).nblk (1 : Fin 2) = 4 := (by decide +kernel : (2048 + 512 - 1) / 512 = 4)
  obtain ⟨b0, hb0⟩ : ∃ b : Fin 74, b.val = (β (0 : Fin 2)).val := ⟨⟨_, lt_of_lt_of_eq (β (0 : Fin 2)).isLt n0⟩, rfl⟩
  obtain ⟨b1, hb1⟩ : ∃ b : Fin 4, b.val = (β (1 : Fin 2)).val := ⟨⟨_, lt_of_lt_of_eq (β (1 : Fin 2)).isLt n1⟩, rfl⟩
  have hN : b1.val * 74 + b0.val < grid0.N := by
    have : grid0.N = 296 := by decide +kernel
    omega
  let t : Fin grid0.N := ⟨b1.val * 74 + b0.val, hN⟩
  have h : ((cfgM m hO).win 2).index t = ![t.val % 74, t.val / 74] := (idx t).2.2.2.1
  refine ⟨t, (idx t).2.2.2.2.1, fun a => ⟨?_, Or.inl rfl⟩⟩
  rw [h]
  fin_cases a
  · refine Eq.trans ?_ hb0
    show (b1.val * 74 + b0.val) % 74 = b0.val; omega
  · refine Eq.trans ?_ hb1
    show (b1.val * 74 + b0.val) / 74 = b1.val; omega

/-- An index of an output block by its coordinates. -/
theorem coords_of (y : S512x512.Idx) : ∃ (y0 : Fin 512) (y1 : Fin 512), y = ix2 y0 y1 := ⟨y 0, y 1, by funext a; fin_cases a <;> rfl⟩

/-- The result after the run is the reference's. -/
theorem final (hN : Named m) (c : Dev nD) : (dats m hO 0 c).arrAt 2 (cfgM m hO).N
    = Cert.DownRefIdeal.Read.val_main_v68 (F := Ideal) (m ((c : Thread nD τ).loc main_arg0)) (m ((c : Thread nD τ).loc main_arg1)) (m ((c : Thread nD τ).loc main_arg2)) (m ((c : Thread nD τ).loc main_arg3)) := by
  obtain rfl : c = 0 := Subsingleton.elim _ _
  refine (dats m hO 0 0).arrAt_eq_of_covers 2 _ (covers m hO) (fun t _ y => ?_) (Memref.isWhole_whole _)
  have ht := lt_N m hO t
  obtain ⟨y0, y1, rfl⟩ : ∃ (y0 : Fin 512) (y1 : Fin 512), y = (ix2 y0 y1 : S512x512.Idx) := coords_of y
  rw [out_at]
  show (dats m hO 0 0).after 2 t (ix2 y0 y1 : S512x512.Idx) = _
  rw [after_2]
  let e : Fin 8 := ⟨(expert m ⟨t.val % 74, by omega⟩).toNat, hN _⟩
  have he : expert m ⟨t.val % 74, by omega⟩ = BitVec.ofNat 32 e.val := by simp [e]
  refine Eq.trans ?_ (Cert.DownRefIdeal.Hand.result_at _ _ _ _ _ _ e (by
    refine Eq.trans (congrArg (m (((0 : Dev nD) : Thread nD τ).loc main_arg2) : IVec S74 32) ?_) he
    congr 1
    apply Fin.ext
    show (t.val % 74 * 512 + y0.val) / 512 = t.val % 74
    omega)).symm
  have hq : (t.val % 74 * 512 + y0.val) / 512 = t.val % 74 := by omega
  have hc : k0_cond1 (grid0.coords t) (word 0 (tbl m 1)) = 1#1 ↔ (BitVec.ofNat 32 (t.val % 74)).slt ((m (((0 : Dev nD) : Thread nD τ).loc main_arg3) : IVec S1 32) (ix1 0)) = true := by
    have hw : word 0 (tbl m 1) = (m (((0 : Dev nD) : Thread nD τ).loc main_arg3) : IVec S1 32) (ix1 0) := by
      refine congrArg (m (((0 : Dev nD) : Thread nD τ).loc main_arg3) : IVec S1 32) ?_
      funext a; fin_cases a; rfl
    rw [cond1_iff, hw, (idx t).2.1]
  rw [hq]
  unfold outsAt
  by_cases hl : (BitVec.ofNat 32 (t.val % 74)).slt ((m (((0 : Dev nD) : Thread nD τ).loc main_arg3) : IVec S1 32) (ix1 0)) = true
  · rw [if_pos (hc.2 hl), if_pos hl]
    refine (live_at _ _ y0 y1).trans ?_
    simp only [blk0_at m hO 0 t, blk1_at m hO 0 t e rfl]
    rfl
  · rw [if_neg (fun h => hl (hc.1 h)), if_neg hl]
    exact dead_at y0 y1

end Cert.DownIdeal.Hand

namespace DownClaims

/-- What the frame of the kernel says, in the words of the program the run is of. -/
def Quiet (m : (ℓ : Loc Cert.DownIdeal.nD Cert.DownIdeal.τ Cert.DownIdeal.sig) → Buf (Elt Bits) ℓ) (ρ : Dev Cert.DownIdeal.nD → PrngReg) : Prop :=
  θ_run (Cert.DownIdeal.defs (F := Bits)) (onTc (τ := Cert.DownIdeal.τ) (Cert.DownIdeal.main (F := Bits))) ⟨m, fun _ => 0, ρ⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
    ∧ r.2.sem = fun _ => 0)

/-- The two programs have the same text, so the kernel's frame says just that. -/
theorem same_text : Cert.quiescent_Down = ∀ (m : (ℓ : Loc Cert.DownIdeal.nD Cert.DownIdeal.τ Cert.DownIdeal.sig) → Buf (Elt Bits) ℓ) (ρ : Dev Cert.DownIdeal.nD → PrngReg), Cert.Pre_Down m → Quiet m ρ := by
  sl_kernel_rfl

/-- Under the kernel's precondition every live tile names a stored expert. -/
theorem named_kernel (m : (ℓ : Loc Cert.DownIdeal.nD Cert.DownIdeal.τ Cert.DownIdeal.sig) → Buf (Elt Bits) ℓ) (hp : Cert.Pre_Down m) : Cert.DownIdeal.Hand.Named m :=
  fun i => Cert.DownIdeal.Hand.named_of_pre _ _ _ _ (hp 0) i

/-- The kernel runs, keeps its arguments and leaves no semaphore raised: its text is the text the run is of. -/
theorem frame_kernel : Cert.quiescent_Down :=
  same_text.mpr fun m ρ hp => (θ_run Cert.DownIdeal.defs _ _).mono (fun r h => ⟨fun c => (h.1 c).2, h.2⟩)
    (Cert.DownIdeal.Hand.run_blocks (F := Bits) m ρ (Cert.DownIdeal.Hand.ok_of_named m (named_kernel m hp)))

/-- So does the kernel over the extended reals. -/
theorem frame_ideal : Cert.quiescent_DownIdeal := fun m ρ hp =>
  (θ_run Cert.DownIdeal.defs _ _).mono (fun r h => ⟨fun c => (h.1 c).2, h.2⟩)
    (Cert.DownIdeal.Hand.run_blocks (F := Ideal) m ρ (Cert.DownIdeal.Hand.ok_of_named m fun i => Cert.DownIdeal.Hand.named_of_pre _ _ _ _ (hp 0) i))

/-- So does the reference over the extended reals. -/
theorem frame_ref : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- The result over the extended reals is the reference's. -/
theorem algebraic : Cert.algebraic_DownIdeal_DownRefIdeal := by
  intro m g m' g' hp hag
  have hN : Cert.DownIdeal.Hand.Named m := fun i => Cert.DownIdeal.Hand.named_of_pre _ _ _ _ (hp 0) i
  have hO := Cert.DownIdeal.Hand.ok_of_named m hN
  refine ⟨fun c => (Cert.DownIdeal.Hand.dats m hO 0 c).arrAt 2 (Cert.DownIdeal.Hand.cfgM m hO).N,
    (θ_run _ _ _).mono (fun r h => h.1) (Cert.DownIdeal.Hand.run_blocks (F := Ideal) m g hO),
    (θ_run _ _ _).mono (fun r h c => ?_) (Cert.DownRefIdeal.Value.run (F := Ideal) m' g')⟩
  obtain ⟨h0, h1, h2, h3⟩ := hag c
  refine ⟨(h c).1.trans ?_, (h c).2⟩
  refine Eq.trans ?_ (Cert.DownIdeal.Hand.final m hO hN c).symm
  rw [Cert.DownRefIdeal.Read.val_main_v68_eq, h0, h1, h2, h3]

end DownClaims

end
-- ==== Proof.ShortConvMath.lean ====
module

public import Idealize.ShloMosaic.Lib.Pipeline.ValueKit
@[expose] public section

noncomputable section
open Idealize.ShloMosaic Idealize.ShloMosaic.TcCoe Idealize.SL.Sem

/-! # Closed forms of the short convolution -/

namespace Short

/-- The rows that the convolution reads: three old ones, then the sixteen new ones. -/
def hist (b : Fin 3 → EReal) (x : Fin 16 → EReal) (i : ℕ) : EReal :=
  if h : i < 3 then b ⟨i, h⟩ else if h : i - 3 < 16 then x ⟨i - 3, h⟩ else 0

/-- The convolution's row `r`. -/
def conv (w : Fin 4 → EReal) (b : Fin 3 → EReal) (x : Fin 16 → EReal) (r : ℕ) : EReal :=
  w 0 * hist b x r + w 1 * hist b x (r + 1) + w 2 * hist b x (r + 2) + w 3 * hist b x (r + 3)

/-- The nonlinearity. -/
def act (y : EReal) : EReal := y * Ideal.div 1 (1 + Ideal.exp (-y))

/-- A head's row over its length. -/
def unit (y : Fin 128 → EReal) (k : Fin 128) : EReal := y k * Ideal.rsqrt ((∑ x : Fin 128, y x * y x) + Ideal.ofBits .f32 0x358637BD#32)

/-- A head of block `j` of 1024 columns: queries (scaled) in blocks 0 and 1, keys in blocks 2 and 3, values in the rest. -/
def head (j : ℕ) (y : Fin 128 → EReal) (k : Fin 128) : EReal :=
  if j < 2 then unit y k * Ideal.ofBits .f32 0x3DB504F3#32 else if j < 4 then unit y k else y k

/-- The selects that the body makes by the block's number. -/
theorem head_eq (j : ℕ) (hj : j < 8) (y : Fin 128 → EReal) (k : Fin 128) :
    Scalar.select (IntOp.cmpi CmpIPredicate.slt (BitVec.ofNat 32 j) 4#32)
      (unit y k * Scalar.select (IntOp.cmpi CmpIPredicate.slt (BitVec.ofNat 32 j) 2#32) (Ideal.ofBits .f32 0x3DB504F3#32) 1) (y k) = head j y k := by
  unfold head
  interval_cases j <;> simp [Scalar.select, IntOp.cmpi] <;> rfl

end Short
-- ==== Proof.GdnConvKernel.lean ====
module

public import proofs.«01_k».proof.Proof.Gen.GcvIdeal.Value
public import proofs.«01_k».proof.Proof.ShortConvMath
public import Idealize.ShloMosaic.Lib.Pipeline.ValueKit
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # What the short convolution of the sample stores -/

namespace Cert.GcvIdeal.Hand
open Cert.GcvIdeal Cert.GcvIdeal.Gen

/-- The body's three stores in the scratch, the last one first. -/
abbrev stored (x : FVec Ideal S16x1024 .f32) (b : FVec Ideal S1x3x1024 .f32) : List (View.Piece (Elt Ideal) S24x1024 .f32) :=
  [⟨Rect.unit ![8, 0] ![16, 1024] inb_S24x1024_S16x1024_8_0, k0_pay3 (F := Ideal) x⟩, ⟨Rect.unit ![5, 0] ![3, 1024] inb_S24x1024_S3x1024_5_0, k0_pay2 (F := Ideal) b⟩,
      ⟨Rect.unit ![0, 0] ![5, 1024] inb_S24x1024_S5x1024_0_0, k0_pay1 (F := Ideal)⟩]

/-- What the scratch holds after them from row 5 on. -/
theorem stored_at (x : FVec Ideal S16x1024 .f32) (b : FVec Ideal S1x3x1024 .f32) (n : ℕ) (hn : n < 19) (s : Fin 1024) :
    View.canon (stored x b) (ix2 ⟨5 + n, by omega⟩ s : S24x1024.Idx) = Short.hist (fun i => b (ix3 0 i s)) (fun i => x (ix2 i s)) n := by
  have hc : ∃ p ∈ stored x b, (ix2 ⟨5 + n, by omega⟩ s : S24x1024.Idx) ∈ p.1.set := by
    by_cases h : n < 3
    · refine ⟨_, List.mem_cons_of_mem _ (List.mem_cons_self), ?_⟩
      rw [show (ix2 ⟨5 + n, by omega⟩ s : S24x1024.Idx) = (Rect.unit (s := S24x1024) ![5, 0] ![3, 1024] inb_S24x1024_S3x1024_5_0).idx (ix2 ⟨n, h⟩ s : S3x1024.Idx) from funext fun a => Fin.ext ((by fin_cases a <;> simp <;> omega : _ = _).trans (Rect.idx_unit_val _ _ _ _ a).symm)]
      exact LoadRect.idx_mem _ _
    · refine ⟨_, List.mem_cons_self, ?_⟩
      rw [show (ix2 ⟨5 + n, by omega⟩ s : S24x1024.Idx) = (Rect.unit (s := S24x1024) ![8, 0] ![16, 1024] inb_S24x1024_S16x1024_8_0).idx (ix2 ⟨n - 3, by omega⟩ s : S16x1024.Idx) from funext fun a => Fin.ext ((by fin_cases a <;> simp <;> omega : _ = _).trans (Rect.idx_unit_val _ _ _ _ a).symm)]
      exact LoadRect.idx_mem _ _
  canon_tiles z h using hc
  · idx_vars z
    have h0' : 5 + n = 8 + z0.val := h0
    have h1' : s.val = z1.val := h1
    obtain rfl := Fin.ext h1'
    pointwise [k0_pay3]
    unfold Short.hist
    rw [dif_neg (by omega), dif_pos (by omega)]
    exact congrArg x (congrArg (ix2 · s) (Fin.ext (by show z0.val = n - 3; omega)))
  · idx_vars z
    have h0' : 5 + n = 5 + z0.val := h0
    have h1' : s.val = z1.val := h1
    obtain rfl := Fin.ext h1'
    pointwise [k0_pay2]
    unfold Short.hist
    rw [dif_pos (by omega)]
    exact congrArg b (congrArg (ix3 0 · s) (Fin.ext (by show z0.val = n; omega)))
  · idx_vars z
    have h0' : 5 + n = z0.val := h0
    omega

/-- A load of sixteen rows from row `5 + n` on. -/
theorem scratch_at (x : FVec Ideal S16x1024 .f32) (b : FVec Ideal S1x3x1024 .f32) (n : ℕ) (hn : n < 4) (inb) (r : Fin 16) (s : Fin 1024) :
    (View.whole cc0_scratch0).readCov (Val := Elt Ideal) (stored x b) (Rect.unit (s := S24x1024) ![5 + n, 0] ![16, 1024] inb).toLoadRect (ix2 r s : S16x1024.Idx)
      = Short.hist (fun i => b (ix3 0 i s)) (fun i => x (ix2 i s)) (r + n) := by
  rw [View.readCov_eq_canon']
  have e : (Rect.unit (s := S24x1024) ![5 + n, 0] ![16, 1024] inb).toLoadRect.idx (ix2 r s : S16x1024.Idx) = (ix2 ⟨5 + (r + n), by omega⟩ s : S24x1024.Idx) :=
    funext fun a => Fin.ext ((Rect.idx_unit_val _ _ _ _ a).trans (by fin_cases a <;> simp <;> omega))
  exact (congrArg _ e).trans (stored_at x b _ (by omega) s)

/-- A load of the last three rows. -/
theorem last_at (x : FVec Ideal S16x1024 .f32) (b : FVec Ideal S1x3x1024 .f32) (inb) (r : Fin 3) (s : Fin 1024) :
    (View.whole cc0_scratch0).readCov (Val := Elt Ideal) (stored x b) (Rect.unit (s := S24x1024) ![21, 0] ![3, 1024] inb).toLoadRect (ix2 r s : S3x1024.Idx)
      = Short.hist (fun i => b (ix3 0 i s)) (fun i => x (ix2 i s)) (16 + r) := by
  rw [View.readCov_eq_canon']
  have e : (Rect.unit (s := S24x1024) ![21, 0] ![3, 1024] inb).toLoadRect.idx (ix2 r s : S3x1024.Idx) = (ix2 ⟨5 + (16 + r), by omega⟩ s : S24x1024.Idx) :=
    funext fun a => Fin.ext ((Rect.idx_unit_val _ _ _ _ a).trans (by fin_cases a <;> simp <;> omega))
  exact (congrArg _ e).trans (stored_at x b _ (by omega) s)

/-- A head of the block, at an element. -/
theorem finish (Y : FVec Ideal S16x1024 .f32) (r : Fin 16) (s : Fin 1024) (x1 : Fin 128) (o : ℕ) (ho : ∀ k : Fin 128, o + k < 1024) (h : s.val = o + x1) (hd : o % 128 = 0)
    (j : ℕ) (hj : j < 8) (L : EReal)
    (hL : L = Scalar.select (IntOp.cmpi CmpIPredicate.slt (BitVec.ofNat 32 j) 4#32)
      (Short.unit (fun k => Short.act (Y (ix2 r ⟨o + k, ho k⟩))) x1 * Scalar.select (IntOp.cmpi CmpIPredicate.slt (BitVec.ofNat 32 j) 2#32) (Ideal.ofBits .f32 0x3DB504F3#32) 1)
      (Short.act (Y (ix2 r ⟨o + x1, ho x1⟩)))) :
    L = Short.head j (fun k => Short.act (Y (ix2 r ⟨s / 128 * 128 + k, by omega⟩))) ⟨s % 128, by omega⟩ := by
  rw [hL]
  have e : (fun k : Fin 128 => Short.act (Y (ix2 r ⟨s / 128 * 128 + k, by omega⟩))) = (fun k : Fin 128 => Short.act (Y (ix2 r ⟨o + k, ho k⟩))) := by
    funext k
    exact congrArg (fun z => Short.act (Y (ix2 r z))) (Fin.ext (by show s.val / 128 * 128 + k.val = o + k.val; omega))
  have e1 : (⟨s % 128, by omega⟩ : Fin 128) = x1 := Fin.ext (by show s.val % 128 = x1; omega)
  rw [e, e1]
  exact Short.head_eq j hj _ x1

variable (m : (ℓ : Loc nD τ sig) → Buf (Elt Ideal) ℓ)

/-- The blocks' places: batch row `t / 8`, block `t % 8` of the columns. -/
theorem idx : ∀ t : Fin cfg0.N, win0_0.index t = ![t.val / 8, t.val % 8] ∧ win0_1.index t = ![t.val / 8, 0, t.val % 8] ∧ win0_2.index t = ![0, t.val % 8]
    ∧ win0_3.index t = ![t.val / 8, t.val % 8] ∧ win0_4.index t = ![t.val / 8, 0, t.val % 8] ∧ (grid0.coords t 1).val = t.val % 8 ∧ t.val < 256 :=
  (by decide +kernel : ∀ t : Fin grid0.N, _)

/-- The rows that a point keeps. -/
theorem point4 (c : Dev nD) (t : Fin cfg0.N) (i : Fin 1) (r : Fin 3) (s : Fin 1024) :
    ((dats m 0 c).after 4 t : FVec Ideal S1x3x1024 .f32) (ix3 i r s)
      = Short.hist (fun i => (iblk m c 1 t : FVec Ideal S1x3x1024 .f32) (ix3 0 i s)) (fun i => (iblk m c 0 t : FVec Ideal S16x1024 .f32) (ix2 i s)) (16 + r) := by
  rw [after0_4]
  unfold outsAt0
  frame_open
  simp (disch := decide) only [↓ View.readCov_skip, ↓ View.readCov_cons_toLoadRect, ↓ View.readCov_fill]
  frame_out
  pointwise [k0_pay20]
  exact last_at _ _ _ r s

/-- The convolved rows that a point stores. -/
theorem point3 (c : Dev nD) (t : Fin cfg0.N) (r : Fin 16) (s : Fin 1024) :
    ((dats m 0 c).after 3 t : FVec Ideal S16x1024 .f32) (ix2 r s)
      = Short.head (t.val % 8) (fun k => Short.act (Short.conv (fun i => (iblk m c 2 t : FVec Ideal S4x1024 .f32) (ix2 i ⟨s / 128 * 128 + k, by omega⟩))
          (fun i => (iblk m c 1 t : FVec Ideal S1x3x1024 .f32) (ix3 0 i ⟨s / 128 * 128 + k, by omega⟩))
          (fun i => (iblk m c 0 t : FVec Ideal S16x1024 .f32) (ix2 i ⟨s / 128 * 128 + k, by omega⟩)) r)) ⟨s % 128, by omega⟩ := by
  rw [after0_3]
  unfold outsAt0
  frame_open
  simp (disch := decide) only [↓ View.readCov_skip, ↓ View.readCov_cons_toLoadRect, ↓ View.readCov_fill]
  frame_out
  generalize hY : k0_pay4 (F := Ideal) _ _ _ _ _ _ _ _ = Y
  have hr : ∀ (r : Fin 16) (s : Fin 1024), Y (ix2 r s) = Short.conv (fun i => (iblk m c 2 t : FVec Ideal S4x1024 .f32) (ix2 i s))
          (fun i => (iblk m c 1 t : FVec Ideal S1x3x1024 .f32) (ix3 0 i s))
          (fun i => (iblk m c 0 t : FVec Ideal S16x1024 .f32) (ix2 i s)) r := by
    intro r s
    rw [← hY]
    have h0 := scratch_at (iblk m c 0 t) (iblk m c 1 t) 0 (by omega) inb_S24x1024_S16x1024_5_0 r s
    have h1 := scratch_at (iblk m c 0 t) (iblk m c 1 t) 1 (by omega) inb_S24x1024_S16x1024_6_0 r s
    have h2 := scratch_at (iblk m c 0 t) (iblk m c 1 t) 2 (by omega) inb_S24x1024_S16x1024_7_0 r s
    pointwise [k0_pay4]
    simp only [h0, h1, h2]
    have h3 : k0_pay3 (F := Ideal) (iblk m c 0 t) (ix2 r s) = Short.hist (fun i => (iblk m c 1 t : FVec Ideal S1x3x1024 .f32) (ix3 0 i s)) (fun i => (iblk m c 0 t : FVec Ideal S16x1024 .f32) (ix2 i s)) (r + 3) := by
      pointwise [k0_pay3]
      unfold Short.hist
      rw [dif_neg (by omega), dif_pos (by omega)]
      exact congrArg (iblk m c 0 t : FVec Ideal S16x1024 .f32) (congrArg (ix2 · s) (Fin.ext (by show r.val = r + 3 - 3; omega)))
    rw [h3]
    rfl
  simp only [← hr]
  rw [(idx t).2.2.2.2.2.1]
  have hlt : t.val % 8 < 8 := by omega
  canon_tiles x h
  all_goals clear hr hY
  · idx_vars x
    obtain rfl : r = x0 := Fin.ext h0
    exact finish Y r s x1 896 (fun k => by omega) h1 (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 768 (fun k => by omega) h1 (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 640 (fun k => by omega) h1 (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 512 (fun k => by omega) h1 (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 384 (fun k => by omega) h1 (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 256 (fun k => by omega) h1 (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 128 (fun k => by omega) h1 (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 0 (fun k => by omega) (h1.trans (Nat.zero_add _).symm) (by decide) _ hlt _ (by pointwise [k0_pay5, k0_pay6, k0_pay7, k0_pay8, k0_pay9, k0_pay10, k0_pay11, k0_pay12, k0_pay13, k0_pay14, k0_pay15, k0_pay16, k0_pay17, k0_pay18, k0_pay19]; simp only [zero_sub, Nat.zero_add]; rfl)
end Cert.GcvIdeal.Hand
-- ==== Proof.GdnConvRef.lean ====
module

public import proofs.«01_k».proof.Proof.ShortConvMath
public import proofs.«01_k».proof.Proof.Gen.GcvRefIdeal.Run
public import proofs.«01_k».proof.Proof.Gen.GcvRefIdeal.Read
set_option maxRecDepth 16384
@[expose] public section

noncomputable section
open Idealize.ShloMosaic Idealize.ShloMosaic.TcCoe Idealize.SL.Sem

namespace Cert.GcvRefIdeal.Hand
open Cert.GcvRefIdeal Cert.GcvRefIdeal.Gen Cert.GcvRefIdeal.Read

variable (x0 : FVec Ideal S512x12288 .f32) (x1 : FVec Ideal S1x32x3x8192 .f32) (x2 : FVec Ideal S1x4x8192 .f32)

/-- The rows of a sequence. -/
theorem v4_at (b : Fin 32) (i : Fin 19) (s : Fin 8192) :
    val_main_v4 (F := Ideal) x0 x1 (ix3 b i s) = Short.hist (fun i => x1 (ix4 0 b i s)) (fun i => x0 (ix2 ⟨b * 16 + i, by omega⟩ ⟨s, by omega⟩)) i := by
  pointwise [val_main_v4, val_main_v2, val_main_v1, val_main_v0]
  unfold Short.hist
  by_cases h : i.val < 3
  · rw [dif_pos h, dif_pos h]
  · rw [dif_neg h, dif_neg h, dif_pos (by omega)]

/-- The convolution. -/
theorem v31_at (b : Fin 32) (r : Fin 16) (s : Fin 8192) :
    val_main_v31 (F := Ideal) x0 x1 x2 (ix3 b r s) = Short.conv (fun i => x2 (ix3 0 i s)) (fun i => x1 (ix4 0 b i s)) (fun i => x0 (ix2 ⟨b * 16 + i, by omega⟩ ⟨s, by omega⟩)) r := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v3]
  simp only [v4_at]
  simp only [Nat.add_comm _ (r : ℕ)]
  rfl

/-- The queries. -/
theorem v47_at (b : Fin 32) (r : Fin 16) (h : Fin 16) (k : Fin 128) :
    val_main_v47 (F := Ideal) x0 x1 x2 (ix4 b r h k) = Short.unit (fun k => Short.act (val_main_v31 (F := Ideal) x0 x1 x2 (ix3 b r ⟨h * 128 + k, by omega⟩))) k * Ideal.ofBits .f32 0x3DB504F3#32 := by
  pointwise [val_main_v47, val_main_v46, val_main_v45, val_main_v44, val_main_v43, val_main_v42, val_main_v41, val_main_v40, val_main_v39, val_main_v38, val_main_v37, val_main_v34, val_main_v33, val_main_cst, val_main_cst_0, val_main_cst_1, val_main_call0_v0, val_main_call0_v1, val_main_call0_v2,
    val_main_call0_v3, val_main_call0_v4, val_main_call0_v5, val_main_call0_cst, val_main_call0_cst_0]
  rfl

/-- The keys. -/
theorem v56_at (b : Fin 32) (r : Fin 16) (h : Fin 16) (k : Fin 128) :
    val_main_v56 (F := Ideal) x0 x1 x2 (ix4 b r h k) = Short.unit (fun k => Short.act (val_main_v31 (F := Ideal) x0 x1 x2 (ix3 b r ⟨2048 + (h * 128 + k), by omega⟩))) k := by
  pointwise [val_main_v56, val_main_v55, val_main_v54, val_main_v53, val_main_v52, val_main_v51, val_main_v50, val_main_v49, val_main_v48, val_main_v35, val_main_v33, val_main_cst_2, val_main_cst_3, val_main_call0_v0, val_main_call0_v1, val_main_call0_v2,
    val_main_call0_v3, val_main_call0_v4, val_main_call0_v5, val_main_call0_cst, val_main_call0_cst_0]
  rfl

/-- The row of all heads. -/
theorem v60_at (R : Fin 512) (s : Fin 8192) :
    val_main_v60 (F := Ideal) x0 x1 x2 (ix2 R s)
      = Short.head (s / 1024) (fun k : Fin 128 => Short.act (val_main_v31 (F := Ideal) x0 x1 x2 (ix3 ⟨R / 16, by omega⟩ ⟨R % 16, by omega⟩ ⟨s / 128 * 128 + k, by omega⟩))) ⟨s % 128, by omega⟩ := by
  pointwise [val_main_v60, val_main_v59, val_main_v58, val_main_v57, val_main_v36, val_main_v33, val_main_call0_v0, val_main_call0_v1, val_main_call0_v2,
    val_main_call0_v3, val_main_call0_v4, val_main_call0_v5, val_main_call0_cst, val_main_call0_cst_0]
  unfold Short.head
  by_cases h : s.val < 2048
  · rw [dif_pos h, if_pos (show s.val / 1024 < 2 by omega), v47_at]
  · rw [dif_neg h, if_neg (show ¬ s.val / 1024 < 2 by omega)]
    by_cases h' : s.val - 2048 < 2048
    · rw [dif_pos h', if_pos (show s.val / 1024 < 4 by omega), v56_at]
      refine congrArg₂ Short.unit (funext fun k => ?_) (Fin.ext (by show (s.val - 2048) % 128 = s.val % 128; omega))
      exact congrArg (fun z => Short.act (val_main_v31 (F := Ideal) x0 x1 x2 (ix3 ⟨R / 16, by omega⟩ ⟨R % 16, by omega⟩ z))) (Fin.ext (by show 2048 + ((s.val - 2048) / 128 * 128 + k.val) = s.val / 128 * 128 + k.val; omega))
    · rw [dif_neg h', if_neg (show ¬ s.val / 1024 < 4 by omega)]
      exact congrArg (fun z => Short.act (val_main_v31 (F := Ideal) x0 x1 x2 (ix3 ⟨R / 16, by omega⟩ ⟨R % 16, by omega⟩ z))) (Fin.ext (by show 4096 + (s.val - 2048 - 2048) = s.val / 128 * 128 + s.val % 128; omega))

/-- The rows kept for the next call. -/
theorem v32_at (b : Fin 32) (i : Fin 3) (s : Fin 8192) :
    val_main_v32 (F := Ideal) x0 x1 (ix3 b i s) = Short.hist (fun i => x1 (ix4 0 b i s)) (fun i => x0 (ix2 ⟨b * 16 + i, by omega⟩ ⟨s, by omega⟩)) (16 + i) := by
  pointwise [val_main_v32]
  exact v4_at x0 x1 b ⟨16 + i, by omega⟩ s

end Cert.GcvRefIdeal.Hand
-- ==== Proof.GdnConvClaims.lean ====
module

public import proofs.«01_k».proof.Defs
public import proofs.«01_k».proof.Proof.Gen.Gcv.Frame
public import proofs.«01_k».proof.Proof.GdnConvKernel
public import proofs.«01_k».proof.Proof.GdnConvRef
set_option maxRecDepth 16384
@[expose] public section

noncomputable section
open Idealize.ShloMosaic Idealize.ShloMosaic.TcCoe Idealize.SL.Sem
open Idealize.ShloMosaic.Pipeline (Dat)

/-! # The short convolution's claims -/

namespace Cert.GcvIdeal.Hand
open Cert.GcvIdeal Cert.GcvIdeal.Gen
variable (m : (ℓ : Loc nD τ sig) → Buf (Elt Ideal) ℓ)

/-- There are 256 points. -/
theorem lt_N (t : Fin cfg0.N) : t.val < 256 := (idx t).2.2.2.2.2.2

/-- The block of new rows. -/
theorem blk0_at (c : Dev nD) (t : Fin cfg0.N) (r : Fin 16) (s : Fin 1024) : (iblk m c 0 t : FVec Ideal S16x1024 .f32) (ix2 r s)
    = (m ((c : Thread nD τ).loc main_arg0) : FVec Ideal S512x12288 .f32) (ix2 ⟨t.val / 8 * 16 + r, by have := lt_N t; omega⟩ ⟨t.val % 8 * 1024 + s, by omega⟩) := by
  blk_ext [iblk, V, idx t]

/-- The block of old rows. -/
theorem blk1_at (c : Dev nD) (t : Fin cfg0.N) (i : Fin 3) (s : Fin 1024) : (iblk m c 1 t : FVec Ideal S1x3x1024 .f32) (ix3 0 i s)
    = (m ((c : Thread nD τ).loc main_arg1) : FVec Ideal S1x32x3x8192 .f32) (ix4 0 ⟨t.val / 8, by have := lt_N t; omega⟩ i ⟨t.val % 8 * 1024 + s, by omega⟩) := by
  have h : ((cfg0.win 1).blk t).view.emb (ix3 0 i s : S1x3x1024.Idx) = (ix3 ⟨t.val / 8, by have := lt_N t; omega⟩ i ⟨t.val % 8 * 1024 + s, by omega⟩ : S32x3x8192.Idx) := by blk_ext [idx t]
  unfold iblk
  refine (congrArg (V m c (Pipeline.arrRef spec0 1)) h).trans ?_
  entry_read
  pointwise

/-- The block of the taps. -/
theorem blk2_at (c : Dev nD) (t : Fin cfg0.N) (i : Fin 4) (s : Fin 1024) : (iblk m c 2 t : FVec Ideal S4x1024 .f32) (ix2 i s)
    = (m ((c : Thread nD τ).loc main_arg2) : FVec Ideal S1x4x8192 .f32) (ix3 0 i ⟨t.val % 8 * 1024 + s, by omega⟩) := by
  have h : ((cfg0.win 2).blk t).view.emb (ix2 i s : S4x1024.Idx) = (ix2 i ⟨t.val % 8 * 1024 + s, by omega⟩ : S4x8192.Idx) := by blk_ext [idx t]
  unfold iblk
  refine (congrArg (V m c (Pipeline.arrRef spec0 2)) h).trans ?_
  entry_read
  pointwise

/-- The rows kept for the next call are the reference's. -/
theorem final4 (c : Dev nD) : (dats m 0 c).arrAt 4 (cfgs 0).N
    = Cert.GcvRefIdeal.Read.val_main_v32 (F := Ideal) (m ((c : Thread nD τ).loc main_arg0)) (m ((c : Thread nD τ).loc main_arg1)) := by
  refine (dats m 0 c).arrAt_eq_of_covers 4 _ (by decide +kernel) fun t _ y => ?_
  blk_simp
  have ht := lt_N t
  idx_vars y
  refine (point4 m c t y0 y1 y2).trans ?_
  refine Eq.trans ?_ ((congrArg _ ?_).trans (Cert.GcvRefIdeal.Hand.v32_at _ _ ⟨t.val / 8, by omega⟩ y1 ⟨t.val % 8 * 1024 + y2, by omega⟩)).symm
  · simp only [blk0_at m c t, blk1_at m c t]
  · blk_ext [idx t]

/-- The convolved rows are the reference's. -/
theorem final3 (c : Dev nD) : (dats m 0 c).arrAt 3 (cfgs 0).N
    = Cert.GcvRefIdeal.Read.val_main_v60 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  have ht := lt_N t
  idx_vars y
  refine (point3 m c t y0 y1).trans ?_
  refine Eq.trans ?_ ((congrArg _ ?_).trans (Cert.GcvRefIdeal.Hand.v60_at _ _ _ ⟨t.val / 8 * 16 + y0, by omega⟩ ⟨t.val % 8 * 1024 + y1, by omega⟩)).symm
  · have e0 : (⟨(t.val / 8 * 16 + y0) / 16, by omega⟩ : Fin 32) = ⟨t.val / 8, by omega⟩ := Fin.ext (by show (t.val / 8 * 16 + y0.val) / 16 = t.val / 8; omega)
    have e1 : (⟨(t.val / 8 * 16 + y0) % 16, by omega⟩ : Fin 16) = y0 := Fin.ext (by show (t.val / 8 * 16 + y0.val) % 16 = y0.val; omega)
    have e2 : (⟨(t.val % 8 * 1024 + y1) % 128, by omega⟩ : Fin 128) = ⟨y1 % 128, by omega⟩ := Fin.ext (by show (t.val % 8 * 1024 + y1.val) % 128 = y1.val % 128; omega)
    have e3 : (t.val % 8 * 1024 + y1.val) / 1024 = t.val % 8 := by omega
    have e4 : ∀ k : Fin 128, (⟨(t.val % 8 * 1024 + y1.val) / 128 * 128 + k, by omega⟩ : Fin 8192) = ⟨t.val % 8 * 1024 + (y1 / 128 * 128 + k), by omega⟩ := fun k =>
      Fin.ext (by show (t.val % 8 * 1024 + y1.val) / 128 * 128 + k.val = t.val % 8 * 1024 + (y1.val / 128 * 128 + k.val); omega)
    simp only [blk0_at m c t, blk1_at m c t, blk2_at m c t, e0, e1, e2, e3, e4, Cert.GcvRefIdeal.Hand.v31_at]
  · blk_ext [idx t]

end Cert.GcvIdeal.Hand

namespace GcvClaims

/-- The kernel runs, keeps its arguments and leaves no semaphore raised. -/
theorem frame_kernel : Cert.quiescent_Gcv := fun m ρ _ => Cert.Gcv.Gen.frame m ρ

/-- So does the kernel over the extended reals. -/
theorem frame_ideal : Cert.quiescent_GcvIdeal := fun m ρ _ => Cert.GcvIdeal.Gen.frame m ρ

/-- So does the reference over the extended reals. -/
theorem frame_ref : Cert.quiescent_GcvRefIdeal := fun m ρ _ =>
  (θ_run Cert.GcvRefIdeal.defs _ _).mono (fun r h => ⟨fun c => (h c).2.2, Idealize.ShloMosaic.sem_eq_zero_of_no_sems (by decide) r.2⟩)
    (Cert.GcvRefIdeal.Value.run (F := Ideal) m ρ)

/-- The results over the extended reals are the reference's. -/
theorem algebraic : Cert.algebraic_GcvIdeal_GcvRefIdeal := by
  intro m g m' g' _ hag
  refine ⟨fun c => (Cert.GcvIdeal.Gen.dats m 0 c).arrAt 3 Cert.GcvIdeal.cfg0.N, fun c => (Cert.GcvIdeal.Gen.dats m 0 c).arrAt 4 Cert.GcvIdeal.cfg0.N,
    Cert.GcvIdeal.Value.run_blocks (F := Ideal) m g, (θ_run _ _ _).mono (fun r h c => ?_) (Cert.GcvRefIdeal.Value.run (F := Ideal) m' g')⟩
  obtain ⟨h0, h1, h2⟩ := hag c
  refine ⟨(h c).1.trans ?_, (h c).2.1.trans ?_, (h c).2.2⟩
  · refine Eq.trans ?_ (Cert.GcvIdeal.Hand.final3 m c).symm
    rw [Cert.GcvRefIdeal.Read.val_main_v60_eq, h0, h1, h2]
  · refine Eq.trans ?_ (Cert.GcvIdeal.Hand.final4 m c).symm
    rw [Cert.GcvRefIdeal.Read.val_main_v32_eq, h0, h1]

end GcvClaims
-- ==== Proof.ConfConvMath.lean ====
module

public import Idealize.ShloMosaic.Lib.Pipeline.ValueKit
@[expose] public section

noncomputable section
open Idealize.ShloMosaic Idealize.ShloMosaic.TcCoe Idealize.SL.Sem

/-! # Closed forms of the long convolution -/

namespace Long

/-- The rows that the convolution reads: thirty old ones, then the sixteen new ones. -/
def hist (b : Fin 30 → EReal) (x : Fin 16 → EReal) (i : ℕ) : EReal :=
  if h : i < 30 then b ⟨i, h⟩ else if h : i - 30 < 16 then x ⟨i - 30, h⟩ else 0

/-- The convolution of 31 taps with the rows from `r` on. -/
def conv (w : Fin 31 → EReal) (e : ℕ → EReal) (r : ℕ) : EReal :=
  w 0 * e r + w 1 * e (r + 1) + w 2 * e (r + 2) + w 3 * e (r + 3) + w 4 * e (r + 4) + w 5 * e (r + 5)
    + w 6 * e (r + 6) + w 7 * e (r + 7) + w 8 * e (r + 8) + w 9 * e (r + 9) + w 10 * e (r + 10) + w 11 * e (r + 11)
    + w 12 * e (r + 12) + w 13 * e (r + 13) + w 14 * e (r + 14) + w 15 * e (r + 15) + w 16 * e (r + 16) + w 17 * e (r + 17)
    + w 18 * e (r + 18) + w 19 * e (r + 19) + w 20 * e (r + 20) + w 21 * e (r + 21) + w 22 * e (r + 22) + w 23 * e (r + 23)
    + w 24 * e (r + 24) + w 25 * e (r + 25) + w 26 * e (r + 26) + w 27 * e (r + 27) + w 28 * e (r + 28) + w 29 * e (r + 29)
    + w 30 * e (r + 30)

/-- A row over its spread, with gain and bias, through the nonlinearity. -/
def finish (y g b : Fin 1024 → EReal) (k : Fin 1024) : EReal :=
  let c := fun k => y k - Ideal.div (∑ x : Fin 1024, y x) (Ideal.ofBits .f32 0x44800000#32)
  let z := c k * Ideal.rsqrt (Ideal.div (∑ x : Fin 1024, c x * c x) (Ideal.ofBits .f32 0x44800000#32) + Ideal.ofBits .f32 0x3727C5AC#32) * g k + b k
  z * Ideal.div 1 (1 + Ideal.exp (-z))

end Long
-- ==== Proof.ConfConvKernel.lean ====
module

public import proofs.«01_k».proof.Proof.Gen.CcvIdeal.Value
public import proofs.«01_k».proof.Proof.ConfConvMath
public import Idealize.ShloMosaic.Lib.Pipeline.ValueKit
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # What the long convolution of the sample stores -/

namespace Cert.CcvIdeal.Hand
open Cert.CcvIdeal Cert.CcvIdeal.Gen

/-- The body's three stores in the scratch, the last one first. -/
abbrev stored (x : FVec Ideal S16x1024 .f32) (b : FVec Ideal S1x30x1024 .f32) : List (View.Piece (Elt Ideal) S48x1024 .f32) :=
  [⟨Rect.unit ![32, 0] ![16, 1024] inb_S48x1024_S16x1024_32_0, k0_pay5 (F := Ideal) x⟩, ⟨Rect.unit ![2, 0] ![30, 1024] inb_S48x1024_S30x1024_2_0, k0_pay4 (F := Ideal) b⟩,
      ⟨Rect.unit ![0, 0] ![2, 1024] inb_S48x1024_S2x1024_0_0, k0_pay3 (F := Ideal)⟩]

/-- What the scratch holds after them from row 2 on. -/
theorem stored_at (x : FVec Ideal S16x1024 .f32) (b : FVec Ideal S1x30x1024 .f32) (n : ℕ) (hn : n < 46) (s : Fin 1024) :
    View.canon (stored x b) (ix2 ⟨2 + n, by omega⟩ s : S48x1024.Idx) = Long.hist (fun i => b (ix3 0 i s)) (fun i => x (ix2 i s)) n := by
  have hc : ∃ p ∈ stored x b, (ix2 ⟨2 + n, by omega⟩ s : S48x1024.Idx) ∈ p.1.set := by
    by_cases h : n < 30
    · refine ⟨_, List.mem_cons_of_mem _ (List.mem_cons_self), ?_⟩
      rw [show (ix2 ⟨2 + n, by omega⟩ s : S48x1024.Idx) = (Rect.unit (s := S48x1024) ![2, 0] ![30, 1024] inb_S48x1024_S30x1024_2_0).idx (ix2 ⟨n, h⟩ s : S30x1024.Idx) from funext fun a => Fin.ext ((by fin_cases a <;> simp <;> omega : _ = _).trans (Rect.idx_unit_val _ _ _ _ a).symm)]
      exact LoadRect.idx_mem _ _
    · refine ⟨_, List.mem_cons_self, ?_⟩
      rw [show (ix2 ⟨2 + n, by omega⟩ s : S48x1024.Idx) = (Rect.unit (s := S48x1024) ![32, 0] ![16, 1024] inb_S48x1024_S16x1024_32_0).idx (ix2 ⟨n - 30, by omega⟩ s : S16x1024.Idx) from funext fun a => Fin.ext ((by fin_cases a <;> simp <;> omega : _ = _).trans (Rect.idx_unit_val _ _ _ _ a).symm)]
      exact LoadRect.idx_mem _ _
  canon_tiles z h using hc
  · idx_vars z
    have h0' : 2 + n = 32 + z0.val := h0
    have h1' : s.val = z1.val := h1
    obtain rfl := Fin.ext h1'
    pointwise [k0_pay5]
    unfold Long.hist
    rw [dif_neg (by omega), dif_pos (by omega)]
    exact congrArg x (congrArg (ix2 · s) (Fin.ext (by show z0.val = n - 30; omega)))
  · idx_vars z
    have h0' : 2 + n = 2 + z0.val := h0
    have h1' : s.val = z1.val := h1
    obtain rfl := Fin.ext h1'
    pointwise [k0_pay4]
    unfold Long.hist
    rw [dif_pos (by omega)]
    exact congrArg b (congrArg (ix3 0 · s) (Fin.ext (by show z0.val = n; omega)))
  · idx_vars z
    have h0' : 2 + n = z0.val := h0
    omega

/-- A load of sixteen rows from row `a` on, in the block of columns from `o` on. -/
theorem scratch_at (x : FVec Ideal S16x1024 .f32) (b : FVec Ideal S1x30x1024 .f32) (a o : ℕ) (ha : 2 ≤ a) (ha' : a < 33) (ho : o < 769) (inb) (r : Fin 16) (s : Fin 256) :
    (View.whole cc0_scratch0).readCov (Val := Elt Ideal) (stored x b) (Rect.unit (s := S48x1024) ![a, o] ![16, 256] inb).toLoadRect (ix2 r s : S16x256.Idx)
      = Long.hist (fun i => b (ix3 0 i ⟨o + s, by omega⟩)) (fun i => x (ix2 i ⟨o + s, by omega⟩)) (r + (a - 2)) := by
  rw [View.readCov_eq_canon']
  have e : (Rect.unit (s := S48x1024) ![a, o] ![16, 256] inb).toLoadRect.idx (ix2 r s : S16x256.Idx) = (ix2 ⟨2 + (r + (a - 2)), by omega⟩ ⟨o + s, by omega⟩ : S48x1024.Idx) :=
    funext fun a => Fin.ext ((Rect.idx_unit_val _ _ _ _ a).trans (by fin_cases a <;> simp <;> omega))
  exact (congrArg _ e).trans (stored_at x b _ (by omega) _)

/-- A load of the last thirty rows. -/
theorem last_at (x : FVec Ideal S16x1024 .f32) (b : FVec Ideal S1x30x1024 .f32) (inb) (r : Fin 30) (s : Fin 1024) :
    (View.whole cc0_scratch0).readCov (Val := Elt Ideal) (stored x b) (Rect.unit (s := S48x1024) ![18, 0] ![30, 1024] inb).toLoadRect (ix2 r s : S30x1024.Idx)
      = Long.hist (fun i => b (ix3 0 i s)) (fun i => x (ix2 i s)) (16 + r) := by
  rw [View.readCov_eq_canon']
  have e : (Rect.unit (s := S48x1024) ![18, 0] ![30, 1024] inb).toLoadRect.idx (ix2 r s : S30x1024.Idx) = (ix2 ⟨2 + (16 + r), by omega⟩ s : S48x1024.Idx) :=
    funext fun a => Fin.ext ((Rect.idx_unit_val _ _ _ _ a).trans (by fin_cases a <;> simp <;> omega))
  exact (congrArg _ e).trans (stored_at x b _ (by omega) s)

variable (m : (ℓ : Loc nD τ sig) → Buf (Elt Ideal) ℓ)

/-- The blocks' places: batch row `t`. -/
theorem idx : ∀ t : Fin cfg0.N, win0_0.index t = ![t.val, 0] ∧ win0_1.index t = ![t.val, 0, 0] ∧ win0_2.index t = ![0, 0] ∧ win0_3.index t = ![0, 0] ∧ win0_4.index t = ![0, 0] ∧ win0_5.index t = ![0, 0]
    ∧ win0_6.index t = ![t.val, 0] ∧ win0_7.index t = ![t.val, 0, 0] ∧ t.val < 32 :=
  (by decide +kernel : ∀ t : Fin grid0.N, _)

/-- The rows that a point keeps. -/
theorem point7 (c : Dev nD) (t : Fin cfg0.N) (i : Fin 1) (r : Fin 30) (s : Fin 1024) :
    ((dats m 0 c).after 7 t : FVec Ideal S1x30x1024 .f32) (ix3 i r s)
      = Long.hist (fun i => (iblk m c 1 t : FVec Ideal S1x30x1024 .f32) (ix3 0 i s)) (fun i => (iblk m c 0 t : FVec Ideal S16x1024 .f32) (ix2 i s)) (16 + r) := by
  rw [after0_7]
  unfold outsAt0
  frame_open
  simp (disch := decide) only [↓ View.readCov_skip, ↓ View.readCov_cons_toLoadRect, ↓ View.readCov_fill]
  frame_out
  pointwise [k0_pay1]
  exact last_at _ _ _ r s

/-- The last store's payload: a row over its spread, through the nonlinearity. -/
theorem finish_at (L : FVec Ideal S16x1024 .f32) (G B : FVec Ideal S1x1024 .f32) (r : Fin 16) (s : Fin 1024) :
    k0_pay49 (F := Ideal) (k0_pay45 L) (k0_pay46 G) (k0_pay47 B) (k0_pay48 L) (ix2 r s)
      = Long.finish (fun k => L (ix2 r k)) (fun k => G (ix2 0 k)) (fun k => B (ix2 0 k)) s := by
  pointwise [k0_pay49, k0_pay45, k0_pay46, k0_pay47, k0_pay48]
  simp only [zero_sub]
  rfl

set_option maxHeartbeats 1600000 in
/-- The rows that a point stores. -/
theorem point6 (c : Dev nD) (t : Fin cfg0.N) (r : Fin 16) (s : Fin 1024) :
    ((dats m 0 c).after 6 t : FVec Ideal S16x1024 .f32) (ix2 r s)
      = Long.finish (fun k => Long.conv (fun i => (iblk m c 2 t : FVec Ideal S31x1024 .f32) (ix2 i k))
          (Long.hist (fun i => (iblk m c 1 t : FVec Ideal S1x30x1024 .f32) (ix3 0 i k))
          (fun i => (iblk m c 0 t : FVec Ideal S16x1024 .f32) (ix2 i k))) r + (iblk m c 3 t : FVec Ideal S1x1024 .f32) (ix2 0 k))
          (fun k => (iblk m c 4 t : FVec Ideal S1x1024 .f32) (ix2 0 k)) (fun k => (iblk m c 5 t : FVec Ideal S1x1024 .f32) (ix2 0 k)) s := by
  rw [after0_6]
  unfold outsAt0
  frame_open
  frame_out
  refine (finish_at _ _ _ r s).trans ?_
  refine congrArg (fun y => Long.finish y _ _ s) (funext fun k => ?_)
  rw [View.readCov_eq_canon']
  have e : (Rect.unit (s := S16x1024) ![0, 0] S16x1024.size inb_S16x1024_S16x1024_0_0).toLoadRect.idx (ix2 r k : S16x1024.Idx) = (ix2 r k : S16x1024.Idx) :=
    funext fun a => Fin.ext ((Rect.idx_unit_val _ _ _ _ a).trans (by fin_cases a <;> simp))
  refine (congrArg _ e).trans ?_
  canon_tiles z h
  · idx_vars z
    have hz : 768 + z1.val < 1024 := lt_of_lt_of_le (Nat.add_lt_add_left z1.isLt 768) (by decide)
    obtain rfl : r = z0 := Fin.ext (by have : r.val = z0.val := h0; omega)
    obtain rfl : k = ⟨768 + z1, hz⟩ := Fin.ext (by have : k.val = 768 + z1.val := h1; show k.val = 768 + z1.val; omega)
    clear h0 h1 e
    pointwise [k0_pay44, k0_pay43, k0_pay42, k0_pay41, k0_pay40, k0_pay39, k0_pay38, k0_pay37, k0_pay36, k0_pay35, k0_pay34]
    simp (disch := omega) only [scratch_at, Nat.reduceSub]
    rfl
  · idx_vars z
    have hz : 512 + z1.val < 1024 := lt_of_lt_of_le (Nat.add_lt_add_left z1.isLt 512) (by decide)
    obtain rfl : r = z0 := Fin.ext (by have : r.val = z0.val := h0; omega)
    obtain rfl : k = ⟨512 + z1, hz⟩ := Fin.ext (by have : k.val = 512 + z1.val := h1; show k.val = 512 + z1.val; omega)
    clear h0 h1 e
    pointwise [k0_pay33, k0_pay32, k0_pay31, k0_pay30, k0_pay29, k0_pay28, k0_pay27, k0_pay26, k0_pay25, k0_pay24, k0_pay23]
    simp (disch := omega) only [scratch_at, Nat.reduceSub]
    rfl
  · idx_vars z
    have hz : 256 + z1.val < 1024 := lt_of_lt_of_le (Nat.add_lt_add_left z1.isLt 256) (by decide)
    obtain rfl : r = z0 := Fin.ext (by have : r.val = z0.val := h0; omega)
    obtain rfl : k = ⟨256 + z1, hz⟩ := Fin.ext (by have : k.val = 256 + z1.val := h1; show k.val = 256 + z1.val; omega)
    clear h0 h1 e
    pointwise [k0_pay22, k0_pay21, k0_pay20, k0_pay19, k0_pay18, k0_pay17, k0_pay16, k0_pay15, k0_pay14, k0_pay13, k0_pay12]
    simp (disch := omega) only [scratch_at, Nat.reduceSub]
    rfl
  · idx_vars z
    have hz : 0 + z1.val < 1024 := lt_of_lt_of_le (Nat.add_lt_add_left z1.isLt 0) (by decide)
    obtain rfl : r = z0 := Fin.ext (by have : r.val = z0.val := h0; omega)
    obtain rfl : k = ⟨0 + z1, hz⟩ := Fin.ext (by have : k.val = z1.val := h1; show k.val = 0 + z1.val; omega)
    clear h0 h1 e
    pointwise [k0_pay11, k0_pay10, k0_pay9, k0_pay8, k0_pay7, k0_pay6]
    simp (disch := omega) only [scratch_at, Nat.reduceSub, zero_add]
    rfl

end Cert.CcvIdeal.Hand
-- ==== Proof.ConfConvRef.lean ====
module

public import proofs.«01_k».proof.Proof.ConfConvMath
public import proofs.«01_k».proof.Proof.Gen.CcvRefIdeal.Run
public import proofs.«01_k».proof.Proof.Gen.CcvRefIdeal.Read
set_option maxRecDepth 16384
@[expose] public section

noncomputable section
open Idealize.ShloMosaic Idealize.ShloMosaic.TcCoe Idealize.SL.Sem

namespace Cert.CcvRefIdeal.Hand
open Cert.CcvRefIdeal Cert.CcvRefIdeal.Gen Cert.CcvRefIdeal.Read

variable (x0 : FVec Ideal S512x1024 .f32) (x1 : FVec Ideal S1x32x30x1024 .f32) (x2 : FVec Ideal S1x31x1024 .f32) (x3 x4 x5 : FVec Ideal S1x1024 .f32)

/-- The rows of a sequence. -/
theorem v3_at (b : Fin 32) (i : Fin 46) (s : Fin 1024) :
    val_main_v3 (F := Ideal) x0 x1 (ix3 b i s) = Long.hist (fun i => x1 (ix4 0 b i s)) (fun i => x0 (ix2 ⟨b * 16 + i, by omega⟩ s)) i := by
  pointwise [val_main_v3, val_main_v1, val_main_v0]
  unfold Long.hist
  by_cases h : i.val < 30
  · rw [dif_pos h, dif_pos h]
  · rw [dif_neg h, dif_neg h, dif_pos (by omega)]

/-- The convolution. -/
theorem v219_at (b : Fin 32) (r : Fin 16) (s : Fin 1024) :
    val_main_v219 (F := Ideal) x0 x1 x2 (ix3 b r s) = Long.conv (fun i => x2 (ix3 0 i s)) (Long.hist (fun i => x1 (ix4 0 b i s)) (fun i => x0 (ix2 ⟨b * 16 + i, by omega⟩ s))) r := by
  pointwise [val_main_v219, val_main_v218, val_main_v217, val_main_v216, val_main_v215, val_main_v214, val_main_v213, val_main_v212, val_main_v211, val_main_v210, val_main_v209,
    val_main_v208, val_main_v207, val_main_v206, val_main_v205, val_main_v204, val_main_v203, val_main_v202, val_main_v201, val_main_v200, val_main_v199, val_main_v198,
    val_main_v197, val_main_v196, val_main_v195, val_main_v194, val_main_v193, val_main_v192, val_main_v191, val_main_v190, val_main_v189, val_main_v188, val_main_v187,
    val_main_v186, val_main_v185, val_main_v184, val_main_v183, val_main_v182, val_main_v181, val_main_v180, val_main_v179, val_main_v178, val_main_v177, val_main_v176,
    val_main_v175, val_main_v174, val_main_v173, val_main_v172, val_main_v171, val_main_v170, val_main_v169, val_main_v168, val_main_v167, val_main_v166, val_main_v165,
    val_main_v164, val_main_v163, val_main_v162, val_main_v161, val_main_v160, val_main_v159, val_main_v158, val_main_v157, val_main_v156, val_main_v155, val_main_v154,
    val_main_v153, val_main_v152, val_main_v151, val_main_v150, val_main_v149, val_main_v148, val_main_v147, val_main_v146, val_main_v145, val_main_v144, val_main_v143,
    val_main_v142, val_main_v141, val_main_v140, val_main_v139, val_main_v138, val_main_v137, val_main_v136, val_main_v135, val_main_v134, val_main_v133, val_main_v132,
    val_main_v131, val_main_v130, val_main_v129, val_main_v128, val_main_v127, val_main_v126, val_main_v125, val_main_v124, val_main_v123, val_main_v122, val_main_v121,
    val_main_v120, val_main_v119, val_main_v118, val_main_v117, val_main_v116, val_main_v115, val_main_v114, val_main_v113, val_main_v112, val_main_v111, val_main_v110,
    val_main_v109, val_main_v108, val_main_v107, val_main_v106, val_main_v105, val_main_v104, val_main_v103, val_main_v102, val_main_v101, val_main_v100, val_main_v99,
    val_main_v98, val_main_v97, val_main_v96, val_main_v95, val_main_v94, val_main_v93, val_main_v92, val_main_v91, val_main_v90, val_main_v89, val_main_v88, val_main_v87,
    val_main_v86, val_main_v85, val_main_v84, val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v66, val_main_v65, val_main_v64, val_main_v63,
    val_main_v62, val_main_v61, val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v2]
  simp only [v3_at]
  simp only [Nat.add_comm _ (r : ℕ)]
  rfl

/-- The rows that the layer keeps. -/
theorem v220_at (b : Fin 32) (i : Fin 30) (s : Fin 1024) :
    val_main_v220 (F := Ideal) x0 x1 (ix3 b i s) = Long.hist (fun i => x1 (ix4 0 b i s)) (fun i => x0 (ix2 ⟨b * 16 + i, by omega⟩ s)) (16 + i) := by
  pointwise [val_main_v220]
  exact v3_at x0 x1 b ⟨16 + i, by omega⟩ s

/-- The convolution with its bias. -/
theorem v224_at (b : Fin 32) (r : Fin 16) (s : Fin 1024) :
    val_main_v224 (F := Ideal) x0 x1 x2 x3 (ix3 b r s) = val_main_v219 (F := Ideal) x0 x1 x2 (ix3 b r s) + x3 (ix2 0 s) := by
  pointwise [val_main_v224, val_main_v223, val_main_v222, val_main_v221]

/-- The layer's result. -/
theorem v250_at (R : Fin 512) (s : Fin 1024) :
    val_main_v250 (F := Ideal) x0 x1 x2 x3 x4 x5 (ix2 R s)
      = Long.finish (fun k => val_main_v224 (F := Ideal) x0 x1 x2 x3 (ix3 ⟨R / 16, by omega⟩ ⟨R % 16, by omega⟩ k)) (fun k => x4 (ix2 0 k)) (fun k => x5 (ix2 0 k)) s := by
  pointwise [val_main_v250, val_main_v249, val_main_v248, val_main_v247, val_main_v246, val_main_v245, val_main_v244, val_main_v243, val_main_v242, val_main_v241, val_main_v240,
    val_main_v239, val_main_v238, val_main_v237, val_main_v236, val_main_v235, val_main_v234, val_main_v233, val_main_v232, val_main_v231, val_main_v230, val_main_v229,
    val_main_v228, val_main_v227, val_main_v226, val_main_v225, val_main_call0_v0, val_main_call0_v1, val_main_call0_v2,
    val_main_call0_v3, val_main_call0_v4, val_main_call0_v5, val_main_call0_cst, val_main_call0_cst_0, val_main_cst, val_main_cst_0, val_main_cst_1, val_main_cst_2, val_main_cst_3]
  rfl

end Cert.CcvRefIdeal.Hand
-- ==== Proof.ConfConvClaims.lean ====
module

public import proofs.«01_k».proof.Defs
public import proofs.«01_k».proof.Proof.Gen.Ccv.Frame
public import proofs.«01_k».proof.Proof.ConfConvKernel
public import proofs.«01_k».proof.Proof.ConfConvRef
set_option maxRecDepth 16384
@[expose] public section

noncomputable section
open Idealize.ShloMosaic Idealize.ShloMosaic.TcCoe Idealize.SL.Sem
open Idealize.ShloMosaic.Pipeline (Dat)

/-! # The long convolution's claims -/

namespace Cert.CcvIdeal.Hand
open Cert.CcvIdeal Cert.CcvIdeal.Gen
variable (m : (ℓ : Loc nD τ sig) → Buf (Elt Ideal) ℓ)

/-- There are 32 points. -/
theorem lt_N (t : Fin cfg0.N) : t.val < 32 := (idx t).2.2.2.2.2.2.2.2

/-- The block of new rows. -/
theorem blk0_at (c : Dev nD) (t : Fin cfg0.N) (r : Fin 16) (s : Fin 1024) : (iblk m c 0 t : FVec Ideal S16x1024 .f32) (ix2 r s)
    = (m ((c : Thread nD τ).loc main_arg0) : FVec Ideal S512x1024 .f32) (ix2 ⟨t.val * 16 + r, by have := lt_N t; omega⟩ s) := by
  blk_ext [iblk, V, idx t]

/-- The block of old rows. -/
theorem blk1_at (c : Dev nD) (t : Fin cfg0.N) (i : Fin 30) (s : Fin 1024) : (iblk m c 1 t : FVec Ideal S1x30x1024 .f32) (ix3 0 i s)
    = (m ((c : Thread nD τ).loc main_arg1) : FVec Ideal S1x32x30x1024 .f32) (ix4 0 ⟨t.val, lt_N t⟩ i s) := by
  have h : ((cfg0.win 1).blk t).view.emb (ix3 0 i s : S1x30x1024.Idx) = (ix3 ⟨t.val, lt_N t⟩ i s : S32x30x1024.Idx) := by blk_ext [idx t]
  unfold iblk
  refine (congrArg (V m c (Pipeline.arrRef spec0 1)) h).trans ?_
  entry_read
  pointwise

/-- The block of the taps. -/
theorem blk2_at (c : Dev nD) (t : Fin cfg0.N) (i : Fin 31) (s : Fin 1024) : (iblk m c 2 t : FVec Ideal S31x1024 .f32) (ix2 i s)
    = (m ((c : Thread nD τ).loc main_arg2) : FVec Ideal S1x31x1024 .f32) (ix3 0 i s) := by
  have h : ((cfg0.win 2).blk t).view.emb (ix2 i s : S31x1024.Idx) = (ix2 i s : S31x1024.Idx) := by blk_ext [idx t]
  unfold iblk
  refine (congrArg (V m c (Pipeline.arrRef spec0 2)) h).trans ?_
  entry_read
  pointwise

/-- The block of the convolution's bias. -/
theorem blk3_at (c : Dev nD) (t : Fin cfg0.N) (s : Fin 1024) : (iblk m c 3 t : FVec Ideal S1x1024 .f32) (ix2 0 s)
    = (m ((c : Thread nD τ).loc main_arg3) : FVec Ideal S1x1024 .f32) (ix2 0 s) := by
  have h : ((cfg0.win 3).blk t).view.emb (ix2 0 s : S1x1024.Idx) = (ix2 0 s : S1x1024.Idx) := by blk_ext [idx t]
  unfold iblk
  refine (congrArg (V m c (Pipeline.arrRef spec0 3)) h).trans ?_
  entry_read
  pointwise

/-- The block of the gain. -/
theorem blk4_at (c : Dev nD) (t : Fin cfg0.N) (s : Fin 1024) : (iblk m c 4 t : FVec Ideal S1x1024 .f32) (ix2 0 s)
    = (m ((c : Thread nD τ).loc main_arg4) : FVec Ideal S1x1024 .f32) (ix2 0 s) := by
  have h : ((cfg0.win 4).blk t).view.emb (ix2 0 s : S1x1024.Idx) = (ix2 0 s : S1x1024.Idx) := by blk_ext [idx t]
  unfold iblk
  refine (congrArg (V m c (Pipeline.arrRef spec0 4)) h).trans ?_
  entry_read
  pointwise

/-- The block of the norm's bias. -/
theorem blk5_at (c : Dev nD) (t : Fin cfg0.N) (s : Fin 1024) : (iblk m c 5 t : FVec Ideal S1x1024 .f32) (ix2 0 s)
    = (m ((c : Thread nD τ).loc main_arg5) : FVec Ideal S1x1024 .f32) (ix2 0 s) := by
  have h : ((cfg0.win 5).blk t).view.emb (ix2 0 s : S1x1024.Idx) = (ix2 0 s : S1x1024.Idx) := by blk_ext [idx t]
  unfold iblk
  refine (congrArg (V m c (Pipeline.arrRef spec0 5)) h).trans ?_
  entry_read
  pointwise

/-- The rows kept for the next call are the reference's. -/
theorem final7 (c : Dev nD) : (dats m 0 c).arrAt 7 (cfgs 0).N
    = Cert.CcvRefIdeal.Read.val_main_v220 (F := Ideal) (m ((c : Thread nD τ).loc main_arg0)) (m ((c : Thread nD τ).loc main_arg1)) := by
  refine (dats m 0 c).arrAt_eq_of_covers 7 _ (by decide +kernel) fun t _ y => ?_
  blk_simp
  have ht := lt_N t
  idx_vars y
  refine (point7 m c t y0 y1 y2).trans ?_
  refine Eq.trans ?_ ((congrArg _ ?_).trans (Cert.CcvRefIdeal.Hand.v220_at _ _ ⟨t.val, ht⟩ y1 y2)).symm
  · simp only [blk0_at m c t, blk1_at m c t]
  · blk_ext [idx t]

/-- The layer's rows are the reference's. -/
theorem final6 (c : Dev nD) : (dats m 0 c).arrAt 6 (cfgs 0).N
    = Cert.CcvRefIdeal.Read.val_main_v250 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  have ht := lt_N t
  idx_vars y
  refine (point6 m c t y0 y1).trans ?_
  refine Eq.trans ?_ ((congrArg _ ?_).trans (Cert.CcvRefIdeal.Hand.v250_at _ _ _ _ _ _ ⟨t.val * 16 + y0, by omega⟩ y1)).symm
  · have e0 : (⟨(t.val * 16 + y0) / 16, by omega⟩ : Fin 32) = ⟨t.val, ht⟩ := Fin.ext (by show (t.val * 16 + y0.val) / 16 = t.val; omega)
    have e1 : (⟨(t.val * 16 + y0) % 16, by omega⟩ : Fin 16) = y0 := Fin.ext (by show (t.val * 16 + y0.val) % 16 = y0.val; omega)
    simp only [blk0_at m c t, blk1_at m c t, blk2_at m c t, blk3_at m c t, blk4_at m c t, blk5_at m c t, e0, e1, Cert.CcvRefIdeal.Hand.v224_at, Cert.CcvRefIdeal.Hand.v219_at]
  · blk_ext [idx t]

end Cert.CcvIdeal.Hand

namespace CcvClaims

/-- The kernel runs, keeps its arguments and leaves no semaphore raised. -/
theorem frame_kernel : Cert.quiescent_Ccv := fun m ρ _ => Cert.Ccv.Gen.frame m ρ

/-- So does the kernel over the extended reals. -/
theorem frame_ideal : Cert.quiescent_CcvIdeal := fun m ρ _ => Cert.CcvIdeal.Gen.frame m ρ

/-- So does the reference over the extended reals. -/
theorem frame_ref : Cert.quiescent_CcvRefIdeal := fun m ρ _ =>
  (θ_run Cert.CcvRefIdeal.defs _ _).mono (fun r h => ⟨fun c => (h c).2.2, Idealize.ShloMosaic.sem_eq_zero_of_no_sems (by decide) r.2⟩)
    (Cert.CcvRefIdeal.Value.run (F := Ideal) m ρ)

/-- The results over the extended reals are the reference's. -/
theorem algebraic : Cert.algebraic_CcvIdeal_CcvRefIdeal := by
  intro m g m' g' _ hag
  refine ⟨fun c => (Cert.CcvIdeal.Gen.dats m 0 c).arrAt 6 Cert.CcvIdeal.cfg0.N, fun c => (Cert.CcvIdeal.Gen.dats m 0 c).arrAt 7 Cert.CcvIdeal.cfg0.N,
    Cert.CcvIdeal.Value.run_blocks (F := Ideal) m g, (θ_run _ _ _).mono (fun r h c => ?_) (Cert.CcvRefIdeal.Value.run (F := Ideal) m' g')⟩
  obtain ⟨h0, h1, h2, h3, h4, h5⟩ := hag c
  refine ⟨(h c).1.trans ?_, (h c).2.1.trans ?_, (h c).2.2⟩
  · refine Eq.trans ?_ (Cert.CcvIdeal.Hand.final6 m c).symm
    refine (Cert.CcvRefIdeal.Read.val_main_v250_eq _).trans ?_
    rw [← h0, ← h1, ← h2, ← h3, ← h4, ← h5]
  · refine Eq.trans ?_ (Cert.CcvIdeal.Hand.final7 m c).symm
    exact (Cert.CcvRefIdeal.Read.val_main_v220_eq _).trans (congrArg₂ Cert.CcvRefIdeal.Read.val_main_v220 h0 h1)

end CcvClaims
-- ==== Proof.DeltaProjection.lean ====
module

public import proofs.«01_k».proof.Defs
public import proofs.«01_k».proof.Proof.Gen.Qz.Frame
public import proofs.«01_k».proof.Proof.Gen.QzIdeal.Value
public import proofs.«01_k».proof.Proof.Gen.QzRefIdeal.Run
public import proofs.«01_k».proof.Proof.Gen.QzRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The delta rule's projection -/

namespace Cert.QzIdeal.Hand
open Cert.QzIdeal Cert.QzIdeal.Gen

/-- An element of the stored block: a token's row times a column of the weight. -/
theorem pay_at (x : FVec Ideal S1024x2048 .bf16) (w : FVec Ideal S1x2048x1024 .bf16) (l : Fin 1) (r s : Fin 1024) :
    k0_pay1 (F := Ideal) x w (ix3 l r s) = Layer.dot (fun k : Fin 2048 => x (ix2 r k)) (fun k => w (ix3 0 k s)) := by
  pointwise [k0_pay1]
  rfl

variable (m : (ℓ : Loc nD τ sig) → Buf (Elt Ideal) ℓ)

/-- The blocks' places: block `t / 12` of the rows, block `t % 12` of the columns. -/
theorem idx : ∀ t : Fin cfg0.N, win0_0.index t = ![t.val / 12, 0] ∧ win0_1.index t = ![0, 0, t.val % 12]
    ∧ win0_2.index t = ![0, t.val / 12, t.val % 12] ∧ t.val < 192 :=
  (by decide +kernel : ∀ t : Fin grid0.N, _)

/-- There are 192 points. -/
theorem lt_N (t : Fin cfg0.N) : t.val < 192 := (idx t).2.2.2

/-- What point `t` stores. -/
theorem point2 (c : Dev nD) (t : Fin cfg0.N) (l : Fin 1) (r s : Fin 1024) :
    ((dats m 0 c).after 2 t : FVec Ideal S1x1024x1024 .f32) (ix3 l r s)
      = Layer.dot (fun k : Fin 2048 => (iblk m c 0 t : FVec Ideal S1024x2048 .bf16) (ix2 r k)) (fun k => (iblk m c 1 t : FVec Ideal S1x2048x1024 .bf16) (ix3 0 k s)) := by
  rw [after0_2]
  frame_open
  simp (disch := decide) only [↓ View.readCov_skip, ↓ View.readCov_cons_toLoadRect, ↓ View.readCov_fill]
  frame_out
  exact pay_at _ _ _ _ _

/-- The block of rows. -/
theorem blk0_at (c : Dev nD) (t : Fin cfg0.N) (r : Fin 1024) (k : Fin 2048) : (iblk m c 0 t : FVec Ideal S1024x2048 .bf16) (ix2 r k)
    = (m ((c : Thread nD τ).loc main_arg0) : FVec Ideal S16384x2048 .f32) (ix2 ⟨t.val / 12 * 1024 + r, by have := lt_N t; omega⟩ k) := by
  have h : ((cfg0.win 0).blk t).view.emb (ix2 r k : S1024x2048.Idx) = (ix2 ⟨t.val / 12 * 1024 + r, by have := lt_N t; omega⟩ k : S16384x2048.Idx) := by blk_ext [idx t]
  unfold iblk
  refine (congrArg (V m c (Pipeline.arrRef spec0 0)) h).trans ?_
  entry_read
  pointwise

/-- The block of the weight, the columns that are kept. -/
theorem blk1_at (c : Dev nD) (t : Fin cfg0.N) (k : Fin 2048) (s : Fin 1024) : (iblk m c 1 t : FVec Ideal S1x2048x1024 .bf16) (ix3 0 k s)
    = (m ((c : Thread nD τ).loc main_arg1) : FVec Ideal S1x2048x12352 .f32) (ix3 0 k ⟨t.val % 12 * 1024 + s, by omega⟩) := by
  have h : ((cfg0.win 1).blk t).view.emb (ix3 0 k s : S1x2048x1024.Idx) = (ix3 0 k ⟨t.val % 12 * 1024 + s, by omega⟩ : S1x2048x12288.Idx) := by blk_ext [idx t]
  unfold iblk
  refine (congrArg (V m c (Pipeline.arrRef spec0 1)) h).trans ?_
  entry_read
  pointwise

open Cert.QzRefIdeal.Read in
/-- An element of the reference's result. -/
theorem ref_at (x : FVec Ideal S16384x2048 .f32) (w : FVec Ideal S1x2048x12352 .f32) (l : Fin 1) (r : Fin 16384) (s : Fin 12288) :
    val_main_v3 (F := Ideal) x w (ix3 l r s) = Layer.dot (fun k : Fin 2048 => x (ix2 r k)) (fun k => w (ix3 0 k ⟨s, by omega⟩)) := by
  pointwise [val_main_v3, val_main_v2, val_main_v1, val_main_v0]
  rfl

/-- The product after the run is the reference's. -/
theorem final2 (c : Dev nD) : (dats m 0 c).arrAt 2 (cfgs 0).N
    = Cert.QzRefIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  have ht := lt_N t
  idx_vars y
  refine (point2 m c t y0 y1 y2).trans ?_
  refine Eq.trans ?_ ((congrArg _ ?_).trans (ref_at _ _ 0 ⟨t.val / 12 * 1024 + y1, by omega⟩ ⟨t.val % 12 * 1024 + y2, by omega⟩)).symm
  · simp only [blk0_at m c t, blk1_at m c t]
  · blk_ext [idx t]

end Cert.QzIdeal.Hand

namespace QzClaims

/-- The kernel runs, keeps its arguments and leaves no semaphore raised. -/
theorem frame_kernel : Cert.quiescent_Qz := fun m ρ _ => Cert.Qz.Gen.frame m ρ

/-- So does the kernel over the extended reals. -/
theorem frame_ideal : Cert.quiescent_QzIdeal := fun m ρ _ => Cert.QzIdeal.Gen.frame m ρ

/-- So does the reference over the extended reals. -/
theorem frame_ref : Cert.quiescent_QzRefIdeal := fun m ρ _ =>
  (θ_run Cert.QzRefIdeal.defs _ _).mono (fun r h => ⟨fun c => (h c).2, Idealize.ShloMosaic.sem_eq_zero_of_no_sems (by decide) r.2⟩)
    (Cert.QzRefIdeal.Value.run (F := Ideal) m ρ)

/-- The result over the extended reals is the reference's. -/
theorem algebraic : Cert.algebraic_QzIdeal_QzRefIdeal := by
  intro m g m' g' _ hag
  refine ⟨fun c => (Cert.QzIdeal.Gen.dats m 0 c).arrAt 2 Cert.QzIdeal.cfg0.N,
    Cert.QzIdeal.Value.run_blocks (F := Ideal) m g, (θ_run _ _ _).mono (fun r h c => ?_) (Cert.QzRefIdeal.Value.run (F := Ideal) m' g')⟩
  obtain ⟨h0, h1⟩ := hag c
  refine ⟨(h c).1.trans ?_, (h c).2⟩
  refine Eq.trans ?_ (Cert.QzIdeal.Hand.final2 m c).symm
  rw [Cert.QzRefIdeal.Read.val_main_v3_eq, h0, h1]

end QzClaims
-- ==== Proof.DeltaOutput.lean ====
module

public import proofs.«01_k».proof.Defs
public import proofs.«01_k».proof.Proof.Gen.Oc.Frame
public import proofs.«01_k».proof.Proof.Gen.OcIdeal.Value
public import proofs.«01_k».proof.Proof.Gen.OcRefIdeal.Run
public import proofs.«01_k».proof.Proof.Gen.OcRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The delta rule's output product, its residual and its norm -/

namespace Cert.OcIdeal.Hand
open Cert.OcIdeal Cert.OcIdeal.Gen

/-- An element of the accumulator after a step. -/
theorem pay2_at (acc : FVec Ideal S512x2048 .f32) (x : FVec Ideal S512x2048 .bf16) (w : FVec Ideal S2048x2048 .bf16) (r : Fin 512) (s : Fin 2048) :
    k0_pay2 (F := Ideal) acc x w (ix2 r s) = acc (ix2 r s) + Layer.dot (fun k : Fin 2048 => x (ix2 r k)) (fun k => w (ix2 k s)) := by
  pointwise [k0_pay2]
  rfl

/-- An element of the first result's block. -/
theorem pay3_at (res acc : FVec Ideal S512x2048 .f32) (g b : FVec Ideal S1x2048 .f32) (r : Fin 512) (s : Fin 2048) :
    k0_pay3 (F := Ideal) res acc g b (ix2 r s) = Layer.resNorm (fun k => res (ix2 r k)) (fun k => acc (ix2 r k)) (fun k => g (ix2 0 k)) (fun k => b (ix2 0 k)) s := by
  pointwise [k0_pay3]
  rfl

/-- An element of the second result's block. -/
theorem pay4_at (res acc : FVec Ideal S512x2048 .f32) (g b : FVec Ideal S1x2048 .f32) (r : Fin 512) (s : Fin 2048) :
    k0_pay4 (F := Ideal) res acc g b (ix2 r s) = Layer.resNorm (fun k => res (ix2 r k)) (fun k => acc (ix2 r k)) (fun k => g (ix2 0 k)) (fun k => b (ix2 0 k)) s := by
  refine Eq.trans ?_ (pay3_at res acc g b r s)
  pointwise [k0_pay4]

variable (m : (ℓ : Loc nD τ sig) → Buf (Elt Ideal) ℓ)

/-- The blocks' places: block `t / 2` of the rows, half `t % 2` of the inner axis. -/
theorem idx : ∀ t : Fin cfg0.N, win0_0.index t = ![t.val / 2, t.val % 2] ∧ win0_1.index t = ![t.val % 2, 0] ∧ win0_2.index t = ![t.val / 2, 0]
    ∧ win0_3.index t = ![0, 0] ∧ win0_4.index t = ![0, 0] ∧ win0_5.index t = ![t.val / 2, 0] ∧ win0_6.index t = ![t.val / 2, 0] ∧ t.val < 64 :=
  (by decide +kernel : ∀ t : Fin grid0.N, _)

/-- There are 64 points. -/
theorem lt_N (t : Fin cfg0.N) : t.val < 64 := (idx t).2.2.2.2.2.2.2

/-- What the first step of a block of rows leaves in the accumulator. -/
theorem first (c : Dev nD) (t : Fin cfg0.N) (h0 : t.val % 2 = 0) (r : Fin 512) (s : Fin 2048) :
    ((outsAt0 m c t.val t.isLt).2.2 : FVec Ideal S512x2048 .f32) (ix2 r s)
      = Layer.dot (fun k : Fin 2048 => (iblk m c 0 t : FVec Ideal S512x2048 .bf16) (ix2 r k)) (fun k => (iblk m c 1 t : FVec Ideal S2048x2048 .bf16) (ix2 k s)) := by
  rw [outsAt0_A m c t h0 (by omega)]
  frame_open
  simp (disch := decide) only [↓ View.readCov_skip, ↓ View.readCov_cons_toLoadRect, ↓ View.readCov_fill]
  frame_out
  refine (pay2_at _ _ _ _ _).trans ?_
  refine (congrArg (· + _) ?_).trans (zero_add _)
  pointwise [k0_pay1]

/-- The accumulator after a block's last step. -/
def acc (c : Dev nD) (t t' : Fin cfg0.N) (r : Fin 512) (s : Fin 2048) : EReal :=
  Layer.dot (fun k : Fin 2048 => (iblk m c 0 t' : FVec Ideal S512x2048 .bf16) (ix2 r k)) (fun k => (iblk m c 1 t' : FVec Ideal S2048x2048 .bf16) (ix2 k s))
    + Layer.dot (fun k : Fin 2048 => (iblk m c 0 t : FVec Ideal S512x2048 .bf16) (ix2 r k)) (fun k => (iblk m c 1 t : FVec Ideal S2048x2048 .bf16) (ix2 k s))

/-- What a block's last point stores in the first result. -/
theorem point5 (c : Dev nD) (t t' : Fin cfg0.N) (h : t.val = t'.val + 1) (h0 : t'.val % 2 = 0) (r : Fin 512) (s : Fin 2048) :
    ((dats m 0 c).after 5 t : FVec Ideal S512x2048 .f32) (ix2 r s)
      = Layer.resNorm (fun k => (iblk m c 2 t : FVec Ideal S512x2048 .f32) (ix2 r k)) (acc m c t t' r)
          (fun k => (iblk m c 3 t : FVec Ideal S1x2048 .f32) (ix2 0 k)) (fun k => (iblk m c 4 t : FVec Ideal S1x2048 .f32) (ix2 0 k)) s := by
  rw [after0_5, outsAt0_B m c t (by omega) (by omega)]
  frame_open
  simp (disch := decide) only [↓ View.readCov_skip, ↓ View.readCov_cons_toLoadRect, ↓ View.readCov_fill]
  frame_out
  refine (pay3_at _ _ _ _ _ _).trans ?_
  refine congrArg (fun f => Layer.resNorm _ f _ _ s) (funext fun k => ?_)
  refine (pay2_at _ _ _ _ _).trans ?_
  have e : t.val - 1 = t'.val := by omega
  simp only [e]
  exact congrArg (· + _) ((congrFun (read_unread_whole _ _ _) _).trans (first m c t' h0 r k))

/-- What a block's last point stores in the second result. -/
theorem point6 (c : Dev nD) (t t' : Fin cfg0.N) (h : t.val = t'.val + 1) (h0 : t'.val % 2 = 0) (r : Fin 512) (s : Fin 2048) :
    ((dats m 0 c).after 6 t : FVec Ideal S512x2048 .bf16) (ix2 r s)
      = Layer.resNorm (fun k => (iblk m c 2 t : FVec Ideal S512x2048 .f32) (ix2 r k)) (acc m c t t' r)
          (fun k => (iblk m c 3 t : FVec Ideal S1x2048 .f32) (ix2 0 k)) (fun k => (iblk m c 4 t : FVec Ideal S1x2048 .f32) (ix2 0 k)) s := by
  rw [after0_6, outsAt0_B m c t (by omega) (by omega)]
  frame_open
  simp (disch := decide) only [↓ View.readCov_skip, ↓ View.readCov_cons_toLoadRect, ↓ View.readCov_fill]
  frame_out
  refine (pay4_at _ _ _ _ _ _).trans ?_
  refine congrArg (fun f => Layer.resNorm _ f _ _ s) (funext fun k => ?_)
  refine (pay2_at _ _ _ _ _).trans ?_
  have e : t.val - 1 = t'.val := by omega
  simp only [e]
  exact congrArg (· + _) ((congrFun (read_unread_whole _ _ _) _).trans (first m c t' h0 r k))

/-- The block of rows. -/
theorem blk0_at (c : Dev nD) (t : Fin cfg0.N) (r : Fin 512) (k : Fin 2048) : (iblk m c 0 t : FVec Ideal S512x2048 .bf16) (ix2 r k)
    = (m ((c : Thread nD τ).loc main_arg0) : FVec Ideal S16384x4096 .f32) (ix2 ⟨t.val / 2 * 512 + r, by have := lt_N t; omega⟩ ⟨t.val % 2 * 2048 + k, by omega⟩) := by
  have h : ((cfg0.win 0).blk t).view.emb (ix2 r k : S512x2048.Idx)
      = (ix2 ⟨t.val / 2 * 512 + r, by have := lt_N t; omega⟩ ⟨t.val % 2 * 2048 + k, by omega⟩ : S16384x4096.Idx) := by blk_ext [idx t]
  unfold iblk
  refine (congrArg (V m c (Pipeline.arrRef spec0 0)) h).trans ?_
  entry_read
  pointwise

/-- The block of the weight. -/
theorem blk1_at (c : Dev nD) (t : Fin cfg0.N) (k : Fin 2048) (s : Fin 2048) : (iblk m c 1 t : FVec Ideal S2048x2048 .bf16) (ix2 k s)
    = (m ((c : Thread nD τ).loc main_arg1) : FVec Ideal S1x4096x2048 .f32) (ix3 0 ⟨t.val % 2 * 2048 + k, by omega⟩ s) := by
  have h : ((cfg0.win 1).blk t).view.emb (ix2 k s : S2048x2048.Idx) = (ix2 ⟨t.val % 2 * 2048 + k, by omega⟩ s : S4096x2048.Idx) := by blk_ext [idx t]
  unfold iblk
  refine (congrArg (V m c (Pipeline.arrRef spec0 1)) h).trans ?_
  entry_read
  pointwise

/-- The block of the residual. -/
theorem blk2_at (c : Dev nD) (t : Fin cfg0.N) (r : Fin 512) (k : Fin 2048) : (iblk m c 2 t : FVec Ideal S512x2048 .f32) (ix2 r k)
    = (m ((c : Thread nD τ).loc main_arg2) : FVec Ideal S16384x2048 .f32) (ix2 ⟨t.val / 2 * 512 + r, by have := lt_N t; omega⟩ k) := by
  have h : ((cfg0.win 2).blk t).view.emb (ix2 r k : S512x2048.Idx) = (ix2 ⟨t.val / 2 * 512 + r, by have := lt_N t; omega⟩ k : S16384x2048.Idx) := by blk_ext [idx t]
  unfold iblk
  refine (congrArg (V m c (Pipeline.arrRef spec0 2)) h).trans ?_
  entry_read
  rfl

/-- The norm's scale, laid out as a row. -/
theorem blk3_at (c : Dev nD) (t : Fin cfg0.N) (k : Fin 2048) : (iblk m c 3 t : FVec Ideal S1x2048 .f32) (ix2 0 k)
    = (m ((c : Thread nD τ).loc main_arg3) : FVec Ideal S2048 .f32) (ix1 k) := by
  have h : ((cfg0.win 3).blk t).view.emb (ix2 0 k : S1x2048.Idx) = (ix2 0 k : S1x2048.Idx) := by blk_ext [idx t]
  unfold iblk
  refine (congrArg (V m c (Pipeline.arrRef spec0 3)) h).trans ?_
  entry_read
  pointwise

/-- The norm's shift, laid out as a row. -/
theorem blk4_at (c : Dev nD) (t : Fin cfg0.N) (k : Fin 2048) : (iblk m c 4 t : FVec Ideal S1x2048 .f32) (ix2 0 k)
    = (m ((c : Thread nD τ).loc main_arg4) : FVec Ideal S2048 .f32) (ix1 k) := by
  have h : ((cfg0.win 4).blk t).view.emb (ix2 0 k : S1x2048.Idx) = (ix2 0 k : S1x2048.Idx) := by blk_ext [idx t]
  unfold iblk
  refine (congrArg (V m c (Pipeline.arrRef spec0 4)) h).trans ?_
  entry_read
  pointwise

section
open Cert.OcRefIdeal.Read

/-- An element of the reference's product. -/
theorem v4_at (x : FVec Ideal S16384x4096 .f32) (w : FVec Ideal S1x4096x2048 .f32) (res : FVec Ideal S16384x2048 .f32) (r : Fin 16384) (s : Fin 2048) :
    val_main_v4 (F := Ideal) x w res (ix2 r s)
      = Layer.alpha * res (ix2 r s) + Layer.dot (fun k : Fin 4096 => x (ix2 r k)) (fun k => w (ix3 0 k s)) := by
  pointwise [val_main_v4, val_main_v3, val_main_v2, val_main_v1, val_main_v0, val_main_cst]
  rfl

/-- An element of the reference's centred row. -/
theorem v10_at (x : FVec Ideal S16384x4096 .f32) (w : FVec Ideal S1x4096x2048 .f32) (res : FVec Ideal S16384x2048 .f32) (r : Fin 16384) (s : Fin 2048) :
    val_main_v10 (F := Ideal) x w res (ix2 r s)
      = val_main_v4 (F := Ideal) x w res (ix2 r s) - Layer.mean (fun k => val_main_v4 (F := Ideal) x w res (ix2 r k)) := by
  pointwise [val_main_v10, val_main_v9, val_main_v8, val_main_v7, val_main_v6, val_main_v5, val_main_cst_0, val_main_cst_1]
  rfl

/-- An element of the reference's first result. -/
theorem v26_at (x : FVec Ideal S16384x4096 .f32) (w : FVec Ideal S1x4096x2048 .f32) (res : FVec Ideal S16384x2048 .f32) (g b : FVec Ideal S2048 .f32) (r : Fin 16384) (s : Fin 2048) :
    val_main_v26 (F := Ideal) x w res g b (ix2 r s)
      = Layer.resNorm (fun k => res (ix2 r k)) (fun c => Layer.dot (fun k : Fin 4096 => x (ix2 r k)) (fun k => w (ix3 0 k c))) (fun k => g (ix1 k)) (fun k => b (ix1 k)) s := by
  have h : val_main_v26 (F := Ideal) x w res g b (ix2 r s)
      = val_main_v10 (F := Ideal) x w res (ix2 r s) * Ideal.rsqrt (Layer.mean (fun k => val_main_v10 (F := Ideal) x w res (ix2 r k) * val_main_v10 (F := Ideal) x w res (ix2 r k))
          + Ideal.ofBits .f32 0x3727C5AC#32) * g (ix1 s) + b (ix1 s) := by
    pointwise [val_main_v26, val_main_v25, val_main_v24, val_main_v23, val_main_v22, val_main_v21, val_main_v20, val_main_v19, val_main_v18, val_main_v17, val_main_v16,
      val_main_v15, val_main_v14, val_main_v13, val_main_v12, val_main_v11, val_main_cst_2, val_main_cst_3, val_main_cst_4]
    rfl
  rw [h]
  simp only [v10_at, v4_at]
  rfl

/-- An element of the reference's second result. -/
theorem v27_at (x : FVec Ideal S16384x4096 .f32) (w : FVec Ideal S1x4096x2048 .f32) (res : FVec Ideal S16384x2048 .f32) (g b : FVec Ideal S2048 .f32) (r : Fin 16384) (s : Fin 2048) :
    val_main_v27 (F := Ideal) x w res g b (ix2 r s) = val_main_v26 (F := Ideal) x w res g b (ix2 r s) := by
  pointwise [val_main_v27]

end

/-- The point before a block's last point. -/
def prev (t : Fin cfg0.N) : Fin cfg0.N := ⟨t.val - 1, lt_of_le_of_lt (Nat.sub_le _ _) t.isLt⟩

/-- The accumulator after a block's last step is the whole product. -/
theorem acc_eq (c : Dev nD) (t : Fin cfg0.N) (h : t.val % 2 = 1) (r : Fin 512) (s : Fin 2048) :
    acc m c t (prev t) r s = Layer.dot (fun k : Fin 4096 => (m ((c : Thread nD τ).loc main_arg0) : FVec Ideal S16384x4096 .f32) (ix2 ⟨t.val / 2 * 512 + r, by have := lt_N t; omega⟩ k))
      (fun k => (m ((c : Thread nD τ).loc main_arg1) : FVec Ideal S1x4096x2048 .f32) (ix3 0 k s)) := by
  refine Eq.trans ?_ (Layer.dot_halves (n := 2048) _ _).symm
  unfold acc
  have e1 : (prev t).val / 2 = t.val / 2 := by show (t.val - 1) / 2 = _; omega
  have e2 : (prev t).val % 2 = 0 := by show (t.val - 1) % 2 = _; omega
  simp only [blk0_at, blk1_at, e1, e2, h]
  congr 3 <;> funext k <;> congr 2 <;> exact Fin.ext (by first | (show 0 * 2048 + k.val = k.val; omega) | (show 1 * 2048 + k.val = 2048 + k.val; omega))

/-- The points that write a result back are the blocks' last. -/
theorem last5 : ∀ t : Fin cfg0.N, (cfg0.win 5).flush t = true → t.val % 2 = 1 := (by decide +kernel : ∀ t : Fin grid0.N, _)

/-- The points that write the second result back are the same. -/
theorem last6 : ∀ t : Fin cfg0.N, (cfg0.win 6).flush t = true → t.val % 2 = 1 := (by decide +kernel : ∀ t : Fin grid0.N, _)

/-- The first result after the run is the reference's. -/
theorem final5 (c : Dev nD) : (dats m 0 c).arrAt 5 (cfgs 0).N
    = Cert.OcRefIdeal.Read.val_main_v26 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have h := last5 t hf
  blk_simp
  have ht := lt_N t
  idx_vars y
  refine (point5 m c t (prev t) (by show t.val = t.val - 1 + 1; omega) (by show (t.val - 1) % 2 = 0; omega) y0 y1).trans ?_
  refine Eq.trans ?_ ((congrArg _ ?_).trans (v26_at _ _ _ _ _ ⟨t.val / 2 * 512 + y0, by omega⟩ y1)).symm
  · simp only [blk2_at m c t, blk3_at m c t, blk4_at m c t, funext (acc_eq m c t h y0)]
  · blk_ext [idx t]

/-- The second result after the run is the reference's. -/
theorem final6 (c : Dev nD) : (dats m 0 c).arrAt 6 (cfgs 0).N
    = Cert.OcRefIdeal.Read.val_main_v27 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have h := last6 t hf
  blk_simp
  have ht := lt_N t
  idx_vars y
  refine (point6 m c t (prev t) (by show t.val = t.val - 1 + 1; omega) (by show (t.val - 1) % 2 = 0; omega) y0 y1).trans ?_
  refine Eq.trans ?_ ((congrArg _ ?_).trans ((v27_at _ _ _ _ _ _ _).trans (v26_at _ _ _ _ _ ⟨t.val / 2 * 512 + y0, by omega⟩ y1))).symm
  · simp only [blk2_at m c t, blk3_at m c t, blk4_at m c t, funext (acc_eq m c t h y0)]
  · blk_ext [idx t]

end Cert.OcIdeal.Hand

namespace OcClaims

/-- The kernel runs, keeps its arguments and leaves no semaphore raised. -/
theorem frame_kernel : Cert.quiescent_Oc := fun m ρ _ => Cert.Oc.Gen.frame m ρ

/-- So does the kernel over the extended reals. -/
theorem frame_ideal : Cert.quiescent_OcIdeal := fun m ρ _ => Cert.OcIdeal.Gen.frame m ρ

/-- So does the reference over the extended reals. -/
theorem frame_ref : Cert.quiescent_OcRefIdeal := fun m ρ _ =>
  (θ_run Cert.OcRefIdeal.defs _ _).mono (fun r h => ⟨fun c => (h c).2.2, Idealize.ShloMosaic.sem_eq_zero_of_no_sems (by decide) r.2⟩)
    (Cert.OcRefIdeal.Value.run (F := Ideal) m ρ)

/-- The two results over the extended reals are the reference's. -/
theorem algebraic : Cert.algebraic_OcIdeal_OcRefIdeal := by
  intro m g m' g' _ hag
  refine ⟨fun c => (Cert.OcIdeal.Gen.dats m 0 c).arrAt 5 Cert.OcIdeal.cfg0.N, fun c => (Cert.OcIdeal.Gen.dats m 0 c).arrAt 6 Cert.OcIdeal.cfg0.N,
    Cert.OcIdeal.Value.run_blocks (F := Ideal) m g, (θ_run _ _ _).mono (fun r h c => ?_) (Cert.OcRefIdeal.Value.run (F := Ideal) m' g')⟩
  obtain ⟨h0, h1, h2, h3, h4⟩ := hag c
  refine ⟨(h c).1.trans ?_, (h c).2.1.trans ?_, (h c).2.2⟩
  · refine Eq.trans ?_ (Cert.OcIdeal.Hand.final5 m c).symm
    rw [Cert.OcRefIdeal.Read.val_main_v26_eq, h0, h1, h2, h3, h4]
  · refine Eq.trans ?_ (Cert.OcIdeal.Hand.final6 m c).symm
    rw [Cert.OcRefIdeal.Read.val_main_v27_eq, h0, h1, h2, h3, h4]

end OcClaims
-- ==== Proof.MemoryQueries.lean ====
module

public import proofs.«01_k».proof.Defs
public import proofs.«01_k».proof.Proof.Gen.Mq.Frame
public import proofs.«01_k».proof.Proof.Gen.MqIdeal.Value
public import proofs.«01_k».proof.Proof.Gen.MqRefIdeal.Run
public import proofs.«01_k».proof.Proof.Gen.MqRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The memory's queries -/

namespace Cert.MqIdeal.Hand
open Cert.MqIdeal Cert.MqIdeal.Gen

/-- An element of the stored block: a token's row times a column of the weight. -/
theorem pay_at (x : FVec Ideal S1024x2048 .bf16) (w : FVec Ideal S1x2048x1024 .bf16) (l : Fin 1) (r s : Fin 1024) :
    k0_pay1 (F := Ideal) x w (ix3 l r s) = Layer.dot (fun k : Fin 2048 => x (ix2 r k)) (fun k => w (ix3 0 k s)) := by
  pointwise [k0_pay1]
  rfl

variable (m : (ℓ : Loc nD τ sig) → Buf (Elt Ideal) ℓ)

/-- The blocks' places: block `t / 2` of the rows, block `t % 2` of the columns. -/
theorem idx : ∀ t : Fin cfg0.N, win0_0.index t = ![t.val / 2, 0] ∧ win0_1.index t = ![0, 0, t.val % 2]
    ∧ win0_2.index t = ![0, t.val / 2, t.val % 2] ∧ t.val < 32 :=
  (by decide +kernel : ∀ t : Fin grid0.N, _)

/-- There are 32 points. -/
theorem lt_N (t : Fin cfg0.N) : t.val < 32 := (idx t).2.2.2

/-- What point `t` stores. -/
theorem point2 (c : Dev nD) (t : Fin cfg0.N) (l : Fin 1) (r s : Fin 1024) :
    ((dats m 0 c).after 2 t : FVec Ideal S1x1024x1024 .bf16) (ix3 l r s)
      = Layer.dot (fun k : Fin 2048 => (iblk m c 0 t : FVec Ideal S1024x2048 .bf16) (ix2 r k)) (fun k => (iblk m c 1 t : FVec Ideal S1x2048x1024 .bf16) (ix3 0 k s)) := by
  rw [after0_2]
  frame_open
  simp (disch := decide) only [↓ View.readCov_skip, ↓ View.readCov_cons_toLoadRect, ↓ View.readCov_fill]
  frame_out
  exact pay_at _ _ _ _ _

/-- The block of rows. -/
theorem blk0_at (c : Dev nD) (t : Fin cfg0.N) (r : Fin 1024) (k : Fin 2048) : (iblk m c 0 t : FVec Ideal S1024x2048 .bf16) (ix2 r k)
    = (m ((c : Thread nD τ).loc main_arg0) : FVec Ideal S16384x2048 .f32) (ix2 ⟨t.val / 2 * 1024 + r, by have := lt_N t; omega⟩ k) := by
  have h : ((cfg0.win 0).blk t).view.emb (ix2 r k : S1024x2048.Idx) = (ix2 ⟨t.val / 2 * 1024 + r, by have := lt_N t; omega⟩ k : S16384x2048.Idx) := by blk_ext [idx t]
  unfold iblk
  refine (congrArg (V m c (Pipeline.arrRef spec0 0)) h).trans ?_
  entry_read
  pointwise

/-- The block of the weight of the first layer. -/
theorem blk1_at (c : Dev nD) (t : Fin cfg0.N) (k : Fin 2048) (s : Fin 1024) : (iblk m c 1 t : FVec Ideal S1x2048x1024 .bf16) (ix3 0 k s)
    = (m ((c : Thread nD τ).loc main_arg1) : FVec Ideal S2x2048x2048 .f32) (ix3 0 k ⟨t.val % 2 * 1024 + s, by omega⟩) := by
  have h : ((cfg0.win 1).blk t).view.emb (ix3 0 k s : S1x2048x1024.Idx) = (ix3 0 k ⟨t.val % 2 * 1024 + s, by omega⟩ : S1x2048x2048.Idx) := by blk_ext [idx t]
  unfold iblk
  refine (congrArg (V m c (Pipeline.arrRef spec0 1)) h).trans ?_
  entry_read
  pointwise

open Cert.MqRefIdeal.Read in
/-- An element of the reference's result. -/
theorem ref_at (x : FVec Ideal S16384x2048 .f32) (w : FVec Ideal S2x2048x2048 .f32) (l : Fin 1) (r : Fin 16384) (s : Fin 2048) :
    val_main_v4 (F := Ideal) x w (ix3 l r s) = Layer.dot (fun k : Fin 2048 => x (ix2 r k)) (fun k => w (ix3 0 k ⟨s, by omega⟩)) := by
  pointwise [val_main_v4, val_main_v3, val_main_v2, val_main_v1, val_main_v0]
  rfl

/-- The product after the run is the reference's. -/
theorem final2 (c : Dev nD) : (dats m 0 c).arrAt 2 (cfgs 0).N
    = Cert.MqRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  have ht := lt_N t
  idx_vars y
  refine (point2 m c t y0 y1 y2).trans ?_
  refine Eq.trans ?_ ((congrArg _ ?_).trans (ref_at _ _ 0 ⟨t.val / 2 * 1024 + y1, by omega⟩ ⟨t.val % 2 * 1024 + y2, by omega⟩)).symm
  · simp only [blk0_at m c t, blk1_at m c t]
  · blk_ext [idx t]

end Cert.MqIdeal.Hand

namespace MqClaims

/-- The kernel runs, keeps its arguments and leaves no semaphore raised. -/
theorem frame_kernel : Cert.quiescent_Mq := fun m ρ _ => Cert.Mq.Gen.frame m ρ

/-- So does the kernel over the extended reals. -/
theorem frame_ideal : Cert.quiescent_MqIdeal := fun m ρ _ => Cert.MqIdeal.Gen.frame m ρ

/-- So does the reference over the extended reals. -/
theorem frame_ref : Cert.quiescent_MqRefIdeal := fun m ρ _ =>
  (θ_run Cert.MqRefIdeal.defs _ _).mono (fun r h => ⟨fun c => (h c).2, Idealize.ShloMosaic.sem_eq_zero_of_no_sems (by decide) r.2⟩)
    (Cert.MqRefIdeal.Value.run (F := Ideal) m ρ)

/-- The result over the extended reals is the reference's. -/
theorem algebraic : Cert.algebraic_MqIdeal_MqRefIdeal := by
  intro m g m' g' _ hag
  refine ⟨fun c => (Cert.MqIdeal.Gen.dats m 0 c).arrAt 2 Cert.MqIdeal.cfg0.N,
    Cert.MqIdeal.Value.run_blocks (F := Ideal) m g, (θ_run _ _ _).mono (fun r h c => ?_) (Cert.MqRefIdeal.Value.run (F := Ideal) m' g')⟩
  obtain ⟨h0, h1⟩ := hag c
  refine ⟨(h c).1.trans ?_, (h c).2⟩
  refine Eq.trans ?_ (Cert.MqIdeal.Hand.final2 m c).symm
  rw [Cert.MqRefIdeal.Read.val_main_v4_eq, h0, h1]

end MqClaims
-- ==== Proof.MemoryOutput.lean ====
module

public import proofs.«01_k».proof.Defs
public import proofs.«01_k».proof.Proof.Gen.Mo.Frame
public import proofs.«01_k».proof.Proof.Gen.MoIdeal.Value
public import proofs.«01_k».proof.Proof.Gen.MoRefIdeal.Run
public import proofs.«01_k».proof.Proof.Gen.MoRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The memory's output product, its residual and its norm -/

namespace Cert.MoIdeal.Hand
open Cert.MoIdeal Cert.MoIdeal.Gen

/-- An element of the accumulator after a step. -/
theorem pay2_at (acc : FVec Ideal S512x2048 .f32) (x : FVec Ideal S512x2048 .bf16) (w : FVec Ideal S2048x2048 .bf16) (r : Fin 512) (s : Fin 2048) :
    k0_pay2 (F := Ideal) acc x w (ix2 r s) = acc (ix2 r s) + Layer.dot (fun k : Fin 2048 => x (ix2 r k)) (fun k => w (ix2 k s)) := by
  pointwise [k0_pay2]
  rfl

/-- An element of the first result's block. -/
theorem pay3_at (res acc : FVec Ideal S512x2048 .f32) (g b : FVec Ideal S1x2048 .f32) (r : Fin 512) (s : Fin 2048) :
    k0_pay3 (F := Ideal) res acc g b (ix2 r s) = Layer.resNorm (fun k => res (ix2 r k)) (fun k => acc (ix2 r k)) (fun k => g (ix2 0 k)) (fun k => b (ix2 0 k)) s := by
  pointwise [k0_pay3]
  rfl

/-- An element of the second result's block. -/
theorem pay4_at (res acc : FVec Ideal S512x2048 .f32) (g b : FVec Ideal S1x2048 .f32) (r : Fin 512) (s : Fin 2048) :
    k0_pay4 (F := Ideal) res acc g b (ix2 r s) = Layer.resNorm (fun k => res (ix2 r k)) (fun k => acc (ix2 r k)) (fun k => g (ix2 0 k)) (fun k => b (ix2 0 k)) s := by
  refine Eq.trans ?_ (pay3_at res acc g b r s)
  pointwise [k0_pay4]

variable (m : (ℓ : Loc nD τ sig) → Buf (Elt Ideal) ℓ)

/-- The blocks' places: block `t` of the rows. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ t.val < 32 :=
  (by decide +kernel : ∀ t : Fin grid0.N, _)

/-- There are 32 points. -/
theorem lt_N (t : Fin cfg0.N) : t.val < 32 := (idx t).2.2.2.2.2.2.2

/-- What a point stores in the first result. -/
theorem point5 (c : Dev nD) (t : Fin cfg0.N) (r : Fin 512) (s : Fin 2048) :
    ((dats m 0 c).after 5 t : FVec Ideal S512x2048 .f32) (ix2 r s)
      = Layer.resNorm (fun k => (iblk m c 2 t : FVec Ideal S512x2048 .f32) (ix2 r k)) (fun s => Layer.dot (fun k : Fin 2048 => (iblk m c 0 t : FVec Ideal S512x2048 .bf16) (ix2 r k)) (fun k => (iblk m c 1 t : FVec Ideal S2048x2048 .bf16) (ix2 k s)))
          (fun k => (iblk m c 3 t : FVec Ideal S1x2048 .f32) (ix2 0 k)) (fun k => (iblk m c 4 t : FVec Ideal S1x2048 .f32) (ix2 0 k)) s := by
  rw [after0_5]
  unfold outsAt0
  frame_open
  simp (disch := decide) only [↓ View.readCov_skip, ↓ View.readCov_cons_toLoadRect, ↓ View.readCov_fill]
  frame_out
  refine (pay3_at _ _ _ _ _ _).trans ?_
  refine congrArg (fun f => Layer.resNorm _ f _ _ s) (funext fun k => ?_)
  refine (pay2_at _ _ _ _ _).trans ?_
  refine (congrArg (· + _) ?_).trans (zero_add _)
  pointwise [k0_pay1]

/-- What a point stores in the second result. -/
theorem point6 (c : Dev nD) (t : Fin cfg0.N) (r : Fin 512) (s : Fin 2048) :
    ((dats m 0 c).after 6 t : FVec Ideal S512x2048 .bf16) (ix2 r s)
      = Layer.resNorm (fun k => (iblk m c 2 t : FVec Ideal S512x2048 .f32) (ix2 r k)) (fun s => Layer.dot (fun k : Fin 2048 => (iblk m c 0 t : FVec Ideal S512x2048 .bf16) (ix2 r k)) (fun k => (iblk m c 1 t : FVec Ideal S2048x2048 .bf16) (ix2 k s)))
          (fun k => (iblk m c 3 t : FVec Ideal S1x2048 .f32) (ix2 0 k)) (fun k => (iblk m c 4 t : FVec Ideal S1x2048 .f32) (ix2 0 k)) s := by
  rw [after0_6]
  unfold outsAt0
  frame_open
  simp (disch := decide) only [↓ View.readCov_skip, ↓ View.readCov_cons_toLoadRect, ↓ View.readCov_fill]
  frame_out
  refine (pay4_at _ _ _ _ _ _).trans ?_
  refine congrArg (fun f => Layer.resNorm _ f _ _ s) (funext fun k => ?_)
  refine (pay2_at _ _ _ _ _).trans ?_
  refine (congrArg (· + _) ?_).trans (zero_add _)
  pointwise [k0_pay1]

/-- The block of rows. -/
theorem blk0_at (c : Dev nD) (t : Fin cfg0.N) (r : Fin 512) (k : Fin 2048) : (iblk m c 0 t : FVec Ideal S512x2048 .bf16) (ix2 r k)
    = (m ((c : Thread nD τ).loc main_arg0) : FVec Ideal S16384x2048 .f32) (ix2 ⟨t.val * 512 + r, by have := lt_N t; omega⟩ k) := by
  have h : ((cfg0.win 0).blk t).view.emb (ix2 r k : S512x2048.Idx)
      = (ix2 ⟨t.val * 512 + r, by have := lt_N t; omega⟩ k : S16384x2048.Idx) := by blk_ext [idx t]
  unfold iblk
  refine (congrArg (V m c (Pipeline.arrRef spec0 0)) h).trans ?_
  entry_read
  pointwise

/-- The block of the weight. -/
theorem blk1_at (c : Dev nD) (t : Fin cfg0.N) (k : Fin 2048) (s : Fin 2048) : (iblk m c 1 t : FVec Ideal S2048x2048 .bf16) (ix2 k s)
    = (m ((c : Thread nD τ).loc main_arg1) : FVec Ideal S2x2048x2048 .f32) (ix3 0 k s) := by
  have h : ((cfg0.win 1).blk t).view.emb (ix2 k s : S2048x2048.Idx) = (ix2 k s : S2048x2048.Idx) := by blk_ext [idx t]
  unfold iblk
  refine (congrArg (V m c (Pipeline.arrRef spec0 1)) h).trans ?_
  entry_read
  pointwise

/-- The block of the residual. -/
theorem blk2_at (c : Dev nD) (t : Fin cfg0.N) (r : Fin 512) (k : Fin 2048) : (iblk m c 2 t : FVec Ideal S512x2048 .f32) (ix2 r k)
    = (m ((c : Thread nD τ).loc main_arg2) : FVec Ideal S16384x2048 .f32) (ix2 ⟨t.val * 512 + r, by have := lt_N t; omega⟩ k) := by
  have h : ((cfg0.win 2).blk t).view.emb (ix2 r k : S512x2048.Idx) = (ix2 ⟨t.val * 512 + r, by have := lt_N t; omega⟩ k : S16384x2048.Idx) := by blk_ext [idx t]
  unfold iblk
  refine (congrArg (V m c (Pipeline.arrRef spec0 2)) h).trans ?_
  entry_read
  rfl

/-- The norm's scale, laid out as a row. -/
theorem blk3_at (c : Dev nD) (t : Fin cfg0.N) (k : Fin 2048) : (iblk m c 3 t : FVec Ideal S1x2048 .f32) (ix2 0 k)
    = (m ((c : Thread nD τ).loc main_arg3) : FVec Ideal S2x2048 .f32) (ix2 0 k) := by
  have h : ((cfg0.win 3).blk t).view.emb (ix2 0 k : S1x2048.Idx) = (ix2 0 k : S1x2048.Idx) := by blk_ext [idx t]
  unfold iblk
  refine (congrArg (V m c (Pipeline.arrRef spec0 3)) h).trans ?_
  entry_read
  pointwise

/-- The norm's shift, laid out as a row. -/
theorem blk4_at (c : Dev nD) (t : Fin cfg0.N) (k : Fin 2048) : (iblk m c 4 t : FVec Ideal S1x2048 .f32) (ix2 0 k)
    = (m ((c : Thread nD τ).loc main_arg4) : FVec Ideal S2x2048 .f32) (ix2 0 k) := by
  have h : ((cfg0.win 4).blk t).view.emb (ix2 0 k : S1x2048.Idx) = (ix2 0 k : S1x2048.Idx) := by blk_ext [idx t]
  unfold iblk
  refine (congrArg (V m c (Pipeline.arrRef spec0 4)) h).trans ?_
  entry_read
  pointwise

section
open Cert.MoRefIdeal.Read

/-- An element of the reference's product. -/
theorem v5_at (x : FVec Ideal S16384x2048 .f32) (w : FVec Ideal S2x2048x2048 .f32) (res : FVec Ideal S16384x2048 .f32) (r : Fin 16384) (s : Fin 2048) :
    val_main_v5 (F := Ideal) x w res (ix2 r s)
      = Layer.alpha * res (ix2 r s) + Layer.dot (fun k : Fin 2048 => x (ix2 r k)) (fun k => w (ix3 0 k s)) := by
  pointwise [val_main_v5, val_main_v4, val_main_v3, val_main_v2, val_main_v1, val_main_v0, val_main_cst]
  rfl

/-- An element of the reference's centred row. -/
theorem v11_at (x : FVec Ideal S16384x2048 .f32) (w : FVec Ideal S2x2048x2048 .f32) (res : FVec Ideal S16384x2048 .f32) (r : Fin 16384) (s : Fin 2048) :
    val_main_v11 (F := Ideal) x w res (ix2 r s)
      = val_main_v5 (F := Ideal) x w res (ix2 r s) - Layer.mean (fun k => val_main_v5 (F := Ideal) x w res (ix2 r k)) := by
  pointwise [val_main_v11, val_main_v10, val_main_v9, val_main_v8, val_main_v7, val_main_v6, val_main_cst_0, val_main_cst_1]
  rfl

/-- An element of the reference's first result. -/
theorem v31_at (x : FVec Ideal S16384x2048 .f32) (w : FVec Ideal S2x2048x2048 .f32) (res : FVec Ideal S16384x2048 .f32) (g b : FVec Ideal S2x2048 .f32) (r : Fin 16384) (s : Fin 2048) :
    val_main_v31 (F := Ideal) x w res g b (ix2 r s)
      = Layer.resNorm (fun k => res (ix2 r k)) (fun c => Layer.dot (fun k : Fin 2048 => x (ix2 r k)) (fun k => w (ix3 0 k c))) (fun k => g (ix2 0 k)) (fun k => b (ix2 0 k)) s := by
  have h : val_main_v31 (F := Ideal) x w res g b (ix2 r s)
      = val_main_v11 (F := Ideal) x w res (ix2 r s) * Ideal.rsqrt (Layer.mean (fun k => val_main_v11 (F := Ideal) x w res (ix2 r k) * val_main_v11 (F := Ideal) x w res (ix2 r k))
          + Ideal.ofBits .f32 0x3727C5AC#32) * g (ix2 0 s) + b (ix2 0 s) := by
    pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_2, val_main_cst_3, val_main_cst_4]
    rfl
  rw [h]
  simp only [v11_at, v5_at]
  rfl

/-- An element of the reference's second result. -/
theorem v32_at (x : FVec Ideal S16384x2048 .f32) (w : FVec Ideal S2x2048x2048 .f32) (res : FVec Ideal S16384x2048 .f32) (g b : FVec Ideal S2x2048 .f32) (r : Fin 16384) (s : Fin 2048) :
    val_main_v32 (F := Ideal) x w res g b (ix2 r s) = val_main_v31 (F := Ideal) x w res g b (ix2 r s) := by
  pointwise [val_main_v32]

end

/-- The first result after the run is the reference's. -/
theorem final5 (c : Dev nD) : (dats m 0 c).arrAt 5 (cfgs 0).N
    = Cert.MoRefIdeal.Read.val_main_v31 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  have ht := lt_N t
  idx_vars y
  refine (point5 m c t y0 y1).trans ?_
  refine Eq.trans ?_ ((congrArg _ ?_).trans (v31_at _ _ _ _ _ ⟨t.val * 512 + y0, by omega⟩ y1)).symm
  · simp only [blk2_at m c t, blk3_at m c t, blk4_at m c t, blk0_at m c t, blk1_at m c t]
  · blk_ext [idx t]

/-- The second result after the run is the reference's. -/
theorem final6 (c : Dev nD) : (dats m 0 c).arrAt 6 (cfgs 0).N
    = Cert.MoRefIdeal.Read.val_main_v32 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  have ht := lt_N t
  idx_vars y
  refine (point6 m c t y0 y1).trans ?_
  refine Eq.trans ?_ ((congrArg _ ?_).trans ((v32_at _ _ _ _ _ _ _).trans (v31_at _ _ _ _ _ ⟨t.val * 512 + y0, by omega⟩ y1))).symm
  · simp only [blk2_at m c t, blk3_at m c t, blk4_at m c t, blk0_at m c t, blk1_at m c t]
  · blk_ext [idx t]

end Cert.MoIdeal.Hand

namespace MoClaims

/-- The kernel runs, keeps its arguments and leaves no semaphore raised. -/
theorem frame_kernel : Cert.quiescent_Mo := fun m ρ _ => Cert.Mo.Gen.frame m ρ

/-- So does the kernel over the extended reals. -/
theorem frame_ideal : Cert.quiescent_MoIdeal := fun m ρ _ => Cert.MoIdeal.Gen.frame m ρ

/-- So does the reference over the extended reals. -/
theorem frame_ref : Cert.quiescent_MoRefIdeal := fun m ρ _ =>
  (θ_run Cert.MoRefIdeal.defs _ _).mono (fun r h => ⟨fun c => (h c).2.2, Idealize.ShloMosaic.sem_eq_zero_of_no_sems (by decide) r.2⟩)
    (Cert.MoRefIdeal.Value.run (F := Ideal) m ρ)

/-- The two results over the extended reals are the reference's. -/
theorem algebraic : Cert.algebraic_MoIdeal_MoRefIdeal := by
  intro m g m' g' _ hag
  refine ⟨fun c => (Cert.MoIdeal.Gen.dats m 0 c).arrAt 5 Cert.MoIdeal.cfg0.N, fun c => (Cert.MoIdeal.Gen.dats m 0 c).arrAt 6 Cert.MoIdeal.cfg0.N,
    Cert.MoIdeal.Value.run_blocks (F := Ideal) m g, (θ_run _ _ _).mono (fun r h c => ?_) (Cert.MoRefIdeal.Value.run (F := Ideal) m' g')⟩
  obtain ⟨h0, h1, h2, h3, h4⟩ := hag c
  refine ⟨(h c).1.trans ?_, (h c).2.1.trans ?_, (h c).2.2⟩
  · refine Eq.trans ?_ (Cert.MoIdeal.Hand.final5 m c).symm
    rw [Cert.MoRefIdeal.Read.val_main_v31_eq, h0, h1, h2, h3, h4]
  · refine Eq.trans ?_ (Cert.MoIdeal.Hand.final6 m c).symm
    rw [Cert.MoRefIdeal.Read.val_main_v32_eq, h0, h1, h2, h3, h4]

end MoClaims
-- ==== Proof.GatedProjection.lean ====
module

public import proofs.«01_k».proof.Defs
public import proofs.«01_k».proof.Proof.Gen.Qr.Frame
public import proofs.«01_k».proof.Proof.Gen.QrIdeal.Value
public import proofs.«01_k».proof.Proof.Gen.QrRefIdeal.Run
public import proofs.«01_k».proof.Proof.Gen.QrRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The gated attention's projection -/

namespace Cert.QrIdeal.Hand
open Cert.QrIdeal Cert.QrIdeal.Gen

/-- An element of the stored block: a token's row times a column of the weight. -/
theorem pay_at (x : FVec Ideal S1024x2048 .bf16) (w : FVec Ideal S1x2048x1024 .bf16) (l : Fin 1) (r s : Fin 1024) :
    k0_pay1 (F := Ideal) x w (ix3 l r s) = Layer.dot (fun k : Fin 2048 => x (ix2 r k)) (fun k => w (ix3 0 k s)) := by
  pointwise [k0_pay1]
  rfl

variable (m : (ℓ : Loc nD τ sig) → Buf (Elt Ideal) ℓ)

/-- The blocks' places: block `t / 3` of the rows, block `t % 3` of the columns. -/
theorem idx : ∀ t : Fin cfg0.N, win0_0.index t = ![t.val / 3, 0] ∧ win0_1.index t = ![0, 0, t.val % 3]
    ∧ win0_2.index t = ![0, t.val / 3, t.val % 3] ∧ t.val < 48 :=
  (by decide +kernel : ∀ t : Fin grid0.N, _)

/-- There are 48 points. -/
theorem lt_N (t : Fin cfg0.N) : t.val < 48 := (idx t).2.2.2

/-- What point `t` stores. -/
theorem point2 (c : Dev nD) (t : Fin cfg0.N) (l : Fin 1) (r s : Fin 1024) :
    ((dats m 0 c).after 2 t : FVec Ideal S1x1024x1024 .f32) (ix3 l r s)
      = Layer.dot (fun k : Fin 2048 => (iblk m c 0 t : FVec Ideal S1024x2048 .bf16) (ix2 r k)) (fun k => (iblk m c 1 t : FVec Ideal S1x2048x1024 .bf16) (ix3 0 k s)) := by
  rw [after0_2]
  frame_open
  simp (disch := decide) only [↓ View.readCov_skip, ↓ View.readCov_cons_toLoadRect, ↓ View.readCov_fill]
  frame_out
  exact pay_at _ _ _ _ _

/-- The block of rows. -/
theorem blk0_at (c : Dev nD) (t : Fin cfg0.N) (r : Fin 1024) (k : Fin 2048) : (iblk m c 0 t : FVec Ideal S1024x2048 .bf16) (ix2 r k)
    = (m ((c : Thread nD τ).loc main_arg0) : FVec Ideal S16384x2048 .f32) (ix2 ⟨t.val / 3 * 1024 + r, by have := lt_N t; omega⟩ k) := by
  have h : ((cfg0.win 0).blk t).view.emb (ix2 r k : S1024x2048.Idx) = (ix2 ⟨t.val / 3 * 1024 + r, by have := lt_N t; omega⟩ k : S16384x2048.Idx) := by blk_ext [idx t]
  unfold iblk
  refine (congrArg (V m c (Pipeline.arrRef spec0 0)) h).trans ?_
  entry_read
  pointwise

/-- The block of the weight, the columns that are kept. -/
theorem blk1_at (c : Dev nD) (t : Fin cfg0.N) (k : Fin 2048) (s : Fin 1024) : (iblk m c 1 t : FVec Ideal S1x2048x1024 .bf16) (ix3 0 k s)
    = (m ((c : Thread nD τ).loc main_arg1) : FVec Ideal S1x2048x5136 .f32) (ix3 0 k ⟨t.val % 3 * 1024 + s, by omega⟩) := by
  have h : ((cfg0.win 1).blk t).view.emb (ix3 0 k s : S1x2048x1024.Idx) = (ix3 0 k ⟨t.val % 3 * 1024 + s, by omega⟩ : S1x2048x3072.Idx) := by blk_ext [idx t]
  unfold iblk
  refine (congrArg (V m c (Pipeline.arrRef spec0 1)) h).trans ?_
  entry_read
  pointwise

open Cert.QrRefIdeal.Read in
/-- An element of the reference's result. -/
theorem ref_at (x : FVec Ideal S16384x2048 .f32) (w : FVec Ideal S1x2048x5136 .f32) (l : Fin 1) (r : Fin 16384) (s : Fin 3072) :
    val_main_v3 (F := Ideal) x w (ix3 l r s) = Layer.dot (fun k : Fin 2048 => x (ix2 r k)) (fun k => w (ix3 0 k ⟨s, by omega⟩)) := by
  pointwise [val_main_v3, val_main_v2, val_main_v1, val_main_v0]
  rfl

/-- The product after the run is the reference's. -/
theorem final2 (c : Dev nD) : (dats m 0 c).arrAt 2 (cfgs 0).N
    = Cert.QrRefIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  have ht := lt_N t
  idx_vars y
  refine (point2 m c t y0 y1 y2).trans ?_
  refine Eq.trans ?_ ((congrArg _ ?_).trans (ref_at _ _ 0 ⟨t.val / 3 * 1024 + y1, by omega⟩ ⟨t.val % 3 * 1024 + y2, by omega⟩)).symm
  · simp only [blk0_at m c t, blk1_at m c t]
  · blk_ext [idx t]

end Cert.QrIdeal.Hand

namespace QrClaims

/-- The kernel runs, keeps its arguments and leaves no semaphore raised. -/
theorem frame_kernel : Cert.quiescent_Qr := fun m ρ _ => Cert.Qr.Gen.frame m ρ

/-- So does the kernel over the extended reals. -/
theorem frame_ideal : Cert.quiescent_QrIdeal := fun m ρ _ => Cert.QrIdeal.Gen.frame m ρ

/-- So does the reference over the extended reals. -/
theorem frame_ref : Cert.quiescent_QrRefIdeal := fun m ρ _ =>
  (θ_run Cert.QrRefIdeal.defs _ _).mono (fun r h => ⟨fun c => (h c).2, Idealize.ShloMosaic.sem_eq_zero_of_no_sems (by decide) r.2⟩)
    (Cert.QrRefIdeal.Value.run (F := Ideal) m ρ)

/-- The result over the extended reals is the reference's. -/
theorem algebraic : Cert.algebraic_QrIdeal_QrRefIdeal := by
  intro m g m' g' _ hag
  refine ⟨fun c => (Cert.QrIdeal.Gen.dats m 0 c).arrAt 2 Cert.QrIdeal.cfg0.N,
    Cert.QrIdeal.Value.run_blocks (F := Ideal) m g, (θ_run _ _ _).mono (fun r h c => ?_) (Cert.QrRefIdeal.Value.run (F := Ideal) m' g')⟩
  obtain ⟨h0, h1⟩ := hag c
  refine ⟨(h c).1.trans ?_, (h c).2⟩
  refine Eq.trans ?_ (Cert.QrIdeal.Hand.final2 m c).symm
  rw [Cert.QrRefIdeal.Read.val_main_v3_eq, h0, h1]

end QrClaims
-- ==== Proof.GluRows.lean ====
module

public import proofs.«01_k».proof.Defs
public import proofs.«01_k».proof.Proof.Gen.Gl.Frame
public import proofs.«01_k».proof.Proof.Gen.GlIdeal.Value
public import proofs.«01_k».proof.Proof.Gen.GlRefIdeal.Run
public import proofs.«01_k».proof.Proof.Gen.GlRefIdeal.Read
public import Idealize.ShloMosaic.Lib.Pipeline.ValueKit
public import proofs.«01_k».proof.Proof.Products
public import Idealize.ShloMosaic.Lib.Pipeline.ReadBack
set_option maxRecDepth 16384
@[expose] public section

noncomputable section
open Idealize.ShloMosaic Idealize.ShloMosaic.TcCoe Idealize.SL.Sem
open Idealize.ShloMosaic.Pipeline (Dat)

/-! # The long convolution's gated rows -/

namespace Cert.GlIdeal.Hand
open Cert.GlIdeal Cert.GlIdeal.Gen

/-- A product times the other product's gate. -/
def glu (a b : EReal) : EReal := a * Ideal.div 1 (1 + Ideal.exp (-b))

/-- An element of the stored block. -/
theorem pay_at (x : FVec Ideal S1024x2048 .bf16) (w u : FVec Ideal S1x2048x512 .bf16) (r : Fin 1024) (s : Fin 512) :
    k0_pay1 (F := Ideal) x w u (ix2 r s) = glu (Layer.dot (fun k : Fin 2048 => x (ix2 r k)) (fun k => w (ix3 0 k s))) (Layer.dot (fun k => x (ix2 r k)) (fun k => u (ix3 0 k s))) := by
  pointwise [k0_pay1]
  simp only [zero_sub]
  rfl

variable (m : (ℓ : Loc nD τ sig) → Buf (Elt Ideal) ℓ)

/-- The blocks' places: block `t / 2` of the rows, block `t % 2` of the columns. -/
theorem idx : ∀ t : Fin cfg0.N, win0_0.index t = ![t.val / 2, 0] ∧ win0_1.index t = ![0, 0, t.val % 2] ∧ win0_2.index t = ![0, 0, 2 + t.val % 2]
    ∧ win0_3.index t = ![t.val / 2, t.val % 2] ∧ t.val < 32 :=
  (by decide +kernel : ∀ t : Fin grid0.N, _)

/-- There are 32 points. -/
theorem lt_N (t : Fin cfg0.N) : t.val < 32 := (idx t).2.2.2.2

/-- What point `t` stores. -/
theorem point3 (c : Dev nD) (t : Fin cfg0.N) (r : Fin 1024) (s : Fin 512) :
    ((dats m 0 c).after 3 t : FVec Ideal S1024x512 .f32) (ix2 r s)
      = glu (Layer.dot (fun k : Fin 2048 => (iblk m c 0 t : FVec Ideal S1024x2048 .bf16) (ix2 r k)) (fun k => (iblk m c 1 t : FVec Ideal S1x2048x512 .bf16) (ix3 0 k s)))
          (Layer.dot (fun k : Fin 2048 => (iblk m c 0 t : FVec Ideal S1024x2048 .bf16) (ix2 r k)) (fun k => (iblk m c 2 t : FVec Ideal S1x2048x512 .bf16) (ix3 0 k s))) := by
  rw [after0_3]
  frame_open
  simp (disch := decide) only [↓ View.readCov_skip, ↓ View.readCov_cons_toLoadRect, ↓ View.readCov_fill]
  frame_out
  exact pay_at _ _ _ _ _

/-- The block of rows. -/
theorem blk0_at (c : Dev nD) (t : Fin cfg0.N) (r : Fin 1024) (k : Fin 2048) : (iblk m c 0 t : FVec Ideal S1024x2048 .bf16) (ix2 r k)
    = (m ((c : Thread nD τ).loc main_arg0) : FVec Ideal S16384x2048 .f32) (ix2 ⟨t.val / 2 * 1024 + r, by have := lt_N t; omega⟩ k) := by
  have h : ((cfg0.win 0).blk t).view.emb (ix2 r k : S1024x2048.Idx) = (ix2 ⟨t.val / 2 * 1024 + r, by have := lt_N t; omega⟩ k : S16384x2048.Idx) := by blk_ext [idx t]
  unfold iblk
  refine (congrArg (V m c (Pipeline.arrRef spec0 0)) h).trans ?_
  entry_read
  pointwise

/-- The block of the gate's weight. -/
theorem blk1_at (c : Dev nD) (t : Fin cfg0.N) (k : Fin 2048) (s : Fin 512) : (iblk m c 1 t : FVec Ideal S1x2048x512 .bf16) (ix3 0 k s)
    = (m ((c : Thread nD τ).loc main_arg1) : FVec Ideal S1x2048x5136 .f32) (ix3 0 k ⟨3088 + (t.val % 2 * 512 + s), by omega⟩) := by
  have h : ((cfg0.win 1).blk t).view.emb (ix3 0 k s : S1x2048x512.Idx) = (ix3 0 k ⟨t.val % 2 * 512 + s, by omega⟩ : S1x2048x2048.Idx) := by blk_ext [idx t]
  unfold iblk
  refine (congrArg (V m c (Pipeline.arrRef spec0 1)) h).trans ?_
  entry_read
  pointwise

/-- The block of the other weight. -/
theorem blk2_at (c : Dev nD) (t : Fin cfg0.N) (k : Fin 2048) (s : Fin 512) : (iblk m c 2 t : FVec Ideal S1x2048x512 .bf16) (ix3 0 k s)
    = (m ((c : Thread nD τ).loc main_arg1) : FVec Ideal S1x2048x5136 .f32) (ix3 0 k ⟨3088 + (1024 + (t.val % 2 * 512 + s)), by omega⟩) := by
  have h : ((cfg0.win 2).blk t).view.emb (ix3 0 k s : S1x2048x512.Idx) = (ix3 0 k ⟨1024 + (t.val % 2 * 512 + s), by omega⟩ : S1x2048x2048.Idx) := by blk_ext [idx t]
  unfold iblk
  refine (congrArg (V m c (Pipeline.arrRef spec0 2)) h).trans ?_
  entry_read
  pointwise

open Cert.GlRefIdeal.Read in
/-- An element of the reference's result. -/
theorem ref_at (x : FVec Ideal S16384x2048 .f32) (w : FVec Ideal S1x2048x5136 .f32) (r : Fin 16384) (s : Fin 1024) :
    val_main_v11 (F := Ideal) x w (ix2 r s) = glu (Layer.dot (fun k : Fin 2048 => x (ix2 r k)) (fun k => w (ix3 0 k ⟨3088 + s, by omega⟩)))
      (Layer.dot (fun k => x (ix2 r k)) (fun k => w (ix3 0 k ⟨3088 + (1024 + s), by omega⟩))) := by
  pointwise [val_main_v11, val_main_v10, val_main_v9, val_main_v8, val_main_v7, val_main_v6, val_main_v5, val_main_v4, val_main_v3, val_main_v2, val_main_v1, val_main_v0, val_main_cst, val_main_cst_0]
  rfl

/-- The gated products after the run are the reference's. -/
theorem final3 (c : Dev nD) : (dats m 0 c).arrAt 3 (cfgs 0).N
    = Cert.GlRefIdeal.Read.val_main_v11 (F := Ideal) (m ((c : Thread nD τ).loc main_arg0)) (m ((c : Thread nD τ).loc main_arg1)) := by
  refine (dats m 0 c).arrAt_eq_of_covers 3 _ (by decide +kernel) fun t _ y => ?_
  blk_simp
  have ht := lt_N t
  idx_vars y
  refine (point3 m c t y0 y1).trans ?_
  refine Eq.trans ?_ ((congrArg _ ?_).trans (ref_at _ _ ⟨t.val / 2 * 1024 + y0, by omega⟩ ⟨t.val % 2 * 512 + y1, by omega⟩)).symm
  · simp only [blk0_at m c t, blk1_at m c t, blk2_at m c t]
  · blk_ext [idx t]

end Cert.GlIdeal.Hand

namespace GlClaims

/-- The kernel runs, keeps its arguments and leaves no semaphore raised. -/
theorem frame_kernel : Cert.quiescent_Gl := fun m ρ _ => Cert.Gl.Gen.frame m ρ

/-- So does the kernel over the extended reals. -/
theorem frame_ideal : Cert.quiescent_GlIdeal := fun m ρ _ => Cert.GlIdeal.Gen.frame m ρ

/-- So does the reference over the extended reals. -/
theorem frame_ref : Cert.quiescent_GlRefIdeal := fun m ρ _ =>
  (θ_run Cert.GlRefIdeal.defs _ _).mono (fun r h => ⟨fun c => (h c).2, Idealize.ShloMosaic.sem_eq_zero_of_no_sems (by decide) r.2⟩)
    (Cert.GlRefIdeal.Value.run (F := Ideal) m ρ)

/-- The result over the extended reals is the reference's. -/
theorem algebraic : Cert.algebraic_GlIdeal_GlRefIdeal := by
  intro m g m' g' _ hag
  refine ⟨fun c => (Cert.GlIdeal.Gen.dats m 0 c).arrAt 3 Cert.GlIdeal.cfg0.N,
    Cert.GlIdeal.Value.run_blocks (F := Ideal) m g, (θ_run _ _ _).mono (fun r h c => ?_) (Cert.GlRefIdeal.Value.run (F := Ideal) m' g')⟩
  obtain ⟨h0, h1⟩ := hag c
  refine ⟨(h c).1.trans ?_, (h c).2⟩
  refine Eq.trans ?_ (Cert.GlIdeal.Hand.final3 m c).symm
  rw [Cert.GlRefIdeal.Read.val_main_v11_eq, h0, h1]

end GlClaims
-- ==== Proof.PromptConvMath.lean ====
module

public import proofs.«01_k».proof.Proof.ShortConvMath
@[expose] public section

noncomputable section
open Idealize.ShloMosaic

/-! # Closed forms of the short convolution over a whole prompt -/

namespace Short

/-- The rows of a prompt: three old ones, then the 4096 new ones. -/
def ext (b : Fin 3 → EReal) (x : Fin 4096 → EReal) (i : ℕ) : EReal :=
  if h : i < 3 then b ⟨i, h⟩ else if h : i - 3 < 4096 then x ⟨i - 3, h⟩ else 0

/-- The convolution's row `r` from the rows. -/
def taps (w : Fin 4 → EReal) (e : ℕ → EReal) (r : ℕ) : EReal := w 0 * e r + w 1 * e (r + 1) + w 2 * e (r + 2) + w 3 * e (r + 3)

end Short
-- ==== Proof.PromptConvKernel.lean ====
module

public import proofs.«01_k».proof.Proof.Gen.GcpIdeal.Value
public import proofs.«01_k».proof.Proof.PromptConvMath
public import Idealize.ShloMosaic.Lib.Pipeline.ValueKit
public import Idealize.ShloMosaic.Lib.Pipeline.ReadBack
public import Idealize.ShloMosaic.Lib.WritesUnit
set_option maxRecDepth 16384
@[expose] public section

noncomputable section
open Idealize.ShloMosaic Idealize.ShloMosaic.TcCoe Idealize.SL.Sem
open Idealize.ShloMosaic.Pipeline (Dat)

/-! # What the short convolution of the prompt stores -/

namespace Cert.GcpIdeal.Hand
open Cert.GcpIdeal Cert.GcpIdeal.Gen

/-- The rows that a point reads: three old ones, then its 256 new ones. -/
def near (b : Fin 3 → EReal) (x : Fin 256 → EReal) (i : ℕ) : EReal :=
  if h : i < 3 then b ⟨i, h⟩ else if h : i - 3 < 256 then x ⟨i - 3, h⟩ else 0

/-- A sequence's first point's three stores in the scratch, the last one first. -/
abbrev stored (x : FVec Ideal S256x1024 .f32) (b : FVec Ideal S1x3x1024 .f32) : List (View.Piece (Elt Ideal) S264x1024 .f32) :=
  [⟨Rect.unit ![8, 0] ![256, 1024] inb_S264x1024_S256x1024_8_0, k0_pay3 (F := Ideal) x⟩, ⟨Rect.unit ![5, 0] ![3, 1024] inb_S264x1024_S3x1024_5_0, k0_pay2 (F := Ideal) b⟩,
      ⟨Rect.unit ![0, 0] ![5, 1024] inb_S264x1024_S5x1024_0_0, k0_pay1 (F := Ideal)⟩]

/-- What the scratch holds after them from row 5 on. -/
theorem stored_at (x : FVec Ideal S256x1024 .f32) (b : FVec Ideal S1x3x1024 .f32) (n : ℕ) (hn : n < 259) (s : Fin 1024) :
    View.canon (stored x b) (ix2 ⟨5 + n, by omega⟩ s : S264x1024.Idx) = near (fun i => b (ix3 0 i s)) (fun i => x (ix2 i s)) n := by
  have hc : ∃ p ∈ stored x b, (ix2 ⟨5 + n, by omega⟩ s : S264x1024.Idx) ∈ p.1.set := by
    by_cases h : n < 3
    · refine ⟨_, List.mem_cons_of_mem _ (List.mem_cons_self), ?_⟩
      rw [show (ix2 ⟨5 + n, by omega⟩ s : S264x1024.Idx) = (Rect.unit (s := S264x1024) ![5, 0] ![3, 1024] inb_S264x1024_S3x1024_5_0).idx (ix2 ⟨n, h⟩ s : S3x1024.Idx) from funext fun a => Fin.ext ((by fin_cases a <;> simp <;> omega : _ = _).trans (Rect.idx_unit_val _ _ _ _ a).symm)]
      exact LoadRect.idx_mem _ _
    · refine ⟨_, List.mem_cons_self, ?_⟩
      rw [show (ix2 ⟨5 + n, by omega⟩ s : S264x1024.Idx) = (Rect.unit (s := S264x1024) ![8, 0] ![256, 1024] inb_S264x1024_S256x1024_8_0).idx (ix2 ⟨n - 3, by omega⟩ s : S256x1024.Idx) from funext fun a => Fin.ext ((by fin_cases a <;> simp <;> omega : _ = _).trans (Rect.idx_unit_val _ _ _ _ a).symm)]
      exact LoadRect.idx_mem _ _
  canon_tiles z h using hc
  · idx_vars z
    have h0' : 5 + n = 8 + z0.val := h0
    have h1' : s.val = z1.val := h1
    obtain rfl := Fin.ext h1'
    pointwise [k0_pay3]
    unfold near
    rw [dif_neg (by omega), dif_pos (by omega)]
    exact congrArg x (congrArg (ix2 · s) (Fin.ext (by show z0.val = n - 3; omega)))
  · idx_vars z
    have h0' : 5 + n = 5 + z0.val := h0
    have h1' : s.val = z1.val := h1
    obtain rfl := Fin.ext h1'
    pointwise [k0_pay2]
    unfold near
    rw [dif_pos (by omega)]
    exact congrArg b (congrArg (ix3 0 · s) (Fin.ext (by show z0.val = n; omega)))
  · idx_vars z
    have h0' : 5 + n = z0.val := h0
    omega

/-- A load of 256 rows from row `5 + n` on. -/
theorem scratch_at (x : FVec Ideal S256x1024 .f32) (b : FVec Ideal S1x3x1024 .f32) (n : ℕ) (hn : n < 4) (inb) (r : Fin 256) (s : Fin 1024) :
    (View.whole cc0_scratch0).readCov (Val := Elt Ideal) (stored x b) (Rect.unit (s := S264x1024) ![5 + n, 0] ![256, 1024] inb).toLoadRect (ix2 r s : S256x1024.Idx)
      = near (fun i => b (ix3 0 i s)) (fun i => x (ix2 i s)) (r + n) := by
  rw [View.readCov_eq_canon']
  have e : (Rect.unit (s := S264x1024) ![5 + n, 0] ![256, 1024] inb).toLoadRect.idx (ix2 r s : S256x1024.Idx) = (ix2 ⟨5 + (r + n), by omega⟩ s : S264x1024.Idx) :=
    funext fun a => Fin.ext ((Rect.idx_unit_val _ _ _ _ a).trans (by fin_cases a <;> simp <;> omega))
  exact (congrArg _ e).trans (stored_at x b _ (by omega) s)

/-- A head of the block, at an element. -/
theorem finish (Y : FVec Ideal S256x1024 .f32) (r : Fin 256) (s : Fin 1024) (x1 : Fin 128) (o : ℕ) (ho : ∀ k : Fin 128, o + k < 1024) (h : s.val = o + x1) (hd : o % 128 = 0)
    (j : ℕ) (hj : j < 8) (L : EReal)
    (hL : L = Scalar.select (IntOp.cmpi CmpIPredicate.slt (BitVec.ofNat 32 j) 4#32)
      (Short.unit (fun k => Short.act (Y (ix2 r ⟨o + k, ho k⟩))) x1 * Scalar.select (IntOp.cmpi CmpIPredicate.slt (BitVec.ofNat 32 j) 2#32) (Ideal.ofBits .f32 0x3DB504F3#32) 1)
      (Short.act (Y (ix2 r ⟨o + x1, ho x1⟩)))) :
    L = Short.head j (fun k => Short.act (Y (ix2 r ⟨s / 128 * 128 + k, by omega⟩))) ⟨s % 128, by omega⟩ := by
  rw [hL]
  have e : (fun k : Fin 128 => Short.act (Y (ix2 r ⟨s / 128 * 128 + k, by omega⟩))) = (fun k : Fin 128 => Short.act (Y (ix2 r ⟨o + k, ho k⟩))) := by
    funext k
    exact congrArg (fun z => Short.act (Y (ix2 r z))) (Fin.ext (by show s.val / 128 * 128 + k.val = o + k.val; omega))
  have e1 : (⟨s % 128, by omega⟩ : Fin 128) = x1 := Fin.ext (by show s.val % 128 = x1; omega)
  rw [e, e1]
  exact Short.head_eq j hj _ x1

/-- The body's eight stores in the first result's block, the last one first. -/
abbrev tiles (Y : FVec Ideal S256x1024 .f32) (j : ℕ) : List (View.Piece (Elt Ideal) S256x1024 .f32) :=
  [⟨Rect.unit ![0, 896] ![256, 128] inb_S256x1024_S256x128_0_896, k0_pay19 (F := Ideal) (k0_pay5 Y) (Scalar.cmpi CmpIPredicate.slt (BitVec.ofNat 32 j) 4#32) (k0_pay6 (BitVec.ofNat 32 j))⟩,
    ⟨Rect.unit ![0, 768] ![256, 128] inb_S256x1024_S256x128_0_768, k0_pay18 (F := Ideal) (k0_pay5 Y) (Scalar.cmpi CmpIPredicate.slt (BitVec.ofNat 32 j) 4#32) (k0_pay6 (BitVec.ofNat 32 j))⟩,
    ⟨Rect.unit ![0, 640] ![256, 128] inb_S256x1024_S256x128_0_640, k0_pay17 (F := Ideal) (Scalar.cmpi CmpIPredicate.slt (BitVec.ofNat 32 j) 4#32) (k0_pay14 (k0_pay5 Y)) (k0_pay15 (k0_pay5 Y)) (k0_pay16 (k0_pay6 (BitVec.ofNat 32 j)))⟩,
    ⟨Rect.unit ![0, 512] ![256, 128] inb_S256x1024_S256x128_0_512, k0_pay13 (F := Ideal) (k0_pay5 Y) (Scalar.cmpi CmpIPredicate.slt (BitVec.ofNat 32 j) 4#32) (k0_pay6 (BitVec.ofNat 32 j))⟩,
    ⟨Rect.unit ![0, 384] ![256, 128] inb_S256x1024_S256x128_0_384, k0_pay12 (F := Ideal) (k0_pay5 Y) (Scalar.cmpi CmpIPredicate.slt (BitVec.ofNat 32 j) 4#32) (k0_pay6 (BitVec.ofNat 32 j))⟩,
    ⟨Rect.unit ![0, 256] ![256, 128] inb_S256x1024_S256x128_0_256, k0_pay11 (F := Ideal) (Scalar.cmpi CmpIPredicate.slt (BitVec.ofNat 32 j) 4#32) (k0_pay6 (BitVec.ofNat 32 j)) (k0_pay9 Y) (k0_pay10 Y) (FloatOps.ofBits FTy.f32 897988541#32)⟩,
    ⟨Rect.unit ![0, 128] ![256, 128] inb_S256x1024_S256x128_0_128, k0_pay8 (F := Ideal) (BitVec.ofNat 32 j) Y⟩,
    ⟨Rect.unit ![0, 0] ![256, 128] inb_S256x1024_S256x128_0_0, k0_pay7 (F := Ideal) (BitVec.ofNat 32 j) Y⟩]

/-- What they leave in the block. -/
theorem tiles_at (Y : FVec Ideal S256x1024 .f32) (j : ℕ) (hj : j < 8) (r : Fin 256) (s : Fin 1024) :
    View.canon (tiles Y j) (ix2 r s : S256x1024.Idx) = Short.head j (fun k => Short.act (Y (ix2 r ⟨s / 128 * 128 + k, by omega⟩))) ⟨s % 128, by omega⟩ := by
  canon_tiles x h
  · idx_vars x
    obtain rfl : r = x0 := Fin.ext h0
    exact finish Y r s x1 896 (fun k => by omega) h1 (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 768 (fun k => by omega) h1 (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 640 (fun k => by omega) h1 (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 512 (fun k => by omega) h1 (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 384 (fun k => by omega) h1 (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 256 (fun k => by omega) h1 (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 128 (fun k => by omega) h1 (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub]; rfl)
  · idx_vars x
    obtain rfl : r = x0 := Fin.ext h0
    exact finish Y r s x1 0 (fun k => by omega) (h1.trans (Nat.zero_add _).symm) (by decide) _ hj _ (by pointwise [k0_pay5, k0_pay6, k0_pay7, k0_pay8, k0_pay9, k0_pay10, k0_pay11, k0_pay12, k0_pay13, k0_pay14, k0_pay15, k0_pay16, k0_pay17, k0_pay18, k0_pay19]; simp only [zero_sub, Nat.zero_add]; rfl)

/-- The convolution's sum of shifted products, at an element. -/
theorem pay4_at (w0 w1 w2 w3 : FVec Ideal S1x1024 .f32) (a0 a1 a2 a3 : FVec Ideal S256x1024 .f32) (r : Fin 256) (s : Fin 1024) :
    k0_pay4 (F := Ideal) w0 a0 w1 a1 w2 a2 w3 a3 (ix2 r s)
      = w0 (ix2 0 s) * a0 (ix2 r s) + w1 (ix2 0 s) * a1 (ix2 r s) + w2 (ix2 0 s) * a2 (ix2 r s) + w3 (ix2 0 s) * a3 (ix2 r s) := by
  pointwise [k0_pay4]

/-- A later point's store in the scratch, over what the point before has left there. -/
theorem over_at (X : FVec Ideal S264x1024 .f32) (x : FVec Ideal S256x1024 .f32) (h : (Memref.whole cc0_scratch0).IsWhole) (n : ℕ) (hn : n < 259) (s : Fin 1024) :
    View.read (Elt Ideal) (View.whole cc0_scratch0) ((View.whole cc0_scratch0).writes (Elt Ideal) (h.unread X)
        [⟨Rect.unit ![8, 0] ![256, 1024] inb_S264x1024_S256x1024_8_0, k0_pay3 (F := Ideal) x⟩]) (ix2 ⟨5 + n, by omega⟩ s : S264x1024.Idx)
      = near (fun i : Fin 3 => X (ix2 ⟨5 + i, by omega⟩ s)) (fun i => x (ix2 i s)) n := by
  unfold near
  by_cases h3 : n < 3
  · rw [dif_pos h3]
    refine (View.read_writes_cons_rows_of_not_mem (View.whole cc0_scratch0) _ _ _ _ _ rfl rfl (Or.inl (by show 5 + n < 8; omega))).trans ?_
    exact congrFun (read_unread_whole _ _ _) _
  · rw [dif_neg h3, dif_pos (by omega)]
    refine (View.read_writes_cons_rows_of_mem (View.whole cc0_scratch0) _ _ _ _ _ (ix2 ⟨n - 3, by omega⟩ s : S256x1024.Idx) rfl (by show 5 + n = 8 + (n - 3); omega) rfl).trans ?_
    pointwise [k0_pay3]

/-- A load of 256 rows from row `5 + n` on. -/
theorem over_ld (X : FVec Ideal S264x1024 .f32) (x : FVec Ideal S256x1024 .f32) (h : (Memref.whole cc0_scratch0).IsWhole) (n : ℕ) (hn : n < 4) (inb) (r : Fin 256) (s : Fin 1024) :
    View.ld (View.read (Elt Ideal) (View.whole cc0_scratch0) ((View.whole cc0_scratch0).writes (Elt Ideal) (h.unread X)
        [⟨Rect.unit ![8, 0] ![256, 1024] inb_S264x1024_S256x1024_8_0, k0_pay3 (F := Ideal) x⟩])) (Rect.unit (s := S264x1024) ![5 + n, 0] ![256, 1024] inb) (ix2 r s : S256x1024.Idx)
      = near (fun i : Fin 3 => X (ix2 ⟨5 + i, by omega⟩ s)) (fun i => x (ix2 i s)) (r + n) := by
  have e : (Rect.unit (s := S264x1024) ![5 + n, 0] ![256, 1024] inb).toLoadRect.idx (ix2 r s : S256x1024.Idx) = (ix2 ⟨5 + (r + n), by omega⟩ s : S264x1024.Idx) :=
    funext fun a => Fin.ext ((Rect.idx_unit_val _ _ _ _ a).trans (by fin_cases a <;> simp <;> omega))
  exact (congrArg (View.read (Elt Ideal) (View.whole cc0_scratch0) ((View.whole cc0_scratch0).writes (Elt Ideal) (h.unread X)
        [⟨Rect.unit ![8, 0] ![256, 1024] inb_S264x1024_S256x1024_8_0, k0_pay3 (F := Ideal) x⟩])) e).trans (over_at X x h _ (by omega) s)

/-- A load of a later point's own rows. -/
theorem own_at (x : FVec Ideal S256x1024 .f32) (o n : ℕ) (ho : 8 ≤ o) (hn : o + n ≤ 264) (inb) (r : Fin n) (s : Fin 1024) :
    (View.whole cc0_scratch0).readCov (Val := Elt Ideal) [⟨Rect.unit ![8, 0] ![256, 1024] inb_S264x1024_S256x1024_8_0, k0_pay3 (F := Ideal) x⟩]
      (Rect.unit (s := S264x1024) ![o, 0] ![n, 1024] inb).toLoadRect (ix2 r s) = x (ix2 ⟨o - 8 + r, by omega⟩ s) := by
  rw [View.readCov_eq_canon']
  have e : (Rect.unit (s := S264x1024) ![o, 0] ![n, 1024] inb).toLoadRect.idx (ix2 r s) = (ix2 ⟨8 + (o - 8 + r), by omega⟩ s : S264x1024.Idx) :=
    funext fun a => Fin.ext ((Rect.idx_unit_val _ _ _ _ a).trans (by fin_cases a <;> simp <;> omega))
  refine (congrArg _ e).trans ?_
  have hc : ∃ p ∈ ([⟨Rect.unit ![8, 0] ![256, 1024] inb_S264x1024_S256x1024_8_0, k0_pay3 (F := Ideal) x⟩] : List (View.Piece (Elt Ideal) S264x1024 .f32)), (ix2 ⟨8 + (o - 8 + r), by omega⟩ s : S264x1024.Idx) ∈ p.1.set := by
    refine ⟨_, List.mem_cons_self, ?_⟩
    rw [show (ix2 ⟨8 + (o - 8 + r), by omega⟩ s : S264x1024.Idx) = (Rect.unit (s := S264x1024) ![8, 0] ![256, 1024] inb_S264x1024_S256x1024_8_0).idx (ix2 ⟨o - 8 + r, by omega⟩ s : S256x1024.Idx) from funext fun a => Fin.ext ((by fin_cases a <;> simp : _ = _).trans (Rect.idx_unit_val _ _ _ _ a).symm)]
    exact LoadRect.idx_mem _ _
  canon_tiles z h using hc
  idx_vars z
  have h0' : 8 + (o - 8 + r.val) = 8 + z0.val := h0
  have h1' : s.val = z1.val := h1
  obtain rfl := Fin.ext h1'
  pointwise [k0_pay3]
  exact congrArg x (congrArg (ix2 · s) (Fin.ext (by show z0.val = o - 8 + r.val; omega)))

variable (m : (ℓ : Loc nD τ sig) → Buf (Elt Ideal) ℓ)

/-- The blocks' places: point `t` is sequence `t / 128`, block `t / 16 % 8` of the columns and block `t % 16` of the rows. -/
theorem idx : ∀ t : Fin cfg0.N, win0_0.index t = ![t.val / 128 * 16 + t.val % 16, t.val / 16 % 8] ∧ win0_1.index t = ![t.val / 128, 0, t.val / 16 % 8] ∧ win0_2.index t = ![0, t.val / 16 % 8]
    ∧ win0_3.index t = ![t.val / 128 * 16 + t.val % 16, t.val / 16 % 8] ∧ win0_4.index t = ![t.val / 128, 0, t.val / 16 % 8] ∧ (grid0.coords t 1).val = t.val / 16 % 8 :=
  (by decide +kernel : ∀ t : Fin grid0.N, _)

/-- There are 512 points. -/
theorem lt_N (t : Fin cfg0.N) : t.val < 512 := lt_of_lt_of_eq t.isLt (by decide +kernel : cfg0.N = 512)

/-- A column of a sequence's rows: the old ones, then the new ones. -/
def row (c : Dev nD) (b : Fin 4) (s : Fin 8192) : ℕ → EReal :=
  Short.ext (fun i => (m ((c : Thread nD τ).loc main_arg1) : FVec Ideal S4x3x8192 .f32) (ix3 b i s))
    (fun i => (m ((c : Thread nD τ).loc main_arg0) : FVec Ideal S16384x12288 .f32) (ix2 ⟨b * 4096 + i, by omega⟩ ⟨s, by omega⟩))

/-- A point's sequence. -/
abbrev seq (t : Fin cfg0.N) : Fin 4 := ⟨t.val / 128, by have := lt_N t; omega⟩

/-- A point's column. -/
abbrev col (t : Fin cfg0.N) (s : Fin 1024) : Fin 8192 := ⟨t.val / 16 % 8 * 1024 + s, by omega⟩

/-- A point's new rows. -/
theorem blk0_at (c : Dev nD) (t : Fin cfg0.N) (r : Fin 256) (s : Fin 1024) :
    (iblk m c 0 t : FVec Ideal S256x1024 .f32) (ix2 r s) = row m c (seq t) (col t s) (t.val % 16 * 256 + r + 3) := by
  have ht := lt_N t
  have h : ((cfg0.win 0).blk t).view.emb (ix2 r s : S256x1024.Idx) = (ix2 ⟨(t.val / 128 * 16 + t.val % 16) * 256 + r, by omega⟩ ⟨t.val / 16 % 8 * 1024 + s, by omega⟩ : S16384x12288.Idx) := by
    blk_ext [idx t]
  unfold iblk
  refine (congrArg (V m c (Pipeline.arrRef spec0 0)) h).trans ?_
  unfold row Short.ext
  rw [dif_neg (by omega), dif_pos (by omega)]
  entry_read
  exact congrArg (fun z => (m ((c : Thread nD τ).loc main_arg0) : FVec Ideal S16384x12288 .f32) (ix2 z ⟨t.val / 16 % 8 * 1024 + s, by omega⟩))
    (Fin.ext (by show (t.val / 128 * 16 + t.val % 16) * 256 + r.val = t.val / 128 * 4096 + (t.val % 16 * 256 + r.val + 3 - 3); omega))

/-- A point's old rows. -/
theorem blk1_at (c : Dev nD) (t : Fin cfg0.N) (i : Fin 3) (s : Fin 1024) :
    (iblk m c 1 t : FVec Ideal S1x3x1024 .f32) (ix3 0 i s) = row m c (seq t) (col t s) i := by
  have ht := lt_N t
  have h : ((cfg0.win 1).blk t).view.emb (ix3 0 i s : S1x3x1024.Idx) = (ix3 ⟨t.val / 128, by omega⟩ i ⟨t.val / 16 % 8 * 1024 + s, by omega⟩ : S4x3x8192.Idx) := by
    blk_ext [idx t]
  unfold iblk
  refine (congrArg (V m c (Pipeline.arrRef spec0 1)) h).trans ?_
  unfold row Short.ext
  rw [dif_pos i.isLt]
  entry_read
  rfl

/-- A point's taps. -/
theorem blk2_at (c : Dev nD) (t : Fin cfg0.N) (i : Fin 4) (s : Fin 1024) :
    (iblk m c 2 t : FVec Ideal S4x1024 .f32) (ix2 i s) = (m ((c : Thread nD τ).loc main_arg2) : FVec Ideal S1x4x8192 .f32) (ix3 0 i (col t s)) := by
  have ht := lt_N t
  have h : ((cfg0.win 2).blk t).view.emb (ix2 i s : S4x1024.Idx) = (ix2 i ⟨t.val / 16 % 8 * 1024 + s, by omega⟩ : S4x8192.Idx) := by
    blk_ext [idx t]
  unfold iblk
  refine (congrArg (V m c (Pipeline.arrRef spec0 2)) h).trans ?_
  entry_read
  pointwise

/-- The scratch's first eight rows after the store that ends a point. -/
theorem kept_at (w : FVec Ideal S8x1024 .f32) (L : List (View.Piece (Elt Ideal) S264x1024 .f32)) (i : Fin 8) (s : Fin 1024) :
    View.canon (⟨Rect.unit ![0, 0] ![8, 1024] inb_S264x1024_S8x1024_0_0, k0_pay21 (F := Ideal) w⟩ :: L) (ix2 ⟨i, by omega⟩ s : S264x1024.Idx) = w (ix2 i s) := by
  rw [show (ix2 ⟨i, by omega⟩ s : S264x1024.Idx) = (Rect.unit (s := S264x1024) ![0, 0] ![8, 1024] inb_S264x1024_S8x1024_0_0).emb (ix2 i s : S8x1024.Idx) from
    funext fun a => Fin.ext ((by fin_cases a <;> simp : _ = _).trans (Rect.idx_unit_val _ _ _ _ a).symm)]
  refine (View.canon_cons_emb _ _ _ _).trans ?_
  pointwise [k0_pay21]

/-- The scratch's rows 5 to 7 after a point that is not a sequence's last. -/
theorem carry (c : Dev nD) (t : Fin cfg0.N) (h1 : ¬ t.val % 16 = 15) (i : Fin 3) (s : Fin 1024) :
    ((outsAt0 m c t.val t.isLt).2.2 : FVec Ideal S264x1024 .f32) (ix2 ⟨5 + i, by omega⟩ s) = (iblk m c 0 t : FVec Ideal S256x1024 .f32) (ix2 ⟨253 + i, by omega⟩ s) := by
  by_cases h0 : t.val % 16 = 0
  · rw [outsAt0_A m c t h0 h1]
    frame_open
    frame_out
    refine (kept_at _ _ ⟨5 + i, by omega⟩ s).trans ?_
    rw [View.readCov_eq_canon']
    have e : (Rect.unit (s := S264x1024) ![256, 0] ![8, 1024] inb_S264x1024_S8x1024_256_0).toLoadRect.idx (ix2 ⟨5 + i, by omega⟩ s : S8x1024.Idx) = (ix2 ⟨5 + (256 + i), by omega⟩ s : S264x1024.Idx) :=
      funext fun a => Fin.ext ((Rect.idx_unit_val _ _ _ _ a).trans (by fin_cases a <;> simp <;> omega))
    refine (congrArg _ e).trans ((stored_at (iblk m c 0 t) (iblk m c 1 t) (256 + i) (by omega) s).trans ?_)
    unfold near
    rw [dif_neg (by omega), dif_pos (by omega)]
    exact congrArg (iblk m c 0 t : FVec Ideal S256x1024 .f32) (congrArg (ix2 · s) (Fin.ext (by show 256 + i.val - 3 = 253 + i.val; omega)))
  · rw [outsAt0_B m c t h0 h1]
    frame_open
    frame_out
    refine (kept_at _ _ ⟨5 + i, by omega⟩ s).trans ?_
    refine (own_at (iblk m c 0 t) 256 8 (by omega) (by omega) inb_S264x1024_S8x1024_256_0 ⟨5 + i, by omega⟩ s).trans ?_
    exact congrArg (iblk m c 0 t : FVec Ideal S256x1024 .f32) (congrArg (ix2 · s) (Fin.ext (by show 256 - 8 + (5 + i.val) = 253 + i.val; omega)))

/-- A sequence's first point reads the rows from its own row on. -/
theorem near_first (c : Dev nD) (t : Fin cfg0.N) (h0 : t.val % 16 = 0) (n : ℕ) (hn : n < 259) (s : Fin 1024) :
    near (fun i => (iblk m c 1 t : FVec Ideal S1x3x1024 .f32) (ix3 0 i s)) (fun i => (iblk m c 0 t : FVec Ideal S256x1024 .f32) (ix2 i s)) n
      = row m c (seq t) (col t s) (t.val % 16 * 256 + n) := by
  unfold near
  by_cases h : n < 3
  · rw [dif_pos h]
    refine (blk1_at m c t ⟨n, h⟩ s).trans (congrArg (row m c (seq t) (col t s)) ?_)
    exact (by show n = t.val % 16 * 256 + n; omega)
  · rw [dif_neg h, dif_pos (by omega)]
    refine (blk0_at m c t ⟨n - 3, by omega⟩ s).trans (congrArg (row m c (seq t) (col t s)) ?_)
    exact (by show t.val % 16 * 256 + (n - 3) + 3 = t.val % 16 * 256 + n; omega)

/-- So does a later one. -/
theorem near_later (c : Dev nD) (t : Fin cfg0.N) (h0 : ¬ t.val % 16 = 0) (hlt : t.val - 1 < cfg0.N) (n : ℕ) (hn : n < 259) (s : Fin 1024) :
    near (fun i => ((outsAt0 m c (t.val - 1) hlt).2.2 : FVec Ideal S264x1024 .f32) (ix2 ⟨5 + i, by omega⟩ s)) (fun i => (iblk m c 0 t : FVec Ideal S256x1024 .f32) (ix2 i s)) n
      = row m c (seq t) (col t s) (t.val % 16 * 256 + n) := by
  have ht := lt_N t
  unfold near
  by_cases h : n < 3
  · rw [dif_pos h]
    refine (carry m c ⟨t.val - 1, hlt⟩ (by show ¬ (t.val - 1) % 16 = 15; omega) ⟨n, h⟩ s).trans ?_
    rw [blk0_at]
    have e1 : seq ⟨t.val - 1, hlt⟩ = seq t := Fin.ext (by show (t.val - 1) / 128 = t.val / 128; omega)
    have e2 : col ⟨t.val - 1, hlt⟩ s = col t s := Fin.ext (by show (t.val - 1) / 16 % 8 * 1024 + s.val = t.val / 16 % 8 * 1024 + s.val; omega)
    rw [e1, e2]
    exact congrArg _ (by show (t.val - 1) % 16 * 256 + (253 + n) + 3 = t.val % 16 * 256 + n; omega)
  · rw [dif_neg h, dif_pos (by omega)]
    refine (blk0_at m c t ⟨n - 3, by omega⟩ s).trans (congrArg (row m c (seq t) (col t s)) ?_)
    exact (by show t.val % 16 * 256 + (n - 3) + 3 = t.val % 16 * 256 + n; omega)

/-- The rows that a sequence's last point keeps. -/
theorem point4 (c : Dev nD) (t : Fin cfg0.N) (h : t.val % 16 = 15) (i : Fin 1) (r : Fin 3) (s : Fin 1024) :
    ((dats m 0 c).after 4 t : FVec Ideal S1x3x1024 .f32) (ix3 i r s) = row m c (seq t) (col t s) (4096 + r) := by
  rw [after0_4, outsAt0_C m c t (by omega) h]
  frame_open
  frame_out
  pointwise [k0_pay20]
  refine (own_at (iblk m c 0 t) 261 3 (by omega) (by omega) inb_S264x1024_S3x1024_261_0 r s).trans ?_
  rw [blk0_at]
  exact congrArg _ (by show t.val % 16 * 256 + (261 - 8 + r.val) + 3 = 4096 + r.val; omega)

/-- The convolution of a point's block. -/
abbrev conv (c : Dev nD) (t : Fin cfg0.N) (r : Fin 256) (s : Fin 1024) : EReal :=
  Short.taps (fun i => (m ((c : Thread nD τ).loc main_arg2) : FVec Ideal S1x4x8192 .f32) (ix3 0 i (col t s))) (row m c (seq t) (col t s)) (t.val % 16 * 256 + r)

/-- The body's sum is the convolution when the four loads are the rows. -/
theorem sum_at (c : Dev nD) (t : Fin cfg0.N) (a0 a1 a2 a3 : FVec Ideal S256x1024 .f32) (r : Fin 256) (s : Fin 1024)
    (e0 : a0 (ix2 r s) = row m c (seq t) (col t s) (t.val % 16 * 256 + (r + 0))) (e1 : a1 (ix2 r s) = row m c (seq t) (col t s) (t.val % 16 * 256 + (r + 1)))
    (e2 : a2 (ix2 r s) = row m c (seq t) (col t s) (t.val % 16 * 256 + (r + 2))) (e3 : a3 (ix2 r s) = row m c (seq t) (col t s) (t.val % 16 * 256 + (r + 3))) :
    k0_pay4 (F := Ideal) (View.ld (iblk m c 2 t : FVec Ideal S4x1024 .f32) (Rect.unit ![0, 0] ![1, 1024] inb_S4x1024_S1x1024_0_0)) a0
      (View.ld (iblk m c 2 t : FVec Ideal S4x1024 .f32) (Rect.unit ![1, 0] ![1, 1024] inb_S4x1024_S1x1024_1_0)) a1
      (View.ld (iblk m c 2 t : FVec Ideal S4x1024 .f32) (Rect.unit ![2, 0] ![1, 1024] inb_S4x1024_S1x1024_2_0)) a2
      (View.ld (iblk m c 2 t : FVec Ideal S4x1024 .f32) (Rect.unit ![3, 0] ![1, 1024] inb_S4x1024_S1x1024_3_0)) a3 (ix2 r s) = conv m c t r s := by
  have tap : ∀ (i : Fin 4) (inb), View.ld (iblk m c 2 t : FVec Ideal S4x1024 .f32) (Rect.unit (s := S4x1024) ![i, 0] ![1, 1024] inb) (ix2 0 s : S1x1024.Idx) = (m ((c : Thread nD τ).loc main_arg2) : FVec Ideal S1x4x8192 .f32) (ix3 0 i (col t s)) := by
    intro i inb
    refine Eq.trans ?_ (blk2_at m c t i s)
    exact congrArg (iblk m c 2 t : FVec Ideal S4x1024 .f32) (funext fun a => Fin.ext ((Rect.idx_unit_val _ _ _ _ a).trans (by fin_cases a <;> simp)))
  refine (pay4_at _ _ _ _ a0 a1 a2 a3 r s).trans ?_
  rw [e0, e1, e2, e3]
  refine congrArg₂ (· + ·) (congrArg₂ (· + ·) (congrArg₂ (· + ·) (congrArg (· * _) (tap 0 _)) (congrArg (· * _) (tap 1 _))) (congrArg (· * _) (tap 2 _))) (congrArg (· * _) (tap 3 _))

/-- A block whose sums are the convolution is the reference's. -/
theorem block_at (c : Dev nD) (t : Fin cfg0.N) (Y : FVec Ideal S256x1024 .f32) (hY : ∀ r s, Y (ix2 r s) = conv m c t r s) (r : Fin 256) (s : Fin 1024) :
    View.canon (tiles Y (grid0.coords t 1).val) (ix2 r s : S256x1024.Idx)
      = Short.head (t.val / 16 % 8) (fun k => Short.act (conv m c t r ⟨s / 128 * 128 + k, by omega⟩)) ⟨s % 128, by omega⟩ := by
  rw [(idx t).2.2.2.2.2]
  refine (tiles_at Y (t.val / 16 % 8) (by omega) r s).trans ?_
  simp only [hY]

/-- A later point's sums. -/
theorem later_at (c : Dev nD) (t : Fin cfg0.N) (h0 : ¬ t.val % 16 = 0) (hlt : t.val - 1 < cfg0.N) (n : ℕ) (hn : n < 4) (inb) (h : (Memref.whole cc0_scratch0).IsWhole) (r : Fin 256) (s : Fin 1024) :
    View.ld (View.read (Elt Ideal) (View.whole cc0_scratch0) ((View.whole cc0_scratch0).writes (Elt Ideal) (h.unread ((outsAt0 m c (t.val - 1) hlt).2.2 : FVec Ideal S264x1024 .f32))
        [⟨Rect.unit ![8, 0] ![256, 1024] inb_S264x1024_S256x1024_8_0, k0_pay3 (F := Ideal) (iblk m c 0 t)⟩])) (Rect.unit (s := S264x1024) ![5 + n, 0] ![256, 1024] inb) (ix2 r s : S256x1024.Idx)
      = row m c (seq t) (col t s) (t.val % 16 * 256 + (r + n)) :=
  (over_ld _ (iblk m c 0 t) h n hn inb r s).trans (near_later m c t h0 hlt (r + n) (by omega) s)

/-- A later point's own rows. -/
theorem mine_at (c : Dev nD) (t : Fin cfg0.N) (r : Fin 256) (s : Fin 1024) :
    (View.whole cc0_scratch0).readCov (Val := Elt Ideal) [⟨Rect.unit ![8, 0] ![256, 1024] inb_S264x1024_S256x1024_8_0, k0_pay3 (F := Ideal) (iblk m c 0 t)⟩]
      (Rect.unit (s := S264x1024) ![8, 0] ![256, 1024] inb_S264x1024_S256x1024_8_0).toLoadRect (ix2 r s : S256x1024.Idx) = row m c (seq t) (col t s) (t.val % 16 * 256 + (r + 3)) := by
  refine (own_at (iblk m c 0 t) 8 256 (by omega) (by omega) inb_S264x1024_S256x1024_8_0 r s).trans ?_
  rw [blk0_at]
  exact congrArg _ (by show t.val % 16 * 256 + (8 - 8 + r.val) + 3 = t.val % 16 * 256 + (r.val + 3); omega)

/-- The convolved rows that a point stores. -/
theorem point3 (c : Dev nD) (t : Fin cfg0.N) (r : Fin 256) (s : Fin 1024) :
    ((dats m 0 c).after 3 t : FVec Ideal S256x1024 .f32) (ix2 r s)
      = Short.head (t.val / 16 % 8) (fun k => Short.act (conv m c t r ⟨s / 128 * 128 + k, by omega⟩)) ⟨s % 128, by omega⟩ := by
  by_cases h0 : t.val % 16 = 0
  · rw [after0_3, outsAt0_A m c t h0 (by omega)]
    frame_open
    frame_out
    refine block_at m c t _ (fun r s => ?_) r s
    exact sum_at m c t _ _ _ _ r s ((scratch_at (iblk m c 0 t) (iblk m c 1 t) 0 (by omega) _ r s).trans (near_first m c t h0 _ (by omega) s)) ((scratch_at (iblk m c 0 t) (iblk m c 1 t) 1 (by omega) _ r s).trans (near_first m c t h0 _ (by omega) s))
      ((scratch_at (iblk m c 0 t) (iblk m c 1 t) 2 (by omega) _ r s).trans (near_first m c t h0 _ (by omega) s)) ((scratch_at (iblk m c 0 t) (iblk m c 1 t) 3 (by omega) _ r s).trans (near_first m c t h0 _ (by omega) s))
  by_cases h1 : t.val % 16 = 15
  · rw [after0_3, outsAt0_C m c t h0 h1]
    frame_open
    frame_out
    refine block_at m c t _ (fun r s => ?_) r s
    exact sum_at m c t _ _ _ _ r s (later_at m c t h0 _ 0 (by omega) _ _ r s) (later_at m c t h0 _ 1 (by omega) _ _ r s) (later_at m c t h0 _ 2 (by omega) _ _ r s) (mine_at m c t r s)
  · rw [after0_3, outsAt0_B m c t h0 h1]
    frame_open
    frame_out
    refine block_at m c t _ (fun r s => ?_) r s
    exact sum_at m c t _ _ _ _ r s (later_at m c t h0 _ 0 (by omega) _ _ r s) (later_at m c t h0 _ 1 (by omega) _ _ r s) (later_at m c t h0 _ 2 (by omega) _ _ r s) (mine_at m c t r s)

end Cert.GcpIdeal.Hand
-- ==== Proof.PromptConvRef.lean ====
module

public import proofs.«01_k».proof.Proof.PromptConvMath
public import proofs.«01_k».proof.Proof.Gen.GcpRefIdeal.Run
public import proofs.«01_k».proof.Proof.Gen.GcpRefIdeal.Read
set_option maxRecDepth 16384
@[expose] public section

noncomputable section
open Idealize.ShloMosaic Idealize.ShloMosaic.TcCoe Idealize.SL.Sem

namespace Cert.GcpRefIdeal.Hand
open Cert.GcpRefIdeal Cert.GcpRefIdeal.Gen Cert.GcpRefIdeal.Read

variable (x0 : FVec Ideal S16384x12288 .f32) (x1 : FVec Ideal S4x3x8192 .f32) (x2 : FVec Ideal S1x4x8192 .f32)

/-- The rows of a sequence. -/
theorem v3_at (b : Fin 4) (i : Fin 4099) (s : Fin 8192) :
    val_main_v3 (F := Ideal) x0 x1 (ix3 b i s) = Short.ext (fun i => x1 (ix3 b i s)) (fun i => x0 (ix2 ⟨b * 4096 + i, by omega⟩ ⟨s, by omega⟩)) i := by
  pointwise [val_main_v3, val_main_v1, val_main_v0]
  unfold Short.ext
  by_cases h : i.val < 3
  · rw [dif_pos h, dif_pos h]
  · rw [dif_neg h, dif_neg h, dif_pos (by omega)]

/-- The convolution. -/
theorem v30_at (b : Fin 4) (r : Fin 4096) (s : Fin 8192) :
    val_main_v30 (F := Ideal) x0 x1 x2 (ix3 b r s) = Short.taps (fun i => x2 (ix3 0 i s)) (Short.ext (fun i => x1 (ix3 b i s)) (fun i => x0 (ix2 ⟨b * 4096 + i, by omega⟩ ⟨s, by omega⟩))) r := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v2]
  simp only [v3_at]
  simp only [Nat.add_comm _ (r : ℕ)]
  rfl

/-- The queries. -/
theorem v46_at (b : Fin 4) (r : Fin 4096) (h : Fin 16) (k : Fin 128) :
    val_main_v46 (F := Ideal) x0 x1 x2 (ix4 b r h k) = Short.unit (fun k => Short.act (val_main_v30 (F := Ideal) x0 x1 x2 (ix3 b r ⟨h * 128 + k, by omega⟩))) k * Ideal.ofBits .f32 0x3DB504F3#32 := by
  pointwise [val_main_v46, val_main_v45, val_main_v44, val_main_v43, val_main_v42, val_main_v41, val_main_v40, val_main_v39, val_main_v38, val_main_v37, val_main_v36, val_main_v33, val_main_v32, val_main_cst, val_main_cst_0, val_main_cst_1, val_main_call0_v0, val_main_call0_v1, val_main_call0_v2,
    val_main_call0_v3, val_main_call0_v4, val_main_call0_v5, val_main_call0_cst, val_main_call0_cst_0]
  rfl

/-- The keys. -/
theorem v55_at (b : Fin 4) (r : Fin 4096) (h : Fin 16) (k : Fin 128) :
    val_main_v55 (F := Ideal) x0 x1 x2 (ix4 b r h k) = Short.unit (fun k => Short.act (val_main_v30 (F := Ideal) x0 x1 x2 (ix3 b r ⟨2048 + (h * 128 + k), by omega⟩))) k := by
  pointwise [val_main_v55, val_main_v54, val_main_v53, val_main_v52, val_main_v51, val_main_v50, val_main_v49, val_main_v48, val_main_v47, val_main_v34, val_main_v32, val_main_cst_2, val_main_cst_3, val_main_call0_v0, val_main_call0_v1, val_main_call0_v2,
    val_main_call0_v3, val_main_call0_v4, val_main_call0_v5, val_main_call0_cst, val_main_call0_cst_0]
  rfl

/-- The row of all heads. -/
theorem v59_at (R : Fin 16384) (s : Fin 8192) :
    val_main_v59 (F := Ideal) x0 x1 x2 (ix2 R s)
      = Short.head (s / 1024) (fun k : Fin 128 => Short.act (val_main_v30 (F := Ideal) x0 x1 x2 (ix3 ⟨R / 4096, by omega⟩ ⟨R % 4096, by omega⟩ ⟨s / 128 * 128 + k, by omega⟩))) ⟨s % 128, by omega⟩ := by
  pointwise [val_main_v59, val_main_v58, val_main_v57, val_main_v56, val_main_v35, val_main_v32, val_main_call0_v0, val_main_call0_v1, val_main_call0_v2,
    val_main_call0_v3, val_main_call0_v4, val_main_call0_v5, val_main_call0_cst, val_main_call0_cst_0]
  unfold Short.head
  by_cases h : s.val < 2048
  · rw [dif_pos h, if_pos (show s.val / 1024 < 2 by omega), v46_at]
  · rw [dif_neg h, if_neg (show ¬ s.val / 1024 < 2 by omega)]
    by_cases h' : s.val - 2048 < 2048
    · rw [dif_pos h', if_pos (show s.val / 1024 < 4 by omega), v55_at]
      refine congrArg₂ Short.unit (funext fun k => ?_) (Fin.ext (by show (s.val - 2048) % 128 = s.val % 128; omega))
      exact congrArg (fun z => Short.act (val_main_v30 (F := Ideal) x0 x1 x2 (ix3 ⟨R / 4096, by omega⟩ ⟨R % 4096, by omega⟩ z))) (Fin.ext (by show 2048 + ((s.val - 2048) / 128 * 128 + k.val) = s.val / 128 * 128 + k.val; omega))
    · rw [dif_neg h', if_neg (show ¬ s.val / 1024 < 4 by omega)]
      exact congrArg (fun z => Short.act (val_main_v30 (F := Ideal) x0 x1 x2 (ix3 ⟨R / 4096, by omega⟩ ⟨R % 4096, by omega⟩ z))) (Fin.ext (by show 4096 + (s.val - 2048 - 2048) = s.val / 128 * 128 + s.val % 128; omega))

/-- The rows kept for the next call. -/
theorem v31_at (b : Fin 4) (i : Fin 3) (s : Fin 8192) :
    val_main_v31 (F := Ideal) x0 x1 (ix3 b i s) = Short.ext (fun i => x1 (ix3 b i s)) (fun i => x0 (ix2 ⟨b * 4096 + i, by omega⟩ ⟨s, by omega⟩)) (4096 + i) := by
  pointwise [val_main_v31]
  exact v3_at x0 x1 b ⟨4096 + i, by omega⟩ s

end Cert.GcpRefIdeal.Hand
-- ==== Proof.PromptConvClaims.lean ====
module

public import proofs.«01_k».proof.Defs
public import proofs.«01_k».proof.Proof.Gen.Gcp.Frame
public import proofs.«01_k».proof.Proof.PromptConvKernel
public import proofs.«01_k».proof.Proof.PromptConvRef
set_option maxRecDepth 16384
@[expose] public section

noncomputable section
open Idealize.ShloMosaic Idealize.ShloMosaic.TcCoe Idealize.SL.Sem
open Idealize.ShloMosaic.Pipeline (Dat)

/-! # The prompt's short convolution's claims -/

namespace Cert.GcpIdeal.Hand
open Cert.GcpIdeal Cert.GcpIdeal.Gen
variable (m : (ℓ : Loc nD τ sig) → Buf (Elt Ideal) ℓ)

/-- The points that write the kept rows back are the sequences' last. -/
theorem last4 : ∀ t : Fin cfg0.N, (cfg0.win 4).flush t = true → t.val % 16 = 15 := (by decide +kernel : ∀ t : Fin grid0.N, _)

/-- The rows kept for the next call are the reference's. -/
theorem final4 (c : Dev nD) : (dats m 0 c).arrAt 4 (cfgs 0).N
    = Cert.GcpRefIdeal.Read.val_main_v31 (F := Ideal) (m ((c : Thread nD τ).loc main_arg0)) (m ((c : Thread nD τ).loc main_arg1)) := by
  refine (dats m 0 c).arrAt_eq_of_covers 4 _ (by decide +kernel) fun t hf y => ?_
  have h := last4 t hf
  blk_simp
  have ht := lt_N t
  idx_vars y
  refine (point4 m c t h y0 y1 y2).trans ?_
  refine Eq.trans ?_ ((congrArg _ ?_).trans (Cert.GcpRefIdeal.Hand.v31_at _ _ ⟨t.val / 128, by omega⟩ y1 ⟨t.val / 16 % 8 * 1024 + y2, by omega⟩)).symm
  · rfl
  · blk_ext [idx t]

/-- The convolved rows are the reference's. -/
theorem final3 (c : Dev nD) : (dats m 0 c).arrAt 3 (cfgs 0).N
    = Cert.GcpRefIdeal.Read.val_main_v59 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  have ht := lt_N t
  idx_vars y
  refine (point3 m c t y0 y1).trans ?_
  refine Eq.trans ?_ ((congrArg _ ?_).trans (Cert.GcpRefIdeal.Hand.v59_at _ _ _ ⟨(t.val / 128 * 16 + t.val % 16) * 256 + y0, by omega⟩ ⟨t.val / 16 % 8 * 1024 + y1, by omega⟩)).symm
  · have e0 : (⟨((t.val / 128 * 16 + t.val % 16) * 256 + y0) / 4096, by omega⟩ : Fin 4) = ⟨t.val / 128, by omega⟩ := Fin.ext (by show ((t.val / 128 * 16 + t.val % 16) * 256 + y0.val) / 4096 = t.val / 128; omega)
    have e1 : ((t.val / 128 * 16 + t.val % 16) * 256 + y0.val) % 4096 = t.val % 16 * 256 + y0.val := by omega
    have e2 : (⟨(t.val / 16 % 8 * 1024 + y1) % 128, by omega⟩ : Fin 128) = ⟨y1 % 128, by omega⟩ := Fin.ext (by show (t.val / 16 % 8 * 1024 + y1.val) % 128 = y1.val % 128; omega)
    have e3 : (t.val / 16 % 8 * 1024 + y1.val) / 1024 = t.val / 16 % 8 := by omega
    have e4 : ∀ k : Fin 128, (⟨(t.val / 16 % 8 * 1024 + y1.val) / 128 * 128 + k, by omega⟩ : Fin 8192) = ⟨t.val / 16 % 8 * 1024 + (y1 / 128 * 128 + k), by omega⟩ := fun k =>
      Fin.ext (by show (t.val / 16 % 8 * 1024 + y1.val) / 128 * 128 + k.val = t.val / 16 % 8 * 1024 + (y1.val / 128 * 128 + k.val); omega)
    simp only [e0, e2, e3, e4, Cert.GcpRefIdeal.Hand.v30_at, e1]
    rfl
  · blk_ext [idx t]

end Cert.GcpIdeal.Hand

namespace GcpClaims

/-- The kernel runs, keeps its arguments and leaves no semaphore raised. -/
theorem frame_kernel : Cert.quiescent_Gcp := fun m ρ _ => Cert.Gcp.Gen.frame m ρ

/-- So does the kernel over the extended reals. -/
theorem frame_ideal : Cert.quiescent_GcpIdeal := fun m ρ _ => Cert.GcpIdeal.Gen.frame m ρ

/-- So does the reference over the extended reals. -/
theorem frame_ref : Cert.quiescent_GcpRefIdeal := fun m ρ _ =>
  (θ_run Cert.GcpRefIdeal.defs _ _).mono (fun r h => ⟨fun c => (h c).2.2, Idealize.ShloMosaic.sem_eq_zero_of_no_sems (by decide) r.2⟩)
    (Cert.GcpRefIdeal.Value.run (F := Ideal) m ρ)

/-- The results over the extended reals are the reference's. -/
theorem algebraic : Cert.algebraic_GcpIdeal_GcpRefIdeal := by
  intro m g m' g' _ hag
  refine ⟨fun c => (Cert.GcpIdeal.Gen.dats m 0 c).arrAt 3 Cert.GcpIdeal.cfg0.N, fun c => (Cert.GcpIdeal.Gen.dats m 0 c).arrAt 4 Cert.GcpIdeal.cfg0.N,
    Cert.GcpIdeal.Value.run_blocks (F := Ideal) m g, (θ_run _ _ _).mono (fun r h c => ?_) (Cert.GcpRefIdeal.Value.run (F := Ideal) m' g')⟩
  obtain ⟨h0, h1, h2⟩ := hag c
  refine ⟨(h c).1.trans ?_, (h c).2.1.trans ?_, (h c).2.2⟩
  · refine Eq.trans ?_ (Cert.GcpIdeal.Hand.final3 m c).symm
    rw [Cert.GcpRefIdeal.Read.val_main_v59_eq, h0, h1, h2]
  · refine Eq.trans ?_ (Cert.GcpIdeal.Hand.final4 m c).symm
    rw [Cert.GcpRefIdeal.Read.val_main_v31_eq, h0, h1]

end GcpClaims
-- ==== Proof.PromptLongMath.lean ====
module

public import proofs.«01_k».proof.Proof.ConfConvMath
@[expose] public section

noncomputable section
open Idealize.ShloMosaic

/-! # Closed forms of the long convolution over a whole prompt -/

namespace Long

/-- The rows of a prompt: thirty old ones, then the 4096 new ones. -/
def ext (b : Fin 30 → EReal) (x : Fin 4096 → EReal) (i : ℕ) : EReal :=
  if h : i < 30 then b ⟨i, h⟩ else if h : i - 30 < 4096 then x ⟨i - 30, h⟩ else 0

end Long
-- ==== Proof.PromptLongKernel.lean ====
module

public import proofs.«01_k».proof.Proof.Gen.CcpIdeal.Value
public import proofs.«01_k».proof.Proof.PromptLongMath
public import Idealize.ShloMosaic.Lib.Pipeline.ValueKit
public import Idealize.ShloMosaic.Lib.Pipeline.ReadBack
public import Idealize.ShloMosaic.Lib.WritesUnit
set_option maxRecDepth 16384
@[expose] public section

noncomputable section
open Idealize.ShloMosaic Idealize.ShloMosaic.TcCoe Idealize.SL.Sem
open Idealize.ShloMosaic.Pipeline (Dat)

/-! # What the long convolution of the prompt stores -/

namespace Cert.CcpIdeal.Hand
open Cert.CcpIdeal Cert.CcpIdeal.Gen

/-- The rows that a point reads: thirty old ones, then its 128 new ones. -/
def near (b : Fin 30 → EReal) (x : Fin 128 → EReal) (i : ℕ) : EReal :=
  if h : i < 30 then b ⟨i, h⟩ else if h : i - 30 < 128 then x ⟨i - 30, h⟩ else 0

/-- The three stores of a sequence's first point in the scratch, the last one first. -/
abbrev stored (x : FVec Ideal S128x1024 .f32) (b : FVec Ideal S1x30x1024 .f32) : List (View.Piece (Elt Ideal) S160x1024 .f32) :=
  [⟨Rect.unit ![32, 0] ![128, 1024] inb_S160x1024_S128x1024_32_0, k0_pay5 (F := Ideal) x⟩, ⟨Rect.unit ![2, 0] ![30, 1024] inb_S160x1024_S30x1024_2_0, k0_pay4 (F := Ideal) b⟩,
      ⟨Rect.unit ![0, 0] ![2, 1024] inb_S160x1024_S2x1024_0_0, k0_pay3 (F := Ideal)⟩]

/-- What the scratch holds after them from row 2 on. -/
theorem stored_at (x : FVec Ideal S128x1024 .f32) (b : FVec Ideal S1x30x1024 .f32) (n : ℕ) (hn : n < 158) (s : Fin 1024) :
    View.canon (stored x b) (ix2 ⟨2 + n, by omega⟩ s : S160x1024.Idx) = near (fun i => b (ix3 0 i s)) (fun i => x (ix2 i s)) n := by
  have hc : ∃ p ∈ stored x b, (ix2 ⟨2 + n, by omega⟩ s : S160x1024.Idx) ∈ p.1.set := by
    by_cases h : n < 30
    · refine ⟨_, List.mem_cons_of_mem _ (List.mem_cons_self), ?_⟩
      rw [show (ix2 ⟨2 + n, by omega⟩ s : S160x1024.Idx) = (Rect.unit (s := S160x1024) ![2, 0] ![30, 1024] inb_S160x1024_S30x1024_2_0).idx (ix2 ⟨n, h⟩ s : S30x1024.Idx) from funext fun a => Fin.ext ((by fin_cases a <;> simp <;> omega : _ = _).trans (Rect.idx_unit_val _ _ _ _ a).symm)]
      exact LoadRect.idx_mem _ _
    · refine ⟨_, List.mem_cons_self, ?_⟩
      rw [show (ix2 ⟨2 + n, by omega⟩ s : S160x1024.Idx) = (Rect.unit (s := S160x1024) ![32, 0] ![128, 1024] inb_S160x1024_S128x1024_32_0).idx (ix2 ⟨n - 30, by omega⟩ s : S128x1024.Idx) from funext fun a => Fin.ext ((by fin_cases a <;> simp <;> omega : _ = _).trans (Rect.idx_unit_val _ _ _ _ a).symm)]
      exact LoadRect.idx_mem _ _
  canon_tiles z h using hc
  · idx_vars z
    have h0' : 2 + n = 32 + z0.val := h0
    have h1' : s.val = z1.val := h1
    obtain rfl := Fin.ext h1'
    pointwise [k0_pay5]
    unfold near
    rw [dif_neg (by omega), dif_pos (by omega)]
    exact congrArg x (congrArg (ix2 · s) (Fin.ext (by show z0.val = n - 30; omega)))
  · idx_vars z
    have h0' : 2 + n = 2 + z0.val := h0
    have h1' : s.val = z1.val := h1
    obtain rfl := Fin.ext h1'
    pointwise [k0_pay4]
    unfold near
    rw [dif_pos (by omega)]
    exact congrArg b (congrArg (ix3 0 · s) (Fin.ext (by show z0.val = n; omega)))
  · idx_vars z
    have h0' : 2 + n = z0.val := h0
    omega

/-- A load of 128 rows from row `a` on, in the block of columns from `o` on. -/
theorem scratch_at (x : FVec Ideal S128x1024 .f32) (b : FVec Ideal S1x30x1024 .f32) (a o : ℕ) (ha : 2 ≤ a) (ha' : a < 33) (ho : o < 769) (inb) (r : Fin 128) (s : Fin 256) :
    (View.whole cc0_scratch0).readCov (Val := Elt Ideal) (stored x b) (Rect.unit (s := S160x1024) ![a, o] ![128, 256] inb).toLoadRect (ix2 r s : S128x256.Idx)
      = near (fun i => b (ix3 0 i ⟨o + s, by omega⟩)) (fun i => x (ix2 i ⟨o + s, by omega⟩)) (r + (a - 2)) := by
  rw [View.readCov_eq_canon']
  have e : (Rect.unit (s := S160x1024) ![a, o] ![128, 256] inb).toLoadRect.idx (ix2 r s : S128x256.Idx) = (ix2 ⟨2 + (r + (a - 2)), by omega⟩ ⟨o + s, by omega⟩ : S160x1024.Idx) :=
    funext fun a => Fin.ext ((Rect.idx_unit_val _ _ _ _ a).trans (by fin_cases a <;> simp <;> omega))
  exact (congrArg _ e).trans (stored_at x b _ (by omega) _)

/-- A later point's store in the scratch, over what the point before has left there. -/
theorem over_at (X : FVec Ideal S160x1024 .f32) (x : FVec Ideal S128x1024 .f32) (h : (Memref.whole cc0_scratch0).IsWhole) (n : ℕ) (hn : n < 158) (s : Fin 1024) :
    View.read (Elt Ideal) (View.whole cc0_scratch0) ((View.whole cc0_scratch0).writes (Elt Ideal) (h.unread X)
        [⟨Rect.unit ![32, 0] ![128, 1024] inb_S160x1024_S128x1024_32_0, k0_pay5 (F := Ideal) x⟩]) (ix2 ⟨2 + n, by omega⟩ s : S160x1024.Idx)
      = near (fun i : Fin 30 => X (ix2 ⟨2 + i, by omega⟩ s)) (fun i => x (ix2 i s)) n := by
  unfold near
  by_cases h3 : n < 30
  · rw [dif_pos h3]
    refine (View.read_writes_cons_rows_of_not_mem (View.whole cc0_scratch0) _ _ _ _ _ rfl rfl (Or.inl (by show 2 + n < 32; omega))).trans ?_
    exact congrFun (read_unread_whole _ _ _) _
  · rw [dif_neg h3, dif_pos (by omega)]
    refine (View.read_writes_cons_rows_of_mem (View.whole cc0_scratch0) _ _ _ _ _ (ix2 ⟨n - 30, by omega⟩ s : S128x1024.Idx) rfl (by show 2 + n = 32 + (n - 30); omega) rfl).trans ?_
    pointwise [k0_pay5]

/-- A load of a later point's own rows. -/
theorem own_at (x : FVec Ideal S128x1024 .f32) (a o n w : ℕ) (ha : 32 ≤ a) (hn : a + n ≤ 160) (hw : o + w ≤ 1024) (inb) (r : Fin n) (s : Fin w) :
    (View.whole cc0_scratch0).readCov (Val := Elt Ideal) [⟨Rect.unit ![32, 0] ![128, 1024] inb_S160x1024_S128x1024_32_0, k0_pay5 (F := Ideal) x⟩]
      (Rect.unit (s := S160x1024) ![a, o] ![n, w] inb).toLoadRect (ix2 r s) = x (ix2 ⟨a - 32 + r, by omega⟩ ⟨o + s, by omega⟩) := by
  rw [View.readCov_eq_canon']
  have e : (Rect.unit (s := S160x1024) ![a, o] ![n, w] inb).toLoadRect.idx (ix2 r s) = (ix2 ⟨32 + (a - 32 + r), by omega⟩ ⟨o + s, by omega⟩ : S160x1024.Idx) :=
    funext fun a => Fin.ext ((Rect.idx_unit_val _ _ _ _ a).trans (by fin_cases a <;> simp <;> omega))
  refine (congrArg _ e).trans ?_
  have e2 : (ix2 ⟨32 + (a - 32 + r), by omega⟩ ⟨o + s, by omega⟩ : S160x1024.Idx) = (Rect.unit (s := S160x1024) ![32, 0] ![128, 1024] inb_S160x1024_S128x1024_32_0).emb (ix2 ⟨a - 32 + r, by omega⟩ ⟨o + s, by omega⟩ : S128x1024.Idx) :=
    funext fun a => Fin.ext ((by fin_cases a <;> simp : _ = _).trans (Rect.idx_unit_val _ _ _ _ a).symm)
  rw [e2]
  refine (View.canon_cons_emb _ _ _ _).trans ?_
  pointwise [k0_pay5]

/-- The scratch's first 32 rows after the store that ends a point. -/
theorem kept_at (w : FVec Ideal S32x1024 .f32) (L : List (View.Piece (Elt Ideal) S160x1024 .f32)) (i : Fin 32) (s : Fin 1024) :
    View.canon (⟨Rect.unit ![0, 0] ![32, 1024] inb_S160x1024_S32x1024_0_0, k0_pay2 (F := Ideal) w⟩ :: L) (ix2 ⟨i, by omega⟩ s : S160x1024.Idx) = w (ix2 i s) := by
  rw [show (ix2 ⟨i, by omega⟩ s : S160x1024.Idx) = (Rect.unit (s := S160x1024) ![0, 0] ![32, 1024] inb_S160x1024_S32x1024_0_0).emb (ix2 i s : S32x1024.Idx) from
    funext fun a => Fin.ext ((by fin_cases a <;> simp : _ = _).trans (Rect.idx_unit_val _ _ _ _ a).symm)]
  refine (View.canon_cons_emb _ _ _ _).trans ?_
  pointwise [k0_pay2]

/-- The last store's payload: a row over its spread, through the nonlinearity. -/
theorem finish_at (L : FVec Ideal S128x1024 .f32) (G B : FVec Ideal S1x1024 .f32) (r : Fin 128) (s : Fin 1024) :
    k0_pay49 (F := Ideal) (k0_pay45 L) (k0_pay46 G) (k0_pay47 B) (k0_pay48 L) (ix2 r s)
      = Long.finish (fun k => L (ix2 r k)) (fun k => G (ix2 0 k)) (fun k => B (ix2 0 k)) s := by
  pointwise [k0_pay49, k0_pay45, k0_pay46, k0_pay47, k0_pay48]
  simp only [zero_sub]
  rfl

variable (m : (ℓ : Loc nD τ sig) → Buf (Elt Ideal) ℓ)

/-- The blocks' places: point `t` is block `t % 32` of the rows of sequence `t / 32`. -/
theorem idx : ∀ t : Fin cfg0.N, win0_0.index t = ![t.val, 0] ∧ win0_1.index t = ![t.val / 32, 0, 0] ∧ win0_2.index t = ![0, 0] ∧ win0_3.index t = ![0, 0] ∧ win0_4.index t = ![0, 0] ∧ win0_5.index t = ![0, 0]
    ∧ win0_6.index t = ![t.val, 0] ∧ win0_7.index t = ![t.val / 32, 0, 0] ∧ t.val < 128 :=
  (by decide +kernel : ∀ t : Fin grid0.N, _)

/-- There are 128 points. -/
theorem lt_N (t : Fin cfg0.N) : t.val < 128 := (idx t).2.2.2.2.2.2.2.2

/-- A column of a sequence's rows: the old ones, then the new ones. -/
def row (c : Dev nD) (b : Fin 4) (s : Fin 1024) : ℕ → EReal :=
  Long.ext (fun i => (m ((c : Thread nD τ).loc main_arg1) : FVec Ideal S4x30x1024 .f32) (ix3 b i s))
    (fun i => (m ((c : Thread nD τ).loc main_arg0) : FVec Ideal S16384x1024 .f32) (ix2 ⟨b * 4096 + i, by omega⟩ s))

/-- A point's sequence. -/
abbrev seq (t : Fin cfg0.N) : Fin 4 := ⟨t.val / 32, by have := lt_N t; omega⟩

/-- A point's new rows. -/
theorem blk0_at (c : Dev nD) (t : Fin cfg0.N) (r : Fin 128) (s : Fin 1024) :
    (iblk m c 0 t : FVec Ideal S128x1024 .f32) (ix2 r s) = row m c (seq t) s (t.val % 32 * 128 + r + 30) := by
  have ht := lt_N t
  have h : ((cfg0.win 0).blk t).view.emb (ix2 r s : S128x1024.Idx) = (ix2 ⟨t.val * 128 + r, by omega⟩ s : S16384x1024.Idx) := by
    blk_ext [idx t]
  unfold iblk
  refine (congrArg (V m c (Pipeline.arrRef spec0 0)) h).trans ?_
  unfold row Long.ext
  rw [dif_neg (by omega), dif_pos (by omega)]
  entry_read
  exact congrArg (fun z => (m ((c : Thread nD τ).loc main_arg0) : FVec Ideal S16384x1024 .f32) (ix2 z s))
    (Fin.ext (by show t.val * 128 + r.val = t.val / 32 * 4096 + (t.val % 32 * 128 + r.val + 30 - 30); omega))

/-- A point's old rows. -/
theorem blk1_at (c : Dev nD) (t : Fin cfg0.N) (i : Fin 30) (s : Fin 1024) :
    (iblk m c 1 t : FVec Ideal S1x30x1024 .f32) (ix3 0 i s) = row m c (seq t) s i := by
  have ht := lt_N t
  have h : ((cfg0.win 1).blk t).view.emb (ix3 0 i s : S1x30x1024.Idx) = (ix3 ⟨t.val / 32, by omega⟩ i s : S4x30x1024.Idx) := by
    blk_ext [idx t]
  unfold iblk
  refine (congrArg (V m c (Pipeline.arrRef spec0 1)) h).trans ?_
  unfold row Long.ext
  rw [dif_pos i.isLt]
  entry_read
  rfl

/-- The scratch's rows 2 to 31 after a point that is not a sequence's last. -/
theorem carry (c : Dev nD) (t : Fin cfg0.N) (h1 : ¬ t.val % 32 = 31) (i : Fin 30) (s : Fin 1024) :
    ((outsAt0 m c t.val t.isLt).2.2 : FVec Ideal S160x1024 .f32) (ix2 ⟨2 + i, by omega⟩ s) = (iblk m c 0 t : FVec Ideal S128x1024 .f32) (ix2 ⟨98 + i, by omega⟩ s) := by
  by_cases h0 : t.val % 32 = 0
  · rw [outsAt0_A m c t h0 h1]
    frame_open
    frame_out
    refine (kept_at _ _ ⟨2 + i, by omega⟩ s).trans ?_
    rw [View.readCov_eq_canon']
    have e : (Rect.unit (s := S160x1024) ![128, 0] ![32, 1024] inb_S160x1024_S32x1024_128_0).toLoadRect.idx (ix2 ⟨2 + i, by omega⟩ s : S32x1024.Idx) = (ix2 ⟨2 + (128 + i), by omega⟩ s : S160x1024.Idx) :=
      funext fun a => Fin.ext ((Rect.idx_unit_val _ _ _ _ a).trans (by fin_cases a <;> simp <;> omega))
    refine (congrArg _ e).trans ((stored_at (iblk m c 0 t) (iblk m c 1 t) (128 + i) (by omega) s).trans ?_)
    unfold near
    rw [dif_neg (by omega), dif_pos (by omega)]
    exact congrArg (iblk m c 0 t : FVec Ideal S128x1024 .f32) (congrArg (ix2 · s) (Fin.ext (by show 128 + i.val - 30 = 98 + i.val; omega)))
  · rw [outsAt0_B m c t h0 h1]
    frame_open
    frame_out
    refine (kept_at _ _ ⟨2 + i, by omega⟩ s).trans ?_
    refine (own_at (iblk m c 0 t) 128 0 32 1024 (by omega) (by omega) (by omega) inb_S160x1024_S32x1024_128_0 ⟨2 + i, by omega⟩ s).trans ?_
    exact congrArg (iblk m c 0 t : FVec Ideal S128x1024 .f32) (congrArg₂ ix2 (Fin.ext (by show 128 - 32 + (2 + i.val) = 98 + i.val; omega)) (Fin.ext (Nat.zero_add s.val)))

/-- A sequence's first point reads the rows from its own row on. -/
theorem near_first (c : Dev nD) (t : Fin cfg0.N) (h0 : t.val % 32 = 0) (n : ℕ) (hn : n < 158) (s : Fin 1024) :
    near (fun i => (iblk m c 1 t : FVec Ideal S1x30x1024 .f32) (ix3 0 i s)) (fun i => (iblk m c 0 t : FVec Ideal S128x1024 .f32) (ix2 i s)) n
      = row m c (seq t) s (t.val % 32 * 128 + n) := by
  unfold near
  by_cases h : n < 30
  · rw [dif_pos h]
    refine (blk1_at m c t ⟨n, h⟩ s).trans (congrArg (row m c (seq t) s) ?_)
    exact (by show n = t.val % 32 * 128 + n; omega)
  · rw [dif_neg h, dif_pos (by omega)]
    refine (blk0_at m c t ⟨n - 30, by omega⟩ s).trans (congrArg (row m c (seq t) s) ?_)
    exact (by show t.val % 32 * 128 + (n - 30) + 30 = t.val % 32 * 128 + n; omega)

/-- So does a later one. -/
theorem near_later (c : Dev nD) (t : Fin cfg0.N) (h0 : ¬ t.val % 32 = 0) (hlt : t.val - 1 < cfg0.N) (n : ℕ) (hn : n < 158) (s : Fin 1024) :
    near (fun i => ((outsAt0 m c (t.val - 1) hlt).2.2 : FVec Ideal S160x1024 .f32) (ix2 ⟨2 + i, by omega⟩ s)) (fun i => (iblk m c 0 t : FVec Ideal S128x1024 .f32) (ix2 i s)) n
      = row m c (seq t) s (t.val % 32 * 128 + n) := by
  have ht := lt_N t
  unfold near
  by_cases h : n < 30
  · rw [dif_pos h]
    refine (carry m c ⟨t.val - 1, hlt⟩ (by show ¬ (t.val - 1) % 32 = 31; omega) ⟨n, h⟩ s).trans ?_
    rw [blk0_at]
    have e1 : seq ⟨t.val - 1, hlt⟩ = seq t := Fin.ext (by show (t.val - 1) / 32 = t.val / 32; omega)
    rw [e1]
    exact congrArg _ (by show (t.val - 1) % 32 * 128 + (98 + n) + 30 = t.val % 32 * 128 + n; omega)
  · rw [dif_neg h, dif_pos (by omega)]
    refine (blk0_at m c t ⟨n - 30, by omega⟩ s).trans (congrArg (row m c (seq t) s) ?_)
    exact (by show t.val % 32 * 128 + (n - 30) + 30 = t.val % 32 * 128 + n; omega)

/-- The rows that a sequence's last point keeps. -/
theorem point7 (c : Dev nD) (t : Fin cfg0.N) (h : t.val % 32 = 31) (i : Fin 1) (r : Fin 30) (s : Fin 1024) :
    ((dats m 0 c).after 7 t : FVec Ideal S1x30x1024 .f32) (ix3 i r s) = row m c (seq t) s (4096 + r) := by
  rw [after0_7, outsAt0_C m c t (by omega) h]
  frame_open
  frame_out
  pointwise [k0_pay1]
  refine (own_at (iblk m c 0 t) 130 0 30 1024 (by omega) (by omega) (by omega) inb_S160x1024_S30x1024_130_0 r s).trans ?_
  rw [blk0_at, show (⟨0 + s.val, by omega⟩ : Fin 1024) = s from Fin.ext (Nat.zero_add s.val)]
  exact congrArg _ (by show t.val % 32 * 128 + (130 - 32 + r.val) + 30 = 4096 + r.val; omega)

/-- A first point's load. -/
theorem first_ld (c : Dev nD) (t : Fin cfg0.N) (h0 : t.val % 32 = 0) (a o : ℕ) (ha : 2 ≤ a) (ha' : a < 33) (ho : o < 769) (inb) (r : Fin 128) (s : Fin 256) :
    (View.whole cc0_scratch0).readCov (Val := Elt Ideal) (stored (iblk m c 0 t) (iblk m c 1 t)) (Rect.unit (s := S160x1024) ![a, o] ![128, 256] inb).toLoadRect (ix2 r s : S128x256.Idx)
      = row m c (seq t) ⟨o + s, by omega⟩ (t.val % 32 * 128 + r + (a - 2)) :=
  (scratch_at (iblk m c 0 t) (iblk m c 1 t) a o ha ha' ho inb r s).trans ((near_first m c t h0 _ (by omega) _).trans (congrArg _ (Nat.add_assoc _ _ _).symm))

/-- What a later point reads of rows of which some are old. -/
theorem later_read (c : Dev nD) (t : Fin cfg0.N) (hf : ¬ t.val % 32 = 0) (hlt : t.val - 1 < cfg0.N) (h : (Memref.whole cc0_scratch0).IsWhole) (a : ℕ) (r : Fin 128) (ha : 2 ≤ a) (ha' : a + r.val < 160) (k : Fin 1024) :
    View.read (Elt Ideal) (View.whole cc0_scratch0) ((View.whole cc0_scratch0).writes (Elt Ideal) (h.unread ((outsAt0 m c (t.val - 1) hlt).2.2 : FVec Ideal S160x1024 .f32))
        [⟨Rect.unit ![32, 0] ![128, 1024] inb_S160x1024_S128x1024_32_0, k0_pay5 (F := Ideal) (iblk m c 0 t)⟩]) (ix2 ⟨a + r.val, ha'⟩ k : S160x1024.Idx)
      = row m c (seq t) k (t.val % 32 * 128 + r + (a - 2)) := by
  have e : (ix2 ⟨a + r.val, ha'⟩ k : S160x1024.Idx) = ix2 ⟨2 + (r.val + (a - 2)), by omega⟩ k := congrArg (ix2 · k) (Fin.ext (by show a + r.val = 2 + (r.val + (a - 2)); omega))
  rw [e]
  exact (over_at _ (iblk m c 0 t) h (r.val + (a - 2)) (by omega) k).trans ((near_later m c t hf hlt _ (by omega) k).trans (congrArg _ (Nat.add_assoc _ _ _).symm))

/-- A later point's load of its own rows. -/
theorem mine_ld (c : Dev nD) (t : Fin cfg0.N) (o : ℕ) (ho : o < 769) (inb) (r : Fin 128) (s : Fin 256) :
    (View.whole cc0_scratch0).readCov (Val := Elt Ideal) [⟨Rect.unit ![32, 0] ![128, 1024] inb_S160x1024_S128x1024_32_0, k0_pay5 (F := Ideal) (iblk m c 0 t)⟩]
      (Rect.unit (s := S160x1024) ![32, o] ![128, 256] inb).toLoadRect (ix2 r s : S128x256.Idx) = row m c (seq t) ⟨o + s, by omega⟩ (t.val % 32 * 128 + r + 30) := by
  refine (own_at (iblk m c 0 t) 32 o 128 256 (by omega) (by omega) (by omega) inb r s).trans ?_
  rw [blk0_at]
  exact congrArg _ (by show t.val % 32 * 128 + (32 - 32 + r.val) + 30 = t.val % 32 * 128 + r.val + 30; omega)

/-- The convolution of a point's block, with its bias. -/
abbrev conv (c : Dev nD) (t : Fin cfg0.N) (r : Fin 128) (k : Fin 1024) : EReal :=
  Long.conv (fun i => (iblk m c 2 t : FVec Ideal S31x1024 .f32) (ix2 i k)) (row m c (seq t) k) (t.val % 32 * 128 + r) + (iblk m c 3 t : FVec Ideal S1x1024 .f32) (ix2 0 k)

end Cert.CcpIdeal.Hand
-- ==== Proof.PromptLongRows.lean ====
module

public import proofs.«01_k».proof.Proof.PromptLongKernel
set_option maxRecDepth 16384
@[expose] public section

noncomputable section
open Idealize.ShloMosaic Idealize.ShloMosaic.TcCoe Idealize.SL.Sem
open Idealize.ShloMosaic.Pipeline (Dat)

/-! # The rows that the long convolution of the prompt stores -/

namespace Cert.CcpIdeal.Hand
open Cert.CcpIdeal Cert.CcpIdeal.Gen
variable (m : (ℓ : Loc nD τ sig) → Buf (Elt Ideal) ℓ)

set_option maxHeartbeats 1600000 in
/-- The rows that a sequence's first point stores. -/
theorem point6_A (c : Dev nD) (t : Fin cfg0.N) (hf : t.val % 32 = 0) (r : Fin 128) (s : Fin 1024) :
    ((dats m 0 c).after 6 t : FVec Ideal S128x1024 .f32) (ix2 r s)
      = Long.finish (fun k => conv m c t r k)
          (fun k => (iblk m c 4 t : FVec Ideal S1x1024 .f32) (ix2 0 k)) (fun k => (iblk m c 5 t : FVec Ideal S1x1024 .f32) (ix2 0 k)) s := by
  rw [after0_6, outsAt0_A m c t hf (by omega)]
  frame_open
  frame_out
  refine (finish_at _ _ _ r s).trans ?_
  refine congrArg (fun y => Long.finish y _ _ s) (funext fun k => ?_)
  rw [View.readCov_eq_canon']
  have e : (Rect.unit (s := S128x1024) ![0, 0] S128x1024.size inb_S128x1024_S128x1024_0_0).toLoadRect.idx (ix2 r k : S128x1024.Idx) = (ix2 r k : S128x1024.Idx) :=
    funext fun a => Fin.ext ((Rect.idx_unit_val _ _ _ _ a).trans (by fin_cases a <;> simp))
  refine (congrArg _ e).trans ?_
  canon_tiles z h
  · idx_vars z
    have hz : 768 + z1.val < 1024 := lt_of_lt_of_le (Nat.add_lt_add_left z1.isLt 768) (by decide)
    obtain rfl : r = z0 := Fin.ext (by have : r.val = z0.val := h0; omega)
    obtain rfl : k = ⟨768 + z1, hz⟩ := Fin.ext (by have : k.val = 768 + z1.val := h1; show k.val = 768 + z1.val; omega)
    pointwise [k0_pay44, k0_pay43, k0_pay42, k0_pay41, k0_pay40, k0_pay39, k0_pay38, k0_pay37, k0_pay36, k0_pay35, k0_pay34]
    simp (disch := omega) only [first_ld m c t hf, Nat.reduceSub]
    rfl
  · idx_vars z
    have hz : 512 + z1.val < 1024 := lt_of_lt_of_le (Nat.add_lt_add_left z1.isLt 512) (by decide)
    obtain rfl : r = z0 := Fin.ext (by have : r.val = z0.val := h0; omega)
    obtain rfl : k = ⟨512 + z1, hz⟩ := Fin.ext (by have : k.val = 512 + z1.val := h1; show k.val = 512 + z1.val; omega)
    pointwise [k0_pay33, k0_pay32, k0_pay31, k0_pay30, k0_pay29, k0_pay28, k0_pay27, k0_pay26, k0_pay25, k0_pay24, k0_pay23]
    simp (disch := omega) only [first_ld m c t hf, Nat.reduceSub]
    rfl
  · idx_vars z
    have hz : 256 + z1.val < 1024 := lt_of_lt_of_le (Nat.add_lt_add_left z1.isLt 256) (by decide)
    obtain rfl : r = z0 := Fin.ext (by have : r.val = z0.val := h0; omega)
    obtain rfl : k = ⟨256 + z1, hz⟩ := Fin.ext (by have : k.val = 256 + z1.val := h1; show k.val = 256 + z1.val; omega)
    pointwise [k0_pay22, k0_pay21, k0_pay20, k0_pay19, k0_pay18, k0_pay17, k0_pay16, k0_pay15, k0_pay14, k0_pay13, k0_pay12]
    simp (disch := omega) only [first_ld m c t hf, Nat.reduceSub]
    rfl
  · idx_vars z
    have hz : 0 + z1.val < 1024 := lt_of_lt_of_le (Nat.add_lt_add_left z1.isLt 0) (by decide)
    obtain rfl : r = z0 := Fin.ext (by have : r.val = z0.val := h0; omega)
    obtain rfl : k = ⟨0 + z1, hz⟩ := Fin.ext (by have : k.val = z1.val := h1; show k.val = 0 + z1.val; omega)
    pointwise [k0_pay11, k0_pay10, k0_pay9, k0_pay8, k0_pay7, k0_pay6]
    simp (disch := omega) only [first_ld m c t hf, Nat.reduceSub, zero_add]
    rfl

set_option maxHeartbeats 1600000 in
/-- The rows that a sequence's middle point stores. -/
theorem point6_B (c : Dev nD) (t : Fin cfg0.N) (hf : ¬ t.val % 32 = 0) (hl : ¬ t.val % 32 = 31) (r : Fin 128) (s : Fin 1024) :
    ((dats m 0 c).after 6 t : FVec Ideal S128x1024 .f32) (ix2 r s)
      = Long.finish (fun k => conv m c t r k)
          (fun k => (iblk m c 4 t : FVec Ideal S1x1024 .f32) (ix2 0 k)) (fun k => (iblk m c 5 t : FVec Ideal S1x1024 .f32) (ix2 0 k)) s := by
  rw [after0_6, outsAt0_B m c t hf hl]
  frame_open
  frame_out
  refine (finish_at _ _ _ r s).trans ?_
  refine congrArg (fun y => Long.finish y _ _ s) (funext fun k => ?_)
  rw [View.readCov_eq_canon']
  have e : (Rect.unit (s := S128x1024) ![0, 0] S128x1024.size inb_S128x1024_S128x1024_0_0).toLoadRect.idx (ix2 r k : S128x1024.Idx) = (ix2 r k : S128x1024.Idx) :=
    funext fun a => Fin.ext ((Rect.idx_unit_val _ _ _ _ a).trans (by fin_cases a <;> simp))
  refine (congrArg _ e).trans ?_
  canon_tiles z h
  · idx_vars z
    have hz : 768 + z1.val < 1024 := lt_of_lt_of_le (Nat.add_lt_add_left z1.isLt 768) (by decide)
    obtain rfl : r = z0 := Fin.ext (by have : r.val = z0.val := h0; omega)
    obtain rfl : k = ⟨768 + z1, hz⟩ := Fin.ext (by have : k.val = 768 + z1.val := h1; show k.val = 768 + z1.val; omega)
    pointwise [k0_pay44, k0_pay43, k0_pay42, k0_pay41, k0_pay40, k0_pay39, k0_pay38, k0_pay37, k0_pay36, k0_pay35, k0_pay34]
    simp (disch := omega) only [later_read m c t hf, mine_ld m c t, Nat.reduceSub]
    rfl
  · idx_vars z
    have hz : 512 + z1.val < 1024 := lt_of_lt_of_le (Nat.add_lt_add_left z1.isLt 512) (by decide)
    obtain rfl : r = z0 := Fin.ext (by have : r.val = z0.val := h0; omega)
    obtain rfl : k = ⟨512 + z1, hz⟩ := Fin.ext (by have : k.val = 512 + z1.val := h1; show k.val = 512 + z1.val; omega)
    pointwise [k0_pay33, k0_pay32, k0_pay31, k0_pay30, k0_pay29, k0_pay28, k0_pay27, k0_pay26, k0_pay25, k0_pay24, k0_pay23]
    simp (disch := omega) only [later_read m c t hf, mine_ld m c t, Nat.reduceSub]
    rfl
  · idx_vars z
    have hz : 256 + z1.val < 1024 := lt_of_lt_of_le (Nat.add_lt_add_left z1.isLt 256) (by decide)
    obtain rfl : r = z0 := Fin.ext (by have : r.val = z0.val := h0; omega)
    obtain rfl : k = ⟨256 + z1, hz⟩ := Fin.ext (by have : k.val = 256 + z1.val := h1; show k.val = 256 + z1.val; omega)
    pointwise [k0_pay22, k0_pay21, k0_pay20, k0_pay19, k0_pay18, k0_pay17, k0_pay16, k0_pay15, k0_pay14, k0_pay13, k0_pay12]
    simp (disch := omega) only [later_read m c t hf, mine_ld m c t, Nat.reduceSub]
    rfl
  · idx_vars z
    have hz : 0 + z1.val < 1024 := lt_of_lt_of_le (Nat.add_lt_add_left z1.isLt 0) (by decide)
    obtain rfl : r = z0 := Fin.ext (by have : r.val = z0.val := h0; omega)
    obtain rfl : k = ⟨0 + z1, hz⟩ := Fin.ext (by have : k.val = z1.val := h1; show k.val = 0 + z1.val; omega)
    pointwise [k0_pay11, k0_pay10, k0_pay9, k0_pay8, k0_pay7, k0_pay6]
    simp (disch := omega) only [later_read m c t hf, mine_ld m c t, Nat.reduceSub, zero_add]
    rfl

set_option maxHeartbeats 1600000 in
/-- The rows that a sequence's last point stores. -/
theorem point6_C (c : Dev nD) (t : Fin cfg0.N) (hf : ¬ t.val % 32 = 0) (hl : t.val % 32 = 31) (r : Fin 128) (s : Fin 1024) :
    ((dats m 0 c).after 6 t : FVec Ideal S128x1024 .f32) (ix2 r s)
      = Long.finish (fun k => conv m c t r k)
          (fun k => (iblk m c 4 t : FVec Ideal S1x1024 .f32) (ix2 0 k)) (fun k => (iblk m c 5 t : FVec Ideal S1x1024 .f32) (ix2 0 k)) s := by
  rw [after0_6, outsAt0_C m c t hf hl]
  frame_open
  frame_out
  refine (finish_at _ _ _ r s).trans ?_
  refine congrArg (fun y => Long.finish y _ _ s) (funext fun k => ?_)
  rw [View.readCov_eq_canon']
  have e : (Rect.unit (s := S128x1024) ![0, 0] S128x1024.size inb_S128x1024_S128x1024_0_0).toLoadRect.idx (ix2 r k : S128x1024.Idx) = (ix2 r k : S128x1024.Idx) :=
    funext fun a => Fin.ext ((Rect.idx_unit_val _ _ _ _ a).trans (by fin_cases a <;> simp))
  refine (congrArg _ e).trans ?_
  canon_tiles z h
  · idx_vars z
    have hz : 768 + z1.val < 1024 := lt_of_lt_of_le (Nat.add_lt_add_left z1.isLt 768) (by decide)
    obtain rfl : r = z0 := Fin.ext (by have : r.val = z0.val := h0; omega)
    obtain rfl : k = ⟨768 + z1, hz⟩ := Fin.ext (by have : k.val = 768 + z1.val := h1; show k.val = 768 + z1.val; omega)
    pointwise [k0_pay44, k0_pay43, k0_pay42, k0_pay41, k0_pay40, k0_pay39, k0_pay38, k0_pay37, k0_pay36, k0_pay35, k0_pay34]
    simp (disch := omega) only [later_read m c t hf, mine_ld m c t, Nat.reduceSub]
    rfl
  · idx_vars z
    have hz : 512 + z1.val < 1024 := lt_of_lt_of_le (Nat.add_lt_add_left z1.isLt 512) (by decide)
    obtain rfl : r = z0 := Fin.ext (by have : r.val = z0.val := h0; omega)
    obtain rfl : k = ⟨512 + z1, hz⟩ := Fin.ext (by have : k.val = 512 + z1.val := h1; show k.val = 512 + z1.val; omega)
    pointwise [k0_pay33, k0_pay32, k0_pay31, k0_pay30, k0_pay29, k0_pay28, k0_pay27, k0_pay26, k0_pay25, k0_pay24, k0_pay23]
    simp (disch := omega) only [later_read m c t hf, mine_ld m c t, Nat.reduceSub]
    rfl
  · idx_vars z
    have hz : 256 + z1.val < 1024 := lt_of_lt_of_le (Nat.add_lt_add_left z1.isLt 256) (by decide)
    obtain rfl : r = z0 := Fin.ext (by have : r.val = z0.val := h0; omega)
    obtain rfl : k = ⟨256 + z1, hz⟩ := Fin.ext (by have : k.val = 256 + z1.val := h1; show k.val = 256 + z1.val; omega)
    pointwise [k0_pay22, k0_pay21, k0_pay20, k0_pay19, k0_pay18, k0_pay17, k0_pay16, k0_pay15, k0_pay14, k0_pay13, k0_pay12]
    simp (disch := omega) only [later_read m c t hf, mine_ld m c t, Nat.reduceSub]
    rfl
  · idx_vars z
    have hz : 0 + z1.val < 1024 := lt_of_lt_of_le (Nat.add_lt_add_left z1.isLt 0) (by decide)
    obtain rfl : r = z0 := Fin.ext (by have : r.val = z0.val := h0; omega)
    obtain rfl : k = ⟨0 + z1, hz⟩ := Fin.ext (by have : k.val = z1.val := h1; show k.val = 0 + z1.val; omega)
    pointwise [k0_pay11, k0_pay10, k0_pay9, k0_pay8, k0_pay7, k0_pay6]
    simp (disch := omega) only [later_read m c t hf, mine_ld m c t, Nat.reduceSub, zero_add]
    rfl

/-- The rows that a point stores. -/
theorem point6 (c : Dev nD) (t : Fin cfg0.N) (r : Fin 128) (s : Fin 1024) :
    ((dats m 0 c).after 6 t : FVec Ideal S128x1024 .f32) (ix2 r s)
      = Long.finish (fun k => conv m c t r k)
          (fun k => (iblk m c 4 t : FVec Ideal S1x1024 .f32) (ix2 0 k)) (fun k => (iblk m c 5 t : FVec Ideal S1x1024 .f32) (ix2 0 k)) s := by
  by_cases hf : t.val % 32 = 0
  · exact point6_A m c t hf r s
  by_cases hl : t.val % 32 = 31
  · exact point6_C m c t hf hl r s
  · exact point6_B m c t hf hl r s

end Cert.CcpIdeal.Hand
-- ==== Proof.PromptLongRef.lean ====
module

public import proofs.«01_k».proof.Proof.PromptLongMath
public import proofs.«01_k».proof.Proof.Gen.CcpRefIdeal.Run
public import proofs.«01_k».proof.Proof.Gen.CcpRefIdeal.Read
set_option maxRecDepth 16384
@[expose] public section

noncomputable section
open Idealize.ShloMosaic Idealize.ShloMosaic.TcCoe Idealize.SL.Sem

namespace Cert.CcpRefIdeal.Hand
open Cert.CcpRefIdeal Cert.CcpRefIdeal.Gen Cert.CcpRefIdeal.Read

variable (x0 : FVec Ideal S16384x1024 .f32) (x1 : FVec Ideal S4x30x1024 .f32) (x2 : FVec Ideal S1x31x1024 .f32) (x3 x4 x5 : FVec Ideal S1x1024 .f32)

/-- The rows of a sequence. -/
theorem v2_at (b : Fin 4) (i : Fin 4126) (s : Fin 1024) :
    val_main_v2 (F := Ideal) x0 x1 (ix3 b i s) = Long.ext (fun i => x1 (ix3 b i s)) (fun i => x0 (ix2 ⟨b * 4096 + i, by omega⟩ s)) i := by
  pointwise [val_main_v2, val_main_v0]
  unfold Long.ext
  by_cases h : i.val < 30
  · rw [dif_pos h, dif_pos h]
  · rw [dif_neg h, dif_neg h, dif_pos (by omega)]

/-- The convolution. -/
theorem v218_at (b : Fin 4) (r : Fin 4096) (s : Fin 1024) :
    val_main_v218 (F := Ideal) x0 x1 x2 (ix3 b r s) = Long.conv (fun i => x2 (ix3 0 i s)) (Long.ext (fun i => x1 (ix3 b i s)) (fun i => x0 (ix2 ⟨b * 4096 + i, by omega⟩ s))) r := by
  pointwise [val_main_v218, val_main_v217, val_main_v216, val_main_v215, val_main_v214, val_main_v213, val_main_v212, val_main_v211, val_main_v210, val_main_v209, val_main_v208,
    val_main_v207, val_main_v206, val_main_v205, val_main_v204, val_main_v203, val_main_v202, val_main_v201, val_main_v200, val_main_v199, val_main_v198, val_main_v197,
    val_main_v196, val_main_v195, val_main_v194, val_main_v193, val_main_v192, val_main_v191, val_main_v190, val_main_v189, val_main_v188, val_main_v187, val_main_v186,
    val_main_v185, val_main_v184, val_main_v183, val_main_v182, val_main_v181, val_main_v180, val_main_v179, val_main_v178, val_main_v177, val_main_v176, val_main_v175,
    val_main_v174, val_main_v173, val_main_v172, val_main_v171, val_main_v170, val_main_v169, val_main_v168, val_main_v167, val_main_v166, val_main_v165, val_main_v164,
    val_main_v163, val_main_v162, val_main_v161, val_main_v160, val_main_v159, val_main_v158, val_main_v157, val_main_v156, val_main_v155, val_main_v154, val_main_v153,
    val_main_v152, val_main_v151, val_main_v150, val_main_v149, val_main_v148, val_main_v147, val_main_v146, val_main_v145, val_main_v144, val_main_v143, val_main_v142,
    val_main_v141, val_main_v140, val_main_v139, val_main_v138, val_main_v137, val_main_v136, val_main_v135, val_main_v134, val_main_v133, val_main_v132, val_main_v131,
    val_main_v130, val_main_v129, val_main_v128, val_main_v127, val_main_v126, val_main_v125, val_main_v124, val_main_v123, val_main_v122, val_main_v121, val_main_v120,
    val_main_v119, val_main_v118, val_main_v117, val_main_v116, val_main_v115, val_main_v114, val_main_v113, val_main_v112, val_main_v111, val_main_v110, val_main_v109,
    val_main_v108, val_main_v107, val_main_v106, val_main_v105, val_main_v104, val_main_v103, val_main_v102, val_main_v101, val_main_v100, val_main_v99, val_main_v98,
    val_main_v97, val_main_v96, val_main_v95, val_main_v94, val_main_v93, val_main_v92, val_main_v91, val_main_v90, val_main_v89, val_main_v88, val_main_v87, val_main_v86,
    val_main_v85, val_main_v84, val_main_v83, val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65, val_main_v64, val_main_v63, val_main_v62,
    val_main_v61, val_main_v60, val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3, val_main_v1]
  simp only [v2_at]
  simp only [Nat.add_comm _ (r : ℕ)]
  rfl

/-- The rows that the layer keeps. -/
theorem v219_at (b : Fin 4) (i : Fin 30) (s : Fin 1024) :
    val_main_v219 (F := Ideal) x0 x1 (ix3 b i s) = Long.ext (fun i => x1 (ix3 b i s)) (fun i => x0 (ix2 ⟨b * 4096 + i, by omega⟩ s)) (4096 + i) := by
  pointwise [val_main_v219]
  exact v2_at x0 x1 b ⟨4096 + i, by omega⟩ s

/-- The convolution with its bias. -/
theorem v223_at (b : Fin 4) (r : Fin 4096) (s : Fin 1024) :
    val_main_v223 (F := Ideal) x0 x1 x2 x3 (ix3 b r s) = val_main_v218 (F := Ideal) x0 x1 x2 (ix3 b r s) + x3 (ix2 0 s) := by
  pointwise [val_main_v223, val_main_v222, val_main_v221, val_main_v220]

/-- The layer's result. -/
theorem v249_at (R : Fin 16384) (s : Fin 1024) :
    val_main_v249 (F := Ideal) x0 x1 x2 x3 x4 x5 (ix2 R s)
      = Long.finish (fun k => val_main_v223 (F := Ideal) x0 x1 x2 x3 (ix3 ⟨R / 4096, by omega⟩ ⟨R % 4096, by omega⟩ k)) (fun k => x4 (ix2 0 k)) (fun k => x5 (ix2 0 k)) s := by
  pointwise [val_main_v249, val_main_v248, val_main_v247, val_main_v246, val_main_v245, val_main_v244, val_main_v243, val_main_v242, val_main_v241, val_main_v240, val_main_v239,
    val_main_v238, val_main_v237, val_main_v236, val_main_v235, val_main_v234, val_main_v233, val_main_v232, val_main_v231, val_main_v230, val_main_v229, val_main_v228,
    val_main_v227, val_main_v226, val_main_v225, val_main_v224, val_main_call0_v0, val_main_call0_v1, val_main_call0_v2,
    val_main_call0_v3, val_main_call0_v4, val_main_call0_v5, val_main_call0_cst, val_main_call0_cst_0, val_main_cst, val_main_cst_0, val_main_cst_1, val_main_cst_2, val_main_cst_3]
  rfl

end Cert.CcpRefIdeal.Hand
-- ==== Proof.PromptLongClaims.lean ====
module

public import proofs.«01_k».proof.Defs
public import proofs.«01_k».proof.Proof.Gen.Ccp.Frame
public import proofs.«01_k».proof.Proof.PromptLongRows
public import proofs.«01_k».proof.Proof.PromptLongRef
set_option maxRecDepth 16384
@[expose] public section

noncomputable section
open Idealize.ShloMosaic Idealize.ShloMosaic.TcCoe Idealize.SL.Sem
open Idealize.ShloMosaic.Pipeline (Dat)

/-! # The prompt's long convolution's claims -/

namespace Cert.CcpIdeal.Hand
open Cert.CcpIdeal Cert.CcpIdeal.Gen
variable (m : (ℓ : Loc nD τ sig) → Buf (Elt Ideal) ℓ)

/-- The block of the taps. -/
theorem blk2_at (c : Dev nD) (t : Fin cfg0.N) (i : Fin 31) (s : Fin 1024) : (iblk m c 2 t : FVec Ideal S31x1024 .f32) (ix2 i s)
    = (m ((c : Thread nD τ).loc main_arg2) : FVec Ideal S1x31x1024 .f32) (ix3 0 i s) := by
  have h : ((cfg0.win 2).blk t).view.emb (ix2 i s : S31x1024.Idx) = (ix2 i s : S31x1024.Idx) := by blk_ext [idx t]
  unfold iblk
  refine (congrArg (V m c (Pipeline.arrRef spec0 2)) h).trans ?_
  entry_read
  pointwise

/-- The block of the convolution's bias. -/
theorem blk3_at (c : Dev nD) (t : Fin cfg0.N) (s : Fin 1024) : (iblk m c 3 t : FVec Ideal S1x1024 .f32) (ix2 0 s)
    = (m ((c : Thread nD τ).loc main_arg3) : FVec Ideal S1x1024 .f32) (ix2 0 s) := by
  have h : ((cfg0.win 3).blk t).view.emb (ix2 0 s : S1x1024.Idx) = (ix2 0 s : S1x1024.Idx) := by blk_ext [idx t]
  unfold iblk
  refine (congrArg (V m c (Pipeline.arrRef spec0 3)) h).trans ?_
  entry_read
  pointwise

/-- The block of the gain. -/
theorem blk4_at (c : Dev nD) (t : Fin cfg0.N) (s : Fin 1024) : (iblk m c 4 t : FVec Ideal S1x1024 .f32) (ix2 0 s)
    = (m ((c : Thread nD τ).loc main_arg4) : FVec Ideal S1x1024 .f32) (ix2 0 s) := by
  have h : ((cfg0.win 4).blk t).view.emb (ix2 0 s : S1x1024.Idx) = (ix2 0 s : S1x1024.Idx) := by blk_ext [idx t]
  unfold iblk
  refine (congrArg (V m c (Pipeline.arrRef spec0 4)) h).trans ?_
  entry_read
  pointwise

/-- The block of the norm's bias. -/
theorem blk5_at (c : Dev nD) (t : Fin cfg0.N) (s : Fin 1024) : (iblk m c 5 t : FVec Ideal S1x1024 .f32) (ix2 0 s)
    = (m ((c : Thread nD τ).loc main_arg5) : FVec Ideal S1x1024 .f32) (ix2 0 s) := by
  have h : ((cfg0.win 5).blk t).view.emb (ix2 0 s : S1x1024.Idx) = (ix2 0 s : S1x1024.Idx) := by blk_ext [idx t]
  unfold iblk
  refine (congrArg (V m c (Pipeline.arrRef spec0 5)) h).trans ?_
  entry_read
  pointwise

/-- The points that write the kept rows back are the sequences' last. -/
theorem last7 : ∀ t : Fin cfg0.N, (cfg0.win 7).flush t = true → t.val % 32 = 31 := (by decide +kernel : ∀ t : Fin grid0.N, _)

/-- The rows kept for the next call are the reference's. -/
theorem final7 (c : Dev nD) : (dats m 0 c).arrAt 7 (cfgs 0).N
    = Cert.CcpRefIdeal.Read.val_main_v219 (F := Ideal) (m ((c : Thread nD τ).loc main_arg0)) (m ((c : Thread nD τ).loc main_arg1)) := by
  refine (dats m 0 c).arrAt_eq_of_covers 7 _ (by decide +kernel) fun t hf y => ?_
  have h := last7 t hf
  blk_simp
  have ht := lt_N t
  idx_vars y
  refine (point7 m c t h y0 y1 y2).trans ?_
  refine Eq.trans ?_ ((congrArg _ ?_).trans (Cert.CcpRefIdeal.Hand.v219_at _ _ ⟨t.val / 32, by omega⟩ y1 y2)).symm
  · rfl
  · blk_ext [idx t]

/-- The layer's rows are the reference's. -/
theorem final6 (c : Dev nD) : (dats m 0 c).arrAt 6 (cfgs 0).N
    = Cert.CcpRefIdeal.Read.val_main_v249 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  have ht := lt_N t
  idx_vars y
  refine (point6 m c t y0 y1).trans ?_
  refine Eq.trans ?_ ((congrArg _ ?_).trans (Cert.CcpRefIdeal.Hand.v249_at _ _ _ _ _ _ ⟨t.val * 128 + y0, by omega⟩ y1)).symm
  · have e0 : (⟨(t.val * 128 + y0) / 4096, by omega⟩ : Fin 4) = ⟨t.val / 32, by omega⟩ := Fin.ext (by show (t.val * 128 + y0.val) / 4096 = t.val / 32; omega)
    have e1 : (t.val * 128 + y0.val) % 4096 = t.val % 32 * 128 + y0.val := by omega
    simp only [conv, blk2_at m c t, blk3_at m c t, blk4_at m c t, blk5_at m c t, e0, Cert.CcpRefIdeal.Hand.v223_at, Cert.CcpRefIdeal.Hand.v218_at, e1]
    rfl
  · blk_ext [idx t]

end Cert.CcpIdeal.Hand

namespace CcpClaims

/-- The kernel runs, keeps its arguments and leaves no semaphore raised. -/
theorem frame_kernel : Cert.quiescent_Ccp := fun m ρ _ => Cert.Ccp.Gen.frame m ρ

/-- So does the kernel over the extended reals. -/
theorem frame_ideal : Cert.quiescent_CcpIdeal := fun m ρ _ => Cert.CcpIdeal.Gen.frame m ρ

/-- So does the reference over the extended reals. -/
theorem frame_ref : Cert.quiescent_CcpRefIdeal := fun m ρ _ =>
  (θ_run Cert.CcpRefIdeal.defs _ _).mono (fun r h => ⟨fun c => (h c).2.2, Idealize.ShloMosaic.sem_eq_zero_of_no_sems (by decide) r.2⟩)
    (Cert.CcpRefIdeal.Value.run (F := Ideal) m ρ)

/-- The results over the extended reals are the reference's. -/
theorem algebraic : Cert.algebraic_CcpIdeal_CcpRefIdeal := by
  intro m g m' g' _ hag
  refine ⟨fun c => (Cert.CcpIdeal.Gen.dats m 0 c).arrAt 6 Cert.CcpIdeal.cfg0.N, fun c => (Cert.CcpIdeal.Gen.dats m 0 c).arrAt 7 Cert.CcpIdeal.cfg0.N,
    Cert.CcpIdeal.Value.run_blocks (F := Ideal) m g, (θ_run _ _ _).mono (fun r h c => ?_) (Cert.CcpRefIdeal.Value.run (F := Ideal) m' g')⟩
  obtain ⟨h0, h1, h2, h3, h4, h5⟩ := hag c
  refine ⟨(h c).1.trans ?_, (h c).2.1.trans ?_, (h c).2.2⟩
  · refine Eq.trans ?_ (Cert.CcpIdeal.Hand.final6 m c).symm
    refine (Cert.CcpRefIdeal.Read.val_main_v249_eq _).trans ?_
    rw [← h0, ← h1, ← h2, ← h3, ← h4, ← h5]
  · refine Eq.trans ?_ (Cert.CcpIdeal.Hand.final7 m c).symm
    exact (Cert.CcpRefIdeal.Read.val_main_v219_eq _).trans (congrArg₂ Cert.CcpRefIdeal.Read.val_main_v219 h0 h1)

end CcpClaims
-- ==== Proof.lean ====
module

public import proofs.«01_k».proof.Defs
public import proofs.«01_k».proof.Proof.Gen.Gla
public import proofs.«01_k».proof.Proof.Gen.GlaIdeal
public import proofs.«01_k».proof.Proof.Gen.GlaRefIdeal
public import proofs.«01_k».proof.Proof.Gen.Gla.Frame
public import proofs.«01_k».proof.Proof.Gen.GlaIdeal.Frame
public import proofs.«01_k».proof.Proof.Gen.GlaIdeal.Value
public import proofs.«01_k».proof.Proof.Gen.GlaRefIdeal.Run
public import proofs.«01_k».proof.Proof.Gen.GlaRefIdeal.Read
public import proofs.«01_k».proof.Proof.Gen.Kv
public import proofs.«01_k».proof.Proof.Gen.KvIdeal
public import proofs.«01_k».proof.Proof.Gen.KvRefIdeal
public import proofs.«01_k».proof.Proof.Gen.Kv.Frame
public import proofs.«01_k».proof.Proof.Gen.KvIdeal.Frame
public import proofs.«01_k».proof.Proof.Gen.KvIdeal.Value
public import proofs.«01_k».proof.Proof.Gen.KvRefIdeal.Run
public import proofs.«01_k».proof.Proof.Gen.KvRefIdeal.Read
public import proofs.«01_k».proof.Proof.Gen.Sw
public import proofs.«01_k».proof.Proof.Gen.SwIdeal
public import proofs.«01_k».proof.Proof.Gen.SwRefIdeal
public import proofs.«01_k».proof.Proof.Gen.Sw.Frame
public import proofs.«01_k».proof.Proof.Gen.SwIdeal.Frame
public import proofs.«01_k».proof.Proof.Gen.SwIdeal.Value
public import proofs.«01_k».proof.Proof.Gen.SwRefIdeal.Run
public import proofs.«01_k».proof.Proof.Gen.SwRefIdeal.Read
public import proofs.«01_k».proof.Proof.Gen.Dn
public import proofs.«01_k».proof.Proof.Gen.DnIdeal
public import proofs.«01_k».proof.Proof.Gen.DnRefIdeal
public import proofs.«01_k».proof.Proof.Gen.Dn.Frame
public import proofs.«01_k».proof.Proof.Gen.DnIdeal.Frame
public import proofs.«01_k».proof.Proof.Gen.DnIdeal.Value
public import proofs.«01_k».proof.Proof.Gen.DnRefIdeal.Run
public import proofs.«01_k».proof.Proof.Gen.DnRefIdeal.Read
public import proofs.«01_k».proof.Proof.Gen.Up
public import proofs.«01_k».proof.Proof.Gen.UpIdeal
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_experts_named
public import proofs.«01_k».proof.Proof.Gen.Down
public import proofs.«01_k».proof.Proof.Gen.DownIdeal
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_down_experts_named
public import proofs.«01_k».proof.Proof.Gen.Gcv
public import proofs.«01_k».proof.Proof.Gen.GcvIdeal
public import proofs.«01_k».proof.Proof.Gen.GcvRefIdeal
public import proofs.«01_k».proof.Proof.Gen.Gcv.Frame
public import proofs.«01_k».proof.Proof.Gen.GcvIdeal.Frame
public import proofs.«01_k».proof.Proof.Gen.GcvIdeal.Value
public import proofs.«01_k».proof.Proof.Gen.GcvRefIdeal.Run
public import proofs.«01_k».proof.Proof.Gen.GcvRefIdeal.Read
public import proofs.«01_k».proof.Proof.Gen.Ccv
public import proofs.«01_k».proof.Proof.Gen.CcvIdeal
public import proofs.«01_k».proof.Proof.Gen.CcvRefIdeal
public import proofs.«01_k».proof.Proof.Gen.Ccv.Frame
public import proofs.«01_k».proof.Proof.Gen.CcvIdeal.Frame
public import proofs.«01_k».proof.Proof.Gen.CcvIdeal.Value
public import proofs.«01_k».proof.Proof.Gen.CcvRefIdeal.Run
public import proofs.«01_k».proof.Proof.Gen.CcvRefIdeal.Read
public import proofs.«01_k».proof.Proof.Gen.Qz
public import proofs.«01_k».proof.Proof.Gen.QzIdeal
public import proofs.«01_k».proof.Proof.Gen.QzRefIdeal
public import proofs.«01_k».proof.Proof.Gen.Qz.Frame
public import proofs.«01_k».proof.Proof.Gen.QzIdeal.Frame
public import proofs.«01_k».proof.Proof.Gen.QzIdeal.Value
public import proofs.«01_k».proof.Proof.Gen.QzRefIdeal.Run
public import proofs.«01_k».proof.Proof.Gen.QzRefIdeal.Read
public import proofs.«01_k».proof.Proof.Gen.Oc
public import proofs.«01_k».proof.Proof.Gen.OcIdeal
public import proofs.«01_k».proof.Proof.Gen.OcRefIdeal
public import proofs.«01_k».proof.Proof.Gen.Oc.Frame
public import proofs.«01_k».proof.Proof.Gen.OcIdeal.Frame
public import proofs.«01_k».proof.Proof.Gen.OcIdeal.Value
public import proofs.«01_k».proof.Proof.Gen.OcRefIdeal.Run
public import proofs.«01_k».proof.Proof.Gen.OcRefIdeal.Read
public import proofs.«01_k».proof.Proof.Gen.Mq
public import proofs.«01_k».proof.Proof.Gen.MqIdeal
public import proofs.«01_k».proof.Proof.Gen.MqRefIdeal
public import proofs.«01_k».proof.Proof.Gen.Mq.Frame
public import proofs.«01_k».proof.Proof.Gen.MqIdeal.Frame
public import proofs.«01_k».proof.Proof.Gen.MqIdeal.Value
public import proofs.«01_k».proof.Proof.Gen.MqRefIdeal.Run
public import proofs.«01_k».proof.Proof.Gen.MqRefIdeal.Read
public import proofs.«01_k».proof.Proof.Gen.Mo
public import proofs.«01_k».proof.Proof.Gen.MoIdeal
public import proofs.«01_k».proof.Proof.Gen.MoRefIdeal
public import proofs.«01_k».proof.Proof.Gen.Mo.Frame
public import proofs.«01_k».proof.Proof.Gen.MoIdeal.Frame
public import proofs.«01_k».proof.Proof.Gen.MoIdeal.Value
public import proofs.«01_k».proof.Proof.Gen.MoRefIdeal.Run
public import proofs.«01_k».proof.Proof.Gen.MoRefIdeal.Read
public import proofs.«01_k».proof.Proof.Gen.Qr
public import proofs.«01_k».proof.Proof.Gen.QrIdeal
public import proofs.«01_k».proof.Proof.Gen.QrRefIdeal
public import proofs.«01_k».proof.Proof.Gen.Qr.Frame
public import proofs.«01_k».proof.Proof.Gen.QrIdeal.Frame
public import proofs.«01_k».proof.Proof.Gen.QrIdeal.Value
public import proofs.«01_k».proof.Proof.Gen.QrRefIdeal.Run
public import proofs.«01_k».proof.Proof.Gen.QrRefIdeal.Read
public import proofs.«01_k».proof.Proof.Gen.Gl
public import proofs.«01_k».proof.Proof.Gen.GlIdeal
public import proofs.«01_k».proof.Proof.Gen.GlRefIdeal
public import proofs.«01_k».proof.Proof.Gen.Gl.Frame
public import proofs.«01_k».proof.Proof.Gen.GlIdeal.Frame
public import proofs.«01_k».proof.Proof.Gen.GlIdeal.Value
public import proofs.«01_k».proof.Proof.Gen.GlRefIdeal.Run
public import proofs.«01_k».proof.Proof.Gen.GlRefIdeal.Read
public import proofs.«01_k».proof.Proof.Gen.Gcp
public import proofs.«01_k».proof.Proof.Gen.GcpIdeal
public import proofs.«01_k».proof.Proof.Gen.GcpRefIdeal
public import proofs.«01_k».proof.Proof.Gen.Gcp.Frame
public import proofs.«01_k».proof.Proof.Gen.GcpIdeal.Frame
public import proofs.«01_k».proof.Proof.Gen.GcpIdeal.Value
public import proofs.«01_k».proof.Proof.Gen.GcpRefIdeal.Run
public import proofs.«01_k».proof.Proof.Gen.GcpRefIdeal.Read
public import proofs.«01_k».proof.Proof.Gen.Ccp
public import proofs.«01_k».proof.Proof.Gen.CcpIdeal
public import proofs.«01_k».proof.Proof.Gen.CcpRefIdeal
public import proofs.«01_k».proof.Proof.Gen.Ccp.Frame
public import proofs.«01_k».proof.Proof.Gen.CcpIdeal.Frame
public import proofs.«01_k».proof.Proof.Gen.CcpIdeal.Value
public import proofs.«01_k».proof.Proof.Gen.CcpRefIdeal.Run
public import proofs.«01_k».proof.Proof.Gen.CcpRefIdeal.Read
public import proofs.«01_k».proof.Proof.GlaClaims
public import proofs.«01_k».proof.Proof.MemoryRows
public import proofs.«01_k».proof.Proof.SwiGlu
public import proofs.«01_k».proof.Proof.DownNorm
public import proofs.«01_k».proof.Proof.MoeUp
public import proofs.«01_k».proof.Proof.MoeDown
public import proofs.«01_k».proof.Proof.GdnConvClaims
public import proofs.«01_k».proof.Proof.ConfConvClaims
public import proofs.«01_k».proof.Proof.DeltaProjection
public import proofs.«01_k».proof.Proof.DeltaOutput
public import proofs.«01_k».proof.Proof.MemoryQueries
public import proofs.«01_k».proof.Proof.MemoryOutput
public import proofs.«01_k».proof.Proof.GatedProjection
public import proofs.«01_k».proof.Proof.GluRows
public import proofs.«01_k».proof.Proof.PromptConvClaims
public import proofs.«01_k».proof.Proof.PromptLongClaims
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Gla.Gen.facts, Cert.GlaIdeal.Gen.facts, Cert.GlaRefIdeal.Gen.facts, Cert.Kv.Gen.facts, Cert.KvIdeal.Gen.facts, Cert.KvRefIdeal.Gen.facts,
  Cert.Sw.Gen.facts, Cert.SwIdeal.Gen.facts, Cert.SwRefIdeal.Gen.facts, Cert.Dn.Gen.facts, Cert.DnIdeal.Gen.facts, Cert.DnRefIdeal.Gen.facts,
  Cert.Up.Gen.facts, Cert.UpIdeal.Gen.facts, Cert.UpRefIdeal.Gen.facts, Cert.Down.Gen.facts, Cert.DownIdeal.Gen.facts, Cert.DownRefIdeal.Gen.facts,
  Cert.Gcv.Gen.facts, Cert.GcvIdeal.Gen.facts, Cert.GcvRefIdeal.Gen.facts, Cert.Ccv.Gen.facts, Cert.CcvIdeal.Gen.facts, Cert.CcvRefIdeal.Gen.facts,
  Cert.Qz.Gen.facts, Cert.QzIdeal.Gen.facts, Cert.QzRefIdeal.Gen.facts, Cert.Oc.Gen.facts, Cert.OcIdeal.Gen.facts, Cert.OcRefIdeal.Gen.facts,
  Cert.Mq.Gen.facts, Cert.MqIdeal.Gen.facts, Cert.MqRefIdeal.Gen.facts, Cert.Mo.Gen.facts, Cert.MoIdeal.Gen.facts, Cert.MoRefIdeal.Gen.facts,
  Cert.Qr.Gen.facts, Cert.QrIdeal.Gen.facts, Cert.QrRefIdeal.Gen.facts, Cert.Gl.Gen.facts, Cert.GlIdeal.Gen.facts, Cert.GlRefIdeal.Gen.facts,
  Cert.Gcp.Gen.facts, Cert.GcpIdeal.Gen.facts, Cert.GcpRefIdeal.Gen.facts, Cert.Ccp.Gen.facts, Cert.CcpIdeal.Gen.facts, Cert.CcpRefIdeal.Gen.facts,
  Cert.Pre_experts_named.Gen.facts, Cert.Pre_down_experts_named.Gen.facts,
  GlaClaims.frame_kernel, GlaClaims.frame_ideal, GlaClaims.frame_ref, KvClaims.frame_kernel, KvClaims.frame_ideal, KvClaims.frame_ref,
  SwClaims.frame_kernel, SwClaims.frame_ideal, SwClaims.frame_ref, DnClaims.frame_kernel, DnClaims.frame_ideal, DnClaims.frame_ref,
  UpClaims.frame_kernel, UpClaims.frame_ideal, UpClaims.frame_ref, DownClaims.frame_kernel, DownClaims.frame_ideal, DownClaims.frame_ref,
  GcvClaims.frame_kernel, GcvClaims.frame_ideal, GcvClaims.frame_ref, CcvClaims.frame_kernel, CcvClaims.frame_ideal, CcvClaims.frame_ref,
  QzClaims.frame_kernel, QzClaims.frame_ideal, QzClaims.frame_ref, OcClaims.frame_kernel, OcClaims.frame_ideal, OcClaims.frame_ref,
  MqClaims.frame_kernel, MqClaims.frame_ideal, MqClaims.frame_ref, MoClaims.frame_kernel, MoClaims.frame_ideal, MoClaims.frame_ref,
  QrClaims.frame_kernel, QrClaims.frame_ideal, QrClaims.frame_ref, GlClaims.frame_kernel, GlClaims.frame_ideal, GlClaims.frame_ref,
  GcpClaims.frame_kernel, GcpClaims.frame_ideal, GcpClaims.frame_ref, CcpClaims.frame_kernel, CcpClaims.frame_ideal, CcpClaims.frame_ref,
  trivial, GlaClaims.algebraic, trivial, KvClaims.algebraic, trivial, SwClaims.algebraic,
  trivial, DnClaims.algebraic, trivial, UpClaims.algebraic, trivial, DownClaims.algebraic,
  trivial, GcvClaims.algebraic, trivial, CcvClaims.algebraic, trivial, QzClaims.algebraic,
  trivial, OcClaims.algebraic, trivial, MqClaims.algebraic, trivial, MoClaims.algebraic,
  trivial, QrClaims.algebraic, trivial, GlClaims.algebraic, trivial, GcpClaims.algebraic,
  trivial, CcpClaims.algebraic⟩

end Cert.Proof

end
